-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_SsmZ (m : (ℓ : Loc Cert.SsmZ.nD Cert.SsmZ.τ Cert.SsmZ.sig) → Buf (Elt Bits) ℓ) : Prop :=
  True

def Pre_SsmZIdeal (m : (ℓ : Loc Cert.SsmZIdeal.nD Cert.SsmZIdeal.τ Cert.SsmZIdeal.sig) → Buf (Elt Ideal) ℓ) : Prop :=
  True

def Pre_SsmZRefIdeal (m : (ℓ : Loc Cert.SsmZRefIdeal.nD Cert.SsmZRefIdeal.τ Cert.SsmZRefIdeal.sig) → Buf (Elt Ideal) ℓ) : Prop :=
  True

def Pre_SsmXbc (m : (ℓ : Loc Cert.SsmXbc.nD Cert.SsmXbc.τ Cert.SsmXbc.sig) → Buf (Elt Bits) ℓ) : Prop :=
  True

def Pre_SsmXbcIdeal (m : (ℓ : Loc Cert.SsmXbcIdeal.nD Cert.SsmXbcIdeal.τ Cert.SsmXbcIdeal.sig) → Buf (Elt Ideal) ℓ) : Prop :=
  True

def Pre_SsmXbcRefIdeal (m : (ℓ : Loc Cert.SsmXbcRefIdeal.nD Cert.SsmXbcRefIdeal.τ Cert.SsmXbcRefIdeal.sig) → Buf (Elt Ideal) ℓ) : Prop :=
  True

def Pre_SsmDt (m : (ℓ : Loc Cert.SsmDt.nD Cert.SsmDt.τ Cert.SsmDt.sig) → Buf (Elt Bits) ℓ) : Prop :=
  True

def Pre_SsmDtIdeal (m : (ℓ : Loc Cert.SsmDtIdeal.nD Cert.SsmDtIdeal.τ Cert.SsmDtIdeal.sig) → Buf (Elt Ideal) ℓ) : Prop :=
  True

def Pre_SsmDtRefIdeal (m : (ℓ : Loc Cert.SsmDtRefIdeal.nD Cert.SsmDtRefIdeal.τ Cert.SsmDtRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedIdeal_finite_gates [hPre_finite_gates : Cert.Pre_finite_gates.Facts] (m : (ℓ : Loc Cert.SharedIdeal.nD Cert.SharedIdeal.τ Cert.SharedIdeal.sig) → Buf (Elt Ideal) ℓ) : Prop :=
  ∀ c : Dev Cert.SharedIdeal.nD,
    (Cert.Pre_finite_gates.fn (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4)) (m ((c.tc : Thread Cert.SharedIdeal.nD Cert.SharedIdeal.τ).loc Cert.SharedIdeal.main_arg5)) (m ((c.tc : Thread Cert.SharedIdeal.nD Cert.SharedIdeal.τ).loc Cert.SharedIdeal.main_arg6))).1 = (fun _ => 1#1)
    ∧ (Cert.Pre_finite_gates.fn (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4)) (m ((c.tc : Thread Cert.SharedIdeal.nD Cert.SharedIdeal.τ).loc Cert.SharedIdeal.main_arg5)) (m ((c.tc : Thread Cert.SharedIdeal.nD Cert.SharedIdeal.τ).loc Cert.SharedIdeal.main_arg6))).2 = (fun _ => 1#1)

def Pre_SharedRefIdeal (m : (ℓ : Loc Cert.SharedRefIdeal.nD Cert.SharedRefIdeal.τ Cert.SharedRefIdeal.sig) → Buf (Elt Ideal) ℓ) : Prop :=
  True

def Pre_SharedRefIdeal_finite_gates [hPre_finite_gates : Cert.Pre_finite_gates.Facts] (m : (ℓ : Loc Cert.SharedRefIdeal.nD Cert.SharedRefIdeal.τ Cert.SharedRefIdeal.sig) → Buf (Elt Ideal) ℓ) : Prop :=
  ∀ c : Dev Cert.SharedRefIdeal.nD,
    (Cert.Pre_finite_gates.fn (F := Ideal) (m ((c.tc : Thread Cert.SharedRefIdeal.nD Cert.SharedRefIdeal.τ).loc Cert.SharedRefIdeal.main_arg0)) (m ((c.tc : Thread Cert.SharedRefIdeal.nD Cert.SharedRefIdeal.τ).loc Cert.SharedRefIdeal.main_arg1)) (m ((c.tc : Thread Cert.SharedRefIdeal.nD Cert.SharedRefIdeal.τ).loc Cert.SharedRefIdeal.main_arg2)) (m ((c.tc : Thread Cert.SharedRefIdeal.nD Cert.SharedRefIdeal.τ).loc Cert.SharedRefIdeal.main_arg3)) (m ((c.tc : Thread Cert.SharedRefIdeal.nD Cert.SharedRefIdeal.τ).loc Cert.SharedRefIdeal.main_arg4)) (m ((c.tc : Thread Cert.SharedRefIdeal.nD Cert.SharedRefIdeal.τ).loc Cert.SharedRefIdeal.main_arg5)) (m ((c.tc : Thread Cert.SharedRefIdeal.nD Cert.SharedRefIdeal.τ).loc Cert.SharedRefIdeal.main_arg6))).1 = (fun _ => 1#1)
    ∧ (Cert.Pre_finite_gates.fn (F := Ideal) (m ((c.tc : Thread Cert.SharedRefIdeal.nD Cert.SharedRefIdeal.τ).loc Cert.SharedRefIdeal.main_arg0)) (m ((c.tc : Thread Cert.SharedRefIdeal.nD Cert.SharedRefIdeal.τ).loc Cert.SharedRefIdeal.main_arg1)) (m ((c.tc : Thread Cert.SharedRefIdeal.nD Cert.SharedRefIdeal.τ).loc Cert.SharedRefIdeal.main_arg2)) (m ((c.tc : Thread Cert.SharedRefIdeal.nD Cert.SharedRefIdeal.τ).loc Cert.SharedRefIdeal.main_arg3)) (m ((c.tc : Thread Cert.SharedRefIdeal.nD Cert.SharedRefIdeal.τ).loc Cert.SharedRefIdeal.main_arg4)) (m ((c.tc : Thread Cert.SharedRefIdeal.nD Cert.SharedRefIdeal.τ).loc Cert.SharedRefIdeal.main_arg5)) (m ((c.tc : Thread Cert.SharedRefIdeal.nD Cert.SharedRefIdeal.τ).loc Cert.SharedRefIdeal.main_arg6))).2 = (fun _ => 1#1)

def Pre_Experts [hPre_sorted_rows : Cert.Pre_sorted_rows.Facts] (m : (ℓ : Loc Cert.Experts.nD Cert.Experts.τ Cert.Experts.sig) → Buf (Elt Bits) ℓ) : Prop :=
  ∀ c : Dev Cert.Experts.nD,
    (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).1 = (fun _ => 1#1)
    ∧ (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.1 = (fun _ => 1#1)
    ∧ (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.1 = (fun _ => 1#1)
    ∧ (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.2 = (fun _ => 1#1)

def Pre_ExpertsIdeal [hPre_sorted_rows : Cert.Pre_sorted_rows.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).1 = (fun _ => 1#1)
    ∧ (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.1 = (fun _ => 1#1)
    ∧ (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.1 = (fun _ => 1#1)
    ∧ (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_sorted_rows [hPre_sorted_rows : Cert.Pre_sorted_rows.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_sorted_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))).1 = (fun _ => 1#1)
    ∧ (Cert.Pre_sorted_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))).2.1 = (fun _ => 1#1)
    ∧ (Cert.Pre_sorted_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))).2.2.1 = (fun _ => 1#1)
    ∧ (Cert.Pre_sorted_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))).2.2.2 = (fun _ => 1#1)

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite_lat [hPre_finite_lat : Cert.Pre_finite_lat.Facts] (m : (ℓ : Loc Cert.LatIdeal.nD Cert.LatIdeal.τ Cert.LatIdeal.sig) → Buf (Elt Ideal) ℓ) : Prop :=
  ∀ c : Dev Cert.LatIdeal.nD,
    (Cert.Pre_finite_lat.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1))).1 = (fun _ => 1#1)
    ∧ (Cert.Pre_finite_lat.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1))).2 = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_finite_lat [hPre_finite_lat : Cert.Pre_finite_lat.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_finite_lat.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1))).1 = (fun _ => 1#1)
    ∧ (Cert.Pre_finite_lat.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1))).2 = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryIdeal_finite_query [hPre_finite_query : Cert.Pre_finite_query.Facts] (m : (ℓ : Loc Cert.QueryIdeal.nD Cert.QueryIdeal.τ Cert.QueryIdeal.sig) → Buf (Elt Ideal) ℓ) : Prop :=
  ∀ c : Dev Cert.QueryIdeal.nD,
    (Cert.Pre_finite_query.fn (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3))).1 = (fun _ => 1#1)
    ∧ (Cert.Pre_finite_query.fn (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3))).2 = (fun _ => 1#1)

def Pre_QueryRefIdeal (m : (ℓ : Loc Cert.QueryRefIdeal.nD Cert.QueryRefIdeal.τ Cert.QueryRefIdeal.sig) → Buf (Elt Ideal) ℓ) : Prop :=
  True

def Pre_QueryRefIdeal_finite_query [hPre_finite_query : Cert.Pre_finite_query.Facts] (m : (ℓ : Loc Cert.QueryRefIdeal.nD Cert.QueryRefIdeal.τ Cert.QueryRefIdeal.sig) → Buf (Elt Ideal) ℓ) : Prop :=
  ∀ c : Dev Cert.QueryRefIdeal.nD,
    (Cert.Pre_finite_query.fn (F := Ideal) (m ((c.tc : Thread Cert.QueryRefIdeal.nD Cert.QueryRefIdeal.τ).loc Cert.QueryRefIdeal.main_arg0)) (m ((c.tc : Thread Cert.QueryRefIdeal.nD Cert.QueryRefIdeal.τ).loc Cert.QueryRefIdeal.main_arg1)) (m ((c.tc : Thread Cert.QueryRefIdeal.nD Cert.QueryRefIdeal.τ).loc Cert.QueryRefIdeal.main_arg2)) (m ((c.tc : Thread Cert.QueryRefIdeal.nD Cert.QueryRefIdeal.τ).loc Cert.QueryRefIdeal.main_arg3))).1 = (fun _ => 1#1)
    ∧ (Cert.Pre_finite_query.fn (F := Ideal) (m ((c.tc : Thread Cert.QueryRefIdeal.nD Cert.QueryRefIdeal.τ).loc Cert.QueryRefIdeal.main_arg0)) (m ((c.tc : Thread Cert.QueryRefIdeal.nD Cert.QueryRefIdeal.τ).loc Cert.QueryRefIdeal.main_arg1)) (m ((c.tc : Thread Cert.QueryRefIdeal.nD Cert.QueryRefIdeal.τ).loc Cert.QueryRefIdeal.main_arg2)) (m ((c.tc : Thread Cert.QueryRefIdeal.nD Cert.QueryRefIdeal.τ).loc Cert.QueryRefIdeal.main_arg3))).2 = (fun _ => 1#1)

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyRefIdeal (m : (ℓ : Loc Cert.KeyRefIdeal.nD Cert.KeyRefIdeal.τ Cert.KeyRefIdeal.sig) → Buf (Elt Ideal) ℓ) : Prop :=
  True

def Pre_ValueT (m : (ℓ : Loc Cert.ValueT.nD Cert.ValueT.τ Cert.ValueT.sig) → Buf (Elt Bits) ℓ) : Prop :=
  True

def Pre_ValueTIdeal (m : (ℓ : Loc Cert.ValueTIdeal.nD Cert.ValueTIdeal.τ Cert.ValueTIdeal.sig) → Buf (Elt Ideal) ℓ) : Prop :=
  True

def Pre_ValueTRefIdeal (m : (ℓ : Loc Cert.ValueTRefIdeal.nD Cert.ValueTRefIdeal.τ Cert.ValueTRefIdeal.sig) → Buf (Elt Ideal) ℓ) : Prop :=
  True

def Pre_Modulated (m : (ℓ : Loc Cert.Modulated.nD Cert.Modulated.τ Cert.Modulated.sig) → Buf (Elt Bits) ℓ) : Prop :=
  True

def Pre_ModulatedIdeal (m : (ℓ : Loc Cert.ModulatedIdeal.nD Cert.ModulatedIdeal.τ Cert.ModulatedIdeal.sig) → Buf (Elt Ideal) ℓ) : Prop :=
  True

def Pre_ModulatedRefIdeal (m : (ℓ : Loc Cert.ModulatedRefIdeal.nD Cert.ModulatedRefIdeal.τ Cert.ModulatedRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_LatPost (m : (ℓ : Loc Cert.LatPost.nD Cert.LatPost.τ Cert.LatPost.sig) → Buf (Elt Bits) ℓ) : Prop :=
  True

def Pre_LatPostIdeal (m : (ℓ : Loc Cert.LatPostIdeal.nD Cert.LatPostIdeal.τ Cert.LatPostIdeal.sig) → Buf (Elt Ideal) ℓ) : Prop :=
  True

def Pre_LatPostRefIdeal (m : (ℓ : Loc Cert.LatPostRefIdeal.nD Cert.LatPostRefIdeal.τ Cert.LatPostRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_SsmZ [hSsmZ : Cert.SsmZ.Facts] : Prop :=
  ∀ (m : (ℓ : Loc Cert.SsmZ.nD Cert.SsmZ.τ Cert.SsmZ.sig) → Buf (Elt Bits) ℓ) (g : Dev Cert.SsmZ.nD → PrngReg), Pre_SsmZ m →
    θ_run (Cert.SsmZ.defs (F := Bits)) (onTc (τ := Cert.SsmZ.τ) (Cert.SsmZ.main (F := Bits))) ⟨m, fun _ => 0, g⟩ (fun r => (∀ c : Dev Cert.SsmZ.nD,
      r.2.mem ((c.tc : Thread Cert.SsmZ.nD Cert.SsmZ.τ).loc Cert.SsmZ.main_arg0) = m ((c.tc : Thread Cert.SsmZ.nD Cert.SsmZ.τ).loc Cert.SsmZ.main_arg0)
      ∧ r.2.mem ((c.tc : Thread Cert.SsmZ.nD Cert.SsmZ.τ).loc Cert.SsmZ.main_arg1) = m ((c.tc : Thread Cert.SsmZ.nD Cert.SsmZ.τ).loc Cert.SsmZ.main_arg1))
      ∧ r.2.sem = fun _ => 0)

def quiescent_SsmZIdeal [hSsmZIdeal : Cert.SsmZIdeal.Facts] : Prop :=
  ∀ (m : (ℓ : Loc Cert.SsmZIdeal.nD Cert.SsmZIdeal.τ Cert.SsmZIdeal.sig) → Buf (Elt Ideal) ℓ) (g : Dev Cert.SsmZIdeal.nD → PrngReg), Pre_SsmZIdeal m →
    θ_run (Cert.SsmZIdeal.defs (F := Ideal)) (onTc (τ := Cert.SsmZIdeal.τ) (Cert.SsmZIdeal.main (F := Ideal))) ⟨m, fun _ => 0, g⟩ (fun r => (∀ c : Dev Cert.SsmZIdeal.nD,
      r.2.mem ((c.tc : Thread Cert.SsmZIdeal.nD Cert.SsmZIdeal.τ).loc Cert.SsmZIdeal.main_arg0) = m ((c.tc : Thread Cert.SsmZIdeal.nD Cert.SsmZIdeal.τ).loc Cert.SsmZIdeal.main_arg0)
      ∧ r.2.mem ((c.tc : Thread Cert.SsmZIdeal.nD Cert.SsmZIdeal.τ).loc Cert.SsmZIdeal.main_arg1) = m ((c.tc : Thread Cert.SsmZIdeal.nD Cert.SsmZIdeal.τ).loc Cert.SsmZIdeal.main_arg1))
      ∧ r.2.sem = fun _ => 0)

def quiescent_SsmZRefIdeal [hSsmZRefIdeal : Cert.SsmZRefIdeal.Facts] : Prop :=
  ∀ (m : (ℓ : Loc Cert.SsmZRefIdeal.nD Cert.SsmZRefIdeal.τ Cert.SsmZRefIdeal.sig) → Buf (Elt Ideal) ℓ) (g : Dev Cert.SsmZRefIdeal.nD → PrngReg), Pre_SsmZRefIdeal m →
    θ_run (Cert.SsmZRefIdeal.defs (F := Ideal)) (onTc (τ := Cert.SsmZRefIdeal.τ) (Cert.SsmZRefIdeal.main (F := Ideal))) ⟨m, fun _ => 0, g⟩ (fun r => (∀ c : Dev Cert.SsmZRefIdeal.nD,
      r.2.mem ((c.tc : Thread Cert.SsmZRefIdeal.nD Cert.SsmZRefIdeal.τ).loc Cert.SsmZRefIdeal.main_arg0) = m ((c.tc : Thread Cert.SsmZRefIdeal.nD Cert.SsmZRefIdeal.τ).loc Cert.SsmZRefIdeal.main_arg0)
      ∧ r.2.mem ((c.tc : Thread Cert.SsmZRefIdeal.nD Cert.SsmZRefIdeal.τ).loc Cert.SsmZRefIdeal.main_arg1) = m ((c.tc : Thread Cert.SsmZRefIdeal.nD Cert.SsmZRefIdeal.τ).loc Cert.SsmZRefIdeal.main_arg1))
      ∧ r.2.sem = fun _ => 0)

def quiescent_SsmXbc [hSsmXbc : Cert.SsmXbc.Facts] : Prop :=
  ∀ (m : (ℓ : Loc Cert.SsmXbc.nD Cert.SsmXbc.τ Cert.SsmXbc.sig) → Buf (Elt Bits) ℓ) (g : Dev Cert.SsmXbc.nD → PrngReg), Pre_SsmXbc m →
    θ_run (Cert.SsmXbc.defs (F := Bits)) (onTc (τ := Cert.SsmXbc.τ) (Cert.SsmXbc.main (F := Bits))) ⟨m, fun _ => 0, g⟩ (fun r => (∀ c : Dev Cert.SsmXbc.nD,
      r.2.mem ((c.tc : Thread Cert.SsmXbc.nD Cert.SsmXbc.τ).loc Cert.SsmXbc.main_arg0) = m ((c.tc : Thread Cert.SsmXbc.nD Cert.SsmXbc.τ).loc Cert.SsmXbc.main_arg0)
      ∧ r.2.mem ((c.tc : Thread Cert.SsmXbc.nD Cert.SsmXbc.τ).loc Cert.SsmXbc.main_arg1) = m ((c.tc : Thread Cert.SsmXbc.nD Cert.SsmXbc.τ).loc Cert.SsmXbc.main_arg1))
      ∧ r.2.sem = fun _ => 0)

def quiescent_SsmXbcIdeal [hSsmXbcIdeal : Cert.SsmXbcIdeal.Facts] : Prop :=
  ∀ (m : (ℓ : Loc Cert.SsmXbcIdeal.nD Cert.SsmXbcIdeal.τ Cert.SsmXbcIdeal.sig) → Buf (Elt Ideal) ℓ) (g : Dev Cert.SsmXbcIdeal.nD → PrngReg), Pre_SsmXbcIdeal m →
    θ_run (Cert.SsmXbcIdeal.defs (F := Ideal)) (onTc (τ := Cert.SsmXbcIdeal.τ) (Cert.SsmXbcIdeal.main (F := Ideal))) ⟨m, fun _ => 0, g⟩ (fun r => (∀ c : Dev Cert.SsmXbcIdeal.nD,
      r.2.mem ((c.tc : Thread Cert.SsmXbcIdeal.nD Cert.SsmXbcIdeal.τ).loc Cert.SsmXbcIdeal.main_arg0) = m ((c.tc : Thread Cert.SsmXbcIdeal.nD Cert.SsmXbcIdeal.τ).loc Cert.SsmXbcIdeal.main_arg0)
      ∧ r.2.mem ((c.tc : Thread Cert.SsmXbcIdeal.nD Cert.SsmXbcIdeal.τ).loc Cert.SsmXbcIdeal.main_arg1) = m ((c.tc : Thread Cert.SsmXbcIdeal.nD Cert.SsmXbcIdeal.τ).loc Cert.SsmXbcIdeal.main_arg1))
      ∧ r.2.sem = fun _ => 0)

def quiescent_SsmXbcRefIdeal [hSsmXbcRefIdeal : Cert.SsmXbcRefIdeal.Facts] : Prop :=
  ∀ (m : (ℓ : Loc Cert.SsmXbcRefIdeal.nD Cert.SsmXbcRefIdeal.τ Cert.SsmXbcRefIdeal.sig) → Buf (Elt Ideal) ℓ) (g : Dev Cert.SsmXbcRefIdeal.nD → PrngReg), Pre_SsmXbcRefIdeal m →
    θ_run (Cert.SsmXbcRefIdeal.defs (F := Ideal)) (onTc (τ := Cert.SsmXbcRefIdeal.τ) (Cert.SsmXbcRefIdeal.main (F := Ideal))) ⟨m, fun _ => 0, g⟩ (fun r => (∀ c : Dev Cert.SsmXbcRefIdeal.nD,
      r.2.mem ((c.tc : Thread Cert.SsmXbcRefIdeal.nD Cert.SsmXbcRefIdeal.τ).loc Cert.SsmXbcRefIdeal.main_arg0) = m ((c.tc : Thread Cert.SsmXbcRefIdeal.nD Cert.SsmXbcRefIdeal.τ).loc Cert.SsmXbcRefIdeal.main_arg0)
      ∧ r.2.mem ((c.tc : Thread Cert.SsmXbcRefIdeal.nD Cert.SsmXbcRefIdeal.τ).loc Cert.SsmXbcRefIdeal.main_arg1) = m ((c.tc : Thread Cert.SsmXbcRefIdeal.nD Cert.SsmXbcRefIdeal.τ).loc Cert.SsmXbcRefIdeal.main_arg1))
      ∧ r.2.sem = fun _ => 0)

def quiescent_SsmDt [hSsmDt : Cert.SsmDt.Facts] : Prop :=
  ∀ (m : (ℓ : Loc Cert.SsmDt.nD Cert.SsmDt.τ Cert.SsmDt.sig) → Buf (Elt Bits) ℓ) (g : Dev Cert.SsmDt.nD → PrngReg), Pre_SsmDt m →
    θ_run (Cert.SsmDt.defs (F := Bits)) (onTc (τ := Cert.SsmDt.τ) (Cert.SsmDt.main (F := Bits))) ⟨m, fun _ => 0, g⟩ (fun r => (∀ c : Dev Cert.SsmDt.nD,
      r.2.mem ((c.tc : Thread Cert.SsmDt.nD Cert.SsmDt.τ).loc Cert.SsmDt.main_arg0) = m ((c.tc : Thread Cert.SsmDt.nD Cert.SsmDt.τ).loc Cert.SsmDt.main_arg0)
      ∧ r.2.mem ((c.tc : Thread Cert.SsmDt.nD Cert.SsmDt.τ).loc Cert.SsmDt.main_arg1) = m ((c.tc : Thread Cert.SsmDt.nD Cert.SsmDt.τ).loc Cert.SsmDt.main_arg1))
      ∧ r.2.sem = fun _ => 0)

def quiescent_SsmDtIdeal [hSsmDtIdeal : Cert.SsmDtIdeal.Facts] : Prop :=
  ∀ (m : (ℓ : Loc Cert.SsmDtIdeal.nD Cert.SsmDtIdeal.τ Cert.SsmDtIdeal.sig) → Buf (Elt Ideal) ℓ) (g : Dev Cert.SsmDtIdeal.nD → PrngReg), Pre_SsmDtIdeal m →
    θ_run (Cert.SsmDtIdeal.defs (F := Ideal)) (onTc (τ := Cert.SsmDtIdeal.τ) (Cert.SsmDtIdeal.main (F := Ideal))) ⟨m, fun _ => 0, g⟩ (fun r => (∀ c : Dev Cert.SsmDtIdeal.nD,
      r.2.mem ((c.tc : Thread Cert.SsmDtIdeal.nD Cert.SsmDtIdeal.τ).loc Cert.SsmDtIdeal.main_arg0) = m ((c.tc : Thread Cert.SsmDtIdeal.nD Cert.SsmDtIdeal.τ).loc Cert.SsmDtIdeal.main_arg0)
      ∧ r.2.mem ((c.tc : Thread Cert.SsmDtIdeal.nD Cert.SsmDtIdeal.τ).loc Cert.SsmDtIdeal.main_arg1) = m ((c.tc : Thread Cert.SsmDtIdeal.nD Cert.SsmDtIdeal.τ).loc Cert.SsmDtIdeal.main_arg1))
      ∧ r.2.sem = fun _ => 0)

def quiescent_SsmDtRefIdeal [hSsmDtRefIdeal : Cert.SsmDtRefIdeal.Facts] : Prop :=
  ∀ (m : (ℓ : Loc Cert.SsmDtRefIdeal.nD Cert.SsmDtRefIdeal.τ Cert.SsmDtRefIdeal.sig) → Buf (Elt Ideal) ℓ) (g : Dev Cert.SsmDtRefIdeal.nD → PrngReg), Pre_SsmDtRefIdeal m →
    θ_run (Cert.SsmDtRefIdeal.defs (F := Ideal)) (onTc (τ := Cert.SsmDtRefIdeal.τ) (Cert.SsmDtRefIdeal.main (F := Ideal))) ⟨m, fun _ => 0, g⟩ (fun r => (∀ c : Dev Cert.SsmDtRefIdeal.nD,
      r.2.mem ((c.tc : Thread Cert.SsmDtRefIdeal.nD Cert.SsmDtRefIdeal.τ).loc Cert.SsmDtRefIdeal.main_arg0) = m ((c.tc : Thread Cert.SsmDtRefIdeal.nD Cert.SsmDtRefIdeal.τ).loc Cert.SsmDtRefIdeal.main_arg0)
      ∧ r.2.mem ((c.tc : Thread Cert.SsmDtRefIdeal.nD Cert.SsmDtRefIdeal.τ).loc Cert.SsmDtRefIdeal.main_arg1) = m ((c.tc : Thread Cert.SsmDtRefIdeal.nD Cert.SsmDtRefIdeal.τ).loc Cert.SsmDtRefIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1)
      ∧ r.2.mem ((c.tc : Thread Cert.MlaOutRefIdeal.nD Cert.MlaOutRefIdeal.τ).loc Cert.MlaOutRefIdeal.main_arg2) = m ((c.tc : Thread Cert.MlaOutRefIdeal.nD Cert.MlaOutRefIdeal.τ).loc Cert.MlaOutRefIdeal.main_arg2)
      ∧ r.2.mem ((c.tc : Thread Cert.MlaOutRefIdeal.nD Cert.MlaOutRefIdeal.τ).loc Cert.MlaOutRefIdeal.main_arg3) = m ((c.tc : Thread Cert.MlaOutRefIdeal.nD Cert.MlaOutRefIdeal.τ).loc Cert.MlaOutRefIdeal.main_arg3))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ r.2.sem = fun _ => 0)

def quiescent_SharedIdeal_pre_finite_gates [hSharedIdeal : Cert.SharedIdeal.Facts] [hPre_finite_gates : Cert.Pre_finite_gates.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal_finite_gates m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
      ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
      ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5)
      ∧ r.2.mem ((c.tc : Thread Cert.SharedRefIdeal.nD Cert.SharedRefIdeal.τ).loc Cert.SharedRefIdeal.main_arg6) = m ((c.tc : Thread Cert.SharedRefIdeal.nD Cert.SharedRefIdeal.τ).loc Cert.SharedRefIdeal.main_arg6))
      ∧ r.2.sem = fun _ => 0)

def quiescent_SharedRefIdeal_pre_finite_gates [hSharedRefIdeal : Cert.SharedRefIdeal.Facts] [hPre_finite_gates : Cert.Pre_finite_gates.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal_finite_gates m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
      ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
      ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5)
      ∧ r.2.mem ((c.tc : Thread Cert.SharedRefIdeal.nD Cert.SharedRefIdeal.τ).loc Cert.SharedRefIdeal.main_arg6) = m ((c.tc : Thread Cert.SharedRefIdeal.nD Cert.SharedRefIdeal.τ).loc Cert.SharedRefIdeal.main_arg6))
      ∧ r.2.sem = fun _ => 0)

def quiescent_Experts [hExperts : Cert.Experts.Facts] [hPre_sorted_rows : Cert.Pre_sorted_rows.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_sorted_rows : Cert.Pre_sorted_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_sorted_rows [hExpertsRefIdeal : Cert.ExpertsRefIdeal.Facts] [hPre_sorted_rows : Cert.Pre_sorted_rows.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_sorted_rows m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatIdeal_pre_finite_lat [hLatIdeal : Cert.LatIdeal.Facts] [hPre_finite_lat : Cert.Pre_finite_lat.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite_lat m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1))
      ∧ r.2.sem = fun _ => 0)

def quiescent_LatRefIdeal_pre_finite_lat [hLatRefIdeal : Cert.LatRefIdeal.Facts] [hPre_finite_lat : Cert.Pre_finite_lat.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_finite_lat m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryIdeal_pre_finite_query [hQueryIdeal : Cert.QueryIdeal.Facts] [hPre_finite_query : Cert.Pre_finite_query.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal_finite_query m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_QueryRefIdeal_pre_finite_query [hQueryRefIdeal : Cert.QueryRefIdeal.Facts] [hPre_finite_query : Cert.Pre_finite_query.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal_finite_query m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1))
      ∧ r.2.sem = fun _ => 0)

def quiescent_ValueT [hValueT : Cert.ValueT.Facts] : Prop :=
  ∀ (m : (ℓ : Loc Cert.ValueT.nD Cert.ValueT.τ Cert.ValueT.sig) → Buf (Elt Bits) ℓ) (g : Dev Cert.ValueT.nD → PrngReg), Pre_ValueT m →
    θ_run (Cert.ValueT.defs (F := Bits)) (onTc (τ := Cert.ValueT.τ) (Cert.ValueT.main (F := Bits))) ⟨m, fun _ => 0, g⟩ (fun r => (∀ c : Dev Cert.ValueT.nD,
      r.2.mem ((c.tc : Thread Cert.ValueT.nD Cert.ValueT.τ).loc Cert.ValueT.main_arg0) = m ((c.tc : Thread Cert.ValueT.nD Cert.ValueT.τ).loc Cert.ValueT.main_arg0)
      ∧ r.2.mem ((c.tc : Thread Cert.ValueT.nD Cert.ValueT.τ).loc Cert.ValueT.main_arg1) = m ((c.tc : Thread Cert.ValueT.nD Cert.ValueT.τ).loc Cert.ValueT.main_arg1))
      ∧ r.2.sem = fun _ => 0)

def quiescent_ValueTIdeal [hValueTIdeal : Cert.ValueTIdeal.Facts] : Prop :=
  ∀ (m : (ℓ : Loc Cert.ValueTIdeal.nD Cert.ValueTIdeal.τ Cert.ValueTIdeal.sig) → Buf (Elt Ideal) ℓ) (g : Dev Cert.ValueTIdeal.nD → PrngReg), Pre_ValueTIdeal m →
    θ_run (Cert.ValueTIdeal.defs (F := Ideal)) (onTc (τ := Cert.ValueTIdeal.τ) (Cert.ValueTIdeal.main (F := Ideal))) ⟨m, fun _ => 0, g⟩ (fun r => (∀ c : Dev Cert.ValueTIdeal.nD,
      r.2.mem ((c.tc : Thread Cert.ValueTIdeal.nD Cert.ValueTIdeal.τ).loc Cert.ValueTIdeal.main_arg0) = m ((c.tc : Thread Cert.ValueTIdeal.nD Cert.ValueTIdeal.τ).loc Cert.ValueTIdeal.main_arg0)
      ∧ r.2.mem ((c.tc : Thread Cert.ValueTIdeal.nD Cert.ValueTIdeal.τ).loc Cert.ValueTIdeal.main_arg1) = m ((c.tc : Thread Cert.ValueTIdeal.nD Cert.ValueTIdeal.τ).loc Cert.ValueTIdeal.main_arg1))
      ∧ r.2.sem = fun _ => 0)

def quiescent_ValueTRefIdeal [hValueTRefIdeal : Cert.ValueTRefIdeal.Facts] : Prop :=
  ∀ (m : (ℓ : Loc Cert.ValueTRefIdeal.nD Cert.ValueTRefIdeal.τ Cert.ValueTRefIdeal.sig) → Buf (Elt Ideal) ℓ) (g : Dev Cert.ValueTRefIdeal.nD → PrngReg), Pre_ValueTRefIdeal m →
    θ_run (Cert.ValueTRefIdeal.defs (F := Ideal)) (onTc (τ := Cert.ValueTRefIdeal.τ) (Cert.ValueTRefIdeal.main (F := Ideal))) ⟨m, fun _ => 0, g⟩ (fun r => (∀ c : Dev Cert.ValueTRefIdeal.nD,
      r.2.mem ((c.tc : Thread Cert.ValueTRefIdeal.nD Cert.ValueTRefIdeal.τ).loc Cert.ValueTRefIdeal.main_arg0) = m ((c.tc : Thread Cert.ValueTRefIdeal.nD Cert.ValueTRefIdeal.τ).loc Cert.ValueTRefIdeal.main_arg0)
      ∧ r.2.mem ((c.tc : Thread Cert.ValueTRefIdeal.nD Cert.ValueTRefIdeal.τ).loc Cert.ValueTRefIdeal.main_arg1) = m ((c.tc : Thread Cert.ValueTRefIdeal.nD Cert.ValueTRefIdeal.τ).loc Cert.ValueTRefIdeal.main_arg1))
      ∧ r.2.sem = fun _ => 0)

def quiescent_Modulated [hModulated : Cert.Modulated.Facts] : Prop :=
  ∀ (m : (ℓ : Loc Cert.Modulated.nD Cert.Modulated.τ Cert.Modulated.sig) → Buf (Elt Bits) ℓ) (g : Dev Cert.Modulated.nD → PrngReg), Pre_Modulated m →
    θ_run (Cert.Modulated.defs (F := Bits)) (onTc (τ := Cert.Modulated.τ) (Cert.Modulated.main (F := Bits))) ⟨m, fun _ => 0, g⟩ (fun r => (∀ c : Dev Cert.Modulated.nD,
      r.2.mem ((c.tc : Thread Cert.Modulated.nD Cert.Modulated.τ).loc Cert.Modulated.main_arg0) = m ((c.tc : Thread Cert.Modulated.nD Cert.Modulated.τ).loc Cert.Modulated.main_arg0)
      ∧ r.2.mem ((c.tc : Thread Cert.Modulated.nD Cert.Modulated.τ).loc Cert.Modulated.main_arg1) = m ((c.tc : Thread Cert.Modulated.nD Cert.Modulated.τ).loc Cert.Modulated.main_arg1)
      ∧ r.2.mem ((c.tc : Thread Cert.Modulated.nD Cert.Modulated.τ).loc Cert.Modulated.main_arg2) = m ((c.tc : Thread Cert.Modulated.nD Cert.Modulated.τ).loc Cert.Modulated.main_arg2)
      ∧ r.2.mem ((c.tc : Thread Cert.Modulated.nD Cert.Modulated.τ).loc Cert.Modulated.main_arg3) = m ((c.tc : Thread Cert.Modulated.nD Cert.Modulated.τ).loc Cert.Modulated.main_arg3))
      ∧ r.2.sem = fun _ => 0)

def quiescent_ModulatedIdeal [hModulatedIdeal : Cert.ModulatedIdeal.Facts] : Prop :=
  ∀ (m : (ℓ : Loc Cert.ModulatedIdeal.nD Cert.ModulatedIdeal.τ Cert.ModulatedIdeal.sig) → Buf (Elt Ideal) ℓ) (g : Dev Cert.ModulatedIdeal.nD → PrngReg), Pre_ModulatedIdeal m →
    θ_run (Cert.ModulatedIdeal.defs (F := Ideal)) (onTc (τ := Cert.ModulatedIdeal.τ) (Cert.ModulatedIdeal.main (F := Ideal))) ⟨m, fun _ => 0, g⟩ (fun r => (∀ c : Dev Cert.ModulatedIdeal.nD,
      r.2.mem ((c.tc : Thread Cert.ModulatedIdeal.nD Cert.ModulatedIdeal.τ).loc Cert.ModulatedIdeal.main_arg0) = m ((c.tc : Thread Cert.ModulatedIdeal.nD Cert.ModulatedIdeal.τ).loc Cert.ModulatedIdeal.main_arg0)
      ∧ r.2.mem ((c.tc : Thread Cert.ModulatedIdeal.nD Cert.ModulatedIdeal.τ).loc Cert.ModulatedIdeal.main_arg1) = m ((c.tc : Thread Cert.ModulatedIdeal.nD Cert.ModulatedIdeal.τ).loc Cert.ModulatedIdeal.main_arg1)
      ∧ r.2.mem ((c.tc : Thread Cert.ModulatedIdeal.nD Cert.ModulatedIdeal.τ).loc Cert.ModulatedIdeal.main_arg2) = m ((c.tc : Thread Cert.ModulatedIdeal.nD Cert.ModulatedIdeal.τ).loc Cert.ModulatedIdeal.main_arg2)
      ∧ r.2.mem ((c.tc : Thread Cert.ModulatedIdeal.nD Cert.ModulatedIdeal.τ).loc Cert.ModulatedIdeal.main_arg3) = m ((c.tc : Thread Cert.ModulatedIdeal.nD Cert.ModulatedIdeal.τ).loc Cert.ModulatedIdeal.main_arg3))
      ∧ r.2.sem = fun _ => 0)

def quiescent_ModulatedRefIdeal [hModulatedRefIdeal : Cert.ModulatedRefIdeal.Facts] : Prop :=
  ∀ (m : (ℓ : Loc Cert.ModulatedRefIdeal.nD Cert.ModulatedRefIdeal.τ Cert.ModulatedRefIdeal.sig) → Buf (Elt Ideal) ℓ) (g : Dev Cert.ModulatedRefIdeal.nD → PrngReg), Pre_ModulatedRefIdeal m →
    θ_run (Cert.ModulatedRefIdeal.defs (F := Ideal)) (onTc (τ := Cert.ModulatedRefIdeal.τ) (Cert.ModulatedRefIdeal.main (F := Ideal))) ⟨m, fun _ => 0, g⟩ (fun r => (∀ c : Dev Cert.ModulatedRefIdeal.nD,
      r.2.mem ((c.tc : Thread Cert.ModulatedRefIdeal.nD Cert.ModulatedRefIdeal.τ).loc Cert.ModulatedRefIdeal.main_arg0) = m ((c.tc : Thread Cert.ModulatedRefIdeal.nD Cert.ModulatedRefIdeal.τ).loc Cert.ModulatedRefIdeal.main_arg0)
      ∧ r.2.mem ((c.tc : Thread Cert.ModulatedRefIdeal.nD Cert.ModulatedRefIdeal.τ).loc Cert.ModulatedRefIdeal.main_arg1) = m ((c.tc : Thread Cert.ModulatedRefIdeal.nD Cert.ModulatedRefIdeal.τ).loc Cert.ModulatedRefIdeal.main_arg1)
      ∧ r.2.mem ((c.tc : Thread Cert.ModulatedRefIdeal.nD Cert.ModulatedRefIdeal.τ).loc Cert.ModulatedRefIdeal.main_arg2) = m ((c.tc : Thread Cert.ModulatedRefIdeal.nD Cert.ModulatedRefIdeal.τ).loc Cert.ModulatedRefIdeal.main_arg2)
      ∧ r.2.mem ((c.tc : Thread Cert.ModulatedRefIdeal.nD Cert.ModulatedRefIdeal.τ).loc Cert.ModulatedRefIdeal.main_arg3) = m ((c.tc : Thread Cert.ModulatedRefIdeal.nD Cert.ModulatedRefIdeal.τ).loc Cert.ModulatedRefIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5))
      ∧ r.2.sem = fun _ => 0)

def quiescent_LatPost [hLatPost : Cert.LatPost.Facts] : Prop :=
  ∀ (m : (ℓ : Loc Cert.LatPost.nD Cert.LatPost.τ Cert.LatPost.sig) → Buf (Elt Bits) ℓ) (g : Dev Cert.LatPost.nD → PrngReg), Pre_LatPost m →
    θ_run (Cert.LatPost.defs (F := Bits)) (onTc (τ := Cert.LatPost.τ) (Cert.LatPost.main (F := Bits))) ⟨m, fun _ => 0, g⟩ (fun r => (∀ c : Dev Cert.LatPost.nD,
      r.2.mem ((c.tc : Thread Cert.LatPost.nD Cert.LatPost.τ).loc Cert.LatPost.main_arg0) = m ((c.tc : Thread Cert.LatPost.nD Cert.LatPost.τ).loc Cert.LatPost.main_arg0)
      ∧ r.2.mem ((c.tc : Thread Cert.LatPost.nD Cert.LatPost.τ).loc Cert.LatPost.main_arg1) = m ((c.tc : Thread Cert.LatPost.nD Cert.LatPost.τ).loc Cert.LatPost.main_arg1)
      ∧ r.2.mem ((c.tc : Thread Cert.LatPost.nD Cert.LatPost.τ).loc Cert.LatPost.main_arg2) = m ((c.tc : Thread Cert.LatPost.nD Cert.LatPost.τ).loc Cert.LatPost.main_arg2)
      ∧ r.2.mem ((c.tc : Thread Cert.LatPost.nD Cert.LatPost.τ).loc Cert.LatPost.main_arg3) = m ((c.tc : Thread Cert.LatPost.nD Cert.LatPost.τ).loc Cert.LatPost.main_arg3)
      ∧ r.2.mem ((c.tc : Thread Cert.LatPost.nD Cert.LatPost.τ).loc Cert.LatPost.main_arg4) = m ((c.tc : Thread Cert.LatPost.nD Cert.LatPost.τ).loc Cert.LatPost.main_arg4))
      ∧ r.2.sem = fun _ => 0)

def quiescent_LatPostIdeal [hLatPostIdeal : Cert.LatPostIdeal.Facts] : Prop :=
  ∀ (m : (ℓ : Loc Cert.LatPostIdeal.nD Cert.LatPostIdeal.τ Cert.LatPostIdeal.sig) → Buf (Elt Ideal) ℓ) (g : Dev Cert.LatPostIdeal.nD → PrngReg), Pre_LatPostIdeal m →
    θ_run (Cert.LatPostIdeal.defs (F := Ideal)) (onTc (τ := Cert.LatPostIdeal.τ) (Cert.LatPostIdeal.main (F := Ideal))) ⟨m, fun _ => 0, g⟩ (fun r => (∀ c : Dev Cert.LatPostIdeal.nD,
      r.2.mem ((c.tc : Thread Cert.LatPostIdeal.nD Cert.LatPostIdeal.τ).loc Cert.LatPostIdeal.main_arg0) = m ((c.tc : Thread Cert.LatPostIdeal.nD Cert.LatPostIdeal.τ).loc Cert.LatPostIdeal.main_arg0)
      ∧ r.2.mem ((c.tc : Thread Cert.LatPostIdeal.nD Cert.LatPostIdeal.τ).loc Cert.LatPostIdeal.main_arg1) = m ((c.tc : Thread Cert.LatPostIdeal.nD Cert.LatPostIdeal.τ).loc Cert.LatPostIdeal.main_arg1)
      ∧ r.2.mem ((c.tc : Thread Cert.LatPostIdeal.nD Cert.LatPostIdeal.τ).loc Cert.LatPostIdeal.main_arg2) = m ((c.tc : Thread Cert.LatPostIdeal.nD Cert.LatPostIdeal.τ).loc Cert.LatPostIdeal.main_arg2)
      ∧ r.2.mem ((c.tc : Thread Cert.LatPostIdeal.nD Cert.LatPostIdeal.τ).loc Cert.LatPostIdeal.main_arg3) = m ((c.tc : Thread Cert.LatPostIdeal.nD Cert.LatPostIdeal.τ).loc Cert.LatPostIdeal.main_arg3)
      ∧ r.2.mem ((c.tc : Thread Cert.LatPostIdeal.nD Cert.LatPostIdeal.τ).loc Cert.LatPostIdeal.main_arg4) = m ((c.tc : Thread Cert.LatPostIdeal.nD Cert.LatPostIdeal.τ).loc Cert.LatPostIdeal.main_arg4))
      ∧ r.2.sem = fun _ => 0)

def quiescent_LatPostRefIdeal [hLatPostRefIdeal : Cert.LatPostRefIdeal.Facts] : Prop :=
  ∀ (m : (ℓ : Loc Cert.LatPostRefIdeal.nD Cert.LatPostRefIdeal.τ Cert.LatPostRefIdeal.sig) → Buf (Elt Ideal) ℓ) (g : Dev Cert.LatPostRefIdeal.nD → PrngReg), Pre_LatPostRefIdeal m →
    θ_run (Cert.LatPostRefIdeal.defs (F := Ideal)) (onTc (τ := Cert.LatPostRefIdeal.τ) (Cert.LatPostRefIdeal.main (F := Ideal))) ⟨m, fun _ => 0, g⟩ (fun r => (∀ c : Dev Cert.LatPostRefIdeal.nD,
      r.2.mem ((c.tc : Thread Cert.LatPostRefIdeal.nD Cert.LatPostRefIdeal.τ).loc Cert.LatPostRefIdeal.main_arg0) = m ((c.tc : Thread Cert.LatPostRefIdeal.nD Cert.LatPostRefIdeal.τ).loc Cert.LatPostRefIdeal.main_arg0)
      ∧ r.2.mem ((c.tc : Thread Cert.LatPostRefIdeal.nD Cert.LatPostRefIdeal.τ).loc Cert.LatPostRefIdeal.main_arg1) = m ((c.tc : Thread Cert.LatPostRefIdeal.nD Cert.LatPostRefIdeal.τ).loc Cert.LatPostRefIdeal.main_arg1)
      ∧ r.2.mem ((c.tc : Thread Cert.LatPostRefIdeal.nD Cert.LatPostRefIdeal.τ).loc Cert.LatPostRefIdeal.main_arg2) = m ((c.tc : Thread Cert.LatPostRefIdeal.nD Cert.LatPostRefIdeal.τ).loc Cert.LatPostRefIdeal.main_arg2)
      ∧ r.2.mem ((c.tc : Thread Cert.LatPostRefIdeal.nD Cert.LatPostRefIdeal.τ).loc Cert.LatPostRefIdeal.main_arg3) = m ((c.tc : Thread Cert.LatPostRefIdeal.nD Cert.LatPostRefIdeal.τ).loc Cert.LatPostRefIdeal.main_arg3)
      ∧ r.2.mem ((c.tc : Thread Cert.LatPostRefIdeal.nD Cert.LatPostRefIdeal.τ).loc Cert.LatPostRefIdeal.main_arg4) = m ((c.tc : Thread Cert.LatPostRefIdeal.nD Cert.LatPostRefIdeal.τ).loc Cert.LatPostRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_SsmZ_SsmZIdeal : Prop :=
  True

def algebraic_SsmZIdeal_SsmZRefIdeal [hSsmZIdeal : Cert.SsmZIdeal.Facts] [hSsmZRefIdeal : Cert.SsmZRefIdeal.Facts] : Prop :=
  ∀ (m : (ℓ : Loc Cert.SsmZIdeal.nD Cert.SsmZIdeal.τ Cert.SsmZIdeal.sig) → Buf (Elt Ideal) ℓ) (g : Dev Cert.SsmZIdeal.nD → PrngReg)
    (m' : (ℓ : Loc Cert.SsmZRefIdeal.nD Cert.SsmZRefIdeal.τ Cert.SsmZRefIdeal.sig) → Buf (Elt Ideal) ℓ) (g' : Dev Cert.SsmZRefIdeal.nD → PrngReg), Pre_SsmZIdeal m →
    (∀ c : Dev Cert.SsmZIdeal.nD,
      m' ((c.tc : Thread Cert.SsmZRefIdeal.nD Cert.SsmZRefIdeal.τ).loc Cert.SsmZRefIdeal.main_arg0) = m ((c.tc : Thread Cert.SsmZIdeal.nD Cert.SsmZIdeal.τ).loc Cert.SsmZIdeal.main_arg0)
      ∧ m' ((c.tc : Thread Cert.SsmZRefIdeal.nD Cert.SsmZRefIdeal.τ).loc Cert.SsmZRefIdeal.main_arg1) = m ((c.tc : Thread Cert.SsmZIdeal.nD Cert.SsmZIdeal.τ).loc Cert.SsmZIdeal.main_arg1)) →
    ∃ (v0 : (c : Dev Cert.SsmZIdeal.nD) → Buf (Elt Ideal) ((c.tc : Thread Cert.SsmZIdeal.nD Cert.SsmZIdeal.τ).loc Cert.SsmZIdeal.main_v3)),
      θ_run (Cert.SsmZIdeal.defs (F := Ideal)) (onTc (τ := Cert.SsmZIdeal.τ) (Cert.SsmZIdeal.main (F := Ideal))) ⟨m, fun _ => 0, g⟩ (fun r => ∀ c : Dev Cert.SsmZIdeal.nD,
          r.2.mem ((c.tc : Thread Cert.SsmZIdeal.nD Cert.SsmZIdeal.τ).loc Cert.SsmZIdeal.main_v3) = v0 c
          ∧ r.2.mem ((c.tc : Thread Cert.SsmZIdeal.nD Cert.SsmZIdeal.τ).loc Cert.SsmZIdeal.main_arg0) = m ((c.tc : Thread Cert.SsmZIdeal.nD Cert.SsmZIdeal.τ).loc Cert.SsmZIdeal.main_arg0)
          ∧ r.2.mem ((c.tc : Thread Cert.SsmZIdeal.nD Cert.SsmZIdeal.τ).loc Cert.SsmZIdeal.main_arg1) = m ((c.tc : Thread Cert.SsmZIdeal.nD Cert.SsmZIdeal.τ).loc Cert.SsmZIdeal.main_arg1))
      ∧ θ_run (Cert.SsmZRefIdeal.defs (F := Ideal)) (onTc (τ := Cert.SsmZRefIdeal.τ) (Cert.SsmZRefIdeal.main (F := Ideal))) ⟨m', fun _ => 0, g'⟩ (fun r => ∀ c : Dev Cert.SsmZRefIdeal.nD,
          r.2.mem ((c.tc : Thread Cert.SsmZRefIdeal.nD Cert.SsmZRefIdeal.τ).loc Cert.SsmZRefIdeal.main_v2) = v0 c
          ∧ r.2.mem ((c.tc : Thread Cert.SsmZRefIdeal.nD Cert.SsmZRefIdeal.τ).loc Cert.SsmZRefIdeal.main_arg0) = m' ((c.tc : Thread Cert.SsmZRefIdeal.nD Cert.SsmZRefIdeal.τ).loc Cert.SsmZRefIdeal.main_arg0)
          ∧ r.2.mem ((c.tc : Thread Cert.SsmZRefIdeal.nD Cert.SsmZRefIdeal.τ).loc Cert.SsmZRefIdeal.main_arg1) = m' ((c.tc : Thread Cert.SsmZRefIdeal.nD Cert.SsmZRefIdeal.τ).loc Cert.SsmZRefIdeal.main_arg1))

def preserves_SsmXbc_SsmXbcIdeal : Prop :=
  True

def algebraic_SsmXbcIdeal_SsmXbcRefIdeal [hSsmXbcIdeal : Cert.SsmXbcIdeal.Facts] [hSsmXbcRefIdeal : Cert.SsmXbcRefIdeal.Facts] : Prop :=
  ∀ (m : (ℓ : Loc Cert.SsmXbcIdeal.nD Cert.SsmXbcIdeal.τ Cert.SsmXbcIdeal.sig) → Buf (Elt Ideal) ℓ) (g : Dev Cert.SsmXbcIdeal.nD → PrngReg)
    (m' : (ℓ : Loc Cert.SsmXbcRefIdeal.nD Cert.SsmXbcRefIdeal.τ Cert.SsmXbcRefIdeal.sig) → Buf (Elt Ideal) ℓ) (g' : Dev Cert.SsmXbcRefIdeal.nD → PrngReg), Pre_SsmXbcIdeal m →
    (∀ c : Dev Cert.SsmXbcIdeal.nD,
      m' ((c.tc : Thread Cert.SsmXbcRefIdeal.nD Cert.SsmXbcRefIdeal.τ).loc Cert.SsmXbcRefIdeal.main_arg0) = m ((c.tc : Thread Cert.SsmXbcIdeal.nD Cert.SsmXbcIdeal.τ).loc Cert.SsmXbcIdeal.main_arg0)
      ∧ m' ((c.tc : Thread Cert.SsmXbcRefIdeal.nD Cert.SsmXbcRefIdeal.τ).loc Cert.SsmXbcRefIdeal.main_arg1) = m ((c.tc : Thread Cert.SsmXbcIdeal.nD Cert.SsmXbcIdeal.τ).loc Cert.SsmXbcIdeal.main_arg1)) →
    ∃ (v0 : (c : Dev Cert.SsmXbcIdeal.nD) → Buf (Elt Ideal) ((c.tc : Thread Cert.SsmXbcIdeal.nD Cert.SsmXbcIdeal.τ).loc Cert.SsmXbcIdeal.main_v3)),
      θ_run (Cert.SsmXbcIdeal.defs (F := Ideal)) (onTc (τ := Cert.SsmXbcIdeal.τ) (Cert.SsmXbcIdeal.main (F := Ideal))) ⟨m, fun _ => 0, g⟩ (fun r => ∀ c : Dev Cert.SsmXbcIdeal.nD,
          r.2.mem ((c.tc : Thread Cert.SsmXbcIdeal.nD Cert.SsmXbcIdeal.τ).loc Cert.SsmXbcIdeal.main_v3) = v0 c
          ∧ r.2.mem ((c.tc : Thread Cert.SsmXbcIdeal.nD Cert.SsmXbcIdeal.τ).loc Cert.SsmXbcIdeal.main_arg0) = m ((c.tc : Thread Cert.SsmXbcIdeal.nD Cert.SsmXbcIdeal.τ).loc Cert.SsmXbcIdeal.main_arg0)
          ∧ r.2.mem ((c.tc : Thread Cert.SsmXbcIdeal.nD Cert.SsmXbcIdeal.τ).loc Cert.SsmXbcIdeal.main_arg1) = m ((c.tc : Thread Cert.SsmXbcIdeal.nD Cert.SsmXbcIdeal.τ).loc Cert.SsmXbcIdeal.main_arg1))
      ∧ θ_run (Cert.SsmXbcRefIdeal.defs (F := Ideal)) (onTc (τ := Cert.SsmXbcRefIdeal.τ) (Cert.SsmXbcRefIdeal.main (F := Ideal))) ⟨m', fun _ => 0, g'⟩ (fun r => ∀ c : Dev Cert.SsmXbcRefIdeal.nD,
          r.2.mem ((c.tc : Thread Cert.SsmXbcRefIdeal.nD Cert.SsmXbcRefIdeal.τ).loc Cert.SsmXbcRefIdeal.main_v2) = v0 c
          ∧ r.2.mem ((c.tc : Thread Cert.SsmXbcRefIdeal.nD Cert.SsmXbcRefIdeal.τ).loc Cert.SsmXbcRefIdeal.main_arg0) = m' ((c.tc : Thread Cert.SsmXbcRefIdeal.nD Cert.SsmXbcRefIdeal.τ).loc Cert.SsmXbcRefIdeal.main_arg0)
          ∧ r.2.mem ((c.tc : Thread Cert.SsmXbcRefIdeal.nD Cert.SsmXbcRefIdeal.τ).loc Cert.SsmXbcRefIdeal.main_arg1) = m' ((c.tc : Thread Cert.SsmXbcRefIdeal.nD Cert.SsmXbcRefIdeal.τ).loc Cert.SsmXbcRefIdeal.main_arg1))

def preserves_SsmDt_SsmDtIdeal : Prop :=
  True

def algebraic_SsmDtIdeal_SsmDtRefIdeal [hSsmDtIdeal : Cert.SsmDtIdeal.Facts] [hSsmDtRefIdeal : Cert.SsmDtRefIdeal.Facts] : Prop :=
  ∀ (m : (ℓ : Loc Cert.SsmDtIdeal.nD Cert.SsmDtIdeal.τ Cert.SsmDtIdeal.sig) → Buf (Elt Ideal) ℓ) (g : Dev Cert.SsmDtIdeal.nD → PrngReg)
    (m' : (ℓ : Loc Cert.SsmDtRefIdeal.nD Cert.SsmDtRefIdeal.τ Cert.SsmDtRefIdeal.sig) → Buf (Elt Ideal) ℓ) (g' : Dev Cert.SsmDtRefIdeal.nD → PrngReg), Pre_SsmDtIdeal m →
    (∀ c : Dev Cert.SsmDtIdeal.nD,
      m' ((c.tc : Thread Cert.SsmDtRefIdeal.nD Cert.SsmDtRefIdeal.τ).loc Cert.SsmDtRefIdeal.main_arg0) = m ((c.tc : Thread Cert.SsmDtIdeal.nD Cert.SsmDtIdeal.τ).loc Cert.SsmDtIdeal.main_arg0)
      ∧ m' ((c.tc : Thread Cert.SsmDtRefIdeal.nD Cert.SsmDtRefIdeal.τ).loc Cert.SsmDtRefIdeal.main_arg1) = m ((c.tc : Thread Cert.SsmDtIdeal.nD Cert.SsmDtIdeal.τ).loc Cert.SsmDtIdeal.main_arg1)) →
    ∃ (v0 : (c : Dev Cert.SsmDtIdeal.nD) → Buf (Elt Ideal) ((c.tc : Thread Cert.SsmDtIdeal.nD Cert.SsmDtIdeal.τ).loc Cert.SsmDtIdeal.main_v3)),
      θ_run (Cert.SsmDtIdeal.defs (F := Ideal)) (onTc (τ := Cert.SsmDtIdeal.τ) (Cert.SsmDtIdeal.main (F := Ideal))) ⟨m, fun _ => 0, g⟩ (fun r => ∀ c : Dev Cert.SsmDtIdeal.nD,
          r.2.mem ((c.tc : Thread Cert.SsmDtIdeal.nD Cert.SsmDtIdeal.τ).loc Cert.SsmDtIdeal.main_v3) = v0 c
          ∧ r.2.mem ((c.tc : Thread Cert.SsmDtIdeal.nD Cert.SsmDtIdeal.τ).loc Cert.SsmDtIdeal.main_arg0) = m ((c.tc : Thread Cert.SsmDtIdeal.nD Cert.SsmDtIdeal.τ).loc Cert.SsmDtIdeal.main_arg0)
          ∧ r.2.mem ((c.tc : Thread Cert.SsmDtIdeal.nD Cert.SsmDtIdeal.τ).loc Cert.SsmDtIdeal.main_arg1) = m ((c.tc : Thread Cert.SsmDtIdeal.nD Cert.SsmDtIdeal.τ).loc Cert.SsmDtIdeal.main_arg1))
      ∧ θ_run (Cert.SsmDtRefIdeal.defs (F := Ideal)) (onTc (τ := Cert.SsmDtRefIdeal.τ) (Cert.SsmDtRefIdeal.main (F := Ideal))) ⟨m', fun _ => 0, g'⟩ (fun r => ∀ c : Dev Cert.SsmDtRefIdeal.nD,
          r.2.mem ((c.tc : Thread Cert.SsmDtRefIdeal.nD Cert.SsmDtRefIdeal.τ).loc Cert.SsmDtRefIdeal.main_v1) = v0 c
          ∧ r.2.mem ((c.tc : Thread Cert.SsmDtRefIdeal.nD Cert.SsmDtRefIdeal.τ).loc Cert.SsmDtRefIdeal.main_arg0) = m' ((c.tc : Thread Cert.SsmDtRefIdeal.nD Cert.SsmDtRefIdeal.τ).loc Cert.SsmDtRefIdeal.main_arg0)
          ∧ r.2.mem ((c.tc : Thread Cert.SsmDtRefIdeal.nD Cert.SsmDtRefIdeal.τ).loc Cert.SsmDtRefIdeal.main_arg1) = m' ((c.tc : Thread Cert.SsmDtRefIdeal.nD Cert.SsmDtRefIdeal.τ).loc Cert.SsmDtRefIdeal.main_arg1))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)) →
    ∃ (v0 : (c : Dev Cert.SsmOutIdeal.nD) → Buf (Elt Ideal) ((c.tc : Thread Cert.SsmOutIdeal.nD Cert.SsmOutIdeal.τ).loc Cert.SsmOutIdeal.main_v2)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v2) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v17) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)
      ∧ m' ((c.tc : Thread Cert.MlaOutRefIdeal.nD Cert.MlaOutRefIdeal.τ).loc Cert.MlaOutRefIdeal.main_arg2) = m ((c.tc : Thread Cert.MlaOutIdeal.nD Cert.MlaOutIdeal.τ).loc Cert.MlaOutIdeal.main_arg2)
      ∧ m' ((c.tc : Thread Cert.MlaOutRefIdeal.nD Cert.MlaOutRefIdeal.τ).loc Cert.MlaOutRefIdeal.main_arg3) = m ((c.tc : Thread Cert.MlaOutIdeal.nD Cert.MlaOutIdeal.τ).loc Cert.MlaOutIdeal.main_arg3)) →
    ∃ (v0 : (c : Dev Cert.MlaOutIdeal.nD) → Buf (Elt Ideal) ((c.tc : Thread Cert.MlaOutIdeal.nD Cert.MlaOutIdeal.τ).loc Cert.MlaOutIdeal.main_v2)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v2) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v17) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1)
          ∧ r.2.mem ((c.tc : Thread Cert.MlaOutRefIdeal.nD Cert.MlaOutRefIdeal.τ).loc Cert.MlaOutRefIdeal.main_arg2) = m' ((c.tc : Thread Cert.MlaOutRefIdeal.nD Cert.MlaOutRefIdeal.τ).loc Cert.MlaOutRefIdeal.main_arg2)
          ∧ r.2.mem ((c.tc : Thread Cert.MlaOutRefIdeal.nD Cert.MlaOutRefIdeal.τ).loc Cert.MlaOutRefIdeal.main_arg3) = m' ((c.tc : Thread Cert.MlaOutRefIdeal.nD Cert.MlaOutRefIdeal.τ).loc Cert.MlaOutRefIdeal.main_arg3))

def preserves_Shared_SharedIdeal : Prop :=
  True

def algebraic_SharedIdeal_SharedRefIdeal_pre_finite_gates [hSharedIdeal : Cert.SharedIdeal.Facts] [hSharedRefIdeal : Cert.SharedRefIdeal.Facts] [hPre_finite_gates : Cert.Pre_finite_gates.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal_finite_gates m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)
      ∧ m' ((c.tc : Thread Cert.SharedRefIdeal.nD Cert.SharedRefIdeal.τ).loc Cert.SharedRefIdeal.main_arg4) = m ((c.tc : Thread Cert.SharedIdeal.nD Cert.SharedIdeal.τ).loc Cert.SharedIdeal.main_arg4)
      ∧ m' ((c.tc : Thread Cert.SharedRefIdeal.nD Cert.SharedRefIdeal.τ).loc Cert.SharedRefIdeal.main_arg5) = m ((c.tc : Thread Cert.SharedIdeal.nD Cert.SharedIdeal.τ).loc Cert.SharedIdeal.main_arg5)
      ∧ m' ((c.tc : Thread Cert.SharedRefIdeal.nD Cert.SharedRefIdeal.τ).loc Cert.SharedRefIdeal.main_arg6) = m ((c.tc : Thread Cert.SharedIdeal.nD Cert.SharedIdeal.τ).loc Cert.SharedIdeal.main_arg6)) →
    ∃ (v0 : (c : Dev Cert.SharedIdeal.nD) → Buf (Elt Ideal) ((c.tc : Thread Cert.SharedIdeal.nD Cert.SharedIdeal.τ).loc Cert.SharedIdeal.main_v5)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v5) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v22) = v0 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3)
          ∧ r.2.mem ((c.tc : Thread Cert.SharedRefIdeal.nD Cert.SharedRefIdeal.τ).loc Cert.SharedRefIdeal.main_arg4) = m' ((c.tc : Thread Cert.SharedRefIdeal.nD Cert.SharedRefIdeal.τ).loc Cert.SharedRefIdeal.main_arg4)
          ∧ r.2.mem ((c.tc : Thread Cert.SharedRefIdeal.nD Cert.SharedRefIdeal.τ).loc Cert.SharedRefIdeal.main_arg5) = m' ((c.tc : Thread Cert.SharedRefIdeal.nD Cert.SharedRefIdeal.τ).loc Cert.SharedRefIdeal.main_arg5)
          ∧ r.2.mem ((c.tc : Thread Cert.SharedRefIdeal.nD Cert.SharedRefIdeal.τ).loc Cert.SharedRefIdeal.main_arg6) = m' ((c.tc : Thread Cert.SharedRefIdeal.nD Cert.SharedRefIdeal.τ).loc Cert.SharedRefIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] [hPre_sorted_rows : Cert.Pre_sorted_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v18) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_Lat_LatIdeal : Prop :=
  True

def algebraic_LatIdeal_LatRefIdeal_pre_finite_lat [hLatIdeal : Cert.LatIdeal.Facts] [hLatRefIdeal : Cert.LatRefIdeal.Facts] [hPre_finite_lat : Cert.Pre_finite_lat.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_finite_lat m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)) →
    ∃ (v0 : (c : Dev Cert.LatIdeal.nD) → Buf (Elt Ideal) ((c.tc : Thread Cert.LatIdeal.nD Cert.LatIdeal.τ).loc Cert.LatIdeal.main_v10)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v10) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v8) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1))

def preserves_Query_QueryIdeal : Prop :=
  True

def algebraic_QueryIdeal_QueryRefIdeal_pre_finite_query [hQueryIdeal : Cert.QueryIdeal.Facts] [hQueryRefIdeal : Cert.QueryRefIdeal.Facts] [hPre_finite_query : Cert.Pre_finite_query.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal_finite_query m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v24_0)) (v1 : (c : Dev Cert.QueryIdeal.nD) → Buf (Elt Ideal) ((c.tc : Thread Cert.QueryIdeal.nD Cert.QueryIdeal.τ).loc Cert.QueryIdeal.main_v24_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v24_0) = v0 c
          ∧ r.2.mem ((c.tc : Thread Cert.QueryIdeal.nD Cert.QueryIdeal.τ).loc Cert.QueryIdeal.main_v24_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v23) = v0 c
          ∧ r.2.mem ((c.tc : Thread Cert.QueryRefIdeal.nD Cert.QueryRefIdeal.τ).loc Cert.QueryRefIdeal.main_v25) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_Key_KeyIdeal : Prop :=
  True

def algebraic_KeyIdeal_KeyRefIdeal [hKeyIdeal : Cert.KeyIdeal.Facts] [hKeyRefIdeal : Cert.KeyRefIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v5)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v5) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v4) = v0 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1))

def preserves_ValueT_ValueTIdeal : Prop :=
  True

def algebraic_ValueTIdeal_ValueTRefIdeal [hValueTIdeal : Cert.ValueTIdeal.Facts] [hValueTRefIdeal : Cert.ValueTRefIdeal.Facts] : Prop :=
  ∀ (m : (ℓ : Loc Cert.ValueTIdeal.nD Cert.ValueTIdeal.τ Cert.ValueTIdeal.sig) → Buf (Elt Ideal) ℓ) (g : Dev Cert.ValueTIdeal.nD → PrngReg)
    (m' : (ℓ : Loc Cert.ValueTRefIdeal.nD Cert.ValueTRefIdeal.τ Cert.ValueTRefIdeal.sig) → Buf (Elt Ideal) ℓ) (g' : Dev Cert.ValueTRefIdeal.nD → PrngReg), Pre_ValueTIdeal m →
    (∀ c : Dev Cert.ValueTIdeal.nD,
      m' ((c.tc : Thread Cert.ValueTRefIdeal.nD Cert.ValueTRefIdeal.τ).loc Cert.ValueTRefIdeal.main_arg0) = m ((c.tc : Thread Cert.ValueTIdeal.nD Cert.ValueTIdeal.τ).loc Cert.ValueTIdeal.main_arg0)
      ∧ m' ((c.tc : Thread Cert.ValueTRefIdeal.nD Cert.ValueTRefIdeal.τ).loc Cert.ValueTRefIdeal.main_arg1) = m ((c.tc : Thread Cert.ValueTIdeal.nD Cert.ValueTIdeal.τ).loc Cert.ValueTIdeal.main_arg1)) →
    ∃ (v0 : (c : Dev Cert.ValueTIdeal.nD) → Buf (Elt Ideal) ((c.tc : Thread Cert.ValueTIdeal.nD Cert.ValueTIdeal.τ).loc Cert.ValueTIdeal.main_v6)),
      θ_run (Cert.ValueTIdeal.defs (F := Ideal)) (onTc (τ := Cert.ValueTIdeal.τ) (Cert.ValueTIdeal.main (F := Ideal))) ⟨m, fun _ => 0, g⟩ (fun r => ∀ c : Dev Cert.ValueTIdeal.nD,
          r.2.mem ((c.tc : Thread Cert.ValueTIdeal.nD Cert.ValueTIdeal.τ).loc Cert.ValueTIdeal.main_v6) = v0 c
          ∧ r.2.mem ((c.tc : Thread Cert.ValueTIdeal.nD Cert.ValueTIdeal.τ).loc Cert.ValueTIdeal.main_arg0) = m ((c.tc : Thread Cert.ValueTIdeal.nD Cert.ValueTIdeal.τ).loc Cert.ValueTIdeal.main_arg0)
          ∧ r.2.mem ((c.tc : Thread Cert.ValueTIdeal.nD Cert.ValueTIdeal.τ).loc Cert.ValueTIdeal.main_arg1) = m ((c.tc : Thread Cert.ValueTIdeal.nD Cert.ValueTIdeal.τ).loc Cert.ValueTIdeal.main_arg1))
      ∧ θ_run (Cert.ValueTRefIdeal.defs (F := Ideal)) (onTc (τ := Cert.ValueTRefIdeal.τ) (Cert.ValueTRefIdeal.main (F := Ideal))) ⟨m', fun _ => 0, g'⟩ (fun r => ∀ c : Dev Cert.ValueTRefIdeal.nD,
          r.2.mem ((c.tc : Thread Cert.ValueTRefIdeal.nD Cert.ValueTRefIdeal.τ).loc Cert.ValueTRefIdeal.main_v5) = v0 c
          ∧ r.2.mem ((c.tc : Thread Cert.ValueTRefIdeal.nD Cert.ValueTRefIdeal.τ).loc Cert.ValueTRefIdeal.main_arg0) = m' ((c.tc : Thread Cert.ValueTRefIdeal.nD Cert.ValueTRefIdeal.τ).loc Cert.ValueTRefIdeal.main_arg0)
          ∧ r.2.mem ((c.tc : Thread Cert.ValueTRefIdeal.nD Cert.ValueTRefIdeal.τ).loc Cert.ValueTRefIdeal.main_arg1) = m' ((c.tc : Thread Cert.ValueTRefIdeal.nD Cert.ValueTRefIdeal.τ).loc Cert.ValueTRefIdeal.main_arg1))

def preserves_Modulated_ModulatedIdeal : Prop :=
  True

def algebraic_ModulatedIdeal_ModulatedRefIdeal [hModulatedIdeal : Cert.ModulatedIdeal.Facts] [hModulatedRefIdeal : Cert.ModulatedRefIdeal.Facts] : Prop :=
  ∀ (m : (ℓ : Loc Cert.ModulatedIdeal.nD Cert.ModulatedIdeal.τ Cert.ModulatedIdeal.sig) → Buf (Elt Ideal) ℓ) (g : Dev Cert.ModulatedIdeal.nD → PrngReg)
    (m' : (ℓ : Loc Cert.ModulatedRefIdeal.nD Cert.ModulatedRefIdeal.τ Cert.ModulatedRefIdeal.sig) → Buf (Elt Ideal) ℓ) (g' : Dev Cert.ModulatedRefIdeal.nD → PrngReg), Pre_ModulatedIdeal m →
    (∀ c : Dev Cert.ModulatedIdeal.nD,
      m' ((c.tc : Thread Cert.ModulatedRefIdeal.nD Cert.ModulatedRefIdeal.τ).loc Cert.ModulatedRefIdeal.main_arg0) = m ((c.tc : Thread Cert.ModulatedIdeal.nD Cert.ModulatedIdeal.τ).loc Cert.ModulatedIdeal.main_arg0)
      ∧ m' ((c.tc : Thread Cert.ModulatedRefIdeal.nD Cert.ModulatedRefIdeal.τ).loc Cert.ModulatedRefIdeal.main_arg1) = m ((c.tc : Thread Cert.ModulatedIdeal.nD Cert.ModulatedIdeal.τ).loc Cert.ModulatedIdeal.main_arg1)
      ∧ m' ((c.tc : Thread Cert.ModulatedRefIdeal.nD Cert.ModulatedRefIdeal.τ).loc Cert.ModulatedRefIdeal.main_arg2) = m ((c.tc : Thread Cert.ModulatedIdeal.nD Cert.ModulatedIdeal.τ).loc Cert.ModulatedIdeal.main_arg2)
      ∧ m' ((c.tc : Thread Cert.ModulatedRefIdeal.nD Cert.ModulatedRefIdeal.τ).loc Cert.ModulatedRefIdeal.main_arg3) = m ((c.tc : Thread Cert.ModulatedIdeal.nD Cert.ModulatedIdeal.τ).loc Cert.ModulatedIdeal.main_arg3)) →
    ∃ (v0 : (c : Dev Cert.ModulatedIdeal.nD) → Buf (Elt Ideal) ((c.tc : Thread Cert.ModulatedIdeal.nD Cert.ModulatedIdeal.τ).loc Cert.ModulatedIdeal.main_v1)),
      θ_run (Cert.ModulatedIdeal.defs (F := Ideal)) (onTc (τ := Cert.ModulatedIdeal.τ) (Cert.ModulatedIdeal.main (F := Ideal))) ⟨m, fun _ => 0, g⟩ (fun r => ∀ c : Dev Cert.ModulatedIdeal.nD,
          r.2.mem ((c.tc : Thread Cert.ModulatedIdeal.nD Cert.ModulatedIdeal.τ).loc Cert.ModulatedIdeal.main_v1) = v0 c
          ∧ r.2.mem ((c.tc : Thread Cert.ModulatedIdeal.nD Cert.ModulatedIdeal.τ).loc Cert.ModulatedIdeal.main_arg0) = m ((c.tc : Thread Cert.ModulatedIdeal.nD Cert.ModulatedIdeal.τ).loc Cert.ModulatedIdeal.main_arg0)
          ∧ r.2.mem ((c.tc : Thread Cert.ModulatedIdeal.nD Cert.ModulatedIdeal.τ).loc Cert.ModulatedIdeal.main_arg1) = m ((c.tc : Thread Cert.ModulatedIdeal.nD Cert.ModulatedIdeal.τ).loc Cert.ModulatedIdeal.main_arg1)
          ∧ r.2.mem ((c.tc : Thread Cert.ModulatedIdeal.nD Cert.ModulatedIdeal.τ).loc Cert.ModulatedIdeal.main_arg2) = m ((c.tc : Thread Cert.ModulatedIdeal.nD Cert.ModulatedIdeal.τ).loc Cert.ModulatedIdeal.main_arg2)
          ∧ r.2.mem ((c.tc : Thread Cert.ModulatedIdeal.nD Cert.ModulatedIdeal.τ).loc Cert.ModulatedIdeal.main_arg3) = m ((c.tc : Thread Cert.ModulatedIdeal.nD Cert.ModulatedIdeal.τ).loc Cert.ModulatedIdeal.main_arg3))
      ∧ θ_run (Cert.ModulatedRefIdeal.defs (F := Ideal)) (onTc (τ := Cert.ModulatedRefIdeal.τ) (Cert.ModulatedRefIdeal.main (F := Ideal))) ⟨m', fun _ => 0, g'⟩ (fun r => ∀ c : Dev Cert.ModulatedRefIdeal.nD,
          r.2.mem ((c.tc : Thread Cert.ModulatedRefIdeal.nD Cert.ModulatedRefIdeal.τ).loc Cert.ModulatedRefIdeal.main_v53) = v0 c
          ∧ r.2.mem ((c.tc : Thread Cert.ModulatedRefIdeal.nD Cert.ModulatedRefIdeal.τ).loc Cert.ModulatedRefIdeal.main_arg0) = m' ((c.tc : Thread Cert.ModulatedRefIdeal.nD Cert.ModulatedRefIdeal.τ).loc Cert.ModulatedRefIdeal.main_arg0)
          ∧ r.2.mem ((c.tc : Thread Cert.ModulatedRefIdeal.nD Cert.ModulatedRefIdeal.τ).loc Cert.ModulatedRefIdeal.main_arg1) = m' ((c.tc : Thread Cert.ModulatedRefIdeal.nD Cert.ModulatedRefIdeal.τ).loc Cert.ModulatedRefIdeal.main_arg1)
          ∧ r.2.mem ((c.tc : Thread Cert.ModulatedRefIdeal.nD Cert.ModulatedRefIdeal.τ).loc Cert.ModulatedRefIdeal.main_arg2) = m' ((c.tc : Thread Cert.ModulatedRefIdeal.nD Cert.ModulatedRefIdeal.τ).loc Cert.ModulatedRefIdeal.main_arg2)
          ∧ r.2.mem ((c.tc : Thread Cert.ModulatedRefIdeal.nD Cert.ModulatedRefIdeal.τ).loc Cert.ModulatedRefIdeal.main_arg3) = m' ((c.tc : Thread Cert.ModulatedRefIdeal.nD Cert.ModulatedRefIdeal.τ).loc Cert.ModulatedRefIdeal.main_arg3))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v2_1)) (v2 : (c : Dev Cert.RouterIdeal.nD) → Buf (Elt Ideal) ((c.tc : Thread Cert.RouterIdeal.nD Cert.RouterIdeal.τ).loc Cert.RouterIdeal.main_v2_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v2_1) = v1 c
          ∧ r.2.mem ((c.tc : Thread Cert.RouterIdeal.nD Cert.RouterIdeal.τ).loc Cert.RouterIdeal.main_v2_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v53) = v0 c
          ∧ r.2.mem ((c.tc : Thread Cert.RouterRefIdeal.nD Cert.RouterRefIdeal.τ).loc Cert.RouterRefIdeal.main_v54) = v1 c
          ∧ r.2.mem ((c.tc : Thread Cert.RouterRefIdeal.nD Cert.RouterRefIdeal.τ).loc Cert.RouterRefIdeal.main_v56) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)) →
    ∃ (v0 : (c : Dev Cert.FinishIdeal.nD) → Buf (Elt Ideal) ((c.tc : Thread Cert.FinishIdeal.nD Cert.FinishIdeal.τ).loc Cert.FinishIdeal.main_v8)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v8) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v28) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5))

def preserves_LatPost_LatPostIdeal : Prop :=
  True

def algebraic_LatPostIdeal_LatPostRefIdeal [hLatPostIdeal : Cert.LatPostIdeal.Facts] [hLatPostRefIdeal : Cert.LatPostRefIdeal.Facts] : Prop :=
  ∀ (m : (ℓ : Loc Cert.LatPostIdeal.nD Cert.LatPostIdeal.τ Cert.LatPostIdeal.sig) → Buf (Elt Ideal) ℓ) (g : Dev Cert.LatPostIdeal.nD → PrngReg)
    (m' : (ℓ : Loc Cert.LatPostRefIdeal.nD Cert.LatPostRefIdeal.τ Cert.LatPostRefIdeal.sig) → Buf (Elt Ideal) ℓ) (g' : Dev Cert.LatPostRefIdeal.nD → PrngReg), Pre_LatPostIdeal m →
    (∀ c : Dev Cert.LatPostIdeal.nD,
      m' ((c.tc : Thread Cert.LatPostRefIdeal.nD Cert.LatPostRefIdeal.τ).loc Cert.LatPostRefIdeal.main_arg0) = m ((c.tc : Thread Cert.LatPostIdeal.nD Cert.LatPostIdeal.τ).loc Cert.LatPostIdeal.main_arg0)
      ∧ m' ((c.tc : Thread Cert.LatPostRefIdeal.nD Cert.LatPostRefIdeal.τ).loc Cert.LatPostRefIdeal.main_arg1) = m ((c.tc : Thread Cert.LatPostIdeal.nD Cert.LatPostIdeal.τ).loc Cert.LatPostIdeal.main_arg1)
      ∧ m' ((c.tc : Thread Cert.LatPostRefIdeal.nD Cert.LatPostRefIdeal.τ).loc Cert.LatPostRefIdeal.main_arg2) = m ((c.tc : Thread Cert.LatPostIdeal.nD Cert.LatPostIdeal.τ).loc Cert.LatPostIdeal.main_arg2)
      ∧ m' ((c.tc : Thread Cert.LatPostRefIdeal.nD Cert.LatPostRefIdeal.τ).loc Cert.LatPostRefIdeal.main_arg3) = m ((c.tc : Thread Cert.LatPostIdeal.nD Cert.LatPostIdeal.τ).loc Cert.LatPostIdeal.main_arg3)
      ∧ m' ((c.tc : Thread Cert.LatPostRefIdeal.nD Cert.LatPostRefIdeal.τ).loc Cert.LatPostRefIdeal.main_arg4) = m ((c.tc : Thread Cert.LatPostIdeal.nD Cert.LatPostIdeal.τ).loc Cert.LatPostIdeal.main_arg4)) →
    ∃ (v0 : (c : Dev Cert.LatPostIdeal.nD) → Buf (Elt Ideal) ((c.tc : Thread Cert.LatPostIdeal.nD Cert.LatPostIdeal.τ).loc Cert.LatPostIdeal.main_v20_0)) (v1 : (c : Dev Cert.LatPostIdeal.nD) → Buf (Elt Ideal) ((c.tc : Thread Cert.LatPostIdeal.nD Cert.LatPostIdeal.τ).loc Cert.LatPostIdeal.main_v20_1)) (v2 : (c : Dev Cert.LatPostIdeal.nD) → Buf (Elt Ideal) ((c.tc : Thread Cert.LatPostIdeal.nD Cert.LatPostIdeal.τ).loc Cert.LatPostIdeal.main_v20_2)),
      θ_run (Cert.LatPostIdeal.defs (F := Ideal)) (onTc (τ := Cert.LatPostIdeal.τ) (Cert.LatPostIdeal.main (F := Ideal))) ⟨m, fun _ => 0, g⟩ (fun r => ∀ c : Dev Cert.LatPostIdeal.nD,
          r.2.mem ((c.tc : Thread Cert.LatPostIdeal.nD Cert.LatPostIdeal.τ).loc Cert.LatPostIdeal.main_v20_0) = v0 c
          ∧ r.2.mem ((c.tc : Thread Cert.LatPostIdeal.nD Cert.LatPostIdeal.τ).loc Cert.LatPostIdeal.main_v20_1) = v1 c
          ∧ r.2.mem ((c.tc : Thread Cert.LatPostIdeal.nD Cert.LatPostIdeal.τ).loc Cert.LatPostIdeal.main_v20_2) = v2 c
          ∧ r.2.mem ((c.tc : Thread Cert.LatPostIdeal.nD Cert.LatPostIdeal.τ).loc Cert.LatPostIdeal.main_arg0) = m ((c.tc : Thread Cert.LatPostIdeal.nD Cert.LatPostIdeal.τ).loc Cert.LatPostIdeal.main_arg0)
          ∧ r.2.mem ((c.tc : Thread Cert.LatPostIdeal.nD Cert.LatPostIdeal.τ).loc Cert.LatPostIdeal.main_arg1) = m ((c.tc : Thread Cert.LatPostIdeal.nD Cert.LatPostIdeal.τ).loc Cert.LatPostIdeal.main_arg1)
          ∧ r.2.mem ((c.tc : Thread Cert.LatPostIdeal.nD Cert.LatPostIdeal.τ).loc Cert.LatPostIdeal.main_arg2) = m ((c.tc : Thread Cert.LatPostIdeal.nD Cert.LatPostIdeal.τ).loc Cert.LatPostIdeal.main_arg2)
          ∧ r.2.mem ((c.tc : Thread Cert.LatPostIdeal.nD Cert.LatPostIdeal.τ).loc Cert.LatPostIdeal.main_arg3) = m ((c.tc : Thread Cert.LatPostIdeal.nD Cert.LatPostIdeal.τ).loc Cert.LatPostIdeal.main_arg3)
          ∧ r.2.mem ((c.tc : Thread Cert.LatPostIdeal.nD Cert.LatPostIdeal.τ).loc Cert.LatPostIdeal.main_arg4) = m ((c.tc : Thread Cert.LatPostIdeal.nD Cert.LatPostIdeal.τ).loc Cert.LatPostIdeal.main_arg4))
      ∧ θ_run (Cert.LatPostRefIdeal.defs (F := Ideal)) (onTc (τ := Cert.LatPostRefIdeal.τ) (Cert.LatPostRefIdeal.main (F := Ideal))) ⟨m', fun _ => 0, g'⟩ (fun r => ∀ c : Dev Cert.LatPostRefIdeal.nD,
          r.2.mem ((c.tc : Thread Cert.LatPostRefIdeal.nD Cert.LatPostRefIdeal.τ).loc Cert.LatPostRefIdeal.main_v41) = v0 c
          ∧ r.2.mem ((c.tc : Thread Cert.LatPostRefIdeal.nD Cert.LatPostRefIdeal.τ).loc Cert.LatPostRefIdeal.main_v42) = v1 c
          ∧ r.2.mem ((c.tc : Thread Cert.LatPostRefIdeal.nD Cert.LatPostRefIdeal.τ).loc Cert.LatPostRefIdeal.main_v44) = v2 c
          ∧ r.2.mem ((c.tc : Thread Cert.LatPostRefIdeal.nD Cert.LatPostRefIdeal.τ).loc Cert.LatPostRefIdeal.main_arg0) = m' ((c.tc : Thread Cert.LatPostRefIdeal.nD Cert.LatPostRefIdeal.τ).loc Cert.LatPostRefIdeal.main_arg0)
          ∧ r.2.mem ((c.tc : Thread Cert.LatPostRefIdeal.nD Cert.LatPostRefIdeal.τ).loc Cert.LatPostRefIdeal.main_arg1) = m' ((c.tc : Thread Cert.LatPostRefIdeal.nD Cert.LatPostRefIdeal.τ).loc Cert.LatPostRefIdeal.main_arg1)
          ∧ r.2.mem ((c.tc : Thread Cert.LatPostRefIdeal.nD Cert.LatPostRefIdeal.τ).loc Cert.LatPostRefIdeal.main_arg2) = m' ((c.tc : Thread Cert.LatPostRefIdeal.nD Cert.LatPostRefIdeal.τ).loc Cert.LatPostRefIdeal.main_arg2)
          ∧ r.2.mem ((c.tc : Thread Cert.LatPostRefIdeal.nD Cert.LatPostRefIdeal.τ).loc Cert.LatPostRefIdeal.main_arg3) = m' ((c.tc : Thread Cert.LatPostRefIdeal.nD Cert.LatPostRefIdeal.τ).loc Cert.LatPostRefIdeal.main_arg3)
          ∧ r.2.mem ((c.tc : Thread Cert.LatPostRefIdeal.nD Cert.LatPostRefIdeal.τ).loc Cert.LatPostRefIdeal.main_arg4) = m' ((c.tc : Thread Cert.LatPostRefIdeal.nD Cert.LatPostRefIdeal.τ).loc Cert.LatPostRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hSsmZ : Cert.SsmZ.Facts) (hSsmZIdeal : Cert.SsmZIdeal.Facts) (hSsmZRefIdeal : Cert.SsmZRefIdeal.Facts) (hSsmXbc : Cert.SsmXbc.Facts) (hSsmXbcIdeal : Cert.SsmXbcIdeal.Facts) (hSsmXbcRefIdeal : Cert.SsmXbcRefIdeal.Facts) (hSsmDt : Cert.SsmDt.Facts) (hSsmDtIdeal : Cert.SsmDtIdeal.Facts) (hSsmDtRefIdeal : Cert.SsmDtRefIdeal.Facts) (hSsmOut : Cert.SsmOut.Facts) (hSsmOutIdeal : Cert.SsmOutIdeal.Facts) (hSsmOutRefIdeal : Cert.SsmOutRefIdeal.Facts) (hMlaOut : Cert.MlaOut.Facts) (hMlaOutIdeal : Cert.MlaOutIdeal.Facts) (hMlaOutRefIdeal : Cert.MlaOutRefIdeal.Facts) (hShared : Cert.Shared.Facts) (hSharedIdeal : Cert.SharedIdeal.Facts) (hSharedRefIdeal : Cert.SharedRefIdeal.Facts) (hExperts : Cert.Experts.Facts) (hExpertsIdeal : Cert.ExpertsIdeal.Facts) (hExpertsRefIdeal : Cert.ExpertsRefIdeal.Facts) (hLat : Cert.Lat.Facts) (hLatIdeal : Cert.LatIdeal.Facts) (hLatRefIdeal : Cert.LatRefIdeal.Facts) (hQuery : Cert.Query.Facts) (hQueryIdeal : Cert.QueryIdeal.Facts) (hQueryRefIdeal : Cert.QueryRefIdeal.Facts) (hKey : Cert.Key.Facts) (hKeyIdeal : Cert.KeyIdeal.Facts) (hKeyRefIdeal : Cert.KeyRefIdeal.Facts) (hValueT : Cert.ValueT.Facts) (hValueTIdeal : Cert.ValueTIdeal.Facts) (hValueTRefIdeal : Cert.ValueTRefIdeal.Facts) (hModulated : Cert.Modulated.Facts) (hModulatedIdeal : Cert.ModulatedIdeal.Facts) (hModulatedRefIdeal : Cert.ModulatedRefIdeal.Facts) (hRouter : Cert.Router.Facts) (hRouterIdeal : Cert.RouterIdeal.Facts) (hRouterRefIdeal : Cert.RouterRefIdeal.Facts) (hFinish : Cert.Finish.Facts) (hFinishIdeal : Cert.FinishIdeal.Facts) (hFinishRefIdeal : Cert.FinishRefIdeal.Facts) (hLatPost : Cert.LatPost.Facts) (hLatPostIdeal : Cert.LatPostIdeal.Facts) (hLatPostRefIdeal : Cert.LatPostRefIdeal.Facts) (hAda : Cert.Ada.Facts) (hAdaIdeal : Cert.AdaIdeal.Facts) (hAdaRefIdeal : Cert.AdaRefIdeal.Facts) (hConv : Cert.Conv.Facts) (hConvIdeal : Cert.ConvIdeal.Facts) (hConvRefIdeal : Cert.ConvRefIdeal.Facts) (hPre_finite : Cert.Pre_finite.Facts) (hPre_finite_gates : Cert.Pre_finite_gates.Facts) (hPre_sorted_rows : Cert.Pre_sorted_rows.Facts) (hPre_finite_lat : Cert.Pre_finite_lat.Facts) (hPre_finite_query : Cert.Pre_finite_query.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm (hNorm := hNorm)
    ∧ quiescent_NormIdeal (hNormIdeal := hNormIdeal)
    ∧ quiescent_NormRefIdeal (hNormRefIdeal := hNormRefIdeal)
    ∧ quiescent_SsmZ (hSsmZ := hSsmZ)
    ∧ quiescent_SsmZIdeal (hSsmZIdeal := hSsmZIdeal)
    ∧ quiescent_SsmZRefIdeal (hSsmZRefIdeal := hSsmZRefIdeal)
    ∧ quiescent_SsmXbc (hSsmXbc := hSsmXbc)
    ∧ quiescent_SsmXbcIdeal (hSsmXbcIdeal := hSsmXbcIdeal)
    ∧ quiescent_SsmXbcRefIdeal (hSsmXbcRefIdeal := hSsmXbcRefIdeal)
    ∧ quiescent_SsmDt (hSsmDt := hSsmDt)
    ∧ quiescent_SsmDtIdeal (hSsmDtIdeal := hSsmDtIdeal)
    ∧ quiescent_SsmDtRefIdeal (hSsmDtRefIdeal := hSsmDtRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_Shared (hShared := hShared)
    ∧ quiescent_SharedIdeal (hSharedIdeal := hSharedIdeal)
    ∧ quiescent_SharedIdeal_pre_finite_gates (hSharedIdeal := hSharedIdeal) (hPre_finite_gates := hPre_finite_gates)
    ∧ quiescent_SharedRefIdeal (hSharedRefIdeal := hSharedRefIdeal)
    ∧ quiescent_SharedRefIdeal_pre_finite_gates (hSharedRefIdeal := hSharedRefIdeal) (hPre_finite_gates := hPre_finite_gates)
    ∧ quiescent_Experts (hExperts := hExperts) (hPre_sorted_rows := hPre_sorted_rows)
    ∧ quiescent_ExpertsIdeal (hExpertsIdeal := hExpertsIdeal) (hPre_sorted_rows := hPre_sorted_rows)
    ∧ quiescent_ExpertsRefIdeal (hExpertsRefIdeal := hExpertsRefIdeal)
    ∧ quiescent_ExpertsRefIdeal_pre_sorted_rows (hExpertsRefIdeal := hExpertsRefIdeal) (hPre_sorted_rows := hPre_sorted_rows)
    ∧ quiescent_Lat (hLat := hLat)
    ∧ quiescent_LatIdeal (hLatIdeal := hLatIdeal)
    ∧ quiescent_LatIdeal_pre_finite_lat (hLatIdeal := hLatIdeal) (hPre_finite_lat := hPre_finite_lat)
    ∧ quiescent_LatRefIdeal (hLatRefIdeal := hLatRefIdeal)
    ∧ quiescent_LatRefIdeal_pre_finite_lat (hLatRefIdeal := hLatRefIdeal) (hPre_finite_lat := hPre_finite_lat)
    ∧ quiescent_Query (hQuery := hQuery)
    ∧ quiescent_QueryIdeal (hQueryIdeal := hQueryIdeal)
    ∧ quiescent_QueryIdeal_pre_finite_query (hQueryIdeal := hQueryIdeal) (hPre_finite_query := hPre_finite_query)
    ∧ quiescent_QueryRefIdeal (hQueryRefIdeal := hQueryRefIdeal)
    ∧ quiescent_QueryRefIdeal_pre_finite_query (hQueryRefIdeal := hQueryRefIdeal) (hPre_finite_query := hPre_finite_query)
    ∧ quiescent_Key (hKey := hKey)
    ∧ quiescent_KeyIdeal (hKeyIdeal := hKeyIdeal)
    ∧ quiescent_KeyRefIdeal (hKeyRefIdeal := hKeyRefIdeal)
    ∧ quiescent_ValueT (hValueT := hValueT)
    ∧ quiescent_ValueTIdeal (hValueTIdeal := hValueTIdeal)
    ∧ quiescent_ValueTRefIdeal (hValueTRefIdeal := hValueTRefIdeal)
    ∧ quiescent_Modulated (hModulated := hModulated)
    ∧ quiescent_ModulatedIdeal (hModulatedIdeal := hModulatedIdeal)
    ∧ quiescent_ModulatedRefIdeal (hModulatedRefIdeal := hModulatedRefIdeal)
    ∧ quiescent_Router (hRouter := hRouter)
    ∧ quiescent_RouterIdeal (hRouterIdeal := hRouterIdeal)
    ∧ quiescent_RouterRefIdeal (hRouterRefIdeal := hRouterRefIdeal)
    ∧ quiescent_Finish (hFinish := hFinish)
    ∧ quiescent_FinishIdeal (hFinishIdeal := hFinishIdeal)
    ∧ quiescent_FinishRefIdeal (hFinishRefIdeal := hFinishRefIdeal)
    ∧ quiescent_LatPost (hLatPost := hLatPost)
    ∧ quiescent_LatPostIdeal (hLatPostIdeal := hLatPostIdeal)
    ∧ quiescent_LatPostRefIdeal (hLatPostRefIdeal := hLatPostRefIdeal)
    ∧ quiescent_Ada (hAda := hAda)
    ∧ quiescent_AdaIdeal (hAdaIdeal := hAdaIdeal)
    ∧ quiescent_AdaRefIdeal (hAdaRefIdeal := hAdaRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm_NormIdeal
    ∧ algebraic_NormIdeal_NormRefIdeal (hNormIdeal := hNormIdeal) (hNormRefIdeal := hNormRefIdeal)
    ∧ preserves_SsmZ_SsmZIdeal
    ∧ algebraic_SsmZIdeal_SsmZRefIdeal (hSsmZIdeal := hSsmZIdeal) (hSsmZRefIdeal := hSsmZRefIdeal)
    ∧ preserves_SsmXbc_SsmXbcIdeal
    ∧ algebraic_SsmXbcIdeal_SsmXbcRefIdeal (hSsmXbcIdeal := hSsmXbcIdeal) (hSsmXbcRefIdeal := hSsmXbcRefIdeal)
    ∧ preserves_SsmDt_SsmDtIdeal
    ∧ algebraic_SsmDtIdeal_SsmDtRefIdeal (hSsmDtIdeal := hSsmDtIdeal) (hSsmDtRefIdeal := hSsmDtRefIdeal)
    ∧ preserves_SsmOut_SsmOutIdeal
    ∧ algebraic_SsmOutIdeal_SsmOutRefIdeal (hSsmOutIdeal := hSsmOutIdeal) (hSsmOutRefIdeal := hSsmOutRefIdeal)
    ∧ preserves_MlaOut_MlaOutIdeal
    ∧ algebraic_MlaOutIdeal_MlaOutRefIdeal (hMlaOutIdeal := hMlaOutIdeal) (hMlaOutRefIdeal := hMlaOutRefIdeal)
    ∧ preserves_Shared_SharedIdeal
    ∧ algebraic_SharedIdeal_SharedRefIdeal_pre_finite_gates (hSharedIdeal := hSharedIdeal) (hSharedRefIdeal := hSharedRefIdeal) (hPre_finite_gates := hPre_finite_gates)
    ∧ preserves_Experts_ExpertsIdeal
    ∧ algebraic_ExpertsIdeal_ExpertsRefIdeal (hExpertsIdeal := hExpertsIdeal) (hExpertsRefIdeal := hExpertsRefIdeal) (hPre_sorted_rows := hPre_sorted_rows)
    ∧ preserves_Lat_LatIdeal
    ∧ algebraic_LatIdeal_LatRefIdeal_pre_finite_lat (hLatIdeal := hLatIdeal) (hLatRefIdeal := hLatRefIdeal) (hPre_finite_lat := hPre_finite_lat)
    ∧ preserves_Query_QueryIdeal
    ∧ algebraic_QueryIdeal_QueryRefIdeal_pre_finite_query (hQueryIdeal := hQueryIdeal) (hQueryRefIdeal := hQueryRefIdeal) (hPre_finite_query := hPre_finite_query)
    ∧ preserves_Key_KeyIdeal
    ∧ algebraic_KeyIdeal_KeyRefIdeal (hKeyIdeal := hKeyIdeal) (hKeyRefIdeal := hKeyRefIdeal)
    ∧ preserves_ValueT_ValueTIdeal
    ∧ algebraic_ValueTIdeal_ValueTRefIdeal (hValueTIdeal := hValueTIdeal) (hValueTRefIdeal := hValueTRefIdeal)
    ∧ preserves_Modulated_ModulatedIdeal
    ∧ algebraic_ModulatedIdeal_ModulatedRefIdeal (hModulatedIdeal := hModulatedIdeal) (hModulatedRefIdeal := hModulatedRefIdeal)
    ∧ preserves_Router_RouterIdeal
    ∧ algebraic_RouterIdeal_RouterRefIdeal (hRouterIdeal := hRouterIdeal) (hRouterRefIdeal := hRouterRefIdeal)
    ∧ preserves_Finish_FinishIdeal
    ∧ algebraic_FinishIdeal_FinishRefIdeal (hFinishIdeal := hFinishIdeal) (hFinishRefIdeal := hFinishRefIdeal)
    ∧ preserves_LatPost_LatPostIdeal
    ∧ algebraic_LatPostIdeal_LatPostRefIdeal (hLatPostIdeal := hLatPostIdeal) (hLatPostRefIdeal := hLatPostRefIdeal)
    ∧ preserves_Ada_AdaIdeal
    ∧ algebraic_AdaIdeal_AdaRefIdeal (hAdaIdeal := hAdaIdeal) (hAdaRefIdeal := hAdaRefIdeal)
    ∧ preserves_Conv_ConvIdeal
    ∧ algebraic_ConvIdeal_ConvRefIdeal (hConvIdeal := hConvIdeal) (hConvRefIdeal := hConvRefIdeal)
-- ==== Pre_finite.lean ====
abbrev S16640x32x128 : Shape := ⟨3, ![16640, 32, 128]⟩
abbrev S16640x32x64 : Shape := ⟨3, ![16640, 32, 64]⟩
abbrev S16640x64 : Shape := ⟨2, ![16640, 64]⟩
abbrev S_ : Shape := ⟨0, ![]⟩

class Facts : Prop where
  bcast_S_S16640x32x128 : S_.BroadcastsInDim S16640x32x128 (![] : Fin 0 → Fin S16640x32x128.rank)
  bcast_S_S16640x32x64 : S_.BroadcastsInDim S16640x32x64 (![] : Fin 0 → Fin S16640x32x64.rank)
  bcast_S_S16640x64 : S_.BroadcastsInDim S16640x64 (![] : Fin 0 → Fin S16640x64.rank)

variable [Facts]

def fn {F : FTy → Type} [FloatOps F] (main_arg0 : FVec F S16640x32x128 .f32) (main_arg1 : FVec F S16640x32x64 .f32) (main_arg2 : FVec F S16640x32x128 .f32) (main_arg3 : FVec F S16640x64 .f32) (main_arg4 : FVec F S16640x32x128 .f32) : IVec S16640x32x128 1 × IVec S16640x32x64 1 × IVec S16640x32x128 1 × IVec S16640x64 1 :=
  let main_v0 : FVec F S16640x32x128 .f32 := Host.absf main_arg0
  let main_cst : FVec F S_ .f32 := constant S_ .f32 0x7F800000#32
  let main_v1 : FVec F S16640x32x128 .f32 := broadcastInDim S16640x32x128 ![] bcast_S_S16640x32x128 main_cst
  let main_v2 : IVec S16640x32x128 1 := cmpf .olt main_v0 main_v1
  let main_v3 : FVec F S16640x32x64 .f32 := Host.absf main_arg1
  let main_cst_0 : FVec F S_ .f32 := constant S_ .f32 0x7F800000#32
  let main_v4 : FVec F S16640x32x64 .f32 := broadcastInDim S16640x32x64 ![] bcast_S_S16640x32x64 main_cst_0
  let main_v5 : IVec S16640x32x64 1 := cmpf .olt main_v3 main_v4
  let main_v6 : FVec F S16640x32x128 .f32 := Host.absf main_arg2
  let main_cst_1 : FVec F S_ .f32 := constant S_ .f32 0x7F800000#32
  let main_v7 : FVec F S16640x32x128 .f32 := broadcastInDim S16640x32x128 ![] bcast_S_S16640x32x128 main_cst_1
  let main_v8 : IVec S16640x32x128 1 := cmpf .olt main_v6 main_v7
  let main_v9 : FVec F S16640x64 .f32 := Host.absf main_arg3
  let main_cst_2 : FVec F S_ .f32 := constant S_ .f32 0x7F800000#32
  let main_v10 : FVec F S16640x64 .f32 := broadcastInDim S16640x64 ![] bcast_S_S16640x64 main_cst_2
  let main_v11 : IVec S16640x64 1 := cmpf .olt main_v9 main_v10
  (main_v2, main_v5, main_v8, main_v11)
-- ==== Pre_finite_gates.lean ====
abbrev S16640x4096 : Shape := ⟨2, ![16640, 4096]⟩
abbrev S4096x512 : Shape := ⟨2, ![4096, 512]⟩
abbrev S512x4096 : Shape := ⟨2, ![512, 4096]⟩
abbrev S2x4096 : Shape := ⟨2, ![2, 4096]⟩
abbrev S_ : Shape := ⟨0, ![]⟩

class Facts : Prop where
  bcast_S_S16640x4096 : S_.BroadcastsInDim S16640x4096 (![] : Fin 0 → Fin S16640x4096.rank)
  bcast_S_S2x4096 : S_.BroadcastsInDim S2x4096 (![] : Fin 0 → Fin S2x4096.rank)

variable [Facts]

def fn {F : FTy → Type} [FloatOps F] (main_arg0 : FVec F S16640x4096 .f32) (main_arg1 : FVec F S4096x512 .f32) (main_arg2 : FVec F S4096x512 .f32) (main_arg3 : FVec F S512x4096 .f32) (main_arg4 : FVec F S16640x4096 .f32) (main_arg5 : FVec F S16640x4096 .f32) (main_arg6 : FVec F S2x4096 .f32) : IVec S16640x4096 1 × IVec S2x4096 1 :=
  let main_v0 : FVec F S16640x4096 .f32 := Host.absf main_arg4
  let main_cst : FVec F S_ .f32 := constant S_ .f32 0x7F800000#32
  let main_v1 : FVec F S16640x4096 .f32 := broadcastInDim S16640x4096 ![] bcast_S_S16640x4096 main_cst
  let main_v2 : IVec S16640x4096 1 := cmpf .olt main_v0 main_v1
  let main_v3 : FVec F S2x4096 .f32 := Host.absf main_arg6
  let main_cst_0 : FVec F S_ .f32 := constant S_ .f32 0x7F800000#32
  let main_v4 : FVec F S2x4096 .f32 := broadcastInDim S2x4096 ![] bcast_S_S2x4096 main_cst_0
  let main_v5 : IVec S2x4096 1 := cmpf .olt main_v3 main_v4
  (main_v2, main_v5)
-- ==== Pre_finite_lat.lean ====
abbrev S16640x4096 : Shape := ⟨2, ![16640, 4096]⟩
abbrev S4096x2112 : Shape := ⟨2, ![4096, 2112]⟩
abbrev S_ : Shape := ⟨0, ![]⟩
abbrev S4096x64 : Shape := ⟨2, ![4096, 64]⟩

class Facts : Prop where
  bcast_S_S16640x4096 : S_.BroadcastsInDim S16640x4096 (![] : Fin 0 → Fin S16640x4096.rank)
  slices_S4096x2112_S4096x64_0_2048 : S4096x2112.Slices ![0, 2048] S4096x64
  bcast_S_S4096x64 : S_.BroadcastsInDim S4096x64 (![] : Fin 0 → Fin S4096x64.rank)

variable [Facts]

def fn {F : FTy → Type} [FloatOps F] (main_arg0 : FVec F S16640x4096 .f32) (main_arg1 : FVec F S4096x2112 .f32) : IVec S16640x4096 1 × IVec S4096x64 1 :=
  let main_v0 : FVec F S16640x4096 .f32 := Host.absf main_arg0
  let main_cst : FVec F S_ .f32 := constant S_ .f32 0x7F800000#32
  let main_v1 : FVec F S16640x4096 .f32 := broadcastInDim S16640x4096 ![] bcast_S_S16640x4096 main_cst
  let main_v2 : IVec S16640x4096 1 := cmpf .olt main_v0 main_v1
  let main_v3 : FVec F S4096x64 .f32 := (extractStridedSlice S4096x64 ![0, 2048] · slices_S4096x2112_S4096x64_0_2048) main_arg1
  let main_v4 : FVec F S4096x64 .f32 := Host.absf main_v3
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  (main_v2, main_v6)
-- ==== Pre_finite_query.lean ====
abbrev S16640x1536 : Shape := ⟨2, ![16640, 1536]⟩
abbrev S1536x6144 : Shape := ⟨2, ![1536, 6144]⟩
abbrev S16384x32 : Shape := ⟨2, ![16384, 32]⟩
abbrev S_ : Shape := ⟨0, ![]⟩

class Facts : Prop where
  bcast_S_S16640x1536 : S_.BroadcastsInDim S16640x1536 (![] : Fin 0 → Fin S16640x1536.rank)
  bcast_S_S1536x6144 : S_.BroadcastsInDim S1536x6144 (![] : Fin 0 → Fin S1536x6144.rank)

variable [Facts]

def fn {F : FTy → Type} [FloatOps F] (main_arg0 : FVec F S16640x1536 .f32) (main_arg1 : FVec F S1536x6144 .f32) (main_arg2 : FVec F S16384x32 .f32) (main_arg3 : FVec F S16384x32 .f32) : IVec S16640x1536 1 × IVec S1536x6144 1 :=
  let main_v0 : FVec F S16640x1536 .f32 := Host.absf main_arg0
  let main_cst : FVec F S_ .f32 := constant S_ .f32 0x7F800000#32
  let main_v1 : FVec F S16640x1536 .f32 := broadcastInDim S16640x1536 ![] bcast_S_S16640x1536 main_cst
  let main_v2 : IVec S16640x1536 1 := cmpf .olt main_v0 main_v1
  let main_v3 : FVec F S1536x6144 .f32 := Host.absf main_arg1
  let main_cst_0 : FVec F S_ .f32 := constant S_ .f32 0x7F800000#32
  let main_v4 : FVec F S1536x6144 .f32 := broadcastInDim S1536x6144 ![] bcast_S_S1536x6144 main_cst_0
  let main_v5 : IVec S1536x6144 1 := cmpf .olt main_v3 main_v4
  (main_v2, main_v5)
-- ==== Pre_sorted_rows.lean ====
abbrev S18560x4096 : Shape := ⟨2, ![18560, 4096]⟩
abbrev S18560x4 : Shape := ⟨2, ![18560, 4]⟩
abbrev S18560 : Shape := ⟨1, ![18560]⟩
abbrev S29 : Shape := ⟨1, ![29]⟩
abbrev S16x4096x512 : Shape := ⟨3, ![16, 4096, 512]⟩
abbrev S16x512x4096 : Shape := ⟨3, ![16, 512, 4096]⟩
abbrev S_ : Shape := ⟨0, ![]⟩
abbrev S29x1x1 : Shape := ⟨3, ![29, 1, 1]⟩
abbrev S29x640x4 : Shape := ⟨3, ![29, 640, 4]⟩
abbrev S29x640 : Shape := ⟨2, ![29, 640]⟩
abbrev S29x1 : Shape := ⟨2, ![29, 1]⟩

class Facts : Prop where
  bcast_S_S29 : S_.BroadcastsInDim S29 (![] : Fin 0 → Fin S29.rank)
  bcast_S29_S29x1x1_0 : S29.BroadcastsInDim S29x1x1 (![0] : Fin 1 → Fin S29x1x1.rank)
  bcast_S29x1x1_S29x640x4_0_1_2 : S29x1x1.BroadcastsInDim S29x640x4 (![0, 1, 2] : Fin 3 → Fin S29x640x4.rank)
  shapeCasts_S18560_S29x640 : S18560.ShapeCasts S29x640
  bcast_S29_S29x1_0 : S29.BroadcastsInDim S29x1 (![0] : Fin 1 → Fin S29x1.rank)
  bcast_S29x1_S29x640_0_1 : S29x1.BroadcastsInDim S29x640 (![0, 1] : Fin 2 → Fin S29x640.rank)
  shapeCasts_S18560x4_S29x640x4 : S18560x4.ShapeCasts S29x640x4
  bcast_S_S29x640x4 : S_.BroadcastsInDim S29x640x4 (![] : Fin 0 → Fin S29x640x4.rank)

variable [Facts]

def fn {F : FTy → Type} [FloatOps F] (main_arg0 : FVec F S18560x4096 .f32) (main_arg1 : FVec F S18560x4 .f32) (main_arg2 : IVec S18560 32) (main_arg3 : IVec S29 32) (main_arg4 : IVec S29 32) (main_arg5 : FVec F S16x4096x512 .f32) (main_arg6 : FVec F S16x4096x512 .f32) (main_arg7 : FVec F S16x512x4096 .f32) : IVec S29 1 × IVec S29 1 × IVec S29x640 1 × IVec S29x640x4 1 :=
  let main_c : IVec S_ 32 := constantI S_ 32 0#32
  let main_v0 : IVec S29 32 := broadcastInDim S29 ![] bcast_S_S29 main_c
  let main_v1 : IVec S29 1 := cmpi .sgt main_arg4 main_v0
  let main_v2 : IVec S29x1x1 1 := broadcastInDim S29x1x1 ![0] bcast_S29_S29x1x1_0 main_v1
  let main_v3 : IVec S29x640x4 1 := broadcastInDim S29x640x4 ![0, 1, 2] bcast_S29x1x1_S29x640x4_0_1_2 main_v2
  let main_c_0 : IVec S_ 32 := constantI S_ 32 0#32
  let main_v4 : IVec S29 32 := broadcastInDim S29 ![] bcast_S_S29 main_c_0
  let main_v5 : IVec S29 1 := cmpi .sge main_arg3 main_v4
  let main_c_1 : IVec S_ 32 := constantI S_ 32 4#32
  let main_v6 : IVec S29 32 := broadcastInDim S29 ![] bcast_S_S29 main_c_1
  let main_v7 : IVec S29 1 := cmpi .slt main_arg3 main_v6
  let main_v8 : IVec S29x640 32 := shapeCast S29x640 main_arg2 shapeCasts_S18560_S29x640
  let main_v9 : IVec S29x1 32 := broadcastInDim S29x1 ![0] bcast_S29_S29x1_0 main_arg3
  let main_v10 : IVec S29x640 32 := broadcastInDim S29x640 ![0, 1] bcast_S29x1_S29x640_0_1 main_v9
  let main_v11 : IVec S29x640 1 := cmpi .eq main_v8 main_v10
  let main_v12 : FVec F S29x640x4 .f32 := shapeCast S29x640x4 main_arg1 shapeCasts_S18560x4_S29x640x4
  let main_cst : FVec F S_ .f32 := constant S_ .f32 0x00000000#32
  let main_v13 : FVec F S29x640x4 .f32 := broadcastInDim S29x640x4 ![] bcast_S_S29x640x4 main_cst
  let main_v14 : IVec S29x640x4 1 := cmpf .oeq main_v12 main_v13
  let main_v15 : IVec S29x640x4 1 := ori main_v3 main_v14
  (main_v5, main_v7, main_v11, main_v15)
-- ==== Kernel.lean ====
abbrev S16640x32x128 : Shape := ⟨3, ![16640, 32, 128]⟩
abbrev S16640x32x64 : Shape := ⟨3, ![16640, 32, 64]⟩
abbrev S16640x64 : Shape := ⟨2, ![16640, 64]⟩
abbrev S_ : Shape := ⟨0, ![]⟩
abbrev S16640x4096 : Shape := ⟨2, ![16640, 4096]⟩
abbrev S16640x2048 : Shape := ⟨2, ![16640, 2048]⟩
abbrev S16640x256 : Shape := ⟨2, ![16640, 256]⟩
abbrev S4096x16640 : Shape := ⟨2, ![4096, 16640]⟩
abbrev S256x128 : Shape := ⟨2, ![256, 128]⟩
abbrev S16640x128 : Shape := ⟨2, ![16640, 128]⟩
abbrev S128x16640 : Shape := ⟨2, ![128, 16640]⟩
abbrev S2x3328x256 : Shape := ⟨3, ![2, 3328, 256]⟩
abbrev S128x256 : Shape := ⟨2, ![128, 256]⟩
abbrev S256x256 : Shape := ⟨2, ![256, 256]⟩
abbrev S1x256 : Shape := ⟨2, ![1, 256]⟩
abbrev S1x256x256 : Shape := ⟨3, ![1, 256, 256]⟩
abbrev S256 : Shape := ⟨1, ![256]⟩
abbrev S3328x128 : Shape := ⟨2, ![3328, 128]⟩
abbrev S3328x256 : Shape := ⟨2, ![3328, 256]⟩
abbrev S1x3328x256 : Shape := ⟨3, ![1, 3328, 256]⟩
abbrev S128x3328 : Shape := ⟨2, ![128, 3328]⟩

abbrev nBuf : Space → Nat
  | .hbm => 29
  | .vmem => 14
  | .smem => 0
  | _ => 0

abbrev bufTy : (tb : Table) → Fin (tcTables nBuf tb) → BufTy
  | .hbm, ⟨0, _⟩ => ⟨S16640x32x128, .f32⟩
  | .hbm, ⟨1, _⟩ => ⟨S16640x32x64, .f32⟩
  | .hbm, ⟨2, _⟩ => ⟨S16640x32x128, .f32⟩
  | .hbm, ⟨3, _⟩ => ⟨S16640x64, .f32⟩
  | .hbm, ⟨4, _⟩ => ⟨S16640x32x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16640x32x128, .f32⟩
  | .hbm, ⟨12, _⟩ => ⟨S16640x32x128, .f32⟩
  | .hbm, ⟨13, _⟩ => ⟨S16640x4096, .f32⟩
  | .hbm, ⟨14, _⟩ => ⟨S16640x4096, .bf16⟩
  | .hbm, ⟨15, _⟩ => ⟨S16640x32x64, .f32⟩
  | .hbm, ⟨16, _⟩ => ⟨S16640x32x64, .f32⟩
  | .hbm, ⟨17, _⟩ => ⟨S16640x2048, .f32⟩
  | .hbm, ⟨18, _⟩ => ⟨S16640x2048, .bf16⟩
  | .hbm, ⟨19, _⟩ => ⟨S16640x4096, .f32⟩
  | .hbm, ⟨20, _⟩ => ⟨S16640x4096, .bf16⟩
  | .hbm, ⟨21, _⟩ => ⟨S_, .f32⟩
  | .hbm, ⟨22, _⟩ => ⟨S16640x64, .f32⟩
  | .hbm, ⟨23, _⟩ => ⟨S16640x256, .f32⟩
  | .hbm, ⟨24, _⟩ => ⟨S16640x256, .bf16⟩
  | .hbm, ⟨25, _⟩ => ⟨S16640x4096, .f32⟩
  | .hbm, ⟨26, _⟩ => ⟨S4096x16640, .f32⟩
  | .hbm, ⟨27, _⟩ => ⟨S4096x16640, .bf16⟩
  | .hbm, ⟨28, _⟩ => ⟨S16640x4096, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S16640x128, .bf16⟩
  | .local _ .vmem, ⟨5, _⟩ => ⟨S16640x128, .bf16⟩
  | .local _ .vmem, ⟨6, _⟩ => ⟨S16640x128, .bf16⟩
  | .local _ .vmem, ⟨7, _⟩ => ⟨S16640x128, .bf16⟩
  | .local _ .vmem, ⟨8, _⟩ => ⟨S128x16640, .bf16⟩
  | .local _ .vmem, ⟨9, _⟩ => ⟨S128x16640, .bf16⟩
  | .local _ .vmem, ⟨10, _⟩ => ⟨S256x128, .bf16⟩
  | .local _ .vmem, ⟨11, _⟩ => ⟨S256x128, .bf16⟩
  | .local _ .vmem, ⟨12, _⟩ => ⟨S2x3328x256, .f32⟩
  | .local _ .vmem, ⟨13, _⟩ => ⟨S128x256, .f32⟩
  | _, _ => ⟨S16640x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 65], ![false, false]⟩

def k0_cond1 (i : grid0.Coords) : BitVec 1 :=
  let arg1 : BitVec 32 := BitVec.ofNat 32 (i 1).val
  let c256_i32 : BitVec 32 := 256#32
  let v14 : BitVec 32 := Scalar.muli arg1 c256_i32
  let c256_i32_7 : BitVec 32 := 256#32
  let v15 : BitVec 1 := Scalar.cmpi .slt v14 c256_i32_7
  let v16 : BitVec 32 := Scalar.extui v15
  let c0_i32 : BitVec 32 := 0#32
  let v17 : BitVec 1 := Scalar.cmpi .ne v16 c0_i32
  v17

def k0_cond2 (i : grid0.Coords) : BitVec 1 :=
  let arg1 : BitVec 32 := BitVec.ofNat 32 (i 1).val
  let c256_i32 : BitVec 32 := 256#32
  let v14 : BitVec 32 := Scalar.muli arg1 c256_i32
  let c256_i32_7 : BitVec 32 := 256#32
  let v15 : BitVec 1 := Scalar.cmpi .slt v14 c256_i32_7
  let v_true : BitVec 1 := 1#1
  let v18 : BitVec 1 := Scalar.xori v15 v_true
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16640x32x128 : Shape := ⟨3, ![16640, 32, 128]⟩
abbrev S16640x32x64 : Shape := ⟨3, ![16640, 32, 64]⟩
abbrev S16640x64 : Shape := ⟨2, ![16640, 64]⟩
abbrev S_ : Shape := ⟨0, ![]⟩
abbrev S256x32x128 : Shape := ⟨3, ![256, 32, 128]⟩
abbrev S256x32x64 : Shape := ⟨3, ![256, 32, 64]⟩
abbrev S256x64 : Shape := ⟨2, ![256, 64]⟩
abbrev S32x256x256 : Shape := ⟨3, ![32, 256, 256]⟩
abbrev S256x256x32 : Shape := ⟨3, ![256, 256, 32]⟩
abbrev S32x256 : Shape := ⟨2, ![32, 256]⟩
abbrev S32x256x1 : Shape := ⟨3, ![32, 256, 1]⟩
abbrev S32x128x256 : Shape := ⟨3, ![32, 128, 256]⟩
abbrev S256x4096 : Shape := ⟨2, ![256, 4096]⟩
abbrev S16384x32x128 : Shape := ⟨3, ![16384, 32, 128]⟩
abbrev S16384x32x64 : Shape := ⟨3, ![16384, 32, 64]⟩
abbrev S32x16384x16640 : Shape := ⟨3, ![32, 16384, 16640]⟩
abbrev S16640x16384x32 : Shape := ⟨3, ![16640, 16384, 32]⟩
abbrev S32x16384 : Shape := ⟨2, ![32, 16384]⟩
abbrev S32x16384x1 : Shape := ⟨3, ![32, 16384, 1]⟩
abbrev S32x128x16384 : Shape := ⟨3, ![32, 128, 16384]⟩
abbrev S16384x4096 : Shape := ⟨2, ![16384, 4096]⟩
abbrev S16640x4096 : Shape := ⟨2, ![16640, 4096]⟩

abbrev nBuf : Space → Nat
  | .hbm => 63
  | .vmem => 0
  | .smem => 0
  | _ => 0

abbrev bufTy : (tb : Table) → Fin (tcTables nBuf tb) → BufTy
  | .hbm, ⟨0, _⟩ => ⟨S16640x32x128, .f32⟩
  | .hbm, ⟨1, _⟩ => ⟨S16640x32x64, .f32⟩
  | .hbm, ⟨2, _⟩ => ⟨S16640x32x128, .f32⟩
  | .hbm, ⟨3, _⟩ => ⟨S16640x64, .f32⟩
  | .hbm, ⟨4, _⟩ => ⟨S16640x32x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S256x32x128, .f32⟩
  | .hbm, ⟨9, _⟩ => ⟨S256x32x64, .f32⟩
  | .hbm, ⟨10, _⟩ => ⟨S256x32x128, .f32⟩
  | .hbm, ⟨11, _⟩ => ⟨S256x64, .f32⟩
  | .hbm, ⟨12, _⟩ => ⟨S256x32x128, .f32⟩
  | .hbm, ⟨13, _⟩ => ⟨S32x256x256, .f32⟩
  | .hbm, ⟨14, _⟩ => ⟨S256x256x32, .f32⟩
  | .hbm, ⟨15, _⟩ => ⟨S32x256x256, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x256x1, .f32⟩
  | .hbm, ⟨25, _⟩ => ⟨S32x256x256, .f32⟩
  | .hbm, ⟨26, _⟩ => ⟨S32x256x256, .f32⟩
  | .hbm, ⟨27, _⟩ => ⟨S32x256x256, .f32⟩
  | .hbm, ⟨28, _⟩ => ⟨S_, .f32⟩
  | .hbm, ⟨29, _⟩ => ⟨S32x256, .f32⟩
  | .hbm, ⟨30, _⟩ => ⟨S32x256x1, .f32⟩
  | .hbm, ⟨31, _⟩ => ⟨S32x256x256, .f32⟩
  | .hbm, ⟨32, _⟩ => ⟨S32x256x256, .f32⟩
  | .hbm, ⟨33, _⟩ => ⟨S32x128x256, .f32⟩
  | .hbm, ⟨34, _⟩ => ⟨S256x32x128, .f32⟩
  | .hbm, ⟨35, _⟩ => ⟨S256x4096, .f32⟩
  | .hbm, ⟨36, _⟩ => ⟨S16384x32x128, .f32⟩
  | .hbm, ⟨37, _⟩ => ⟨S16384x32x64, .f32⟩
  | .hbm, ⟨38, _⟩ => ⟨S32x16384x16640, .f32⟩
  | .hbm, ⟨39, _⟩ => ⟨S16640x16384x32, .f32⟩
  | .hbm, ⟨40, _⟩ => ⟨S32x16384x16640, .f32⟩
  | .hbm, ⟨41, _⟩ => ⟨S32x16384x16640, .f32⟩
  | .hbm, ⟨42, _⟩ => ⟨S32x16384x16640, .f32⟩
  | .hbm, ⟨43, _⟩ => ⟨S32x16384x16640, .f32⟩
  | .hbm, ⟨44, _⟩ => ⟨S_, .f32⟩
  | .hbm, ⟨45, _⟩ => ⟨S32x16384, .f32⟩
  | .hbm, ⟨46, _⟩ => ⟨S_, .f32⟩
  | .hbm, ⟨47, _⟩ => ⟨S32x16384, .f32⟩
  | .hbm, ⟨48, _⟩ => ⟨S32x16384, .f32⟩
  | .hbm, ⟨49, _⟩ => ⟨S32x16384x1, .f32⟩
  | .hbm, ⟨50, _⟩ => ⟨S32x16384x16640, .f32⟩
  | .hbm, ⟨51, _⟩ => ⟨S32x16384x16640, .f32⟩
  | .hbm, ⟨52, _⟩ => ⟨S32x16384x16640, .f32⟩
  | .hbm, ⟨53, _⟩ => ⟨S_, .f32⟩
  | .hbm, ⟨54, _⟩ => ⟨S32x16384, .f32⟩
  | .hbm, ⟨55, _⟩ => ⟨S32x16384x1, .f32⟩
  | .hbm, ⟨56, _⟩ => ⟨S32x16384x16640, .f32⟩
  | .hbm, ⟨57, _⟩ => ⟨S32x16384x16640, .f32⟩
  | .hbm, ⟨58, _⟩ => ⟨S32x128x16384, .f32⟩
  | .hbm, ⟨59, _⟩ => ⟨S16384x32x128, .f32⟩
  | .hbm, ⟨60, _⟩ => ⟨S16384x4096, .f32⟩
  | .hbm, ⟨61, _⟩ => ⟨S16640x4096, .f32⟩
  | .hbm, ⟨62, _⟩ => ⟨S16640x4096, .bf16⟩
  | _, _ => ⟨S16640x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Norm.lean ====
abbrev S16640x4096 : Shape := ⟨2, ![16640, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16640x4096 : Shape := ⟨2, ![16640, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SsmZ.lean ====
abbrev S16640x4096 : Shape := ⟨2, ![16640, 4096]⟩
abbrev S4096x18688 : Shape := ⟨2, ![4096, 18688]⟩
abbrev S4096x8192 : Shape := ⟨2, ![4096, 8192]⟩
abbrev S16640x8192 : Shape := ⟨2, ![16640, 8192]⟩
abbrev S1280x4096 : Shape := ⟨2, ![1280, 4096]⟩
abbrev S4096x512 : Shape := ⟨2, ![4096, 512]⟩
abbrev S1280x512 : Shape := ⟨2, ![1280, 512]⟩

abbrev nBuf : Space → Nat
  | .hbm => 6
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4096x18688, .f32⟩
  | .hbm, ⟨2, _⟩ => ⟨S16640x4096, .bf16⟩
  | .hbm, ⟨3, _⟩ => ⟨S4096x8192, .f32⟩
  | .hbm, ⟨4, _⟩ => ⟨S4096x8192, .bf16⟩
  | .hbm, ⟨5, _⟩ => ⟨S16640x8192, .bf16⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .bf16⟩
  | .local _ .vmem, ⟨5, _⟩ => ⟨S1280x512, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmZRefIdeal.lean ====
abbrev S16640x4096 : Shape := ⟨2, ![16640, 4096]⟩
abbrev S4096x18688 : Shape := ⟨2, ![4096, 18688]⟩
abbrev S16640x18688 : Shape := ⟨2, ![16640, 18688]⟩
abbrev S16640x8192 : Shape := ⟨2, ![16640, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x18688, .f32⟩
  | .hbm, ⟨2, _⟩ => ⟨S16640x18688, .f32⟩
  | .hbm, ⟨3, _⟩ => ⟨S16640x8192, .f32⟩
  | .hbm, ⟨4, _⟩ => ⟨S16640x8192, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmXbc.lean ====
abbrev S16640x4096 : Shape := ⟨2, ![16640, 4096]⟩
abbrev S4096x18688 : Shape := ⟨2, ![4096, 18688]⟩
abbrev S4096x10240 : Shape := ⟨2, ![4096, 10240]⟩
abbrev S16640x10240 : Shape := ⟨2, ![16640, 10240]⟩
abbrev S1280x4096 : Shape := ⟨2, ![1280, 4096]⟩
abbrev S4096x512 : Shape := ⟨2, ![4096, 512]⟩
abbrev S1280x512 : Shape := ⟨2, ![1280, 512]⟩

abbrev nBuf : Space → Nat
  | .hbm => 6
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4096x18688, .f32⟩
  | .hbm, ⟨2, _⟩ => ⟨S16640x4096, .bf16⟩
  | .hbm, ⟨3, _⟩ => ⟨S4096x10240, .f32⟩
  | .hbm, ⟨4, _⟩ => ⟨S4096x10240, .bf16⟩
  | .hbm, ⟨5, _⟩ => ⟨S16640x10240, .bf16⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .bf16⟩
  | .local _ .vmem, ⟨5, _⟩ => ⟨S1280x512, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmXbcRefIdeal.lean ====
abbrev S16640x4096 : Shape := ⟨2, ![16640, 4096]⟩
abbrev S4096x18688 : Shape := ⟨2, ![4096, 18688]⟩
abbrev S16640x18688 : Shape := ⟨2, ![16640, 18688]⟩
abbrev S16640x10240 : Shape := ⟨2, ![16640, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x18688, .f32⟩
  | .hbm, ⟨2, _⟩ => ⟨S16640x18688, .f32⟩
  | .hbm, ⟨3, _⟩ => ⟨S16640x10240, .f32⟩
  | .hbm, ⟨4, _⟩ => ⟨S16640x10240, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmDt.lean ====
abbrev S16640x4096 : Shape := ⟨2, ![16640, 4096]⟩
abbrev S4096x18688 : Shape := ⟨2, ![4096, 18688]⟩
abbrev S4096x256 : Shape := ⟨2, ![4096, 256]⟩
abbrev S16640x256 : Shape := ⟨2, ![16640, 256]⟩
abbrev S1280x4096 : Shape := ⟨2, ![1280, 4096]⟩
abbrev S1280x256 : Shape := ⟨2, ![1280, 256]⟩

abbrev nBuf : Space → Nat
  | .hbm => 6
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096x18688, .f32⟩
  | .hbm, ⟨2, _⟩ => ⟨S16640x4096, .bf16⟩
  | .hbm, ⟨3, _⟩ => ⟨S4096x256, .f32⟩
  | .hbm, ⟨4, _⟩ => ⟨S4096x256, .bf16⟩
  | .hbm, ⟨5, _⟩ => ⟨S16640x256, .f32⟩
  | .local _ .vmem, ⟨0, _⟩ => ⟨S1280x4096, .bf16⟩
  | .local _ .vmem, ⟨1, _⟩ => ⟨S1280x4096, .bf16⟩
  | .local _ .vmem, ⟨2, _⟩ => ⟨S4096x256, .bf16⟩
  | .local _ .vmem, ⟨3, _⟩ => ⟨S1280x256, .f32⟩
  | .local _ .vmem, ⟨4, _⟩ => ⟨S1280x256, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmDtRefIdeal.lean ====
abbrev S16640x4096 : Shape := ⟨2, ![16640, 4096]⟩
abbrev S4096x18688 : Shape := ⟨2, ![4096, 18688]⟩
abbrev S16640x18688 : Shape := ⟨2, ![16640, 18688]⟩
abbrev S16640x256 : Shape := ⟨2, ![16640, 256]⟩

abbrev nBuf : Space → Nat
  | .hbm => 4
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x18688, .f32⟩
  | .hbm, ⟨2, _⟩ => ⟨S16640x18688, .f32⟩
  | .hbm, ⟨3, _⟩ => ⟨S16640x256, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SsmOut.lean ====
abbrev S16640x8192 : Shape := ⟨2, ![16640, 8192]⟩
abbrev S8192x4096 : Shape := ⟨2, ![8192, 4096]⟩
abbrev S16640x4096 : Shape := ⟨2, ![16640, 4096]⟩
abbrev S2x4096 : Shape := ⟨2, ![2, 4096]⟩
abbrev S640x8192 : Shape := ⟨2, ![640, 8192]⟩
abbrev S8192x512 : Shape := ⟨2, ![8192, 512]⟩
abbrev S640x512 : Shape := ⟨2, ![640, 512]⟩
abbrev S2x512 : Shape := ⟨2, ![2, 512]⟩
abbrev S640x1 : Shape := ⟨2, ![640, 1]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16640x8192, .f32⟩
  | .hbm, ⟨1, _⟩ => ⟨S8192x4096, .f32⟩
  | .hbm, ⟨2, _⟩ => ⟨S16640x4096, .f32⟩
  | .hbm, ⟨3, _⟩ => ⟨S2x4096, .f32⟩
  | .hbm, ⟨4, _⟩ => ⟨S16640x8192, .bf16⟩
  | .hbm, ⟨5, _⟩ => ⟨S8192x4096, .bf16⟩
  | .hbm, ⟨6, _⟩ => ⟨S16640x4096, .f32⟩
  | .local _ .vmem, ⟨0, _⟩ => ⟨S640x8192, .bf16⟩
  | .local _ .vmem, ⟨1, _⟩ => ⟨S640x8192, .bf16⟩
  | .local _ .vmem, ⟨2, _⟩ => ⟨S8192x512, .bf16⟩
  | .local _ .vmem, ⟨3, _⟩ => ⟨S8192x512, .bf16⟩
  | .local _ .vmem, ⟨4, _⟩ => ⟨S640x512, .f32⟩
  | .local _ .vmem, ⟨5, _⟩ => ⟨S640x512, .f32⟩
  | .local _ .vmem, ⟨6, _⟩ => ⟨S2x512, .f32⟩
  | .local _ .vmem, ⟨7, _⟩ => ⟨S2x512, .f32⟩
  | .local _ .vmem, ⟨8, _⟩ => ⟨S640x512, .f32⟩
  | .local _ .vmem, ⟨9, _⟩ => ⟨S640x512, .f32⟩
  | _, _ => ⟨S16640x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![26, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsmOutIdeal.lean ====
abbrev S16640x8192 : Shape := ⟨2, ![16640, 8192]⟩
abbrev S8192x4096 : Shape := ⟨2, ![8192, 4096]⟩
abbrev S16640x4096 : Shape := ⟨2, ![16640, 4096]⟩
abbrev S2x4096 : Shape := ⟨2, ![2, 4096]⟩
abbrev S640x8192 : Shape := ⟨2, ![640, 8192]⟩
abbrev S8192x512 : Shape := ⟨2, ![8192, 512]⟩
abbrev S640x512 : Shape := ⟨2, ![640, 512]⟩
abbrev S2x512 : Shape := ⟨2, ![2, 512]⟩
abbrev S640x1 : Shape := ⟨2, ![640, 1]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16640x8192, .f32⟩
  | .hbm, ⟨1, _⟩ => ⟨S8192x4096, .f32⟩
  | .hbm, ⟨2, _⟩ => ⟨S16640x4096, .f32⟩
  | .hbm, ⟨3, _⟩ => ⟨S2x4096, .f32⟩
  | .hbm, ⟨4, _⟩ => ⟨S16640x8192, .bf16⟩
  | .hbm, ⟨5, _⟩ => ⟨S8192x4096, .bf16⟩
  | .hbm, ⟨6, _⟩ => ⟨S16640x4096, .f32⟩
  | .local _ .vmem, ⟨0, _⟩ => ⟨S640x8192, .bf16⟩
  | .local _ .vmem, ⟨1, _⟩ => ⟨S640x8192, .bf16⟩
  | .local _ .vmem, ⟨2, _⟩ => ⟨S8192x512, .bf16⟩
  | .local _ .vmem, ⟨3, _⟩ => ⟨S8192x512, .bf16⟩
  | .local _ .vmem, ⟨4, _⟩ => ⟨S640x512, .f32⟩
  | .local _ .vmem, ⟨5, _⟩ => ⟨S640x512, .f32⟩
  | .local _ .vmem, ⟨6, _⟩ => ⟨S2x512, .f32⟩
  | .local _ .vmem, ⟨7, _⟩ => ⟨S2x512, .f32⟩
  | .local _ .vmem, ⟨8, _⟩ => ⟨S640x512, .f32⟩
  | .local _ .vmem, ⟨9, _⟩ => ⟨S640x512, .f32⟩
  | _, _ => ⟨S16640x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![26, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsmOutRefIdeal.lean ====
abbrev S16640x8192 : Shape := ⟨2, ![16640, 8192]⟩
abbrev S8192x4096 : Shape := ⟨2, ![8192, 4096]⟩
abbrev S16640x4096 : Shape := ⟨2, ![16640, 4096]⟩
abbrev S2x4096 : Shape := ⟨2, ![2, 4096]⟩
abbrev S256x4096 : Shape := ⟨2, ![256, 4096]⟩
abbrev S1x4096 : Shape := ⟨2, ![1, 4096]⟩
abbrev S4096 : Shape := ⟨1, ![4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16640x8192, .f32⟩
  | .hbm, ⟨1, _⟩ => ⟨S8192x4096, .f32⟩
  | .hbm, ⟨2, _⟩ => ⟨S16640x4096, .f32⟩
  | .hbm, ⟨3, _⟩ => ⟨S2x4096, .f32⟩
  | .hbm, ⟨4, _⟩ => ⟨S16640x4096, .f32⟩
  | .hbm, ⟨5, _⟩ => ⟨S256x4096, .f32⟩
  | .hbm, ⟨6, _⟩ => ⟨S1x4096, .f32⟩
  | .hbm, ⟨7, _⟩ => ⟨S4096, .f32⟩
  | .hbm, ⟨8, _⟩ => ⟨S256x4096, .f32⟩
  | .hbm, ⟨9, _⟩ => ⟨S1x4096, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S16384x4096, .f32⟩
  | .hbm, ⟨14, _⟩ => ⟨S1x4096, .f32⟩
  | .hbm, ⟨15, _⟩ => ⟨S4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16640x4096, .f32⟩
  | _, _ => ⟨S16640x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== MlaOut.lean ====
abbrev S16640x4096 : Shape := ⟨2, ![16640, 4096]⟩
abbrev S4096x4096 : Shape := ⟨2, ![4096, 4096]⟩
abbrev S2x4096 : Shape := ⟨2, ![2, 4096]⟩
abbrev S1280x4096 : Shape := ⟨2, ![1280, 4096]⟩
abbrev S4096x512 : Shape := ⟨2, ![4096, 512]⟩
abbrev S1280x512 : Shape := ⟨2, ![1280, 512]⟩
abbrev S2x512 : Shape := ⟨2, ![2, 512]⟩
abbrev S1280x1 : Shape := ⟨2, ![1280, 1]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16640x4096, .f32⟩
  | .hbm, ⟨1, _⟩ => ⟨S4096x4096, .f32⟩
  | .hbm, ⟨2, _⟩ => ⟨S16640x4096, .f32⟩
  | .hbm, ⟨3, _⟩ => ⟨S2x4096, .f32⟩
  | .hbm, ⟨4, _⟩ => ⟨S16640x4096, .bf16⟩
  | .hbm, ⟨5, _⟩ => ⟨S4096x4096, .bf16⟩
  | .hbm, ⟨6, _⟩ => ⟨S16640x4096, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .f32⟩
  | .local _ .vmem, ⟨5, _⟩ => ⟨S1280x512, .f32⟩
  | .local _ .vmem, ⟨6, _⟩ => ⟨S2x512, .f32⟩
  | .local _ .vmem, ⟨7, _⟩ => ⟨S2x512, .f32⟩
  | .local _ .vmem, ⟨8, _⟩ => ⟨S1280x512, .f32⟩
  | .local _ .vmem, ⟨9, _⟩ => ⟨S1280x512, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaOutRefIdeal.lean ====
abbrev S16640x4096 : Shape := ⟨2, ![16640, 4096]⟩
abbrev S4096x4096 : Shape := ⟨2, ![4096, 4096]⟩
abbrev S2x4096 : Shape := ⟨2, ![2, 4096]⟩
abbrev S256x4096 : Shape := ⟨2, ![256, 4096]⟩
abbrev S1x4096 : Shape := ⟨2, ![1, 4096]⟩
abbrev S4096 : Shape := ⟨1, ![4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x4096, .f32⟩
  | .hbm, ⟨2, _⟩ => ⟨S16640x4096, .f32⟩
  | .hbm, ⟨3, _⟩ => ⟨S2x4096, .f32⟩
  | .hbm, ⟨4, _⟩ => ⟨S16640x4096, .f32⟩
  | .hbm, ⟨5, _⟩ => ⟨S256x4096, .f32⟩
  | .hbm, ⟨6, _⟩ => ⟨S1x4096, .f32⟩
  | .hbm, ⟨7, _⟩ => ⟨S4096, .f32⟩
  | .hbm, ⟨8, _⟩ => ⟨S256x4096, .f32⟩
  | .hbm, ⟨9, _⟩ => ⟨S1x4096, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S16384x4096, .f32⟩
  | .hbm, ⟨14, _⟩ => ⟨S1x4096, .f32⟩
  | .hbm, ⟨15, _⟩ => ⟨S4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16640x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Shared.lean ====
abbrev S16640x4096 : Shape := ⟨2, ![16640, 4096]⟩
abbrev S4096x512 : Shape := ⟨2, ![4096, 512]⟩
abbrev S512x4096 : Shape := ⟨2, ![512, 4096]⟩
abbrev S2x4096 : Shape := ⟨2, ![2, 4096]⟩
abbrev S256x4096 : Shape := ⟨2, ![256, 4096]⟩
abbrev S1x4096 : Shape := ⟨2, ![1, 4096]⟩
abbrev S256x512 : Shape := ⟨2, ![256, 512]⟩

abbrev nBuf : Space → Nat
  | .hbm => 13
  | .vmem => 12
  | .smem => 0
  | _ => 0

abbrev bufTy : (tb : Table) → Fin (tcTables nBuf tb) → BufTy
  | .hbm, ⟨0, _⟩ => ⟨S16640x4096, .f32⟩
  | .hbm, ⟨1, _⟩ => ⟨S4096x512, .f32⟩
  | .hbm, ⟨2, _⟩ => ⟨S4096x512, .f32⟩
  | .hbm, ⟨3, _⟩ => ⟨S512x4096, .f32⟩
  | .hbm, ⟨4, _⟩ => ⟨S16640x4096, .f32⟩
  | .hbm, ⟨5, _⟩ => ⟨S16640x4096, .f32⟩
  | .hbm, ⟨6, _⟩ => ⟨S2x4096, .f32⟩
  | .hbm, ⟨7, _⟩ => ⟨S16640x4096, .bf16⟩
  | .hbm, ⟨8, _⟩ => ⟨S4096x512, .bf16⟩
  | .hbm, ⟨9, _⟩ => ⟨S4096x512, .bf16⟩
  | .hbm, ⟨10, _⟩ => ⟨S512x4096, .bf16⟩
  | .hbm, ⟨11, _⟩ => ⟨S16640x4096, .bf16⟩
  | .hbm, ⟨12, _⟩ => ⟨S16640x4096, .f32⟩
  | .local _ .vmem, ⟨0, _⟩ => ⟨S256x4096, .bf16⟩
  | .local _ .vmem, ⟨1, _⟩ => ⟨S256x4096, .bf16⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .f32⟩
  | .local _ .vmem, ⟨8, _⟩ => ⟨S256x4096, .f32⟩
  | .local _ .vmem, ⟨9, _⟩ => ⟨S2x4096, .f32⟩
  | .local _ .vmem, ⟨10, _⟩ => ⟨S256x4096, .f32⟩
  | .local _ .vmem, ⟨11, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![65, 1], ![false, false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .sge v0 c256_i32_0
  let v2 : BitVec 32 := Scalar.extui v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SharedRefIdeal.lean ====
abbrev S16640x4096 : Shape := ⟨2, ![16640, 4096]⟩
abbrev S4096x512 : Shape := ⟨2, ![4096, 512]⟩
abbrev S512x4096 : Shape := ⟨2, ![512, 4096]⟩
abbrev S2x4096 : Shape := ⟨2, ![2, 4096]⟩
abbrev S16640x512 : Shape := ⟨2, ![16640, 512]⟩
abbrev S_ : Shape := ⟨0, ![]⟩
abbrev S256x4096 : Shape := ⟨2, ![256, 4096]⟩
abbrev S1x4096 : Shape := ⟨2, ![1, 4096]⟩
abbrev S4096 : Shape := ⟨1, ![4096]⟩
abbrev S16384x4096 : Shape := ⟨2, ![16384, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x512, .f32⟩
  | .hbm, ⟨2, _⟩ => ⟨S4096x512, .f32⟩
  | .hbm, ⟨3, _⟩ => ⟨S512x4096, .f32⟩
  | .hbm, ⟨4, _⟩ => ⟨S16640x4096, .f32⟩
  | .hbm, ⟨5, _⟩ => ⟨S16640x4096, .f32⟩
  | .hbm, ⟨6, _⟩ => ⟨S2x4096, .f32⟩
  | .hbm, ⟨7, _⟩ => ⟨S16640x512, .f32⟩
  | .hbm, ⟨8, _⟩ => ⟨S16640x512, .f32⟩
  | .hbm, ⟨9, _⟩ => ⟨S16640x512, .f32⟩
  | .hbm, ⟨10, _⟩ => ⟨S_, .f32⟩
  | .hbm, ⟨11, _⟩ => ⟨S16640x512, .f32⟩
  | .hbm, ⟨12, _⟩ => ⟨S16640x512, .f32⟩
  | .hbm, ⟨13, _⟩ => ⟨S_, .f32⟩
  | .hbm, ⟨14, _⟩ => ⟨S16640x512, .f32⟩
  | .hbm, ⟨15, _⟩ => ⟨S16640x512, .f32⟩
  | .hbm, ⟨16, _⟩ => ⟨S16640x512, .f32⟩
  | .hbm, ⟨17, _⟩ => ⟨S16640x512, .f32⟩
  | .hbm, ⟨18, _⟩ => ⟨S16640x512, .f32⟩
  | .hbm, ⟨19, _⟩ => ⟨S16640x4096, .f32⟩
  | .hbm, ⟨20, _⟩ => ⟨S16640x4096, .f32⟩
  | .hbm, ⟨21, _⟩ => ⟨S256x4096, .f32⟩
  | .hbm, ⟨22, _⟩ => ⟨S1x4096, .f32⟩
  | .hbm, ⟨23, _⟩ => ⟨S4096, .f32⟩
  | .hbm, ⟨24, _⟩ => ⟨S256x4096, .f32⟩
  | .hbm, ⟨25, _⟩ => ⟨S1x4096, .f32⟩
  | .hbm, ⟨26, _⟩ => ⟨S256x4096, .f32⟩
  | .hbm, ⟨27, _⟩ => ⟨S256x4096, .f32⟩
  | .hbm, ⟨28, _⟩ => ⟨S256x4096, .f32⟩
  | .hbm, ⟨29, _⟩ => ⟨S16384x4096, .f32⟩
  | .hbm, ⟨30, _⟩ => ⟨S1x4096, .f32⟩
  | .hbm, ⟨31, _⟩ => ⟨S4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16640x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Experts.lean ====
abbrev S18560x4096 : Shape := ⟨2, ![18560, 4096]⟩
abbrev S18560x4 : Shape := ⟨2, ![18560, 4]⟩
abbrev S18560 : Shape := ⟨1, ![18560]⟩
abbrev S29 : Shape := ⟨1, ![29]⟩
abbrev S16x4096x512 : Shape := ⟨3, ![16, 4096, 512]⟩
abbrev S16x512x4096 : Shape := ⟨3, ![16, 512, 4096]⟩
abbrev S640x4096 : Shape := ⟨2, ![640, 4096]⟩
abbrev S1x4096x256 : Shape := ⟨3, ![1, 4096, 256]⟩
abbrev S1 : Shape := ⟨1, ![1]⟩
abbrev S1x256x4096 : Shape := ⟨3, ![1, 256, 4096]⟩
abbrev S640x4 : Shape := ⟨2, ![640, 4]⟩
abbrev S640x2048 : Shape := ⟨2, ![640, 2048]⟩
abbrev S4096x256 : Shape := ⟨2, ![4096, 256]⟩
abbrev S640x256 : Shape := ⟨2, ![640, 256]⟩
abbrev S640 : Shape := ⟨1, ![640]⟩
abbrev S640x1 : Shape := ⟨2, ![640, 1]⟩
abbrev S640x1024 : Shape := ⟨2, ![640, 1024]⟩
abbrev S1x256x1024 : Shape := ⟨3, ![1, 256, 1024]⟩
abbrev S256x1024 : Shape := ⟨2, ![256, 1024]⟩

abbrev nBuf : Space → Nat
  | .hbm => 11
  | .vmem => 14
  | .smem => 2
  | _ => 0

abbrev bufTy : (tb : Table) → Fin (tcTables nBuf tb) → BufTy
  | .hbm, ⟨0, _⟩ => ⟨S18560x4096, .f32⟩
  | .hbm, ⟨1, _⟩ => ⟨S18560x4, .f32⟩
  | .hbm, ⟨2, _⟩ => ⟨S18560, .i32⟩
  | .hbm, ⟨3, _⟩ => ⟨S16x4096x512, .f32⟩
  | .hbm, ⟨4, _⟩ => ⟨S16x4096x512, .f32⟩
  | .hbm, ⟨5, _⟩ => ⟨S16x512x4096, .f32⟩
  | .hbm, ⟨6, _⟩ => ⟨S18560x4096, .bf16⟩
  | .hbm, ⟨7, _⟩ => ⟨S16x4096x512, .bf16⟩
  | .hbm, ⟨8, _⟩ => ⟨S16x4096x512, .bf16⟩
  | .hbm, ⟨9, _⟩ => ⟨S16x512x4096, .bf16⟩
  | .hbm, ⟨10, _⟩ => ⟨S18560x4096, .bf16⟩
  | .local _ .vmem, ⟨0, _⟩ => ⟨S640x4096, .bf16⟩
  | .local _ .vmem, ⟨1, _⟩ => ⟨S640x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x4096, .bf16⟩
  | .local _ .vmem, ⟨7, _⟩ => ⟨S1x256x4096, .bf16⟩
  | .local _ .vmem, ⟨8, _⟩ => ⟨S640x4, .f32⟩
  | .local _ .vmem, ⟨9, _⟩ => ⟨S640x4, .f32⟩
  | .local _ .vmem, ⟨10, _⟩ => ⟨S640x4096, .bf16⟩
  | .local _ .vmem, ⟨11, _⟩ => ⟨S640x4096, .bf16⟩
  | .local _ .vmem, ⟨12, _⟩ => ⟨S640x4096, .f32⟩
  | .local _ .vmem, ⟨13, _⟩ => ⟨S640x4096, .bf16⟩
  | .local _ .smem, ⟨0, _⟩ => ⟨S29, .i32⟩
  | .local _ .smem, ⟨1, _⟩ => ⟨S29, .i32⟩
  | _, _ => ⟨S18560x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![29, 4, 2], ![false, false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c3_i32 : BitVec 32 := 3#32
  let v3 : BitVec 1 := Scalar.cmpi .eq arg1 c3_i32
  let arg2 : BitVec 32 := BitVec.ofNat 32 (i 2).val
  let c1_i32 : BitVec 32 := 1#32
  let v4 : BitVec 1 := Scalar.cmpi .eq arg2 c1_i32
  let v5 : BitVec 1 := Scalar.andi v3 v4
  let v13 : BitVec 32 := Scalar.extui v5
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S29.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S29) ![v0.toNat] S1.size (k0_off1_inb i)) numel1_S1
  let c4_i32 : BitVec 32 := 4#32
  let v2 : BitVec 32 := Scalar.muli v1 c4_i32
  let v3 : BitVec 32 := Scalar.addi v2 arg1
  let c0_i32 : BitVec 32 := 0#32
  let c0_i32_0 : BitVec 32 := 0#32
  ![v3.toNat, c0_i32.toNat, arg2.toNat]

def cc0_transform_2 (k0_off1_inb : ∀ i : grid0.Coords, ∀ a, (k0_off1 i) a + S1.size a ≤ S29.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S29) ![v0.toNat] S1.size (k0_off1_inb i)) numel1_S1
  let c4_i32 : BitVec 32 := 4#32
  let v2 : BitVec 32 := Scalar.muli v1 c4_i32
  let v3 : BitVec 32 := Scalar.addi v2 arg1
  let c0_i32 : BitVec 32 := 0#32
  let c0_i32_0 : BitVec 32 := 0#32
  ![v3.toNat, c0_i32.toNat, arg2.toNat]

def cc0_transform_3 (k0_off1_inb : ∀ i : grid0.Coords, ∀ a, (k0_off1 i) a + S1.size a ≤ S29.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S29) ![v0.toNat] S1.size (k0_off1_inb i)) numel1_S1
  let c4_i32 : BitVec 32 := 4#32
  let v2 : BitVec 32 := Scalar.muli v1 c4_i32
  let v3 : BitVec 32 := Scalar.addi v2 arg1
  let c0_i32 : BitVec 32 := 0#32
  let c0_i32_0 : BitVec 32 := 0#32
  ![v3.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S640x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S640x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ExpertsRefIdeal.lean ====
abbrev S18560x4096 : Shape := ⟨2, ![18560, 4096]⟩
abbrev S18560x4 : Shape := ⟨2, ![18560, 4]⟩
abbrev S18560 : Shape := ⟨1, ![18560]⟩
abbrev S29 : Shape := ⟨1, ![29]⟩
abbrev S16x4096x512 : Shape := ⟨3, ![16, 4096, 512]⟩
abbrev S16x512x4096 : Shape := ⟨3, ![16, 512, 4096]⟩
abbrev S18560x1 : Shape := ⟨2, ![18560, 1]⟩
abbrev S_ : Shape := ⟨0, ![]⟩
abbrev S4 : Shape := ⟨1, ![4]⟩
abbrev S1x4 : Shape := ⟨2, ![1, 4]⟩
abbrev S18560x4x1 : Shape := ⟨3, ![18560, 4, 1]⟩
abbrev S1x1x16 : Shape := ⟨3, ![1, 1, 16]⟩
abbrev S18560x4x16 : Shape := ⟨3, ![18560, 4, 16]⟩
abbrev S18560x16 : Shape := ⟨2, ![18560, 16]⟩
abbrev S18560x16x512 : Shape := ⟨3, ![18560, 16, 512]⟩
abbrev S18560x16x1 : Shape := ⟨3, ![18560, 16, 1]⟩

abbrev nBuf : Space → Nat
  | .hbm => 41
  | .vmem => 0
  | .smem => 0
  | _ => 0

abbrev bufTy : (tb : Table) → Fin (tcTables nBuf tb) → BufTy
  | .hbm, ⟨0, _⟩ => ⟨S18560x4096, .f32⟩
  | .hbm, ⟨1, _⟩ => ⟨S18560x4, .f32⟩
  | .hbm, ⟨2, _⟩ => ⟨S18560, .i32⟩
  | .hbm, ⟨3, _⟩ => ⟨S29, .i32⟩
  | .hbm, ⟨4, _⟩ => ⟨S29, .i32⟩
  | .hbm, ⟨5, _⟩ => ⟨S16x4096x512, .f32⟩
  | .hbm, ⟨6, _⟩ => ⟨S16x4096x512, .f32⟩
  | .hbm, ⟨7, _⟩ => ⟨S16x512x4096, .f32⟩
  | .hbm, ⟨8, _⟩ => ⟨S18560x1, .i32⟩
  | .hbm, ⟨9, _⟩ => ⟨S_, .i32⟩
  | .hbm, ⟨10, _⟩ => ⟨S18560x1, .i32⟩
  | .hbm, ⟨11, _⟩ => ⟨S18560x1, .i32⟩
  | .hbm, ⟨12, _⟩ => ⟨S4, .i32⟩
  | .hbm, ⟨13, _⟩ => ⟨S1x4, .i32⟩
  | .hbm, ⟨14, _⟩ => ⟨S18560x4, .i32⟩
  | .hbm, ⟨15, _⟩ => ⟨S18560x4, .i32⟩
  | .hbm, ⟨16, _⟩ => ⟨S18560x4, .i32⟩
  | .hbm, ⟨17, _⟩ => ⟨S18560x4x1, .i32⟩
  | .hbm, ⟨18, _⟩ => ⟨S1x1x16, .i32⟩
  | .hbm, ⟨19, _⟩ => ⟨S18560x4x16, .i32⟩
  | .hbm, ⟨20, _⟩ => ⟨S18560x4x16, .i32⟩
  | .hbm, ⟨21, _⟩ => ⟨S18560x4x16, .i1⟩
  | .hbm, ⟨22, _⟩ => ⟨S18560x4x16, .f32⟩
  | .hbm, ⟨23, _⟩ => ⟨S18560x16, .f32⟩
  | .hbm, ⟨24, _⟩ => ⟨S18560x16x512, .f32⟩
  | .hbm, ⟨25, _⟩ => ⟨S18560x16x512, .f32⟩
  | .hbm, ⟨26, _⟩ => ⟨S18560x16x512, .f32⟩
  | .hbm, ⟨27, _⟩ => ⟨S18560x16x512, .f32⟩
  | .hbm, ⟨28, _⟩ => ⟨S_, .f32⟩
  | .hbm, ⟨29, _⟩ => ⟨S18560x16x512, .f32⟩
  | .hbm, ⟨30, _⟩ => ⟨S18560x16x512, .f32⟩
  | .hbm, ⟨31, _⟩ => ⟨S_, .f32⟩
  | .hbm, ⟨32, _⟩ => ⟨S18560x16x512, .f32⟩
  | .hbm, ⟨33, _⟩ => ⟨S18560x16x512, .f32⟩
  | .hbm, ⟨34, _⟩ => ⟨S18560x16x512, .f32⟩
  | .hbm, ⟨35, _⟩ => ⟨S18560x16x512, .f32⟩
  | .hbm, ⟨36, _⟩ => ⟨S18560x16x1, .f32⟩
  | .hbm, ⟨37, _⟩ => ⟨S18560x16x512, .f32⟩
  | .hbm, ⟨38, _⟩ => ⟨S18560x16x512, .f32⟩
  | .hbm, ⟨39, _⟩ => ⟨S18560x4096, .f32⟩
  | .hbm, ⟨40, _⟩ => ⟨S18560x4096, .bf16⟩
  | _, _ => ⟨S18560x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Lat.lean ====
abbrev S16640x4096 : Shape := ⟨2, ![16640, 4096]⟩
abbrev S4096x2112 : Shape := ⟨2, ![4096, 2112]⟩
abbrev S_ : Shape := ⟨0, ![]⟩
abbrev S4096x64 : Shape := ⟨2, ![4096, 64]⟩
abbrev S4096x32 : Shape := ⟨2, ![4096, 32]⟩
abbrev S4096x2048 : Shape := ⟨2, ![4096, 2048]⟩
abbrev S4096x2560 : Shape := ⟨2, ![4096, 2560]⟩
abbrev S16640x2560 : Shape := ⟨2, ![16640, 2560]⟩
abbrev S1280x4096 : Shape := ⟨2, ![1280, 4096]⟩
abbrev S4096x512 : Shape := ⟨2, ![4096, 512]⟩
abbrev S1280x512 : Shape := ⟨2, ![1280, 512]⟩

abbrev nBuf : Space → Nat
  | .hbm => 14
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4096x2112, .f32⟩
  | .hbm, ⟨2, _⟩ => ⟨S_, .f32⟩
  | .hbm, ⟨3, _⟩ => ⟨S4096x64, .f32⟩
  | .hbm, ⟨4, _⟩ => ⟨S4096x64, .f32⟩
  | .hbm, ⟨5, _⟩ => ⟨S4096x32, .f32⟩
  | .hbm, ⟨6, _⟩ => ⟨S4096x32, .f32⟩
  | .hbm, ⟨7, _⟩ => ⟨S4096x32, .f32⟩
  | .hbm, ⟨8, _⟩ => ⟨S4096x64, .f32⟩
  | .hbm, ⟨9, _⟩ => ⟨S4096x2048, .f32⟩
  | .hbm, ⟨10, _⟩ => ⟨S4096x2560, .f32⟩
  | .hbm, ⟨11, _⟩ => ⟨S16640x4096, .bf16⟩
  | .hbm, ⟨12, _⟩ => ⟨S4096x2560, .bf16⟩
  | .hbm, ⟨13, _⟩ => ⟨S16640x2560, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .f32⟩
  | .local _ .vmem, ⟨5, _⟩ => ⟨S1280x512, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatRefIdeal.lean ====
abbrev S16640x4096 : Shape := ⟨2, ![16640, 4096]⟩
abbrev S4096x2112 : Shape := ⟨2, ![4096, 2112]⟩
abbrev S16640x2112 : Shape := ⟨2, ![16640, 2112]⟩
abbrev S16640x64 : Shape := ⟨2, ![16640, 64]⟩
abbrev S16640x32 : Shape := ⟨2, ![16640, 32]⟩
abbrev S_ : Shape := ⟨0, ![]⟩
abbrev S16640x2048 : Shape := ⟨2, ![16640, 2048]⟩
abbrev S16640x2560 : Shape := ⟨2, ![16640, 2560]⟩

abbrev nBuf : Space → Nat
  | .hbm => 12
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x2112, .f32⟩
  | .hbm, ⟨2, _⟩ => ⟨S16640x2112, .f32⟩
  | .hbm, ⟨3, _⟩ => ⟨S16640x64, .f32⟩
  | .hbm, ⟨4, _⟩ => ⟨S16640x32, .f32⟩
  | .hbm, ⟨5, _⟩ => ⟨S16640x32, .f32⟩
  | .hbm, ⟨6, _⟩ => ⟨S16640x32, .f32⟩
  | .hbm, ⟨7, _⟩ => ⟨S16640x64, .f32⟩
  | .hbm, ⟨8, _⟩ => ⟨S_, .f32⟩
  | .hbm, ⟨9, _⟩ => ⟨S16640x64, .f32⟩
  | .hbm, ⟨10, _⟩ => ⟨S16640x2048, .f32⟩
  | .hbm, ⟨11, _⟩ => ⟨S16640x2560, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Query.lean ====
abbrev S16640x1536 : Shape := ⟨2, ![16640, 1536]⟩
abbrev S1536x6144 : Shape := ⟨2, ![1536, 6144]⟩
abbrev S16384x32 : Shape := ⟨2, ![16384, 32]⟩
abbrev S_ : Shape := ⟨0, ![]⟩
abbrev S256x32 : Shape := ⟨2, ![256, 32]⟩
abbrev S16640x32 : Shape := ⟨2, ![16640, 32]⟩
abbrev S1x16640x1x32 : Shape := ⟨4, ![1, 16640, 1, 32]⟩
abbrev S1x16640x4x32 : Shape := ⟨4, ![1, 16640, 4, 32]⟩
abbrev S16640x128 : Shape := ⟨2, ![16640, 128]⟩
abbrev S1536x32x192 : Shape := ⟨3, ![1536, 32, 192]⟩
abbrev S1536x32x128 : Shape := ⟨3, ![1536, 32, 128]⟩
abbrev S1536x16x256 : Shape := ⟨3, ![1536, 16, 256]⟩
abbrev S1536x32x64 : Shape := ⟨3, ![1536, 32, 64]⟩
abbrev S1536x16x128 : Shape := ⟨3, ![1536, 16, 128]⟩
abbrev S1536x32x32 : Shape := ⟨3, ![1536, 32, 32]⟩
abbrev S1536x16x512 : Shape := ⟨3, ![1536, 16, 512]⟩
abbrev S1536x8192 : Shape := ⟨2, ![1536, 8192]⟩
abbrev S16640x4096 : Shape := ⟨2, ![16640, 4096]⟩
abbrev S16640x2048 : Shape := ⟨2, ![16640, 2048]⟩
abbrev S1280x1536 : Shape := ⟨2, ![1280, 1536]⟩
abbrev S1536x512 : Shape := ⟨2, ![1536, 512]⟩
abbrev S1280x128 : Shape := ⟨2, ![1280, 128]⟩
abbrev S1280x256 : Shape := ⟨2, ![1280, 256]⟩
abbrev S1280x512 : Shape := ⟨2, ![1280, 512]⟩

abbrev nBuf : Space → Nat
  | .hbm => 32
  | .vmem => 12
  | .smem => 0
  | _ => 0

abbrev bufTy : (tb : Table) → Fin (tcTables nBuf tb) → BufTy
  | .hbm, ⟨0, _⟩ => ⟨S16640x1536, .f32⟩
  | .hbm, ⟨1, _⟩ => ⟨S1536x6144, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S256x32, .f32⟩
  | .hbm, ⟨6, _⟩ => ⟨S16640x32, .f32⟩
  | .hbm, ⟨7, _⟩ => ⟨S1x16640x1x32, .f32⟩
  | .hbm, ⟨8, _⟩ => ⟨S1x16640x4x32, .f32⟩
  | .hbm, ⟨9, _⟩ => ⟨S16640x128, .f32⟩
  | .hbm, ⟨10, _⟩ => ⟨S_, .f32⟩
  | .hbm, ⟨11, _⟩ => ⟨S256x32, .f32⟩
  | .hbm, ⟨12, _⟩ => ⟨S16640x32, .f32⟩
  | .hbm, ⟨13, _⟩ => ⟨S1x16640x1x32, .f32⟩
  | .hbm, ⟨14, _⟩ => ⟨S1x16640x4x32, .f32⟩
  | .hbm, ⟨15, _⟩ => ⟨S16640x128, .f32⟩
  | .hbm, ⟨16, _⟩ => ⟨S1536x32x192, .f32⟩
  | .hbm, ⟨17, _⟩ => ⟨S1536x32x128, .f32⟩
  | .hbm, ⟨18, _⟩ => ⟨S1536x16x256, .f32⟩
  | .hbm, ⟨19, _⟩ => ⟨S1536x32x64, .f32⟩
  | .hbm, ⟨20, _⟩ => ⟨S1536x16x128, .f32⟩
  | .hbm, ⟨21, _⟩ => ⟨S1536x32x32, .f32⟩
  | .hbm, ⟨22, _⟩ => ⟨S1536x32x32, .f32⟩
  | .hbm, ⟨23, _⟩ => ⟨S1536x32x32, .f32⟩
  | .hbm, ⟨24, _⟩ => ⟨S1536x32x64, .f32⟩
  | .hbm, ⟨25, _⟩ => ⟨S1536x16x128, .f32⟩
  | .hbm, ⟨26, _⟩ => ⟨S1536x16x512, .f32⟩
  | .hbm, ⟨27, _⟩ => ⟨S1536x8192, .f32⟩
  | .hbm, ⟨28, _⟩ => ⟨S16640x1536, .bf16⟩
  | .hbm, ⟨29, _⟩ => ⟨S1536x8192, .bf16⟩
  | .hbm, ⟨30, _⟩ => ⟨S16640x4096, .bf16⟩
  | .hbm, ⟨31, _⟩ => ⟨S16640x2048, .bf16⟩
  | .local _ .vmem, ⟨0, _⟩ => ⟨S1280x1536, .bf16⟩
  | .local _ .vmem, ⟨1, _⟩ => ⟨S1280x1536, .bf16⟩
  | .local _ .vmem, ⟨2, _⟩ => ⟨S1536x512, .bf16⟩
  | .local _ .vmem, ⟨3, _⟩ => ⟨S1536x512, .bf16⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x256, .bf16⟩
  | .local _ .vmem, ⟨9, _⟩ => ⟨S1280x256, .bf16⟩
  | .local _ .vmem, ⟨10, _⟩ => ⟨S1280x128, .bf16⟩
  | .local _ .vmem, ⟨11, _⟩ => ⟨S1280x128, .bf16⟩
  | _, _ => ⟨S16640x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueryRefIdeal.lean ====
abbrev S16640x1536 : Shape := ⟨2, ![16640, 1536]⟩
abbrev S1536x6144 : Shape := ⟨2, ![1536, 6144]⟩
abbrev S16384x32 : Shape := ⟨2, ![16384, 32]⟩
abbrev S16640x6144 : Shape := ⟨2, ![16640, 6144]⟩
abbrev S16640x32x192 : Shape := ⟨3, ![16640, 32, 192]⟩
abbrev S16640x32x128 : Shape := ⟨3, ![16640, 32, 128]⟩
abbrev S16640x32x64 : Shape := ⟨3, ![16640, 32, 64]⟩
abbrev S16384x32x64 : Shape := ⟨3, ![16384, 32, 64]⟩
abbrev S16384x1x32 : Shape := ⟨3, ![16384, 1, 32]⟩
abbrev S16384x32x32 : Shape := ⟨3, ![16384, 32, 32]⟩
abbrev S256x32x64 : Shape := ⟨3, ![256, 32, 64]⟩
abbrev S16640x4096 : Shape := ⟨2, ![16640, 4096]⟩
abbrev S16640x2048 : Shape := ⟨2, ![16640, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16640x1536, .f32⟩
  | .hbm, ⟨1, _⟩ => ⟨S1536x6144, .f32⟩
  | .hbm, ⟨2, _⟩ => ⟨S16384x32, .f32⟩
  | .hbm, ⟨3, _⟩ => ⟨S16384x32, .f32⟩
  | .hbm, ⟨4, _⟩ => ⟨S16640x6144, .f32⟩
  | .hbm, ⟨5, _⟩ => ⟨S16640x32x192, .f32⟩
  | .hbm, ⟨6, _⟩ => ⟨S16640x32x128, .f32⟩
  | .hbm, ⟨7, _⟩ => ⟨S16640x32x64, .f32⟩
  | .hbm, ⟨8, _⟩ => ⟨S16384x32x64, .f32⟩
  | .hbm, ⟨9, _⟩ => ⟨S16384x1x32, .f32⟩
  | .hbm, ⟨10, _⟩ => ⟨S16384x1x32, .f32⟩
  | .hbm, ⟨11, _⟩ => ⟨S16384x32x32, .f32⟩
  | .hbm, ⟨12, _⟩ => ⟨S16384x32x32, .f32⟩
  | .hbm, ⟨13, _⟩ => ⟨S16384x32x32, .f32⟩
  | .hbm, ⟨14, _⟩ => ⟨S16384x32x32, .f32⟩
  | .hbm, ⟨15, _⟩ => ⟨S16384x32x32, .f32⟩
  | .hbm, ⟨16, _⟩ => ⟨S16384x32x32, .f32⟩
  | .hbm, ⟨17, _⟩ => ⟨S16384x32x32, .f32⟩
  | .hbm, ⟨18, _⟩ => ⟨S16384x32x32, .f32⟩
  | .hbm, ⟨19, _⟩ => ⟨S16384x32x32, .f32⟩
  | .hbm, ⟨20, _⟩ => ⟨S16384x32x32, .f32⟩
  | .hbm, ⟨21, _⟩ => ⟨S16384x32x32, .f32⟩
  | .hbm, ⟨22, _⟩ => ⟨S16384x32x32, .f32⟩
  | .hbm, ⟨23, _⟩ => ⟨S16384x32x64, .f32⟩
  | .hbm, ⟨24, _⟩ => ⟨S256x32x64, .f32⟩
  | .hbm, ⟨25, _⟩ => ⟨S16640x32x64, .f32⟩
  | .hbm, ⟨26, _⟩ => ⟨S16640x4096, .f32⟩
  | .hbm, ⟨27, _⟩ => ⟨S16640x4096, .bf16⟩
  | .hbm, ⟨28, _⟩ => ⟨S16640x2048, .f32⟩
  | .hbm, ⟨29, _⟩ => ⟨S16640x2048, .bf16⟩
  | _, _ => ⟨S16640x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Key.lean ====
abbrev S16640x512 : Shape := ⟨2, ![16640, 512]⟩
abbrev S512x8192 : Shape := ⟨2, ![512, 8192]⟩
abbrev S512x32x256 : Shape := ⟨3, ![512, 32, 256]⟩
abbrev S512x32x128 : Shape := ⟨3, ![512, 32, 128]⟩
abbrev S512x4096 : Shape := ⟨2, ![512, 4096]⟩
abbrev S16640x4096 : Shape := ⟨2, ![16640, 4096]⟩
abbrev S1280x512 : Shape := ⟨2, ![1280, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S16640x512, .f32⟩
  | .hbm, ⟨1, _⟩ => ⟨S512x8192, .f32⟩
  | .hbm, ⟨2, _⟩ => ⟨S512x32x256, .f32⟩
  | .hbm, ⟨3, _⟩ => ⟨S512x32x128, .f32⟩
  | .hbm, ⟨4, _⟩ => ⟨S512x4096, .f32⟩
  | .hbm, ⟨5, _⟩ => ⟨S16640x512, .bf16⟩
  | .hbm, ⟨6, _⟩ => ⟨S512x4096, .bf16⟩
  | .hbm, ⟨7, _⟩ => ⟨S16640x4096, .bf16⟩
  | .local _ .vmem, ⟨0, _⟩ => ⟨S1280x512, .bf16⟩
  | .local _ .vmem, ⟨1, _⟩ => ⟨S1280x512, .bf16⟩
  | .local _ .vmem, ⟨2, _⟩ => ⟨S512x512, .bf16⟩
  | .local _ .vmem, ⟨3, _⟩ => ⟨S512x512, .bf16⟩
  | .local _ .vmem, ⟨4, _⟩ => ⟨S1280x512, .bf16⟩
  | .local _ .vmem, ⟨5, _⟩ => ⟨S1280x512, .bf16⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeyRefIdeal.lean ====
abbrev S16640x512 : Shape := ⟨2, ![16640, 512]⟩
abbrev S512x8192 : Shape := ⟨2, ![512, 8192]⟩
abbrev S16640x8192 : Shape := ⟨2, ![16640, 8192]⟩
abbrev S16640x32x256 : Shape := ⟨3, ![16640, 32, 256]⟩
abbrev S16640x32x128 : Shape := ⟨3, ![16640, 32, 128]⟩
abbrev S16640x4096 : Shape := ⟨2, ![16640, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16640x512, .f32⟩
  | .hbm, ⟨1, _⟩ => ⟨S512x8192, .f32⟩
  | .hbm, ⟨2, _⟩ => ⟨S16640x8192, .f32⟩
  | .hbm, ⟨3, _⟩ => ⟨S16640x32x256, .f32⟩
  | .hbm, ⟨4, _⟩ => ⟨S16640x32x128, .f32⟩
  | .hbm, ⟨5, _⟩ => ⟨S16640x4096, .f32⟩
  | .hbm, ⟨6, _⟩ => ⟨S16640x4096, .bf16⟩
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ValueT.lean ====
abbrev S16640x512 : Shape := ⟨2, ![16640, 512]⟩
abbrev S512x8192 : Shape := ⟨2, ![512, 8192]⟩
abbrev S512x32x256 : Shape := ⟨3, ![512, 32, 256]⟩
abbrev S512x32x128 : Shape := ⟨3, ![512, 32, 128]⟩
abbrev S512x4096 : Shape := ⟨2, ![512, 4096]⟩
abbrev S4096x512 : Shape := ⟨2, ![4096, 512]⟩
abbrev S4096x16640 : Shape := ⟨2, ![4096, 16640]⟩
abbrev S1024x512 : Shape := ⟨2, ![1024, 512]⟩
abbrev S1280x512 : Shape := ⟨2, ![1280, 512]⟩
abbrev S1024x1280 : Shape := ⟨2, ![1024, 1280]⟩

abbrev nBuf : Space → Nat
  | .hbm => 9
  | .vmem => 6
  | .smem => 0
  | _ => 0

abbrev bufTy : (tb : Table) → Fin (tcTables nBuf tb) → BufTy
  | .hbm, ⟨0, _⟩ => ⟨S16640x512, .f32⟩
  | .hbm, ⟨1, _⟩ => ⟨S512x8192, .f32⟩
  | .hbm, ⟨2, _⟩ => ⟨S512x32x256, .f32⟩
  | .hbm, ⟨3, _⟩ => ⟨S512x32x128, .f32⟩
  | .hbm, ⟨4, _⟩ => ⟨S512x4096, .f32⟩
  | .hbm, ⟨5, _⟩ => ⟨S4096x512, .f32⟩
  | .hbm, ⟨6, _⟩ => ⟨S4096x512, .bf16⟩
  | .hbm, ⟨7, _⟩ => ⟨S16640x512, .bf16⟩
  | .hbm, ⟨8, _⟩ => ⟨S4096x16640, .bf16⟩
  | .local _ .vmem, ⟨0, _⟩ => ⟨S1024x512, .bf16⟩
  | .local _ .vmem, ⟨1, _⟩ => ⟨S1024x512, .bf16⟩
  | .local _ .vmem, ⟨2, _⟩ => ⟨S1280x512, .bf16⟩
  | .local _ .vmem, ⟨3, _⟩ => ⟨S1280x512, .bf16⟩
  | .local _ .vmem, ⟨4, _⟩ => ⟨S1024x1280, .bf16⟩
  | .local _ .vmem, ⟨5, _⟩ => ⟨S1024x1280, .bf16⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValueTRefIdeal.lean ====
abbrev S16640x512 : Shape := ⟨2, ![16640, 512]⟩
abbrev S512x8192 : Shape := ⟨2, ![512, 8192]⟩
abbrev S16640x8192 : Shape := ⟨2, ![16640, 8192]⟩
abbrev S16640x32x256 : Shape := ⟨3, ![16640, 32, 256]⟩
abbrev S16640x32x128 : Shape := ⟨3, ![16640, 32, 128]⟩
abbrev S16640x4096 : Shape := ⟨2, ![16640, 4096]⟩
abbrev S4096x16640 : Shape := ⟨2, ![4096, 16640]⟩

abbrev nBuf : Space → Nat
  | .hbm => 8
  | .vmem => 0
  | .smem => 0
  | _ => 0

abbrev bufTy : (tb : Table) → Fin (tcTables nBuf tb) → BufTy
  | .hbm, ⟨0, _⟩ => ⟨S16640x512, .f32⟩
  | .hbm, ⟨1, _⟩ => ⟨S512x8192, .f32⟩
  | .hbm, ⟨2, _⟩ => ⟨S16640x8192, .f32⟩
  | .hbm, ⟨3, _⟩ => ⟨S16640x32x256, .f32⟩
  | .hbm, ⟨4, _⟩ => ⟨S16640x32x128, .f32⟩
  | .hbm, ⟨5, _⟩ => ⟨S16640x4096, .f32⟩
  | .hbm, ⟨6, _⟩ => ⟨S4096x16640, .f32⟩
  | .hbm, ⟨7, _⟩ => ⟨S4096x16640, .bf16⟩
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Modulated.lean ====
abbrev S16640x4096 : Shape := ⟨2, ![16640, 4096]⟩
abbrev S4096 : Shape := ⟨1, ![4096]⟩
abbrev S2x4096 : Shape := ⟨2, ![2, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S1x4096, .f32⟩
  | .hbm, ⟨5, _⟩ => ⟨S16640x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S2x4096, .f32⟩
  | .local _ .vmem, ⟨4, _⟩ => ⟨S2x4096, .f32⟩
  | .local _ .vmem, ⟨5, _⟩ => ⟨S256x4096, .bf16⟩
  | .local _ .vmem, ⟨6, _⟩ => ⟨S256x4096, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c256_i32 : BitVec 32 := 256#32
  let v15 : BitVec 32 := Scalar.muli arg0 c256_i32
  let c256_i32_5 : BitVec 32 := 256#32
  let v16 : BitVec 1 := Scalar.cmpi .sge v15 c256_i32_5
  let v17 : BitVec 32 := Scalar.extui v16
  let v18 : Index := Scalar.indexCast v17
  let c0_6 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModulatedRefIdeal.lean ====
abbrev S16640x4096 : Shape := ⟨2, ![16640, 4096]⟩
abbrev S4096 : Shape := ⟨1, ![4096]⟩
abbrev S2x4096 : Shape := ⟨2, ![2, 4096]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x4096, .f32⟩
  | .hbm, ⟨17, _⟩ => ⟨S256x4096, .f32⟩
  | .hbm, ⟨18, _⟩ => ⟨S1x4096, .f32⟩
  | .hbm, ⟨19, _⟩ => ⟨S256x4096, .f32⟩
  | .hbm, ⟨20, _⟩ => ⟨S256x4096, .f32⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S256x4096, .f32⟩
  | .hbm, ⟨30, _⟩ => ⟨S256x4096, .f32⟩
  | .hbm, ⟨31, _⟩ => ⟨S1x4096, .f32⟩
  | .hbm, ⟨32, _⟩ => ⟨S256x4096, .f32⟩
  | .hbm, ⟨33, _⟩ => ⟨S256x4096, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x4096, .f32⟩
  | .hbm, ⟨47, _⟩ => ⟨S16384x4096, .f32⟩
  | .hbm, ⟨48, _⟩ => ⟨S1x4096, .f32⟩
  | .hbm, ⟨49, _⟩ => ⟨S16384x4096, .f32⟩
  | .hbm, ⟨50, _⟩ => ⟨S16384x4096, .f32⟩
  | .hbm, ⟨51, _⟩ => ⟨S1x4096, .f32⟩
  | .hbm, ⟨52, _⟩ => ⟨S4096, .f32⟩
  | .hbm, ⟨53, _⟩ => ⟨S1x4096, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S1x4096, .f32⟩
  | .hbm, ⟨59, _⟩ => ⟨S16384x4096, .f32⟩
  | .hbm, ⟨60, _⟩ => ⟨S16384x4096, .f32⟩
  | .hbm, ⟨61, _⟩ => ⟨S1x4096, .f32⟩
  | .hbm, ⟨62, _⟩ => ⟨S16384x4096, .f32⟩
  | .hbm, ⟨63, _⟩ => ⟨S16384x4096, .f32⟩
  | .hbm, ⟨64, _⟩ => ⟨S16640x4096, .f32⟩
  | .hbm, ⟨65, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Router.lean ====
abbrev S16640x4096 : Shape := ⟨2, ![16640, 4096]⟩
abbrev S4096 : Shape := ⟨1, ![4096]⟩
abbrev S2x4096 : Shape := ⟨2, ![2, 4096]⟩
abbrev S4096x16 : Shape := ⟨2, ![4096, 16]⟩
abbrev S16x4096 : Shape := ⟨2, ![16, 4096]⟩
abbrev S1x4096 : Shape := ⟨2, ![1, 4096]⟩
abbrev S16x16640 : Shape := ⟨2, ![16, 16640]⟩
abbrev S256x4096 : Shape := ⟨2, ![256, 4096]⟩
abbrev S16x256 : Shape := ⟨2, ![16, 256]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S4096x16, .f32⟩
  | .hbm, ⟨5, _⟩ => ⟨S16x4096, .f32⟩
  | .hbm, ⟨6, _⟩ => ⟨S1x4096, .f32⟩
  | .hbm, ⟨7, _⟩ => ⟨S16640x4096, .bf16⟩
  | .hbm, ⟨8, _⟩ => ⟨S16640x4096, .bf16⟩
  | .hbm, ⟨9, _⟩ => ⟨S16x16640, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S2x4096, .f32⟩
  | .local _ .vmem, ⟨4, _⟩ => ⟨S2x4096, .f32⟩
  | .local _ .vmem, ⟨5, _⟩ => ⟨S16x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S16x256, .f32⟩
  | .local _ .vmem, ⟨11, _⟩ => ⟨S16x256, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c256_i32 : BitVec 32 := 256#32
  let v15 : BitVec 32 := Scalar.muli arg0 c256_i32
  let c256_i32_5 : BitVec 32 := 256#32
  let v16 : BitVec 1 := Scalar.cmpi .sge v15 c256_i32_5
  let v17 : BitVec 32 := Scalar.extui v16
  let v18 : Index := Scalar.indexCast v17
  let c0_6 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouterRefIdeal.lean ====
abbrev S16640x4096 : Shape := ⟨2, ![16640, 4096]⟩
abbrev S4096 : Shape := ⟨1, ![4096]⟩
abbrev S2x4096 : Shape := ⟨2, ![2, 4096]⟩
abbrev S4096x16 : Shape := ⟨2, ![4096, 16]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S16384x4096 : Shape := ⟨2, ![16384, 4096]⟩
abbrev S16384 : Shape := ⟨1, ![16384]⟩
abbrev S16384x1 : Shape := ⟨2, ![16384, 1]⟩
abbrev S16640x16 : Shape := ⟨2, ![16640, 16]⟩
abbrev S16x16640 : Shape := ⟨2, ![16, 16640]⟩

abbrev nBuf : Space → Nat
  | .hbm => 70
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S4096x16, .f32⟩
  | .hbm, ⟨5, _⟩ => ⟨S256x4096, .f32⟩
  | .hbm, ⟨6, _⟩ => ⟨S256x4096, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x4096, .f32⟩
  | .hbm, ⟨18, _⟩ => ⟨S256x4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S1x4096, .f32⟩
  | .hbm, ⟨23, _⟩ => ⟨S4096, .f32⟩
  | .hbm, ⟨24, _⟩ => ⟨S1x4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S256x4096, .f32⟩
  | .hbm, ⟨31, _⟩ => ⟨S256x4096, .f32⟩
  | .hbm, ⟨32, _⟩ => ⟨S1x4096, .f32⟩
  | .hbm, ⟨33, _⟩ => ⟨S256x4096, .f32⟩
  | .hbm, ⟨34, _⟩ => ⟨S256x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S1x4096, .f32⟩
  | .hbm, ⟨50, _⟩ => ⟨S16384x4096, .f32⟩
  | .hbm, ⟨51, _⟩ => ⟨S16384x4096, .f32⟩
  | .hbm, ⟨52, _⟩ => ⟨S1x4096, .f32⟩
  | .hbm, ⟨53, _⟩ => ⟨S4096, .f32⟩
  | .hbm, ⟨54, _⟩ => ⟨S1x4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S1x4096, .f32⟩
  | .hbm, ⟨60, _⟩ => ⟨S16384x4096, .f32⟩
  | .hbm, ⟨61, _⟩ => ⟨S16384x4096, .f32⟩
  | .hbm, ⟨62, _⟩ => ⟨S1x4096, .f32⟩
  | .hbm, ⟨63, _⟩ => ⟨S16384x4096, .f32⟩
  | .hbm, ⟨64, _⟩ => ⟨S16384x4096, .f32⟩
  | .hbm, ⟨65, _⟩ => ⟨S16640x4096, .f32⟩
  | .hbm, ⟨66, _⟩ => ⟨S16640x4096, .bf16⟩
  | .hbm, ⟨67, _⟩ => ⟨S16640x4096, .bf16⟩
  | .hbm, ⟨68, _⟩ => ⟨S16640x16, .f32⟩
  | .hbm, ⟨69, _⟩ => ⟨S16x16640, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Finish.lean ====
abbrev S16640x8192 : Shape := ⟨2, ![16640, 8192]⟩
abbrev S16640x10240 : Shape := ⟨2, ![16640, 10240]⟩
abbrev S128 : Shape := ⟨1, ![128]⟩
abbrev S8192 : Shape := ⟨1, ![8192]⟩
abbrev S128x64 : Shape := ⟨2, ![128, 64]⟩
abbrev S1x8192 : Shape := ⟨2, ![1, 8192]⟩
abbrev S256x8192 : Shape := ⟨2, ![256, 8192]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 15
  | .vmem => 12
  | .smem => 0
  | _ => 0

abbrev bufTy : (tb : Table) → Fin (tcTables nBuf tb) → BufTy
  | .hbm, ⟨0, _⟩ => ⟨S16640x8192, .f32⟩
  | .hbm, ⟨1, _⟩ => ⟨S16640x8192, .f32⟩
  | .hbm, ⟨2, _⟩ => ⟨S16640x10240, .f32⟩
  | .hbm, ⟨3, _⟩ => ⟨S16640x8192, .f32⟩
  | .hbm, ⟨4, _⟩ => ⟨S128, .f32⟩
  | .hbm, ⟨5, _⟩ => ⟨S8192, .f32⟩
  | .hbm, ⟨6, _⟩ => ⟨S128x64, .f32⟩
  | .hbm, ⟨7, _⟩ => ⟨S8192, .f32⟩
  | .hbm, ⟨8, _⟩ => ⟨S1x8192, .f32⟩
  | .hbm, ⟨9, _⟩ => ⟨S16640x8192, .bf16⟩
  | .hbm, ⟨10, _⟩ => ⟨S16640x8192, .bf16⟩
  | .hbm, ⟨11, _⟩ => ⟨S16640x10240, .bf16⟩
  | .hbm, ⟨12, _⟩ => ⟨S16640x8192, .bf16⟩
  | .hbm, ⟨13, _⟩ => ⟨S1x8192, .f32⟩
  | .hbm, ⟨14, _⟩ => ⟨S16640x8192, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | .local _ .vmem, ⟨6, _⟩ => ⟨S256x8192, .bf16⟩
  | .local _ .vmem, ⟨7, _⟩ => ⟨S256x8192, .bf16⟩
  | .local _ .vmem, ⟨8, _⟩ => ⟨S1x8192, .f32⟩
  | .local _ .vmem, ⟨9, _⟩ => ⟨S1x8192, .f32⟩
  | .local _ .vmem, ⟨10, _⟩ => ⟨S256x8192, .bf16⟩
  | .local _ .vmem, ⟨11, _⟩ => ⟨S256x8192, .bf16⟩
  | _, _ => ⟨S16640x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinishRefIdeal.lean ====
abbrev S16640x8192 : Shape := ⟨2, ![16640, 8192]⟩
abbrev S16640x10240 : Shape := ⟨2, ![16640, 10240]⟩
abbrev S128 : Shape := ⟨1, ![128]⟩
abbrev S8192 : Shape := ⟨1, ![8192]⟩
abbrev S16640x128x64 : Shape := ⟨3, ![16640, 128, 64]⟩
abbrev S128x1 : Shape := ⟨2, ![128, 1]⟩
abbrev S1x128x1 : Shape := ⟨3, ![1, 128, 1]⟩
abbrev S_ : Shape := ⟨0, ![]⟩
abbrev S16640x8x1024 : Shape := ⟨3, ![16640, 8, 1024]⟩
abbrev S16640x8 : Shape := ⟨2, ![16640, 8]⟩
abbrev S16640x8x1 : Shape := ⟨3, ![16640, 8, 1]⟩
abbrev S1x8192 : Shape := ⟨2, ![1, 8192]⟩

abbrev nBuf : Space → Nat
  | .hbm => 46
  | .vmem => 0
  | .smem => 0
  | _ => 0

abbrev bufTy : (tb : Table) → Fin (tcTables nBuf tb) → BufTy
  | .hbm, ⟨0, _⟩ => ⟨S16640x8192, .f32⟩
  | .hbm, ⟨1, _⟩ => ⟨S16640x8192, .f32⟩
  | .hbm, ⟨2, _⟩ => ⟨S16640x10240, .f32⟩
  | .hbm, ⟨3, _⟩ => ⟨S16640x8192, .f32⟩
  | .hbm, ⟨4, _⟩ => ⟨S128, .f32⟩
  | .hbm, ⟨5, _⟩ => ⟨S8192, .f32⟩
  | .hbm, ⟨6, _⟩ => ⟨S16640x8192, .f32⟩
  | .hbm, ⟨7, _⟩ => ⟨S16640x128x64, .f32⟩
  | .hbm, ⟨8, _⟩ => ⟨S16640x128x64, .f32⟩
  | .hbm, ⟨9, _⟩ => ⟨S16640x128x64, .f32⟩
  | .hbm, ⟨10, _⟩ => ⟨S16640x128x64, .f32⟩
  | .hbm, ⟨11, _⟩ => ⟨S128x1, .f32⟩
  | .hbm, ⟨12, _⟩ => ⟨S1x128x1, .f32⟩
  | .hbm, ⟨13, _⟩ => ⟨S16640x128x64, .f32⟩
  | .hbm, ⟨14, _⟩ => ⟨S16640x128x64, .f32⟩
  | .hbm, ⟨15, _⟩ => ⟨S16640x128x64, .f32⟩
  | .hbm, ⟨16, _⟩ => ⟨S16640x8192, .f32⟩
  | .hbm, ⟨17, _⟩ => ⟨S16640x8192, .f32⟩
  | .hbm, ⟨18, _⟩ => ⟨S16640x8192, .f32⟩
  | .hbm, ⟨19, _⟩ => ⟨S_, .f32⟩
  | .hbm, ⟨20, _⟩ => ⟨S16640x8192, .f32⟩
  | .hbm, ⟨21, _⟩ => ⟨S16640x8192, .f32⟩
  | .hbm, ⟨22, _⟩ => ⟨S_, .f32⟩
  | .hbm, ⟨23, _⟩ => ⟨S16640x8192, .f32⟩
  | .hbm, ⟨24, _⟩ => ⟨S16640x8192, .f32⟩
  | .hbm, ⟨25, _⟩ => ⟨S16640x8192, .f32⟩
  | .hbm, ⟨26, _⟩ => ⟨S16640x8192, .f32⟩
  | .hbm, ⟨27, _⟩ => ⟨S16640x8x1024, .f32⟩
  | .hbm, ⟨28, _⟩ => ⟨S16640x8x1024, .f32⟩
  | .hbm, ⟨29, _⟩ => ⟨S_, .f32⟩
  | .hbm, ⟨30, _⟩ => ⟨S16640x8, .f32⟩
  | .hbm, ⟨31, _⟩ => ⟨S16640x8x1, .f32⟩
  | .hbm, ⟨32, _⟩ => ⟨S_, .f32⟩
  | .hbm, ⟨33, _⟩ => ⟨S16640x8x1, .f32⟩
  | .hbm, ⟨34, _⟩ => ⟨S16640x8x1, .f32⟩
  | .hbm, ⟨35, _⟩ => ⟨S_, .f32⟩
  | .hbm, ⟨36, _⟩ => ⟨S16640x8x1, .f32⟩
  | .hbm, ⟨37, _⟩ => ⟨S16640x8x1, .f32⟩
  | .hbm, ⟨38, _⟩ => ⟨S16640x8x1, .f32⟩
  | .hbm, ⟨39, _⟩ => ⟨S16640x8x1024, .f32⟩
  | .hbm, ⟨40, _⟩ => ⟨S16640x8x1024, .f32⟩
  | .hbm, ⟨41, _⟩ => ⟨S16640x8192, .f32⟩
  | .hbm, ⟨42, _⟩ => ⟨S1x8192, .f32⟩
  | .hbm, ⟨43, _⟩ => ⟨S16640x8192, .f32⟩
  | .hbm, ⟨44, _⟩ => ⟨S16640x8192, .f32⟩
  | .hbm, ⟨45, _⟩ => ⟨S16640x8192, .bf16⟩
  | _, _ => ⟨S16640x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== LatPost.lean ====
abbrev S16640x2112 : Shape := ⟨2, ![16640, 2112]⟩
abbrev S1536 : Shape := ⟨1, ![1536]⟩
abbrev S512 : Shape := ⟨1, ![512]⟩
abbrev S16384x32 : Shape := ⟨2, ![16384, 32]⟩
abbrev S_ : Shape := ⟨0, ![]⟩
abbrev S256x32 : Shape := ⟨2, ![256, 32]⟩
abbrev S16640x32 : Shape := ⟨2, ![16640, 32]⟩
abbrev S1x16640x1x32 : Shape := ⟨4, ![1, 16640, 1, 32]⟩
abbrev S1x16640x4x32 : Shape := ⟨4, ![1, 16640, 4, 32]⟩
abbrev S16640x128 : Shape := ⟨2, ![16640, 128]⟩
abbrev S16640x64 : Shape := ⟨2, ![16640, 64]⟩
abbrev S16640x2048 : Shape := ⟨2, ![16640, 2048]⟩
abbrev S16640x2560 : Shape := ⟨2, ![16640, 2560]⟩
abbrev S1x1536 : Shape := ⟨2, ![1, 1536]⟩
abbrev S1x512 : Shape := ⟨2, ![1, 512]⟩
abbrev S16640x1536 : Shape := ⟨2, ![16640, 1536]⟩
abbrev S16640x512 : Shape := ⟨2, ![16640, 512]⟩
abbrev S16640x256 : Shape := ⟨2, ![16640, 256]⟩
abbrev S256x2560 : Shape := ⟨2, ![256, 2560]⟩
abbrev S256x128 : Shape := ⟨2, ![256, 128]⟩
abbrev S256x1536 : Shape := ⟨2, ![256, 1536]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 31
  | .vmem => 14
  | .smem => 0
  | _ => 0

abbrev bufTy : (tb : Table) → Fin (tcTables nBuf tb) → BufTy
  | .hbm, ⟨0, _⟩ => ⟨S16640x2112, .f32⟩
  | .hbm, ⟨1, _⟩ => ⟨S1536, .f32⟩
  | .hbm, ⟨2, _⟩ => ⟨S512, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S256x32, .f32⟩
  | .hbm, ⟨7, _⟩ => ⟨S16640x32, .f32⟩
  | .hbm, ⟨8, _⟩ => ⟨S1x16640x1x32, .f32⟩
  | .hbm, ⟨9, _⟩ => ⟨S1x16640x4x32, .f32⟩
  | .hbm, ⟨10, _⟩ => ⟨S16640x128, .f32⟩
  | .hbm, ⟨11, _⟩ => ⟨S_, .f32⟩
  | .hbm, ⟨12, _⟩ => ⟨S256x32, .f32⟩
  | .hbm, ⟨13, _⟩ => ⟨S16640x32, .f32⟩
  | .hbm, ⟨14, _⟩ => ⟨S1x16640x1x32, .f32⟩
  | .hbm, ⟨15, _⟩ => ⟨S1x16640x4x32, .f32⟩
  | .hbm, ⟨16, _⟩ => ⟨S16640x128, .f32⟩
  | .hbm, ⟨17, _⟩ => ⟨S_, .f32⟩
  | .hbm, ⟨18, _⟩ => ⟨S16640x64, .f32⟩
  | .hbm, ⟨19, _⟩ => ⟨S16640x64, .f32⟩
  | .hbm, ⟨20, _⟩ => ⟨S16640x32, .f32⟩
  | .hbm, ⟨21, _⟩ => ⟨S16640x32, .f32⟩
  | .hbm, ⟨22, _⟩ => ⟨S16640x32, .f32⟩
  | .hbm, ⟨23, _⟩ => ⟨S16640x64, .f32⟩
  | .hbm, ⟨24, _⟩ => ⟨S16640x2048, .f32⟩
  | .hbm, ⟨25, _⟩ => ⟨S16640x2560, .f32⟩
  | .hbm, ⟨26, _⟩ => ⟨S1x1536, .f32⟩
  | .hbm, ⟨27, _⟩ => ⟨S1x512, .f32⟩
  | .hbm, ⟨28, _⟩ => ⟨S16640x1536, .bf16⟩
  | .hbm, ⟨29, _⟩ => ⟨S16640x512, .bf16⟩
  | .hbm, ⟨30, _⟩ => ⟨S16640x256, .bf16⟩
  | .local _ .vmem, ⟨0, _⟩ => ⟨S256x2560, .f32⟩
  | .local _ .vmem, ⟨1, _⟩ => ⟨S256x2560, .f32⟩
  | .local _ .vmem, ⟨2, _⟩ => ⟨S1x1536, .f32⟩
  | .local _ .vmem, ⟨3, _⟩ => ⟨S1x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1536, .bf16⟩
  | .local _ .vmem, ⟨9, _⟩ => ⟨S256x1536, .bf16⟩
  | .local _ .vmem, ⟨10, _⟩ => ⟨S256x512, .bf16⟩
  | .local _ .vmem, ⟨11, _⟩ => ⟨S256x512, .bf16⟩
  | .local _ .vmem, ⟨12, _⟩ => ⟨S256x256, .bf16⟩
  | .local _ .vmem, ⟨13, _⟩ => ⟨S256x256, .bf16⟩
  | _, _ => ⟨S16640x2112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LatPostRefIdeal.lean ====
abbrev S16640x2112 : Shape := ⟨2, ![16640, 2112]⟩
abbrev S1536 : Shape := ⟨1, ![1536]⟩
abbrev S512 : Shape := ⟨1, ![512]⟩
abbrev S16384x32 : Shape := ⟨2, ![16384, 32]⟩
abbrev S16640x1536 : Shape := ⟨2, ![16640, 1536]⟩
abbrev S_ : Shape := ⟨0, ![]⟩
abbrev S16640 : Shape := ⟨1, ![16640]⟩
abbrev S16640x1 : Shape := ⟨2, ![16640, 1]⟩
abbrev S1x1536 : Shape := ⟨2, ![1, 1536]⟩
abbrev S16640x512 : Shape := ⟨2, ![16640, 512]⟩
abbrev S1x512 : Shape := ⟨2, ![1, 512]⟩
abbrev S256x64 : Shape := ⟨2, ![256, 64]⟩
abbrev S16384x64 : Shape := ⟨2, ![16384, 64]⟩
abbrev S16640x64 : Shape := ⟨2, ![16640, 64]⟩
abbrev S16640x256 : Shape := ⟨2, ![16640, 256]⟩

abbrev nBuf : Space → Nat
  | .hbm => 57
  | .vmem => 0
  | .smem => 0
  | _ => 0

abbrev bufTy : (tb : Table) → Fin (tcTables nBuf tb) → BufTy
  | .hbm, ⟨0, _⟩ => ⟨S16640x2112, .f32⟩
  | .hbm, ⟨1, _⟩ => ⟨S1536, .f32⟩
  | .hbm, ⟨2, _⟩ => ⟨S512, .f32⟩
  | .hbm, ⟨3, _⟩ => ⟨S16384x32, .f32⟩
  | .hbm, ⟨4, _⟩ => ⟨S16384x32, .f32⟩
  | .hbm, ⟨5, _⟩ => ⟨S16640x1536, .f32⟩
  | .hbm, ⟨6, _⟩ => ⟨S16640x1536, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x1536, .f32⟩
  | .hbm, ⟨18, _⟩ => ⟨S16640x1536, .f32⟩
  | .hbm, ⟨19, _⟩ => ⟨S1x1536, .f32⟩
  | .hbm, ⟨20, _⟩ => ⟨S16640x1536, .f32⟩
  | .hbm, ⟨21, _⟩ => ⟨S16640x1536, .f32⟩
  | .hbm, ⟨22, _⟩ => ⟨S16640x512, .f32⟩
  | .hbm, ⟨23, _⟩ => ⟨S16640x512, .f32⟩
  | .hbm, ⟨24, _⟩ => ⟨S_, .f32⟩
  | .hbm, ⟨25, _⟩ => ⟨S16640, .f32⟩
  | .hbm, ⟨26, _⟩ => ⟨S16640x1, .f32⟩
  | .hbm, ⟨27, _⟩ => ⟨S_, .f32⟩
  | .hbm, ⟨28, _⟩ => ⟨S16640x1, .f32⟩
  | .hbm, ⟨29, _⟩ => ⟨S16640x1, .f32⟩
  | .hbm, ⟨30, _⟩ => ⟨S_, .f32⟩
  | .hbm, ⟨31, _⟩ => ⟨S16640x1, .f32⟩
  | .hbm, ⟨32, _⟩ => ⟨S16640x1, .f32⟩
  | .hbm, ⟨33, _⟩ => ⟨S16640x1, .f32⟩
  | .hbm, ⟨34, _⟩ => ⟨S16640x512, .f32⟩
  | .hbm, ⟨35, _⟩ => ⟨S16640x512, .f32⟩
  | .hbm, ⟨36, _⟩ => ⟨S1x512, .f32⟩
  | .hbm, ⟨37, _⟩ => ⟨S16640x512, .f32⟩
  | .hbm, ⟨38, _⟩ => ⟨S16640x512, .f32⟩
  | .hbm, ⟨39, _⟩ => ⟨S256x64, .f32⟩
  | .hbm, ⟨40, _⟩ => ⟨S16384x64, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S16384x64, .f32⟩
  | .hbm, ⟨50, _⟩ => ⟨S16640x64, .f32⟩
  | .hbm, ⟨51, _⟩ => ⟨S_, .f32⟩
  | .hbm, ⟨52, _⟩ => ⟨S16640x64, .f32⟩
  | .hbm, ⟨53, _⟩ => ⟨S16640x1536, .bf16⟩
  | .hbm, ⟨54, _⟩ => ⟨S16640x512, .bf16⟩
  | .hbm, ⟨55, _⟩ => ⟨S16640x256, .f32⟩
  | .hbm, ⟨56, _⟩ => ⟨S16640x256, .bf16⟩
  | _, _ => ⟨S16640x2112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Ada.lean ====
abbrev S8x4096 : Shape := ⟨2, ![8, 4096]⟩
abbrev S4x4096x256 : Shape := ⟨3, ![4, 4096, 256]⟩
abbrev S4x256x24576 : Shape := ⟨3, ![4, 256, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x256 : Shape := ⟨3, ![1, 4096, 256]⟩
abbrev S1x256x2048 : Shape := ⟨3, ![1, 256, 2048]⟩
abbrev S1x1x2048 : Shape := ⟨3, ![1, 1, 2048]⟩
abbrev S1x8x2048 : Shape := ⟨3, ![1, 8, 2048]⟩
abbrev S4096x256 : Shape := ⟨2, ![4096, 256]⟩
abbrev S8x256 : Shape := ⟨2, ![8, 256]⟩
abbrev S256x2048 : Shape := ⟨2, ![256, 2048]⟩
abbrev S8x2048 : Shape := ⟨2, ![8, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8x4096, .f32⟩
  | .hbm, ⟨1, _⟩ => ⟨S4x4096x256, .f32⟩
  | .hbm, ⟨2, _⟩ => ⟨S4x256x24576, .f32⟩
  | .hbm, ⟨3, _⟩ => ⟨S4x24576, .f32⟩
  | .hbm, ⟨4, _⟩ => ⟨S4x1x24576, .f32⟩
  | .hbm, ⟨5, _⟩ => ⟨S4x8x24576, .f32⟩
  | .local _ .vmem, ⟨0, _⟩ => ⟨S8x4096, .f32⟩
  | .local _ .vmem, ⟨1, _⟩ => ⟨S1x4096x256, .f32⟩
  | .local _ .vmem, ⟨2, _⟩ => ⟨S1x4096x256, .f32⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x8x2048, .f32⟩
  | .local _ .vmem, ⟨8, _⟩ => ⟨S1x8x2048, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AdaRefIdeal.lean ====
abbrev S8x4096 : Shape := ⟨2, ![8, 4096]⟩
abbrev S4x4096x256 : Shape := ⟨3, ![4, 4096, 256]⟩
abbrev S4x256x24576 : Shape := ⟨3, ![4, 256, 24576]⟩
abbrev S4x24576 : Shape := ⟨2, ![4, 24576]⟩
abbrev S_ : Shape := ⟨0, ![]⟩
abbrev S8x4x256 : Shape := ⟨3, ![8, 4, 256]⟩
abbrev S4x8x256 : Shape := ⟨3, ![4, 8, 256]⟩
abbrev S4x8x24576 : Shape := ⟨3, ![4, 8, 24576]⟩
abbrev S4x1x24576 : Shape := ⟨3, ![4, 1, 24576]⟩

abbrev nBuf : Space → Nat
  | .hbm => 19
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x256, .f32⟩
  | .hbm, ⟨2, _⟩ => ⟨S4x256x24576, .f32⟩
  | .hbm, ⟨3, _⟩ => ⟨S4x24576, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x4x256, .f32⟩
  | .hbm, ⟨14, _⟩ => ⟨S4x8x256, .f32⟩
  | .hbm, ⟨15, _⟩ => ⟨S4x8x24576, .f32⟩
  | .hbm, ⟨16, _⟩ => ⟨S4x1x24576, .f32⟩
  | .hbm, ⟨17, _⟩ => ⟨S4x8x24576, .f32⟩
  | .hbm, ⟨18, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Conv.lean ====
abbrev S16640x10240 : Shape := ⟨2, ![16640, 10240]⟩
abbrev S5x10240 : Shape := ⟨2, ![5, 10240]⟩
abbrev S10240 : Shape := ⟨1, ![10240]⟩
abbrev S1x10240 : Shape := ⟨2, ![1, 10240]⟩
abbrev S16x2048 : Shape := ⟨2, ![16, 2048]⟩
abbrev S256x2048 : Shape := ⟨2, ![256, 2048]⟩
abbrev S5x2048 : Shape := ⟨2, ![5, 2048]⟩
abbrev S1x2048 : Shape := ⟨2, ![1, 2048]⟩
abbrev S288x2048 : Shape := ⟨2, ![288, 2048]⟩

abbrev nBuf : Space → Nat
  | .hbm => 6
  | .vmem => 13
  | .smem => 0
  | _ => 0

abbrev bufTy : (tb : Table) → Fin (tcTables nBuf tb) → BufTy
  | .hbm, ⟨0, _⟩ => ⟨S16640x10240, .f32⟩
  | .hbm, ⟨1, _⟩ => ⟨S5x10240, .f32⟩
  | .hbm, ⟨2, _⟩ => ⟨S10240, .f32⟩
  | .hbm, ⟨3, _⟩ => ⟨S16640x10240, .bf16⟩
  | .hbm, ⟨4, _⟩ => ⟨S1x10240, .f32⟩
  | .hbm, ⟨5, _⟩ => ⟨S16640x10240, .bf16⟩
  | .local _ .vmem, ⟨0, _⟩ => ⟨S16x2048, .bf16⟩
  | .local _ .vmem, ⟨1, _⟩ => ⟨S16x2048, .bf16⟩
  | .local _ .vmem, ⟨2, _⟩ => ⟨S256x2048, .bf16⟩
  | .local _ .vmem, ⟨3, _⟩ => ⟨S256x2048, .bf16⟩
  | .local _ .vmem, ⟨4, _⟩ => ⟨S16x2048, .bf16⟩
  | .local _ .vmem, ⟨5, _⟩ => ⟨S16x2048, .bf16⟩
  | .local _ .vmem, ⟨6, _⟩ => ⟨S5x2048, .f32⟩
  | .local _ .vmem, ⟨7, _⟩ => ⟨S5x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | .local _ .vmem, ⟨12, _⟩ => ⟨S288x2048, .f32⟩
  | _, _ => ⟨S16640x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![65, 5], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S16640x10240 : Shape := ⟨2, ![16640, 10240]⟩
abbrev S5x10240 : Shape := ⟨2, ![5, 10240]⟩
abbrev S10240 : Shape := ⟨1, ![10240]⟩
abbrev S256x10240 : Shape := ⟨2, ![256, 10240]⟩
abbrev S_ : Shape := ⟨0, ![]⟩
abbrev S260x10240 : Shape := ⟨2, ![260, 10240]⟩
abbrev S1x10240 : Shape := ⟨2, ![1, 10240]⟩
abbrev S16384x10240 : Shape := ⟨2, ![16384, 10240]⟩
abbrev S16388x10240 : Shape := ⟨2, ![16388, 10240]⟩

abbrev nBuf : Space → Nat
  | .hbm => 105
  | .vmem => 0
  | .smem => 0
  | _ => 0

abbrev bufTy : (tb : Table) → Fin (tcTables nBuf tb) → BufTy
  | .hbm, ⟨0, _⟩ => ⟨S16640x10240, .f32⟩
  | .hbm, ⟨1, _⟩ => ⟨S5x10240, .f32⟩
  | .hbm, ⟨2, _⟩ => ⟨S10240, .f32⟩
  | .hbm, ⟨3, _⟩ => ⟨S256x10240, .f32⟩
  | .hbm, ⟨4, _⟩ => ⟨S_, .i32⟩
  | .hbm, ⟨5, _⟩ => ⟨S_, .f32⟩
  | .hbm, ⟨6, _⟩ => ⟨S260x10240, .f32⟩
  | .hbm, ⟨7, _⟩ => ⟨S1x10240, .f32⟩
  | .hbm, ⟨8, _⟩ => ⟨S10240, .f32⟩
  | .hbm, ⟨9, _⟩ => ⟨S256x10240, .f32⟩
  | .hbm, ⟨10, _⟩ => ⟨S1x10240, .f32⟩
  | .hbm, ⟨11, _⟩ => ⟨S256x10240, .f32⟩
  | .hbm, ⟨12, _⟩ => ⟨S256x10240, .f32⟩
  | .hbm, ⟨13, _⟩ => ⟨S1x10240, .f32⟩
  | .hbm, ⟨14, _⟩ => ⟨S10240, .f32⟩
  | .hbm, ⟨15, _⟩ => ⟨S256x10240, .f32⟩
  | .hbm, ⟨16, _⟩ => ⟨S1x10240, .f32⟩
  | .hbm, ⟨17, _⟩ => ⟨S256x10240, .f32⟩
  | .hbm, ⟨18, _⟩ => ⟨S256x10240, .f32⟩
  | .hbm, ⟨19, _⟩ => ⟨S256x10240, .f32⟩
  | .hbm, ⟨20, _⟩ => ⟨S1x10240, .f32⟩
  | .hbm, ⟨21, _⟩ => ⟨S10240, .f32⟩
  | .hbm, ⟨22, _⟩ => ⟨S256x10240, .f32⟩
  | .hbm, ⟨23, _⟩ => ⟨S1x10240, .f32⟩
  | .hbm, ⟨24, _⟩ => ⟨S256x10240, .f32⟩
  | .hbm, ⟨25, _⟩ => ⟨S256x10240, .f32⟩
  | .hbm, ⟨26, _⟩ => ⟨S256x10240, .f32⟩
  | .hbm, ⟨27, _⟩ => ⟨S1x10240, .f32⟩
  | .hbm, ⟨28, _⟩ => ⟨S10240, .f32⟩
  | .hbm, ⟨29, _⟩ => ⟨S256x10240, .f32⟩
  | .hbm, ⟨30, _⟩ => ⟨S1x10240, .f32⟩
  | .hbm, ⟨31, _⟩ => ⟨S256x10240, .f32⟩
  | .hbm, ⟨32, _⟩ => ⟨S256x10240, .f32⟩
  | .hbm, ⟨33, _⟩ => ⟨S256x10240, .f32⟩
  | .hbm, ⟨34, _⟩ => ⟨S1x10240, .f32⟩
  | .hbm, ⟨35, _⟩ => ⟨S10240, .f32⟩
  | .hbm, ⟨36, _⟩ => ⟨S256x10240, .f32⟩
  | .hbm, ⟨37, _⟩ => ⟨S1x10240, .f32⟩
  | .hbm, ⟨38, _⟩ => ⟨S256x10240, .f32⟩
  | .hbm, ⟨39, _⟩ => ⟨S256x10240, .f32⟩
  | .hbm, ⟨40, _⟩ => ⟨S256x10240, .f32⟩
  | .hbm, ⟨41, _⟩ => ⟨S1x10240, .f32⟩
  | .hbm, ⟨42, _⟩ => ⟨S256x10240, .f32⟩
  | .hbm, ⟨43, _⟩ => ⟨S256x10240, .f32⟩
  | .hbm, ⟨44, _⟩ => ⟨S256x10240, .f32⟩
  | .hbm, ⟨45, _⟩ => ⟨S256x10240, .f32⟩
  | .hbm, ⟨46, _⟩ => ⟨S_, .f32⟩
  | .hbm, ⟨47, _⟩ => ⟨S256x10240, .f32⟩
  | .hbm, ⟨48, _⟩ => ⟨S256x10240, .f32⟩
  | .hbm, ⟨49, _⟩ => ⟨S_, .f32⟩
  | .hbm, ⟨50, _⟩ => ⟨S256x10240, .f32⟩
  | .hbm, ⟨51, _⟩ => ⟨S256x10240, .f32⟩
  | .hbm, ⟨52, _⟩ => ⟨S256x10240, .f32⟩
  | .hbm, ⟨53, _⟩ => ⟨S16384x10240, .f32⟩
  | .hbm, ⟨54, _⟩ => ⟨S_, .i32⟩
  | .hbm, ⟨55, _⟩ => ⟨S_, .f32⟩
  | .hbm, ⟨56, _⟩ => ⟨S16388x10240, .f32⟩
  | .hbm, ⟨57, _⟩ => ⟨S1x10240, .f32⟩
  | .hbm, ⟨58, _⟩ => ⟨S10240, .f32⟩
  | .hbm, ⟨59, _⟩ => ⟨S16384x10240, .f32⟩
  | .hbm, ⟨60, _⟩ => ⟨S1x10240, .f32⟩
  | .hbm, ⟨61, _⟩ => ⟨S16384x10240, .f32⟩
  | .hbm, ⟨62, _⟩ => ⟨S16384x10240, .f32⟩
  | .hbm, ⟨63, _⟩ => ⟨S1x10240, .f32⟩
  | .hbm, ⟨64, _⟩ => ⟨S10240, .f32⟩
  | .hbm, ⟨65, _⟩ => ⟨S16384x10240, .f32⟩
  | .hbm, ⟨66, _⟩ => ⟨S1x10240, .f32⟩
  | .hbm, ⟨67, _⟩ => ⟨S16384x10240, .f32⟩
  | .hbm, ⟨68, _⟩ => ⟨S16384x10240, .f32⟩
  | .hbm, ⟨69, _⟩ => ⟨S16384x10240, .f32⟩
  | .hbm, ⟨70, _⟩ => ⟨S1x10240, .f32⟩
  | .hbm, ⟨71, _⟩ => ⟨S10240, .f32⟩
  | .hbm, ⟨72, _⟩ => ⟨S16384x10240, .f32⟩
  | .hbm, ⟨73, _⟩ => ⟨S1x10240, .f32⟩
  | .hbm, ⟨74, _⟩ => ⟨S16384x10240, .f32⟩
  | .hbm, ⟨75, _⟩ => ⟨S16384x10240, .f32⟩
  | .hbm, ⟨76, _⟩ => ⟨S16384x10240, .f32⟩
  | .hbm, ⟨77, _⟩ => ⟨S1x10240, .f32⟩
  | .hbm, ⟨78, _⟩ => ⟨S10240, .f32⟩
  | .hbm, ⟨79, _⟩ => ⟨S16384x10240, .f32⟩
  | .hbm, ⟨80, _⟩ => ⟨S1x10240, .f32⟩
  | .hbm, ⟨81, _⟩ => ⟨S16384x10240, .f32⟩
  | .hbm, ⟨82, _⟩ => ⟨S16384x10240, .f32⟩
  | .hbm, ⟨83, _⟩ => ⟨S16384x10240, .f32⟩
  | .hbm, ⟨84, _⟩ => ⟨S1x10240, .f32⟩
  | .hbm, ⟨85, _⟩ => ⟨S10240, .f32⟩
  | .hbm, ⟨86, _⟩ => ⟨S16384x10240, .f32⟩
  | .hbm, ⟨87, _⟩ => ⟨S1x10240, .f32⟩
  | .hbm, ⟨88, _⟩ => ⟨S16384x10240, .f32⟩
  | .hbm, ⟨89, _⟩ => ⟨S16384x10240, .f32⟩
  | .hbm, ⟨90, _⟩ => ⟨S16384x10240, .f32⟩
  | .hbm, ⟨91, _⟩ => ⟨S1x10240, .f32⟩
  | .hbm, ⟨92, _⟩ => ⟨S16384x10240, .f32⟩
  | .hbm, ⟨93, _⟩ => ⟨S16384x10240, .f32⟩
  | .hbm, ⟨94, _⟩ => ⟨S16384x10240, .f32⟩
  | .hbm, ⟨95, _⟩ => ⟨S16384x10240, .f32⟩
  | .hbm, ⟨96, _⟩ => ⟨S_, .f32⟩
  | .hbm, ⟨97, _⟩ => ⟨S16384x10240, .f32⟩
  | .hbm, ⟨98, _⟩ => ⟨S16384x10240, .f32⟩
  | .hbm, ⟨99, _⟩ => ⟨S_, .f32⟩
  | .hbm, ⟨100, _⟩ => ⟨S16384x10240, .f32⟩
  | .hbm, ⟨101, _⟩ => ⟨S16384x10240, .f32⟩
  | .hbm, ⟨102, _⟩ => ⟨S16384x10240, .f32⟩
  | .hbm, ⟨103, _⟩ => ⟨S16640x10240, .f32⟩
  | .hbm, ⟨104, _⟩ => ⟨S16640x10240, .bf16⟩
  | _, _ => ⟨S16640x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v39 : Ref sig .tc := ⟨.hbm, 52, rfl⟩
abbrev main_v40 : Ref sig .tc := ⟨.hbm, 53, rfl⟩
abbrev main_c_0 : Ref sig .tc := ⟨.hbm, 54, rfl⟩
abbrev main_call2_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Proof.NormValue.lean ====
/-
  The final norm of the token rows: a block of 256 rows is the reference's, row by row.
-/
module

public import proofs.«01_k».proof.Proof.Gen.NormIdeal.Value
public import proofs.«01_k».proof.Proof.Gen.NormRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.NormIdeal.Call

open Cert.NormIdeal Cert.NormIdeal.Gen

variable (m : (ℓ : Loc nD τ sig) → Buf (Elt Ideal) ℓ) (c : Dev nD)

/-- The reference's result over the kernel's arguments. -/
abbrev REF (X : FVec Ideal S16640x4096 .f32) (G : FVec Ideal S4096 .f32) : FVec Ideal S16384x4096 .f32 :=
  mulf (mulf (extractStridedSlice Cert.NormRefIdeal.S16384x4096 ![256, 0] X Cert.NormRefIdeal.Gen.slices_S16640x4096_S16384x4096_256_0) (broadcastInDim Cert.NormRefIdeal.S16384x4096 ![0, 1] Cert.NormRefIdeal.Gen.bcast_S16384x1_S16384x4096_0_1 (Host.rsqrt (addf (Host.divf (broadcastInDim Cert.NormRefIdeal.S16384x1 ![0] Cert.NormRefIdeal.Gen.bcast_S16384_S16384x1_0 (Host.reduceAdd (mulf (extractStridedSlice Cert.NormRefIdeal.S16384x4096 ![256, 0] X Cert.NormRefIdeal.Gen.slices_S16640x4096_S16384x4096_256_0) (extractStridedSlice Cert.NormRefIdeal.S16384x4096 ![256, 0] X Cert.NormRefIdeal.Gen.slices_S16640x4096_S16384x4096_256_0)) (constant Cert.NormRefIdeal.S_ .f32 0x00000000#32) Cert.NormRefIdeal.Gen.reducesTo_S16384x4096_S16384_d1 Cert.NormRefIdeal.Gen.h_S_)) (broadcastInDim Cert.NormRefIdeal.S16384x1 ![] Cert.NormRefIdeal.Gen.bcast_S_S16384x1 (constant Cert.NormRefIdeal.S_ .f32 0x45800000#32))) (broadcastInDim Cert.NormRefIdeal.S16384x1 ![] Cert.NormRefIdeal.Gen.bcast_S_S16384x1 (constant Cert.NormRefIdeal.S_ .f32 0x358637BD#32)))))) (broadcastInDim Cert.NormRefIdeal.S16384x4096 ![0, 1] Cert.NormRefIdeal.Gen.bcast_S1x4096_S16384x4096_0_1 (broadcastInDim Cert.NormRefIdeal.S1x4096 ![1] Cert.NormRefIdeal.Gen.bcast_S4096_S1x4096_1 G))

theorem idx : ∀ t : Fin cfg0.N,
    win0_0.index t = ![t.val + 1, 0] ∧ win0_1.index t = ![0, 0]
      ∧ win0_2.index t = ![t.val, 0] := (by decide +kernel : ∀ t : Fin grid0.N, _)

/-- What one grid point stores is the reference at the place of the array it is stored to. -/
theorem point (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  pointwise [k0_pay1, REF]
  blk_point [iblk, V, idx t]

/-- The blocks fill the result. -/
theorem final : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.NormIdeal.Call
-- ==== Proof.SsmZValue.lean ====
/-
  The Mamba gate projection: every block of the product is the reference's sum over the 4096 inputs, in the
  columns of the weight the projection takes.
-/
module

public import proofs.«01_k».proof.Proof.Gen.SsmZIdeal.Value
public import proofs.«01_k».proof.Proof.Gen.SsmZRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.SsmZIdeal.Call

open Cert.SsmZIdeal Cert.SsmZIdeal.Gen

variable (m : (ℓ : Loc nD τ sig) → Buf (Elt Ideal) ℓ) (c : Dev nD)

/-- The reference's result over the kernel's arguments. -/
abbrev REF (X : FVec Ideal S16640x4096 .f32) (W : FVec Ideal S4096x18688 .f32) : FVec Ideal S16640x8192 .bf16 :=
  truncf .bf16 (extractStridedSlice Cert.SsmZRefIdeal.S16640x8192 ![0, 0] (Host.dotGeneral Cert.SsmZRefIdeal.dot_S16640x4096_S4096x18688_S16640x18688_1_0_0_1_n_n none X W) Cert.SsmZRefIdeal.Gen.slices_S16640x18688_S16640x8192_0_0) Cert.SsmZRefIdeal.Gen.bitsLt_bf16_f32

theorem idx : ∀ t : Fin cfg0.N,
    win0_0.index t = ![t.val / 16, 0] ∧ win0_1.index t = ![0, t.val % 16]
      ∧ win0_2.index t = ![t.val / 16, t.val % 16] := (by decide +kernel : ∀ t : Fin grid0.N, _)

/-- What one grid point stores is the reference at the place of the array it is stored to. -/
theorem point (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  pointwise [k0_pay1, REF]
  blk_point [iblk, V, idx t]

/-- The blocks fill the result. -/
theorem final : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.SsmZIdeal.Call
-- ==== Proof.SsmXbcValue.lean ====
/-
  The Mamba projection the convolution reads: every block of the product is the reference's sum over the 4096 inputs, in the
  columns of the weight the projection takes.
-/
module

public import proofs.«01_k».proof.Proof.Gen.SsmXbcIdeal.Value
public import proofs.«01_k».proof.Proof.Gen.SsmXbcRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.SsmXbcIdeal.Call

open Cert.SsmXbcIdeal Cert.SsmXbcIdeal.Gen

variable (m : (ℓ : Loc nD τ sig) → Buf (Elt Ideal) ℓ) (c : Dev nD)

/-- The reference's result over the kernel's arguments. -/
abbrev REF (X : FVec Ideal S16640x4096 .f32) (W : FVec Ideal S4096x18688 .f32) : FVec Ideal S16640x10240 .bf16 :=
  truncf .bf16 (extractStridedSlice Cert.SsmXbcRefIdeal.S16640x10240 ![0, 8192] (Host.dotGeneral Cert.SsmXbcRefIdeal.dot_S16640x4096_S4096x18688_S16640x18688_1_0_0_1_n_n none X W) Cert.SsmXbcRefIdeal.Gen.slices_S16640x18688_S16640x10240_0_8192) Cert.SsmXbcRefIdeal.Gen.bitsLt_bf16_f32

theorem idx : ∀ t : Fin cfg0.N,
    win0_0.index t = ![t.val / 20, 0] ∧ win0_1.index t = ![0, t.val % 20]
      ∧ win0_2.index t = ![t.val / 20, t.val % 20] := (by decide +kernel : ∀ t : Fin grid0.N, _)

/-- What one grid point stores is the reference at the place of the array it is stored to. -/
theorem point (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  pointwise [k0_pay1, REF]
  blk_point [iblk, V, idx t]

/-- The blocks fill the result. -/
theorem final : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.SsmXbcIdeal.Call
-- ==== Proof.SsmDtValue.lean ====
/-
  The Mamba step projection: every block of the product is the reference's sum over the 4096 inputs, in the
  columns of the weight the projection takes.
-/
module

public import proofs.«01_k».proof.Proof.Gen.SsmDtIdeal.Value
public import proofs.«01_k».proof.Proof.Gen.SsmDtRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.SsmDtIdeal.Call

open Cert.SsmDtIdeal Cert.SsmDtIdeal.Gen

variable (m : (ℓ : Loc nD τ sig) → Buf (Elt Ideal) ℓ) (c : Dev nD)

/-- The reference's result over the kernel's arguments. -/
abbrev REF (X : FVec Ideal S16640x4096 .f32) (W : FVec Ideal S4096x18688 .f32) : FVec Ideal S16640x256 .f32 :=
  extractStridedSlice Cert.SsmDtRefIdeal.S16640x256 ![0, 18432] (Host.dotGeneral Cert.SsmDtRefIdeal.dot_S16640x4096_S4096x18688_S16640x18688_1_0_0_1_n_n none X W) Cert.SsmDtRefIdeal.Gen.slices_S16640x18688_S16640x256_0_18432

theorem idx : ∀ t : Fin cfg0.N,
    win0_0.index t = ![t.val, 0] ∧ win0_1.index t = ![0, 0]
      ∧ win0_2.index t = ![t.val, 0] := (by decide +kernel : ∀ t : Fin grid0.N, _)

/-- What one grid point stores is the reference at the place of the array it is stored to. -/
theorem point (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  pointwise [k0_pay1, REF]
  blk_point [iblk, V, idx t]

/-- The blocks fill the result. -/
theorem final : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.SsmDtIdeal.Call
-- ==== Proof.RowSel.lean ====
/-
  The choice between the two rows of the gates, by the number of the row of the stream: rows before the first 256 are
  context rows.
-/
module

public import Idealize.ShloMosaic.PureOps

@[expose] public section

noncomputable section

open Idealize.ShloMosaic

namespace Cert.RowSel

/-- Row `r` of block `q` of `T` rows is a context row when its number is below 256. -/
theorem sel {α : Type} (q T r : ℕ) (h : q * T + r < 2147483648) (a b : α) :
    Scalar.select (IntOp.cmpi .slt (IntOp.addi (Scalar.muli (BitVec.ofNat 32 q) (BitVec.ofNat 32 T)) (BitVec.ofNat 32 r))
      256#32) a b = if q * T + r < 256 then a else b := by
  have e : IntOp.addi (Scalar.muli (BitVec.ofNat 32 q) (BitVec.ofNat 32 T)) (BitVec.ofNat 32 r)
      = BitVec.ofNat 32 (q * T + r) := by
    show BitVec.ofNat 32 q * BitVec.ofNat 32 T + BitVec.ofNat 32 r = _
    rw [BitVec.ofNat_add, BitVec.ofNat_mul]
  rw [e]
  have hn : (BitVec.ofNat 32 (q * T + r)).toInt = ((q * T + r : ℕ) : ℤ) := by
    rw [BitVec.toInt_eq_toNat_of_lt (by rw [BitVec.toNat_ofNat]; omega), BitVec.toNat_ofNat,
      Nat.mod_eq_of_lt (by omega)]
  show (if BitVec.ofBool ((BitVec.ofNat 32 (q * T + r)).slt 256#32) = 1#1 then a else b) = _
  have hs : (BitVec.ofNat 32 (q * T + r)).slt 256#32 = decide (q * T + r < 256) := by
    rw [BitVec.slt, hn]
    have h2 : (256#32).toInt = 256 := by decide
    rw [h2]
    exact decide_eq_decide.mpr (by omega)
  rw [hs]
  by_cases hlt : q * T + r < 256
  · simp [hlt]
  · simp [hlt]

end Cert.RowSel
-- ==== Proof.SsmOutValue.lean ====
/-
  The output projection with its gated residual: a block is the reference's, context and token rows taking each its
  own row of the gates.
-/
module

public import proofs.«01_k».proof.Proof.Gen.SsmOutIdeal.Value
public import proofs.«01_k».proof.Proof.Gen.SsmOutRefIdeal.Run
public import proofs.«01_k».proof.Proof.RowSel
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.SsmOutIdeal.Call

open Cert.SsmOutIdeal Cert.SsmOutIdeal.Gen

variable (m : (ℓ : Loc nD τ sig) → Buf (Elt Ideal) ℓ) (c : Dev nD)

/-- The reference's result over the kernel's arguments. -/
abbrev REF (Y : FVec Ideal S16640x8192 .f32) (W : FVec Ideal S8192x4096 .f32) (X : FVec Ideal S16640x4096 .f32) (G : FVec Ideal S2x4096 .f32) : FVec Ideal S16640x4096 .f32 :=
  concatenate Cert.SsmOutRefIdeal.S16640x4096 0 [⟨Cert.SsmOutRefIdeal.S256x4096, (addf (extractStridedSlice Cert.SsmOutRefIdeal.S256x4096 ![0, 0] X Cert.SsmOutRefIdeal.Gen.slices_S16640x4096_S256x4096_0_0) (mulf (broadcastInDim Cert.SsmOutRefIdeal.S256x4096 ![0, 1] Cert.SsmOutRefIdeal.Gen.bcast_S1x4096_S256x4096_0_1 (broadcastInDim Cert.SsmOutRefIdeal.S1x4096 ![1] Cert.SsmOutRefIdeal.Gen.bcast_S4096_S1x4096_1 (shapeCast Cert.SsmOutRefIdeal.S4096 (extractStridedSlice Cert.SsmOutRefIdeal.S1x4096 ![0, 0] G Cert.SsmOutRefIdeal.Gen.slices_S2x4096_S1x4096_0_0) Cert.SsmOutRefIdeal.Gen.shapeCasts_S1x4096_S4096))) (extractStridedSlice Cert.SsmOutRefIdeal.S256x4096 ![0, 0] (Host.dotGeneral Cert.SsmOutRefIdeal.dot_S16640x8192_S8192x4096_S16640x4096_1_0_0_1_n_n none Y W) Cert.SsmOutRefIdeal.Gen.slices_S16640x4096_S256x4096_0_0)))⟩, ⟨Cert.SsmOutRefIdeal.S16384x4096, (addf (extractStridedSlice Cert.SsmOutRefIdeal.S16384x4096 ![256, 0] X Cert.SsmOutRefIdeal.Gen.slices_S16640x4096_S16384x4096_256_0) (mulf (broadcastInDim Cert.SsmOutRefIdeal.S16384x4096 ![0, 1] Cert.SsmOutRefIdeal.Gen.bcast_S1x4096_S16384x4096_0_1 (broadcastInDim Cert.SsmOutRefIdeal.S1x4096 ![1] Cert.SsmOutRefIdeal.Gen.bcast_S4096_S1x4096_1 (shapeCast Cert.SsmOutRefIdeal.S4096 (extractStridedSlice Cert.SsmOutRefIdeal.S1x4096 ![1, 0] G Cert.SsmOutRefIdeal.Gen.slices_S2x4096_S1x4096_1_0) Cert.SsmOutRefIdeal.Gen.shapeCasts_S1x4096_S4096))) (extractStridedSlice Cert.SsmOutRefIdeal.S16384x4096 ![256, 0] (Host.dotGeneral Cert.SsmOutRefIdeal.dot_S16640x8192_S8192x4096_S16640x4096_1_0_0_1_n_n none Y W) Cert.SsmOutRefIdeal.Gen.slices_S16640x4096_S16384x4096_256_0)))⟩] Cert.SsmOutRefIdeal.Gen.concatenates_S256x4096_S16384x4096_S16640x4096_d0

theorem idx : ∀ t : Fin cfg0.N,
    win0_0.index t = ![t.val / 8, 0] ∧ win0_1.index t = ![0, t.val % 8]
      ∧ win0_2.index t = ![t.val / 8, t.val % 8] ∧ win0_3.index t = ![0, t.val % 8]
      ∧ win0_4.index t = ![t.val / 8, t.val % 8] := (by decide +kernel : ∀ t : Fin grid0.N, _)

theorem row : ∀ t : Fin cfg0.N, (grid0.coords t 0).val = t.val / 8 ∧ t.val / 8 < 26 :=
  (by decide +kernel : ∀ t : Fin grid0.N, _)

/-- What one grid point stores is the reference at the place of the array it is stored to. -/
theorem point (t : Fin cfg0.N) (y) : k0_pay1 (grid0.coords t) (iblk m c 0 t) (iblk m c 1 t) (View.ld (iblk m c 3 t) r0_2) (View.ld (iblk m c 3 t) r0_3)
      (iblk m c 2 t) y
    = REF (m ((c.tc : Thread nD τ).loc main_arg0)) (m ((c.tc : Thread nD τ).loc main_arg1)) (m ((c.tc : Thread nD τ).loc main_arg2)) (m ((c.tc : Thread nD τ).loc main_arg3))
        (((cfg0.win 4).blk t).view.emb y) := by
  pointwise [k0_pay1, REF]
  have hy : (y 0 : ℕ) < 640 := (y 0).isLt
  have hr := row t
  have e : (((((cfg0.win 4).blk t).view.emb y) 0 : Fin _) : ℕ) = t.val / 8 * 640 + (y 0 : ℕ) := by
    blk_simp [idx t]
  rw [hr.1, Cert.RowSel.sel (t.val / 8) 640 (y 0 : ℕ) (by omega)]
  by_cases hrow : t.val / 8 * 640 + (y 0 : ℕ) < 256
  · rw [if_pos hrow, dif_pos (by rw [e]; exact hrow)]
    blk_point [iblk, V, idx t]
  · rw [if_neg hrow, dif_neg (by rw [e]; exact hrow)]
    blk_point [iblk, V, idx t]

/-- The blocks fill the result. -/
theorem final : (dats m 0 c).arrAt 4 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  exact point m c t y

end Cert.SsmOutIdeal.Call
-- ==== Proof.MlaOutValue.lean ====
/-
  The output projection with its gated residual: a block is the reference's, context and token rows taking each its
  own row of the gates.
-/
module

public import proofs.«01_k».proof.Proof.Gen.MlaOutIdeal.Value
public import proofs.«01_k».proof.Proof.Gen.MlaOutRefIdeal.Run
public import proofs.«01_k».proof.Proof.RowSel
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.MlaOutIdeal.Call

open Cert.MlaOutIdeal Cert.MlaOutIdeal.Gen

variable (m : (ℓ : Loc nD τ sig) → Buf (Elt Ideal) ℓ) (c : Dev nD)

/-- The reference's result over the kernel's arguments. -/
abbrev REF (Y : FVec Ideal S16640x4096 .f32) (W : FVec Ideal S4096x4096 .f32) (X : FVec Ideal S16640x4096 .f32) (G : FVec Ideal S2x4096 .f32) : FVec Ideal S16640x4096 .f32 :=
  concatenate Cert.MlaOutRefIdeal.S16640x4096 0 [⟨Cert.MlaOutRefIdeal.S256x4096, (addf (extractStridedSlice Cert.MlaOutRefIdeal.S256x4096 ![0, 0] X Cert.MlaOutRefIdeal.Gen.slices_S16640x4096_S256x4096_0_0) (mulf (broadcastInDim Cert.MlaOutRefIdeal.S256x4096 ![0, 1] Cert.MlaOutRefIdeal.Gen.bcast_S1x4096_S256x4096_0_1 (broadcastInDim Cert.MlaOutRefIdeal.S1x4096 ![1] Cert.MlaOutRefIdeal.Gen.bcast_S4096_S1x4096_1 (shapeCast Cert.MlaOutRefIdeal.S4096 (extractStridedSlice Cert.MlaOutRefIdeal.S1x4096 ![0, 0] G Cert.MlaOutRefIdeal.Gen.slices_S2x4096_S1x4096_0_0) Cert.MlaOutRefIdeal.Gen.shapeCasts_S1x4096_S4096))) (extractStridedSlice Cert.MlaOutRefIdeal.S256x4096 ![0, 0] (Host.dotGeneral Cert.MlaOutRefIdeal.dot_S16640x4096_S4096x4096_S16640x4096_1_0_0_1_n_n none Y W) Cert.MlaOutRefIdeal.Gen.slices_S16640x4096_S256x4096_0_0)))⟩, ⟨Cert.MlaOutRefIdeal.S16384x4096, (addf (extractStridedSlice Cert.MlaOutRefIdeal.S16384x4096 ![256, 0] X Cert.MlaOutRefIdeal.Gen.slices_S16640x4096_S16384x4096_256_0) (mulf (broadcastInDim Cert.MlaOutRefIdeal.S16384x4096 ![0, 1] Cert.MlaOutRefIdeal.Gen.bcast_S1x4096_S16384x4096_0_1 (broadcastInDim Cert.MlaOutRefIdeal.S1x4096 ![1] Cert.MlaOutRefIdeal.Gen.bcast_S4096_S1x4096_1 (shapeCast Cert.MlaOutRefIdeal.S4096 (extractStridedSlice Cert.MlaOutRefIdeal.S1x4096 ![1, 0] G Cert.MlaOutRefIdeal.Gen.slices_S2x4096_S1x4096_1_0) Cert.MlaOutRefIdeal.Gen.shapeCasts_S1x4096_S4096))) (extractStridedSlice Cert.MlaOutRefIdeal.S16384x4096 ![256, 0] (Host.dotGeneral Cert.MlaOutRefIdeal.dot_S16640x4096_S4096x4096_S16640x4096_1_0_0_1_n_n none Y W) Cert.MlaOutRefIdeal.Gen.slices_S16640x4096_S16384x4096_256_0)))⟩] Cert.MlaOutRefIdeal.Gen.concatenates_S256x4096_S16384x4096_S16640x4096_d0

theorem idx : ∀ t : Fin cfg0.N,
    win0_0.index t = ![t.val / 8, 0] ∧ win0_1.index t = ![0, t.val % 8]
      ∧ win0_2.index t = ![t.val / 8, t.val % 8] ∧ win0_3.index t = ![0, t.val % 8]
      ∧ win0_4.index t = ![t.val / 8, t.val % 8] := (by decide +kernel : ∀ t : Fin grid0.N, _)

theorem row : ∀ t : Fin cfg0.N, (grid0.coords t 0).val = t.val / 8 ∧ t.val / 8 < 13 :=
  (by decide +kernel : ∀ t : Fin grid0.N, _)

/-- What one grid point stores is the reference at the place of the array it is stored to. -/
theorem point (t : Fin cfg0.N) (y) : k0_pay1 (grid0.coords t) (iblk m c 0 t) (iblk m c 1 t) (View.ld (iblk m c 3 t) r0_2) (View.ld (iblk m c 3 t) r0_3)
      (iblk m c 2 t) y
    = REF (m ((c.tc : Thread nD τ).loc main_arg0)) (m ((c.tc : Thread nD τ).loc main_arg1)) (m ((c.tc : Thread nD τ).loc main_arg2)) (m ((c.tc : Thread nD τ).loc main_arg3))
        (((cfg0.win 4).blk t).view.emb y) := by
  pointwise [k0_pay1, REF]
  have hy : (y 0 : ℕ) < 1280 := (y 0).isLt
  have hr := row t
  have e : (((((cfg0.win 4).blk t).view.emb y) 0 : Fin _) : ℕ) = t.val / 8 * 1280 + (y 0 : ℕ) := by
    blk_simp [idx t]
  rw [hr.1, Cert.RowSel.sel (t.val / 8) 1280 (y 0 : ℕ) (by omega)]
  by_cases hrow : t.val / 8 * 1280 + (y 0 : ℕ) < 256
  · rw [if_pos hrow, dif_pos (by rw [e]; exact hrow)]
    blk_point [iblk, V, idx t]
  · rw [if_neg hrow, dif_neg (by rw [e]; exact hrow)]
    blk_point [iblk, V, idx t]

/-- The blocks fill the result. -/
theorem final : (dats m 0 c).arrAt 4 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  exact point m c t y

end Cert.MlaOutIdeal.Call
-- ==== Proof.SharedValue.lean ====
/-
  The shared expert with its combination: a block is the reference's, the gated sum of the routed and the shared
  experts' outputs added to the stream.
-/
module

public import proofs.«01_k».proof.Proof.Gen.SharedIdeal.Value
public import proofs.«01_k».proof.Proof.Gen.SharedRefIdeal.Run
public import proofs.«01_k».proof.Proof.RowSel
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.SharedIdeal.Call

open Cert.SharedIdeal Cert.SharedIdeal.Gen

variable (m : (ℓ : Loc nD τ sig) → Buf (Elt Ideal) ℓ) (c : Dev nD)

theorem idx : ∀ t : Fin cfg0.N,
    win0_0.index t = ![t.val, 0] ∧ win0_1.index t = ![0, 0] ∧ win0_2.index t = ![0, 0]
      ∧ win0_3.index t = ![0, 0] ∧ win0_4.index t = ![t.val, 0] ∧ win0_5.index t = ![t.val, 0]
      ∧ win0_6.index t = ![0, 0] ∧ win0_7.index t = ![t.val, 0] :=
  (by decide +kernel : ∀ t : Fin grid0.N, _)

/-- The row of the gates a block of 256 rows takes. -/
theorem off : ∀ t : Fin cfg0.N, k0_off1 (grid0.coords t) = ![if t.val = 0 then 0 else 1, 0] :=
  (by decide +kernel : ∀ t : Fin grid0.N, _)

/-- The reference's result over the kernel's arguments. -/
abbrev REF (T : FVec Ideal S16640x4096 .f32) (Wg Wu : FVec Ideal S4096x512 .f32) (Wd : FVec Ideal S512x4096 .f32)
    (Y X : FVec Ideal S16640x4096 .f32) (G : FVec Ideal S2x4096 .f32) : FVec Ideal S16640x4096 .f32 :=
  concatenate Cert.SharedRefIdeal.S16640x4096 0 [⟨Cert.SharedRefIdeal.S256x4096, (addf (extractStridedSlice Cert.SharedRefIdeal.S256x4096 ![0, 0] X Cert.SharedRefIdeal.Gen.slices_S16640x4096_S256x4096_0_0) (mulf (broadcastInDim Cert.SharedRefIdeal.S256x4096 ![0, 1] Cert.SharedRefIdeal.Gen.bcast_S1x4096_S256x4096_0_1 (broadcastInDim Cert.SharedRefIdeal.S1x4096 ![1] Cert.SharedRefIdeal.Gen.bcast_S4096_S1x4096_1 (shapeCast Cert.SharedRefIdeal.S4096 (extractStridedSlice Cert.SharedRefIdeal.S1x4096 ![0, 0] G Cert.SharedRefIdeal.Gen.slices_S2x4096_S1x4096_0_0) Cert.SharedRefIdeal.Gen.shapeCasts_S1x4096_S4096))) (extractStridedSlice Cert.SharedRefIdeal.S256x4096 ![0, 0] (addf Y (Host.dotGeneral Cert.SharedRefIdeal.dot_S16640x512_S512x4096_S16640x4096_1_0_0_1_n_n none (mulf (mulf (Host.dotGeneral Cert.SharedRefIdeal.dot_S16640x4096_S4096x512_S16640x512_1_0_0_1_n_n none T Wg) (Host.divf (broadcastInDim Cert.SharedRefIdeal.S16640x512 ![] Cert.SharedRefIdeal.Gen.bcast_S_S16640x512 (constant Cert.SharedRefIdeal.S_ .f32 0x3F800000#32)) (addf (broadcastInDim Cert.SharedRefIdeal.S16640x512 ![] Cert.SharedRefIdeal.Gen.bcast_S_S16640x512 (constant Cert.SharedRefIdeal.S_ .f32 0x3F800000#32)) (Host.exp (Host.negf (Host.dotGeneral Cert.SharedRefIdeal.dot_S16640x4096_S4096x512_S16640x512_1_0_0_1_n_n none T Wg)))))) (Host.dotGeneral Cert.SharedRefIdeal.dot_S16640x4096_S4096x512_S16640x512_1_0_0_1_n_n none T Wu)) Wd)) Cert.SharedRefIdeal.Gen.slices_S16640x4096_S256x4096_0_0)))⟩, ⟨Cert.SharedRefIdeal.S16384x4096, (addf (extractStridedSlice Cert.SharedRefIdeal.S16384x4096 ![256, 0] X Cert.SharedRefIdeal.Gen.slices_S16640x4096_S16384x4096_256_0) (mulf (broadcastInDim Cert.SharedRefIdeal.S16384x4096 ![0, 1] Cert.SharedRefIdeal.Gen.bcast_S1x4096_S16384x4096_0_1 (broadcastInDim Cert.SharedRefIdeal.S1x4096 ![1] Cert.SharedRefIdeal.Gen.bcast_S4096_S1x4096_1 (shapeCast Cert.SharedRefIdeal.S4096 (extractStridedSlice Cert.SharedRefIdeal.S1x4096 ![1, 0] G Cert.SharedRefIdeal.Gen.slices_S2x4096_S1x4096_1_0) Cert.SharedRefIdeal.Gen.shapeCasts_S1x4096_S4096))) (extractStridedSlice Cert.SharedRefIdeal.S16384x4096 ![256, 0] (addf Y (Host.dotGeneral Cert.SharedRefIdeal.dot_S16640x512_S512x4096_S16640x4096_1_0_0_1_n_n none (mulf (mulf (Host.dotGeneral Cert.SharedRefIdeal.dot_S16640x4096_S4096x512_S16640x512_1_0_0_1_n_n none T Wg) (Host.divf (broadcastInDim Cert.SharedRefIdeal.S16640x512 ![] Cert.SharedRefIdeal.Gen.bcast_S_S16640x512 (constant Cert.SharedRefIdeal.S_ .f32 0x3F800000#32)) (addf (broadcastInDim Cert.SharedRefIdeal.S16640x512 ![] Cert.SharedRefIdeal.Gen.bcast_S_S16640x512 (constant Cert.SharedRefIdeal.S_ .f32 0x3F800000#32)) (Host.exp (Host.negf (Host.dotGeneral Cert.SharedRefIdeal.dot_S16640x4096_S4096x512_S16640x512_1_0_0_1_n_n none T Wg)))))) (Host.dotGeneral Cert.SharedRefIdeal.dot_S16640x4096_S4096x512_S16640x512_1_0_0_1_n_n none T Wu)) Wd)) Cert.SharedRefIdeal.Gen.slices_S16640x4096_S16384x4096_256_0)))⟩] Cert.SharedRefIdeal.Gen.concatenates_S256x4096_S16384x4096_S16640x4096_d0

/-- A finite gate passes over a sum with a finite summand. -/
theorem gate_add (g y : ℝ) (s : EReal) : (g : EReal) * y + g * s = g * (y + s) := by
  induction s with
  | bot =>
    rcases lt_trichotomy g 0 with h | h | h
    · rw [EReal.coe_mul_bot_of_neg h, EReal.add_bot, EReal.coe_mul_bot_of_neg h, ← EReal.coe_mul, EReal.coe_add_top]
    · subst h; simp
    · simp only [EReal.coe_mul_bot_of_pos h, EReal.add_bot]
  | coe s => norm_cast; ring
  | top =>
    rcases lt_trichotomy g 0 with h | h | h
    · rw [EReal.coe_mul_top_of_neg h, EReal.coe_add_top, EReal.coe_mul_top_of_neg h, ← EReal.coe_mul, EReal.add_bot]
    · subst h; simp
    · rw [EReal.coe_mul_top_of_pos h, EReal.coe_add_top, EReal.coe_mul_top_of_pos h, ← EReal.coe_mul, EReal.coe_add_top]

theorem gate_add' (x g y s : EReal) (hg : ∃ r : ℝ, g = (r : EReal)) (hy : ∃ r : ℝ, y = (r : EReal)) :
    x + g * (y + s) = x + g * y + g * s := by
  obtain ⟨g, rfl⟩ := hg
  obtain ⟨y, rfl⟩ := hy
  rw [← gate_add, add_assoc]

/-- What one grid point leaves is the reference at the place of the array it is stored to. -/
theorem point (hY : ∀ i, ∃ r : ℝ, (m ((c.tc : Thread nD τ).loc main_arg4)) i = (r : EReal)) (hG : ∀ i, ∃ r : ℝ, (m ((c.tc : Thread nD τ).loc main_arg6)) i = (r : EReal))
    (t : Fin cfg0.N) (y) :
    k0_pay2 (View.ld (iblk m c 6 t) (Rect.unit (k0_off1 (grid0.coords t)) ![1, 4096] (k0_off1_inb (grid0.coords t)))) (iblk m c 0 t) (iblk m c 1 t)
      (iblk m c 2 t)
      (k0_pay1 (View.ld (iblk m c 6 t) (Rect.unit (k0_off1 (grid0.coords t)) ![1, 4096] (k0_off1_inb (grid0.coords t)))) (iblk m c 5 t)
        (iblk m c 4 t))
      (iblk m c 3 t) y
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (((cfg0.win 7).blk t).view.emb y) := by
  pointwise [k0_pay1, k0_pay2, REF]
  simp only [sub_eq_add_neg, zero_add]
  have hy : (y 0 : ℕ) < 256 := (y 0).isLt
  have e : (((((cfg0.win 7).blk t).view.emb y) 0 : Fin _) : ℕ) = t.val * 256 + (y 0 : ℕ) := by
    blk_simp [idx t]
  by_cases h0 : t.val = 0
  · have ho : k0_off1 (grid0.coords t) = ![0, 0] := by rw [off t, if_pos h0]
    rw [dif_pos (by rw [e]; omega)]
    refine Eq.trans ?_ (gate_add' _ _ _ _ (hG _) (hY _)).symm
    blk_point [iblk, V, idx t, ho]
  · have ho : k0_off1 (grid0.coords t) = ![1, 0] := by rw [off t, if_neg h0]
    rw [dif_neg (by rw [e]; omega)]
    refine Eq.trans ?_ (gate_add' _ _ _ _ (hG _) (hY _)).symm
    blk_point [iblk, V, idx t, ho]

/-- The blocks fill the result. -/
theorem final (hY : ∀ i, ∃ r : ℝ, (m ((c.tc : Thread nD τ).loc main_arg4)) i = (r : EReal)) (hG : ∀ i, ∃ r : ℝ, (m ((c.tc : Thread nD τ).loc main_arg6)) i = (r : EReal)) :
    (dats m 0 c).arrAt 7 cfg0.N
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t _ y => ?_
  blk_simp
  rw [after0_7]
  unfold outsAt0
  frame_out
  exact point m c hY hG t y

end Cert.SharedIdeal.Call
-- ==== Proof.SortedRows.lean ====
/-
  What the condition on the sorted rows says at one place: a group is one of four, a row's gate group is its
  tile's, and a tile without rows has gates of zero.
-/
module

public import proofs.«01_k».proof.Pre_sorted_rows
public import Idealize.ShloMosaic.Lib.Pipeline.ValueKit

@[expose] public section
set_option maxRecDepth 16384

noncomputable section

open Idealize.ShloMosaic

namespace Cert.Pre_sorted_rows

variable [Facts] {F : FTy → Type} [FloatOps F] (a0 : FVec F S18560x4096 .f32) (a1 : FVec F S18560x4 .f32) (a2 : IVec S18560 32)
  (a3 a4 : IVec S29 32) (a5 a6 : FVec F S16x4096x512 .f32) (a7 : FVec F S16x512x4096 .f32)

/-- A group is one of four. -/
theorem group_lt (h : (fn a0 a1 a2 a3 a4 a5 a6 a7).1 = fun _ => 1#1) (h' : (fn a0 a1 a2 a3 a4 a5 a6 a7).2.1 = fun _ => 1#1)
    (i : S29.Idx) : (a3 i).toNat < 4 := by
  have e := congrFun h i
  have e' := congrFun h' i
  change IntOp.cmpi .sge (a3 i) 0#32 = 1#1 at e
  change IntOp.cmpi .slt (a3 i) 4#32 = 1#1 at e'
  generalize a3 i = w at e e'
  unfold IntOp.cmpi at e e'
  simp only at e e'
  have h0 : (0#32).sle w = true := by
    cases hb : (0#32).sle w
    · rw [hb] at e; exact absurd e (by decide)
    · rfl
  have h1 : w.slt 4#32 = true := by
    cases hb : w.slt 4#32
    · rw [hb] at e'; exact absurd e' (by decide)
    · rfl
  rw [BitVec.sle_iff_toInt_le] at h0
  rw [BitVec.slt_iff_toInt_lt] at h1
  have k0 : (0#32).toInt = 0 := by decide
  have k4 : (4#32).toInt = 4 := by decide
  rw [k0] at h0
  rw [k4] at h1
  rw [BitVec.toInt_eq_toNat_cond] at h0 h1
  have := w.isLt
  split_ifs at h0 h1 <;> omega

/-- A row's gate group is its tile's. -/
theorem group_eq (h : (fn a0 a1 a2 a3 a4 a5 a6 a7).2.2.1 = fun _ => 1#1) (n : Fin 18560) :
    a2 (ix1 n) = a3 (ix1 ⟨n.val / 640, by omega⟩) := by
  have e := congrFun h (ix2 ⟨n.val / 640, by omega⟩ ⟨n.val % 640, by omega⟩)
  unfold fn at e
  pointwise at e
  by_contra hn
  have hb : IntOp.cmpi CmpIPredicate.eq (a2 (ix1 n)) (a3 (ix1 ⟨n.val / 640, by omega⟩)) = 0#1 := by
    show BitVec.ofBool (a2 (ix1 n) == a3 (ix1 ⟨n.val / 640, by omega⟩)) = 0#1
    rw [beq_false_of_ne hn]
    rfl
  rw [hb] at e
  exact absurd e (by decide)

end Cert.Pre_sorted_rows

namespace Cert.Pre_sorted_rows

variable [Facts] (a0 : FVec Ideal S18560x4096 .f32) (a1 : FVec Ideal S18560x4 .f32) (a2 : IVec S18560 32)
  (a3 a4 : IVec S29 32) (a5 a6 : FVec Ideal S16x4096x512 .f32) (a7 : FVec Ideal S16x512x4096 .f32)

/-- A tile without rows has gates of zero. -/
theorem gate_zero (h : (fn a0 a1 a2 a3 a4 a5 a6 a7).2.2.2 = fun _ => 1#1) (n : Fin 18560) (j : Fin 4)
    (hv : ¬0 < (a4 (ix1 ⟨n.val / 640, by omega⟩)).toInt) : a1 (ix2 n j) = (0 : EReal) := by
  have e := congrFun h (ix3 ⟨n.val / 640, by omega⟩ ⟨n.val % 640, by omega⟩ j)
  unfold fn at e
  pointwise at e
  by_contra hn
  have h1 : IntOp.cmpi CmpIPredicate.sgt (a4 (ix1 ⟨n.val / 640, by omega⟩)) 0#32 = 0#1 := by
    show BitVec.ofBool ((0#32).slt (a4 (ix1 ⟨n.val / 640, by omega⟩))) = 0#1
    cases hb : (0#32).slt (a4 (ix1 ⟨n.val / 640, by omega⟩))
    · rfl
    · rw [BitVec.slt_iff_toInt_lt] at hb
      exact absurd hb hv
  rw [h1, decide_eq_false hn] at e
  exact absurd e (by decide)

end Cert.Pre_sorted_rows

end
-- ==== Proof.ExpertsBase.lean ====
/-
  The routed experts: the tables' side condition, the windows' places and the run.
-/
module

public import proofs.«01_k».proof.Defs
public import proofs.«01_k».proof.Proof.Gen.Experts.Frame
public import proofs.«01_k».proof.Proof.Gen.ExpertsIdeal.Frame
public import proofs.«01_k».proof.Proof.Gen.Pre_sorted_rows
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.ExpertsIdeal.Call

open Cert.ExpertsIdeal Cert.ExpertsIdeal.Gen

variable (m : (ℓ : Loc nD τ sig) → Buf (Elt Ideal) ℓ)

/-- The coordinates of a grid point: the tile of rows, the expert of the group, the half of the inner width. -/
theorem coords (t : Fin grid0.N) : (grid0.coords t 0).val = t.val / 8 ∧ (grid0.coords t 1).val = t.val / 2 % 4
    ∧ (grid0.coords t 2).val = t.val % 2 := by
  have ht : t.val < 232 := Nat.lt_of_lt_of_eq t.isLt N_0
  have e0 : (grid0.coords t 0).val = t.val / 8 % 29 := Pipeline.Grid.coords_val t 0 (by decide) rfl
  have e1 : (grid0.coords t 1).val = t.val / 2 % 4 := Pipeline.Grid.coords_val t 1 (by decide) rfl
  have e2 : (grid0.coords t 2).val = t.val / 1 % 2 := Pipeline.Grid.coords_val t 2 (by decide) rfl
  refine ⟨by omega, e1, by omega⟩

/-- A tile's place in a table. -/
def pos (r : Fin 29) : S29.Idx := fun a => ⟨r.val, by
  obtain rfl : a = 0 := Subsingleton.elim _ _
  exact r.isLt⟩

/-- A tile's group, from the table. -/
def grp (r : Fin 29) : BitVec 32 := (show IVec S29 32 from m (((0 : Dev nD).tc : Thread nD τ).loc main_arg3)) (pos r)

/-- A tile's word of the table that says whether it has rows. -/
def vld (r : Fin 29) : BitVec 32 := (show IVec S29 32 from m (((0 : Dev nD).tc : Thread nD τ).loc main_arg4)) (pos r)

theorem emb_pos (i : grid0.Coords) (r : Fin 29) (hr : (i 0).val = r.val) (h : 0 < (Rect.unit (s := S29) (k0_off1 i) S1.size (k0_off1_inb i)).shape.numel) :
    (Rect.unit (s := S29) (k0_off1 i) S1.size (k0_off1_inb i)).emb (Shape.Idx.first h) = pos r := by
  funext a
  obtain rfl : a = 0 := Subsingleton.elim _ _
  apply Fin.ext
  have h : (i 0).val < 29 := by rw [hr]; exact r.isLt
  have e : (k0_off1 i) 0 = r.val := by
    unfold k0_off1 Scalar.indexCast
    show (BitVec.ofNat 32 (i 0).val).toNat = _
    rw [BitVec.toNat_ofNat]; omega
  show (k0_off1 i) 0 + 1 * 0 = r.val
  omega

/-- The table's word at a tile. -/
theorem at_grp (i : grid0.Coords) (r : Fin 29) (hr : (i 0).val = r.val) :
    (tbl m).at 0 (Rect.unit (s := S29) (k0_off1 i) S1.size (k0_off1_inb i)) numel1_S1 = grp m r :=
  (congrArg (show IVec S29 32 from V m (0 : Dev nD) main_arg3) (emb_pos i r hr _)).trans (congrFun (V_main_arg3 m 0) (pos r))

/-- An expert's number does not overflow. -/
theorem word (w : BitVec 32) (k : ℕ) (hw : w.toNat < 4) (hk : k < 4) :
    (Scalar.addi (Scalar.muli w 4#32) (BitVec.ofNat 32 k)).toNat = w.toNat * 4 + k := by
  unfold Scalar.addi Scalar.muli IntOp.addi IntOp.muli
  rw [BitVec.toNat_add, BitVec.toNat_mul, BitVec.toNat_ofNat, BitVec.toNat_ofNat]
  omega

theorem tr1 (i : grid0.Coords) (r : Fin 29) (hr : (i 0).val = r.val) (hw : (grp m r).toNat < 4) :
    cc0_transform_1 k0_off1_inb numel1_S1 (tbl m) i = ![(grp m r).toNat * 4 + (i 1).val, 0, (i 2).val] := by
  rw [← word _ _ hw (i 1).isLt, ← at_grp m i r hr]
  unfold cc0_transform_1
  have h2 : (BitVec.ofNat 32 (i 2).val).toNat = (i 2).val := by
    have : (i 2).val < 2 := (i 2).isLt
    rw [BitVec.toNat_ofNat]; omega
  simp only [h2]
  rfl

theorem tr2 (i : grid0.Coords) (r : Fin 29) (hr : (i 0).val = r.val) (hw : (grp m r).toNat < 4) :
    cc0_transform_2 k0_off1_inb numel1_S1 (tbl m) i = ![(grp m r).toNat * 4 + (i 1).val, 0, (i 2).val] :=
  tr1 m i r hr hw

theorem tr3 (i : grid0.Coords) (r : Fin 29) (hr : (i 0).val = r.val) (hw : (grp m r).toNat < 4) :
    cc0_transform_3 k0_off1_inb numel1_S1 (tbl m) i = ![(grp m r).toNat * 4 + (i 1).val, (i 2).val, 0] := by
  have h := tr1 m i r hr hw
  have h0 := congrFun h 0
  have h2 := congrFun h 2
  funext a
  fin_cases a
  · exact h0
  · exact h2
  · rfl

/-- The tables' side condition: every block of the experts' weights lies inside its array. -/
theorem ok (hw : ∀ r, (grp m r).toNat < 4) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 4 := (i 1).isLt
    have h2 : (i 2).val < 2 := (i 2).isLt
    have h := hw ⟨(i 0).val, (i 0).isLt⟩
    first
      | rw [tr1 m i ⟨(i 0).val, (i 0).isLt⟩ rfl h]
      | rw [tr2 m i ⟨(i 0).val, (i 0).isLt⟩ rfl h]
      | rw [tr3 m i ⟨(i 0).val, (i 0).isLt⟩ rfl h]
    generalize (grp m ⟨(i 0).val, (i 0).isLt⟩).toNat = w at h ⊢
    generalize (i 1).val = a1 at h1 ⊢
    generalize (i 2).val = a2 at h2 ⊢
    fin_cases a <;> simp <;> omega

end Cert.ExpertsIdeal.Call

namespace Cert.Experts.Call

open Cert.Experts Cert.Experts.Gen

variable (m : (ℓ : Loc nD τ sig) → Buf (Elt Bits) ℓ)

/-- The coordinates of a grid point: the tile of rows, the expert of the group, the half of the inner width. -/
theorem coords (t : Fin grid0.N) : (grid0.coords t 0).val = t.val / 8 ∧ (grid0.coords t 1).val = t.val / 2 % 4
    ∧ (grid0.coords t 2).val = t.val % 2 := by
  have ht : t.val < 232 := Nat.lt_of_lt_of_eq t.isLt N_0
  have e0 : (grid0.coords t 0).val = t.val / 8 % 29 := Pipeline.Grid.coords_val t 0 (by decide) rfl
  have e1 : (grid0.coords t 1).val = t.val / 2 % 4 := Pipeline.Grid.coords_val t 1 (by decide) rfl
  have e2 : (grid0.coords t 2).val = t.val / 1 % 2 := Pipeline.Grid.coords_val t 2 (by decide) rfl
  refine ⟨by omega, e1, by omega⟩

/-- A tile's place in a table. -/
def pos (r : Fin 29) : S29.Idx := fun a => ⟨r.val, by
  obtain rfl : a = 0 := Subsingleton.elim _ _
  exact r.isLt⟩

/-- A tile's group, from the table. -/
def grp (r : Fin 29) : BitVec 32 := (show IVec S29 32 from m (((0 : Dev nD).tc : Thread nD τ).loc main_arg3)) (pos r)

/-- A tile's word of the table that says whether it has rows. -/
def vld (r : Fin 29) : BitVec 32 := (show IVec S29 32 from m (((0 : Dev nD).tc : Thread nD τ).loc main_arg4)) (pos r)

theorem emb_pos (i : grid0.Coords) (r : Fin 29) (hr : (i 0).val = r.val) (h : 0 < (Rect.unit (s := S29) (k0_off1 i) S1.size (k0_off1_inb i)).shape.numel) :
    (Rect.unit (s := S29) (k0_off1 i) S1.size (k0_off1_inb i)).emb (Shape.Idx.first h) = pos r := by
  funext a
  obtain rfl : a = 0 := Subsingleton.elim _ _
  apply Fin.ext
  have h : (i 0).val < 29 := by rw [hr]; exact r.isLt
  have e : (k0_off1 i) 0 = r.val := by
    unfold k0_off1 Scalar.indexCast
    show (BitVec.ofNat 32 (i 0).val).toNat = _
    rw [BitVec.toNat_ofNat]; omega
  show (k0_off1 i) 0 + 1 * 0 = r.val
  omega

/-- The table's word at a tile. -/
theorem at_grp (i : grid0.Coords) (r : Fin 29) (hr : (i 0).val = r.val) :
    (tbl m).at 0 (Rect.unit (s := S29) (k0_off1 i) S1.size (k0_off1_inb i)) numel1_S1 = grp m r :=
  (congrArg (show IVec S29 32 from V m (0 : Dev nD) main_arg3) (emb_pos i r hr _)).trans (congrFun (V_main_arg3 m 0) (pos r))

/-- An expert's number does not overflow. -/
theorem word (w : BitVec 32) (k : ℕ) (hw : w.toNat < 4) (hk : k < 4) :
    (Scalar.addi (Scalar.muli w 4#32) (BitVec.ofNat 32 k)).toNat = w.toNat * 4 + k := by
  unfold Scalar.addi Scalar.muli IntOp.addi IntOp.muli
  rw [BitVec.toNat_add, BitVec.toNat_mul, BitVec.toNat_ofNat, BitVec.toNat_ofNat]
  omega

theorem tr1 (i : grid0.Coords) (r : Fin 29) (hr : (i 0).val = r.val) (hw : (grp m r).toNat < 4) :
    cc0_transform_1 k0_off1_inb numel1_S1 (tbl m) i = ![(grp m r).toNat * 4 + (i 1).val, 0, (i 2).val] := by
  rw [← word _ _ hw (i 1).isLt, ← at_grp m i r hr]
  unfold cc0_transform_1
  have h2 : (BitVec.ofNat 32 (i 2).val).toNat = (i 2).val := by
    have : (i 2).val < 2 := (i 2).isLt
    rw [BitVec.toNat_ofNat]; omega
  simp only [h2]
  rfl

theorem tr2 (i : grid0.Coords) (r : Fin 29) (hr : (i 0).val = r.val) (hw : (grp m r).toNat < 4) :
    cc0_transform_2 k0_off1_inb numel1_S1 (tbl m) i = ![(grp m r).toNat * 4 + (i 1).val, 0, (i 2).val] :=
  tr1 m i r hr hw

theorem tr3 (i : grid0.Coords) (r : Fin 29) (hr : (i 0).val = r.val) (hw : (grp m r).toNat < 4) :
    cc0_transform_3 k0_off1_inb numel1_S1 (tbl m) i = ![(grp m r).toNat * 4 + (i 1).val, (i 2).val, 0] := by
  have h := tr1 m i r hr hw
  have h0 := congrFun h 0
  have h2 := congrFun h 2
  funext a
  fin_cases a
  · exact h0
  · exact h2
  · rfl

/-- The tables' side condition: every block of the experts' weights lies inside its array. -/
theorem ok (hw : ∀ r, (grp m r).toNat < 4) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 4 := (i 1).isLt
    have h2 : (i 2).val < 2 := (i 2).isLt
    have h := hw ⟨(i 0).val, (i 0).isLt⟩
    first
      | rw [tr1 m i ⟨(i 0).val, (i 0).isLt⟩ rfl h]
      | rw [tr2 m i ⟨(i 0).val, (i 0).isLt⟩ rfl h]
      | rw [tr3 m i ⟨(i 0).val, (i 0).isLt⟩ rfl h]
    generalize (grp m ⟨(i 0).val, (i 0).isLt⟩).toNat = w at h ⊢
    generalize (i 1).val = a1 at h1 ⊢
    generalize (i 2).val = a2 at h2 ⊢
    fin_cases a <;> simp <;> omega

end Cert.Experts.Call

namespace Cert.ExpertsIdeal.Call

open Cert.ExpertsIdeal Cert.ExpertsIdeal.Gen

variable (m : (ℓ : Loc nD τ sig) → Buf (Elt Ideal) ℓ) (ρ : Dev nD → PrngReg) (c : Dev nD)

/-- The tile of a grid point. -/
def tile (t : Fin grid0.N) : Fin 29 := ⟨t.val / 8, by have := Nat.lt_of_lt_of_eq t.isLt N_0; omega⟩

/-- The word the body reads to know whether the tile has rows. -/
abbrev seen (t : Fin grid0.N) : BitVec 32 :=
  tbM0_1.view.readAt (Elt Ideal) (Rect.unit (s := S29) (k0_off1 (grid0.coords t)) S1.size (k0_off1_inb (grid0.coords t))).toLoadRect
    (show TbBuf0 (F := Ideal) (0 : Dev nD) tbM0_1 from tbl m 1) (Shape.Idx.first (numel1_S1.symm ▸ Nat.one_pos))

theorem seen_eq (t : Fin grid0.N) : seen m t = vld m (tile t) :=
  (congrArg (show IVec S29 32 from V m (0 : Dev nD) main_arg4) (emb_pos (grid0.coords t) (tile t) (coords t).1 _)).trans
    (congrFun (V_main_arg4 m 0) (pos (tile t)))

theorem cond_iff (t : Fin grid0.N) : cond0_1 (grid0.coords t) (seen m t) ↔ 0 < (vld m (tile t)).toInt := by
  rw [seen_eq]
  generalize vld m (tile t) = w
  have ext (b : Bool) : Scalar.cmpi .ne (Scalar.extui (BitVec.ofBool b : BitVec 1) : BitVec 32) 0#32 = 1#1 ↔ b = true := by cases b <;> decide
  unfold cond0_1
  show Scalar.cmpi .ne (Scalar.extui (BitVec.ofBool (BitVec.slt 0#32 w))) 0#32 = 1#1 ↔ _
  rw [ext]
  unfold BitVec.slt
  simp

theorem idx0 (hO : Ok m) (t : Fin (cfgM m hO).N) : ((cfgM m hO).win 0).index t = ![t.val / 8, 0] := by
  have e := coords t
  show cc0_transform_0 (grid0.coords t) = _
  unfold cc0_transform_0
  have h : (BitVec.ofNat 32 (grid0.coords t 0).val).toNat = t.val / 8 := by
    have := (grid0.coords t 0).isLt
    rw [BitVec.toNat_ofNat, e.1]
    have ht : t.val < 232 := Nat.lt_of_lt_of_eq t.isLt N_0
    omega
  simp only [h]
  rfl

theorem idx4 (hO : Ok m) (t : Fin (cfgM m hO).N) : ((cfgM m hO).win 4).index t = ![t.val / 8, 0] := idx0 m hO t

theorem idx5 (hO : Ok m) (t : Fin (cfgM m hO).N) : ((cfgM m hO).win 5).index t = ![t.val / 8, 0] := idx0 m hO t

theorem idx1 (hO : Ok m) (hw : ∀ r, (grp m r).toNat < 4) (t : Fin (cfgM m hO).N) :
    ((cfgM m hO).win 1).index t = ![(grp m (tile t)).toNat * 4 + t.val / 2 % 4, 0, t.val % 2] := by
  have e := coords t
  rw [← e.2.1, ← e.2.2]
  exact tr1 m (grid0.coords t) (tile t) e.1 (hw _)

theorem idx2 (hO : Ok m) (hw : ∀ r, (grp m r).toNat < 4) (t : Fin (cfgM m hO).N) :
    ((cfgM m hO).win 2).index t = ![(grp m (tile t)).toNat * 4 + t.val / 2 % 4, 0, t.val % 2] := idx1 m hO hw t

theorem idx3 (hO : Ok m) (hw : ∀ r, (grp m r).toNat < 4) (t : Fin (cfgM m hO).N) :
    ((cfgM m hO).win 3).index t = ![(grp m (tile t)).toNat * 4 + t.val / 2 % 4, t.val % 2, 0] := by
  have e := coords t
  rw [← e.2.1, ← e.2.2]
  exact tr3 m (grid0.coords t) (tile t) e.1 (hw _)

/-- The run, with the result named block by block. -/
theorem run_blocks (hO : Ok m) : θ_run defs (onTc (τ := τ) (main (F := Ideal))) ⟨m, fun _ => 0, ρ⟩ fun r => ∀ c : Dev nD,
      r.2.mem ((c.tc : Thread nD τ).loc main_v4) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1 5, h.2 c⟩) (θ_run_and (run_main m ρ hO) (unchanged m ρ hO))

/-- The blocks of the result fill it. -/
theorem covers (hO : Ok m) : ((cfgM m hO).win 5).Covers := by
  refine ((cfgM m hO).win 5).covers_of_index_surj rfl (by show ∀ a : Fin 2, 0 < (![640, 4096] : Fin 2 → ℕ) a; decide) fun β => ?_
  have h0 : (β (0 : Fin 2)).val < 29 := Nat.lt_of_lt_of_eq (β (0 : Fin 2)).isLt (by show (18560 + 640 - 1) / 640 = 29; norm_num)
  have h1 : (β (1 : Fin 2)).val < 1 := Nat.lt_of_lt_of_eq (β (1 : Fin 2)).isLt (by show (4096 + 4096 - 1) / 4096 = 1; norm_num)
  refine ⟨⟨(β (0 : Fin 2)).val * 8, Nat.lt_of_lt_of_eq (by omega) N_0.symm⟩, fun (a : Fin 2) => ?_⟩
  rw [idx5]
  fin_cases a
  · show (β (0 : Fin 2)).val * 8 / 8 = (β (0 : Fin 2)).val
    omega
  · show 0 = (β (1 : Fin 2)).val
    omega

end Cert.ExpertsIdeal.Call

end
-- ==== Proof.ExpertsSteps.lean ====
/-
  What one grid point of the experts' kernel does to the rows it keeps: it copies the block of rows at the first point
  of a tile, adds one half of one expert's product to the running sum, and leaves both alone at a tile with no rows.
-/
module

public import proofs.«01_k».proof.Proof.ExpertsBase

@[expose] public section
set_option maxRecDepth 16384

noncomputable section

open Idealize.ShloMosaic Idealize.ShloMosaic.TcCoe Idealize.SL.Sem
open Idealize.ShloMosaic.Pipeline (Dat)

namespace Cert.ExpertsIdeal.Call

open Cert.ExpertsIdeal Cert.ExpertsIdeal.Gen

/-- Under a store of columns, the stored value. -/
theorem cols_hit {φ : EltTy} {n o : ℕ} (i) (w : (⟨2, ![640, n]⟩ : Shape).Idx → Elt Ideal φ) (L : List (View.Piece (Elt Ideal) S640x4096 φ))
    (y : S640x4096.Idx) (x : (⟨2, ![640, n]⟩ : Shape).Idx) (h0 : (x 0 : ℕ) = y 0) (h1 : (y 1 : ℕ) = o + x 1) :
    View.canon (⟨Rect.unit (s := S640x4096) ![0, o] ![640, n] i, w⟩ :: L) y = w x := by
  have e : y = (Rect.unit (s := S640x4096) ![0, o] ![640, n] i).emb x := by
    funext a
    apply Fin.ext
    rw [ValueKit.rect_emb_unit_val]
    fin_cases a
    · show (y 0 : ℕ) = 0 + x 0
      omega
    · exact h1
  rw [e]
  exact View.canon_cons_emb _ _ _ _

/-- Off a store of columns, what was there. -/
theorem cols_miss {φ : EltTy} {n o : ℕ} (i) (w : (⟨2, ![640, n]⟩ : Shape).Idx → Elt Ideal φ) (L : List (View.Piece (Elt Ideal) S640x4096 φ))
    (y : S640x4096.Idx) (h : (y 1 : ℕ) < o ∨ o + n ≤ (y 1 : ℕ)) :
    View.canon (⟨Rect.unit (s := S640x4096) ![0, o] ![640, n] i, w⟩ :: L) y = View.canon L y := by
  refine View.canon_cons_of_not_mem _ _ fun hm => ?_
  have := (Rect.mem_set_unit (s := S640x4096) (inb := i)).mp hm 1
  simp only [Matrix.cons_val_one, Matrix.cons_val_zero, Matrix.cons_val_fin_one] at this
  omega

/-- One half of one expert's product: 256 of its lanes. -/
def part (a : FVec Ideal S640x256 .bf16) (W : Vec Ideal S1x256x4096 .bf16) (y : S640x4096.Idx) : EReal :=
  ∑ k : Fin 256, a (ix2 (y 0) k) * W (ix3 0 k (y 1))

theorem pay4_at (a : FVec Ideal S640x256 .bf16) (P : Vec Ideal S640x1024 .f32) (w : Vec Ideal S1x256x1024 .bf16) (x) :
    k0_pay4 a P w x = P x + ∑ k : Fin 256, a (ix2 (x 0) k) * w (ix3 0 k (x 1)) := by
  pointwise [k0_pay4]

theorem pay5_eq (a : FVec Ideal S640x256 .bf16) (P : Vec Ideal S640x1024 .f32) (w : Vec Ideal S1x256x1024 .bf16) :
    k0_pay5 a P w = k0_pay4 a P w := rfl

theorem pay6_eq (a : FVec Ideal S640x256 .bf16) (P : Vec Ideal S640x1024 .f32) (w : Vec Ideal S1x256x1024 .bf16) :
    k0_pay6 a P w = k0_pay4 a P w := rfl

theorem pay9_eq (g x wg wu gt) (P : Vec Ideal S640x1024 .f32) (w : Vec Ideal S1x256x1024 .bf16) :
    k0_pay9 g x wg wu gt P w = k0_pay4 (k0_pay8 g x wg wu gt) P w := rfl

theorem pay7_at (X : Vec Ideal S640x4096 .f32) (y) : k0_pay7 X y = X y := by
  pointwise [k0_pay7]

theorem pay1_at (y) : k0_pay1 (F := Ideal) y = 0 := by
  pointwise [k0_pay1]

/-- The four stores of a point, one after the other, add the product to what was there. -/
theorem canon_step (a : FVec Ideal S640x256 .bf16) (W : Vec Ideal S1x256x4096 .bf16) (P : S640x4096.Idx → EReal)
    (X0 X1 X2 X3 : Vec Ideal S640x1024 .f32) (L : List (View.Piece (Elt Ideal) S640x4096 .f32)) (y : S640x4096.Idx)
    (h0 : ∀ x, X0 x = P ((Rect.unit (s := S640x4096) ![0, 0] ![640, 1024] inb_S640x4096_S640x1024_0_0).idx x))
    (h1 : ∀ x, X1 x = P ((Rect.unit (s := S640x4096) ![0, 1024] ![640, 1024] inb_S640x4096_S640x1024_0_1024).idx x))
    (h2 : ∀ x, X2 x = P ((Rect.unit (s := S640x4096) ![0, 2048] ![640, 1024] inb_S640x4096_S640x1024_0_2048).idx x))
    (h3 : ∀ x, X3 x = P ((Rect.unit (s := S640x4096) ![0, 3072] ![640, 1024] inb_S640x4096_S640x1024_0_3072).idx x)) :
    View.canon ((⟨Rect.unit (s := S640x4096) ![0, 3072] ![640, 1024] inb_S640x4096_S640x1024_0_3072,
        k0_pay4 a X3 (View.ld W (Rect.unit (s := S1x256x4096) ![0, 0, 3072] ![1, 256, 1024] inb_S1x256x4096_S1x256x1024_0_0_3072))⟩ : View.Piece (Elt Ideal) S640x4096 .f32)
      :: ⟨Rect.unit (s := S640x4096) ![0, 2048] ![640, 1024] inb_S640x4096_S640x1024_0_2048,
        k0_pay4 a X2 (View.ld W (Rect.unit (s := S1x256x4096) ![0, 0, 2048] ![1, 256, 1024] inb_S1x256x4096_S1x256x1024_0_0_2048))⟩
      :: ⟨Rect.unit (s := S640x4096) ![0, 1024] ![640, 1024] inb_S640x4096_S640x1024_0_1024,
        k0_pay4 a X1 (View.ld W (Rect.unit (s := S1x256x4096) ![0, 0, 1024] ![1, 256, 1024] inb_S1x256x4096_S1x256x1024_0_0_1024))⟩
      :: ⟨Rect.unit (s := S640x4096) ![0, 0] ![640, 1024] inb_S640x4096_S640x1024_0_0,
        k0_pay4 a X0 (View.ld W (Rect.unit (s := S1x256x4096) ![0, 0, 0] ![1, 256, 1024] inb_S1x256x4096_S1x256x1024_0_0_0))⟩ :: L) y
      = P y + part a W y := by
  have hy0 : (y 0 : ℕ) < 640 := (y 0).isLt
  have hy1 : (y 1 : ℕ) < 4096 := (y 1).isLt
  have key (o : ℕ) (i) (i') (X : Vec Ideal S640x1024 .f32) (hX : ∀ x, X x = P ((Rect.unit (s := S640x4096) ![0, o] ![640, 1024] i).idx x))
      (l : o ≤ (y 1 : ℕ)) (u : (y 1 : ℕ) < o + 1024) (L) :
      View.canon ((⟨Rect.unit (s := S640x4096) ![0, o] ![640, 1024] i,
        k0_pay4 a X (View.ld W (Rect.unit (s := S1x256x4096) ![0, 0, o] ![1, 256, 1024] i'))⟩ : View.Piece (Elt Ideal) S640x4096 .f32) :: L) y = P y + part a W y := by
    rw [cols_hit i _ L y (ix2 (y 0) ⟨(y 1 : ℕ) - o, by omega⟩) rfl (by show (y 1 : ℕ) = o + ((y 1 : ℕ) - o); omega), pay4_at, hX]
    unfold part
    congr 1
    · congr 1
      funext b
      apply Fin.ext
      fin_cases b
      · show 0 + 1 * (y 0 : ℕ) = y 0
        omega
      · show o + 1 * ((y 1 : ℕ) - o) = y 1
        omega
    · refine Finset.sum_congr rfl fun k _ => ?_
      refine congrArg (_ * ·) ?_
      refine congrArg W ?_
      funext b
      apply Fin.ext
      fin_cases b
      · rfl
      · show 0 + 1 * (k : ℕ) = k
        omega
      · show o + 1 * ((y 1 : ℕ) - o) = y 1
        omega
  by_cases c3 : 3072 ≤ (y 1 : ℕ)
  · exact key 3072 _ _ X3 h3 c3 (by omega) _
  rw [cols_miss _ _ _ y (.inl (by omega))]
  by_cases c2 : 2048 ≤ (y 1 : ℕ)
  · exact key 2048 _ _ X2 h2 c2 (by omega) _
  rw [cols_miss _ _ _ y (.inl (by omega))]
  by_cases c1 : 1024 ≤ (y 1 : ℕ)
  · exact key 1024 _ _ X1 h1 c1 (by omega) _
  rw [cols_miss _ _ _ y (.inl (by omega))]
  exact key 0 _ _ X0 h0 (by omega) (by omega) _

/-- The two stores of the rows copy them. -/
theorem canon_copy (X : Vec Ideal S640x4096 .bf16) (y : S640x4096.Idx) :
    View.canon [⟨Rect.unit (s := S640x4096) ![0, 2048] ![640, 2048] inb_S640x4096_S640x2048_0_2048,
        k0_pay3 (View.ld X (Rect.unit (s := S640x4096) ![0, 2048] ![640, 2048] inb_S640x4096_S640x2048_0_2048))⟩,
      ⟨Rect.unit (s := S640x4096) ![0, 0] ![640, 2048] inb_S640x4096_S640x2048_0_0,
        k0_pay2 (View.ld X (Rect.unit (s := S640x4096) ![0, 0] ![640, 2048] inb_S640x4096_S640x2048_0_0))⟩] y = X y := by
  have hy0 : (y 0 : ℕ) < 640 := (y 0).isLt
  have hy1 : (y 1 : ℕ) < 4096 := (y 1).isLt
  by_cases c : 2048 ≤ (y 1 : ℕ)
  · rw [cols_hit (n := 2048) _ _ _ y (ix2 (y 0) ⟨(y 1 : ℕ) - 2048, by omega⟩) rfl (by show (y 1 : ℕ) = 2048 + ((y 1 : ℕ) - 2048); omega)]
    pointwise [k0_pay3]
    congr 1
    funext b
    apply Fin.ext
    fin_cases b
    · rfl
    · show 2048 + ((y 1 : ℕ) - 2048) = y 1
      omega
  · rw [cols_miss _ _ _ y (.inl (by omega)), cols_hit (n := 2048) _ _ _ y (ix2 (y 0) ⟨(y 1 : ℕ), by omega⟩) rfl (by show (y 1 : ℕ) = 0 + (y 1 : ℕ); omega)]
    pointwise [k0_pay2]

/-- The copied rows, read back whole. -/
theorem copy_whole (X : Vec Ideal S640x4096 .bf16) :
    (fun j => View.canon [⟨Rect.unit (s := S640x4096) ![0, 2048] ![640, 2048] inb_S640x4096_S640x2048_0_2048,
        k0_pay3 (View.ld X (Rect.unit (s := S640x4096) ![0, 2048] ![640, 2048] inb_S640x4096_S640x2048_0_2048))⟩,
      ⟨Rect.unit (s := S640x4096) ![0, 0] ![640, 2048] inb_S640x4096_S640x2048_0_0,
        k0_pay2 (View.ld X (Rect.unit (s := S640x4096) ![0, 0] ![640, 2048] inb_S640x4096_S640x2048_0_0))⟩]
        ((Rect.unit (s := S640x4096) ![0, 0] ![640, 4096] inb_S640x4096_S640x4096_0_0).toLoadRect.idx j)) = X := by
  funext j
  rw [canon_copy]
  congr 1
  funext b
  apply Fin.ext
  fin_cases b
  · show 0 + 1 * (j 0 : ℕ) = j 0
    omega
  · show 0 + 1 * (j 1 : ℕ) = j 1
    omega

/-- Under the store of zeros alone, zero. -/
theorem zero_hit (y : S640x4096.Idx) :
    View.canon [(⟨Rect.unit (s := S640x4096) ![0, 0] ![640, 4096] inb_S640x4096_S640x4096_0_0, k0_pay1 (F := Ideal)⟩ : View.Piece (Elt Ideal) S640x4096 .f32)] y = (0 : EReal) := by
  rw [cols_hit (n := 4096) _ _ _ y y rfl (by omega)]
  exact pay1_at y

theorem xb_A (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : cond0_0 i) (hc2 : ¬cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (hc1 : cond0_1 i (tbM0_1.view.readAt (Elt Ideal) (Rect.unit (s := S29) (k0_off1 i) S1.size (k0_off1_inb i)).toLoadRect xt1 (Shape.Idx.first (numel1_S1.symm ▸ Nat.one_pos)))) :
    sout0_A_1 0 i arg5 harg5 arg6 harg6 arg7 harg7 arg8 harg8 arg9 harg9 arg10 harg10 arg11 harg11 arg12 harg12 hc0 hc2 x0 x1 x2 x3 x4 xt0 xt1 hc1 = x0 := by
  funext y
  frame_out
  exact canon_copy _ y

theorem xb_B (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : cond0_0 i) (hc2 : ¬cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (hc1 : ¬cond0_1 i (tbM0_1.view.readAt (Elt Ideal) (Rect.unit (s := S29) (k0_off1 i) S1.size (k0_off1_inb i)).toLoadRect xt1 (Shape.Idx.first (numel1_S1.symm ▸ Nat.one_pos)))) :
    sout0_B_1 0 i arg5 harg5 arg6 harg6 arg7 harg7 arg8 harg8 arg9 harg9 arg10 harg10 arg11 harg11 arg12 harg12 hc0 hc2 x0 x1 x2 x3 x4 xt0 xt1 hc1 = x0 := by
  funext y
  frame_out
  exact canon_copy _ y

theorem acc_B (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : cond0_0 i) (hc2 : ¬cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (hc1 : ¬cond0_1 i (tbM0_1.view.readAt (Elt Ideal) (Rect.unit (s := S29) (k0_off1 i) S1.size (k0_off1_inb i)).toLoadRect xt1 (Shape.Idx.first (numel1_S1.symm ▸ Nat.one_pos)))) :
    sout0_B_0 0 i arg5 harg5 arg6 harg6 arg7 harg7 arg8 harg8 arg9 harg9 arg10 harg10 arg11 harg11 arg12 harg12 hc0 hc2 x0 x1 x2 x3 x4 xt0 xt1 hc1 = fun _ => 0 := by
  frame_out
  funext y
  exact pay1_at y

theorem acc_A (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : cond0_0 i) (hc2 : ¬cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (hc1 : cond0_1 i (tbM0_1.view.readAt (Elt Ideal) (Rect.unit (s := S29) (k0_off1 i) S1.size (k0_off1_inb i)).toLoadRect xt1 (Shape.Idx.first (numel1_S1.symm ▸ Nat.one_pos)))) :
    sout0_A_0 0 i arg5 harg5 arg6 harg6 arg7 harg7 arg8 harg8 arg9 harg9 arg10 harg10 arg11 harg11 arg12 harg12 hc0 hc2 x0 x1 x2 x3 x4 xt0 xt1 hc1 = fun y => 0 + part (k0_pay8 (F := Ideal) (BitVec.ofNat 32 (i 1 : ℕ)) x0 x1 x2 x4) x3 y := by
  frame_out
  simp only [harg5.read_unread, harg6.read_unread, harg7.read_unread, harg8.read_unread, harg9.read_unread, harg10.read_unread, harg11.read_unread, harg12.read_unread, pay5_eq, pay6_eq, pay9_eq, View.readCov_eq_canon']
  funext y
  simp only [copy_whole]
  exact canon_step _ _ (fun _ => 0) _ _ _ _ _ y (fun x => zero_hit _) (fun x => ((cols_miss _ _ _ _ (.inr (by show _ ≤ 1024 + 1 * (x 1 : ℕ); omega))).trans (zero_hit _))) (fun x => ((cols_miss _ _ _ _ (.inr (by show _ ≤ 2048 + 1 * (x 1 : ℕ); omega))).trans ((cols_miss _ _ _ _ (.inr (by show _ ≤ 2048 + 1 * (x 1 : ℕ); omega))).trans (zero_hit _)))) (fun x => ((cols_miss _ _ _ _ (.inr (by show _ ≤ 3072 + 1 * (x 1 : ℕ); omega))).trans ((cols_miss _ _ _ _ (.inr (by show _ ≤ 3072 + 1 * (x 1 : ℕ); omega))).trans ((cols_miss _ _ _ _ (.inr (by show _ ≤ 3072 + 1 * (x 1 : ℕ); omega))).trans (zero_hit _)))))

theorem acc_C (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : ¬cond0_0 i) (hc2 : ¬cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (xs0 : Vec Ideal S640x4096 .f32) (xs1 : Vec Ideal S640x4096 .bf16) (hc1 : cond0_1 i (tbM0_1.view.readAt (Elt Ideal) (Rect.unit (s := S29) (k0_off1 i) S1.size (k0_off1_inb i)).toLoadRect xt1 (Shape.Idx.first (numel1_S1.symm ▸ Nat.one_pos)))) :
    sout0_C_0 0 i arg5 harg5 arg6 harg6 arg7 harg7 arg8 harg8 arg9 harg9 arg10 harg10 arg11 harg11 arg12 harg12 hc0 hc2 x0 x1 x2 x3 x4 xt0 xt1 xs0 xs1 hc1 = fun y => xs0 y + part (k0_pay8 (F := Ideal) (BitVec.ofNat 32 (i 1 : ℕ)) xs1 x1 x2 x4) x3 y := by
  frame_out
  simp only [harg5.read_unread, harg6.read_unread, harg7.read_unread, harg8.read_unread, harg9.read_unread, harg10.read_unread, harg11.read_unread, harg12.read_unread, pay5_eq, pay6_eq, pay9_eq]
  funext y
  exact canon_step _ _ xs0 _ _ _ _ _ y (fun _ => rfl) (fun _ => rfl) (fun _ => rfl) (fun _ => rfl)

theorem acc_E (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : ¬cond0_0 i) (hc2 : cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (xs0 : Vec Ideal S640x4096 .f32) (xs1 : Vec Ideal S640x4096 .bf16) (hc1 : cond0_1 i (tbM0_1.view.readAt (Elt Ideal) (Rect.unit (s := S29) (k0_off1 i) S1.size (k0_off1_inb i)).toLoadRect xt1 (Shape.Idx.first (numel1_S1.symm ▸ Nat.one_pos)))) :
    sout0_E_0 0 i arg5 harg5 arg6 harg6 arg7 harg7 arg8 harg8 arg9 harg9 arg10 harg10 arg11 harg11 arg12 harg12 hc0 hc2 x0 x1 x2 x3 x4 xt0 xt1 xs0 xs1 hc1 = fun y => xs0 y + part (k0_pay8 (F := Ideal) (BitVec.ofNat 32 (i 1 : ℕ)) xs1 x1 x2 x4) x3 y := by
  frame_out
  simp only [harg5.read_unread, harg6.read_unread, harg7.read_unread, harg8.read_unread, harg9.read_unread, harg10.read_unread, harg11.read_unread, harg12.read_unread, pay5_eq, pay6_eq, pay9_eq]
  funext y
  exact canon_step _ _ xs0 _ _ _ _ _ y (fun _ => rfl) (fun _ => rfl) (fun _ => rfl) (fun _ => rfl)

theorem out_E (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : ¬cond0_0 i) (hc2 : cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (xs0 : Vec Ideal S640x4096 .f32) (xs1 : Vec Ideal S640x4096 .bf16) (hc1 : cond0_1 i (tbM0_1.view.readAt (Elt Ideal) (Rect.unit (s := S29) (k0_off1 i) S1.size (k0_off1_inb i)).toLoadRect xt1 (Shape.Idx.first (numel1_S1.symm ▸ Nat.one_pos)))) :
    out0_E_5 0 i arg5 harg5 arg6 harg6 arg7 harg7 arg8 harg8 arg9 harg9 arg10 harg10 arg11 harg11 arg12 harg12 hc0 hc2 x0 x1 x2 x3 x4 xt0 xt1 xs0 xs1 hc1 = fun y => xs0 y + part (k0_pay8 (F := Ideal) (BitVec.ofNat 32 (i 1 : ℕ)) xs1 x1 x2 x4) x3 y := by
  frame_out
  simp only [harg5.read_unread, harg6.read_unread, harg7.read_unread, harg8.read_unread, harg9.read_unread, harg10.read_unread, harg11.read_unread, harg12.read_unread, pay5_eq, pay6_eq, pay9_eq, View.readCov_eq_canon']
  funext y
  refine (pay7_at _ _).trans ?_
  have e : (Rect.unit (s := S640x4096) ![0, 0] ![640, 4096] inb_S640x4096_S640x4096_0_0).idx y = y := by
    funext b
    apply Fin.ext
    fin_cases b
    · show 0 + 1 * (y 0 : ℕ) = y 0
      omega
    · show 0 + 1 * (y 1 : ℕ) = y 1
      omega
  refine (congrArg (View.canon _) e).trans ?_
  exact canon_step _ _ xs0 _ _ _ _ _ y (fun _ => rfl) (fun _ => rfl) (fun _ => rfl) (fun _ => rfl)

theorem out_F (i : grid0.Coords) (arg5 : Memref sig .tc .vmem S640x4096 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S640x4 .f32) (harg9 : arg9.IsWhole) (arg10 : Memref sig .tc .vmem S640x4096 .bf16) (harg10 : arg10.IsWhole) (arg11 : Memref sig .tc .vmem S640x4096 .f32) (harg11 : arg11.IsWhole) (arg12 : Memref sig .tc .vmem S640x4096 .bf16) (harg12 : arg12.IsWhole) (hc0 : ¬cond0_0 i) (hc2 : cond0_2 i)
    (x0 : Vec Ideal S640x4096 .bf16) (x1 : Vec Ideal S1x4096x256 .bf16) (x2 : Vec Ideal S1x4096x256 .bf16) (x3 : Vec Ideal S1x256x4096 .bf16) (x4 : Vec Ideal S640x4 .f32) (xt0 : TbBuf0 (F := Ideal) 0 tbM0_0) (xt1 : TbBuf0 (F := Ideal) 0 tbM0_1) (xs0 : Vec Ideal S640x4096 .f32) (xs1 : Vec Ideal S640x4096 .bf16) (hc1 : ¬cond0_1 i (tbM0_1.view.readAt (Elt Ideal) (Rect.unit (s := S29) (k0_off1 i) S1.size (k0_off1_inb i)).toLoadRect xt1 (Shape.Idx.first (numel1_S1.symm ▸ Nat.one_pos)))) :
    out0_F_5 0 i arg5 harg5 arg6 harg6 arg7 harg7 arg8 harg8 arg9 harg9 arg10 harg10 arg11 harg11 arg12 harg12 hc0 hc2 x0 x1 x2 x3 x4 xt0 xt1 xs0 xs1 hc1 = xs0 := by
  funext y
  frame_out
  exact pay7_at _ _

end Cert.ExpertsIdeal.Call
end
-- ==== Proof.ExpertsValue.lean ====
/-
  The routed experts: a tile's rows belong to one group of four experts, and the products of the group's experts over
  the eight grid points of the tile sum to the reference's product over all sixteen, since the gates of the others are
  zero.
-/
module

public import proofs.«01_k».proof.Proof.ExpertsSteps
public import proofs.«01_k».proof.Proof.Gen.ExpertsRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.ExpertsIdeal.Call

open Cert.ExpertsIdeal Cert.ExpertsIdeal.Gen

/-- The reference's result over the kernel's arguments. -/
abbrev REF (X : FVec Ideal S18560x4096 .f32) (w : FVec Ideal S18560x4 .f32) (g : IVec S18560 32)
    (Wg Wu : FVec Ideal S16x4096x512 .f32) (Wd : FVec Ideal S16x512x4096 .f32) : FVec Ideal S18560x4096 .bf16 :=
  truncf .bf16 (Host.dotGeneral Cert.ExpertsRefIdeal.dot_S18560x16x512_S16x512x4096_S18560x4096_12_01_0_2_n_n none (mulf (mulf (mulf (Host.dotGeneral Cert.ExpertsRefIdeal.dot_S18560x4096_S16x4096x512_S18560x16x512_1_1_0_02_n_n none X Wg) (Host.divf (broadcastInDim Cert.ExpertsRefIdeal.S18560x16x512 ![] Cert.ExpertsRefIdeal.Gen.bcast_S_S18560x16x512 (constant Cert.ExpertsRefIdeal.S_ .f32 0x3F800000#32)) (addf (broadcastInDim Cert.ExpertsRefIdeal.S18560x16x512 ![] Cert.ExpertsRefIdeal.Gen.bcast_S_S18560x16x512 (constant Cert.ExpertsRefIdeal.S_ .f32 0x3F800000#32)) (Host.exp (Host.negf (Host.dotGeneral Cert.ExpertsRefIdeal.dot_S18560x4096_S16x4096x512_S18560x16x512_1_1_0_02_n_n none X Wg)))))) (Host.dotGeneral Cert.ExpertsRefIdeal.dot_S18560x4096_S16x4096x512_S18560x16x512_1_1_0_02_n_n none X Wu)) (broadcastInDim Cert.ExpertsRefIdeal.S18560x16x512 ![0, 1, 2] Cert.ExpertsRefIdeal.Gen.bcast_S18560x16x1_S18560x16x512_0_1_2 (broadcastInDim Cert.ExpertsRefIdeal.S18560x16x1 ![0, 1] Cert.ExpertsRefIdeal.Gen.bcast_S18560x16_S18560x16x1_0_1 (Host.dotGeneral Cert.ExpertsRefIdeal.dot_S18560x4_S18560x4x16_S18560x16_1_1_n_2_0_0 none w (uitofp .f32 (cmpi .eq (broadcastInDim Cert.ExpertsRefIdeal.S18560x4x16 ![0, 1, 2] Cert.ExpertsRefIdeal.Gen.bcast_S18560x4x1_S18560x4x16_0_1_2 (broadcastInDim Cert.ExpertsRefIdeal.S18560x4x1 ![0, 1] Cert.ExpertsRefIdeal.Gen.bcast_S18560x4_S18560x4x1_0_1 (addi (broadcastInDim Cert.ExpertsRefIdeal.S18560x4 ![0, 1] Cert.ExpertsRefIdeal.Gen.bcast_S18560x1_S18560x4_0_1 (muli (broadcastInDim Cert.ExpertsRefIdeal.S18560x1 ![0] Cert.ExpertsRefIdeal.Gen.bcast_S18560_S18560x1_0 g) (broadcastInDim Cert.ExpertsRefIdeal.S18560x1 ![] Cert.ExpertsRefIdeal.Gen.bcast_S_S18560x1 (constantI Cert.ExpertsRefIdeal.S_ 32 4#32)))) (broadcastInDim Cert.ExpertsRefIdeal.S18560x4 ![0, 1] Cert.ExpertsRefIdeal.Gen.bcast_S1x4_S18560x4_0_1 (broadcastInDim Cert.ExpertsRefIdeal.S1x4 ![1] Cert.ExpertsRefIdeal.Gen.bcast_S4_S1x4_1 (iotaInDim Cert.ExpertsRefIdeal.S4 32 0)))))) (broadcastInDim Cert.ExpertsRefIdeal.S18560x4x16 ![0, 1, 2] Cert.ExpertsRefIdeal.Gen.bcast_S1x1x16_S18560x4x16_0_1_2 (iotaInDim Cert.ExpertsRefIdeal.S1x1x16 32 2)))))))) Wd) Cert.ExpertsRefIdeal.Gen.bitsLt_bf16_f32

/-- One entry of one expert's activations, before the gate. -/
def hid (X : FVec Ideal S18560x4096 .f32) (Wg Wu : FVec Ideal S16x4096x512 .f32) (n : Fin 18560) (e : Fin 16) (l : Fin 512) : EReal :=
  (∑ d : Fin 4096, X (ix2 n d) * Wg (ix3 e d l)) * Ideal.div 1 (1 + Ideal.exp (-∑ d : Fin 4096, X (ix2 n d) * Wg (ix3 e d l)))
    * ∑ d : Fin 4096, X (ix2 n d) * Wu (ix3 e d l)

/-- One product of the down-projection, gated by the entry of the row's gates that belongs to the expert's place in its group. -/
def prod (X : FVec Ideal S18560x4096 .f32) (w : FVec Ideal S18560x4 .f32) (Wg Wu : FVec Ideal S16x4096x512 .f32)
    (Wd : FVec Ideal S16x512x4096 .f32) (n : Fin 18560) (d : Fin 4096) (e : Fin 16) (l : Fin 512) : EReal :=
  hid X Wg Wu n e l * w (ix2 n ⟨e.val % 4, by omega⟩) * Wd (ix3 e l d)

/-- Whether an expert is the one a gate is for, as a number. -/
theorem ind (q : BitVec 32) (hq : q.toNat < 4) (k : Fin 4) (e : Fin 16) :
    (FloatOps.uitofp FTy.f32 (IntOp.cmpi CmpIPredicate.eq (IntOp.addi (IntOp.muli q 4#32) (BitVec.ofNat 32 ↑k)) (BitVec.ofNat 32 ↑e)) : Ideal .f32)
      = if q.toNat * 4 + k.val = e.val then (1 : EReal) else 0 := by
  have hc : (IntOp.addi (IntOp.muli q 4#32) (BitVec.ofNat 32 ↑k) = BitVec.ofNat 32 ↑e) ↔ q.toNat * 4 + k.val = e.val := by
    show (q * 4#32 + BitVec.ofNat 32 ↑k = BitVec.ofNat 32 ↑e) ↔ _
    rw [← BitVec.toNat_inj, BitVec.toNat_add, BitVec.toNat_mul, BitVec.toNat_ofNat, BitVec.toNat_ofNat, BitVec.toNat_ofNat]
    have := k.isLt
    have := e.isLt
    omega
  by_cases h : q.toNat * 4 + k.val = e.val
  · rw [if_pos h, hc.mpr h]
    simp [IntOp.cmpi, FloatOps.uitofp]
  · rw [if_neg h]
    have : ¬ (IntOp.addi (IntOp.muli q 4#32) (BitVec.ofNat 32 ↑k) = BitVec.ofNat 32 ↑e) := fun hh => h (hc.mp hh)
    simp [IntOp.cmpi, FloatOps.uitofp, this]

/-- The reference's gate of an expert: the row's gate for it where the expert is of the row's group, else zero. -/
theorem gate_at (w : FVec Ideal S18560x4 .f32) (q : BitVec 32) (hq : q.toNat < 4) (n : Fin 18560) (e : Fin 16) :
    (∑ k : Fin 4, (w (ix2 n k) : EReal) *
      ((FloatOps.uitofp FTy.f32 (IntOp.cmpi CmpIPredicate.eq (IntOp.addi (IntOp.muli q 4#32) (BitVec.ofNat 32 ↑k)) (BitVec.ofNat 32 ↑e)) : Ideal .f32) : EReal))
      = if e.val / 4 = q.toNat then (w (ix2 n ⟨e.val % 4, by omega⟩) : EReal) else 0 := by
  have he := e.isLt
  refine (Finset.sum_congr rfl fun k _ => (congrArg ((w (ix2 n k) : EReal) * ·) (ind q hq k e)).trans (mul_ite _ _ _ _)).trans ?_
  simp only [mul_one, mul_zero]
  split_ifs with h
  · rw [Finset.sum_eq_single ⟨e.val % 4, by omega⟩]
    · rw [if_pos (by show q.toNat * 4 + e.val % 4 = e.val; omega)]
    · intro b _ hb
      refine if_neg fun hh => hb (Fin.ext ?_)
      have := b.isLt
      show b.val = e.val % 4
      omega
    · intro hh
      exact absurd (Finset.mem_univ _) hh
  · refine Finset.sum_eq_zero fun k _ => if_neg fun hh => h ?_
    have := k.isLt
    omega

/-- The reference at an index: only the experts of the row's group count. -/
theorem ref_at (X w g Wg Wu Wd) (i : S18560x4096.Idx) (hq : (show BitVec 32 from g (ix1 (i 0))).toNat < 4) :
    REF X w g Wg Wu Wd i = ∑ e : Fin 16, ∑ l : Fin 512,
      if e.val / 4 = (show BitVec 32 from g (ix1 (i 0))).toNat then prod X w Wg Wu Wd (i 0) (i 1) e l else 0 := by
  pointwise [REF]
  refine Finset.sum_congr rfl fun e _ => Finset.sum_congr rfl fun l _ => ?_
  refine (congrArg (fun z : EReal => _ * z * _) (gate_at w _ hq (i 0) e)).trans ?_
  split_ifs with h
  · rfl
  · simp

/-- One lane's gate: the one at the point's place in the group. -/
theorem lane_at (w : Vec Ideal S640x4 .f32) (j : ℕ) (hj : j < 4) (r : Fin 640) :
    (∑ x : Fin 4, Scalar.select (IntOp.cmpi CmpIPredicate.eq (BitVec.ofNat 32 ↑x) (BitVec.ofNat 32 j)) (w (ix2 r x)) (0 : EReal))
      = w (ix2 r ⟨j, hj⟩) := by
  rw [Finset.sum_eq_single ⟨j, hj⟩]
  · simp [IntOp.cmpi, Scalar.select]
  · intro b _ hb
    have hne : ¬ (BitVec.ofNat 32 ↑b = BitVec.ofNat 32 j) := by
      rw [← BitVec.toNat_inj, BitVec.toNat_ofNat, BitVec.toNat_ofNat]
      have := b.isLt
      intro hh
      refine hb (Fin.ext ?_)
      show b.val = j
      omega
    show Scalar.select (BitVec.ofBool (BitVec.ofNat 32 ↑b == BitVec.ofNat 32 j)) _ _ = _
    rw [beq_false_of_ne hne]
    simp [Scalar.select]
  · intro hh
    exact absurd (Finset.mem_univ _) hh

theorem act_at (j : ℕ) (hj : j < 4) (X : Vec Ideal S640x4096 .bf16) (G U : Vec Ideal S1x4096x256 .bf16) (w : Vec Ideal S640x4 .f32)
    (r : Fin 640) (k : Fin 256) :
    k0_pay8 (BitVec.ofNat 32 j) X G U w (ix2 r k)
      = (∑ d : Fin 4096, X (ix2 r d) * G (ix3 0 d k)) * Ideal.div 1 (1 + Ideal.exp (-∑ d : Fin 4096, X (ix2 r d) * G (ix3 0 d k)))
        * (∑ d : Fin 4096, X (ix2 r d) * U (ix3 0 d k)) * w (ix2 r ⟨j, hj⟩) := by
  pointwise [k0_pay8]
  refine (congrArg (fun z : EReal => _ * z) (lane_at w j hj r)).trans ?_
  simp only [sub_eq_add_neg, zero_add]

/-- Of the sixteen experts, the group's four. -/
theorem four (C : Fin 16 → EReal) (q : ℕ) (hq : q < 4) :
    (∑ e : Fin 16, if e.val / 4 = q then C e else 0) = ∑ j : Fin 4, C ⟨q * 4 + j.val, by omega⟩ := by
  rw [← Finset.sum_filter]
  refine (Finset.sum_bij' (fun (j : Fin 4) _ => (⟨q * 4 + j.val, by omega⟩ : Fin 16)) (fun e _ => (⟨e.val % 4, by omega⟩ : Fin 4)) ?_ ?_ ?_ ?_ ?_).symm
  · intro j _
    simp only [Finset.mem_filter, Finset.mem_univ, true_and]
    omega
  · intro e _
    exact Finset.mem_univ _
  · intro j _
    apply Fin.ext
    show (q * 4 + j.val) % 4 = j.val
    omega
  · intro e he
    simp only [Finset.mem_filter, Finset.mem_univ, true_and] at he
    apply Fin.ext
    show q * 4 + e.val % 4 = e.val
    omega
  · intro j _
    rfl

/-- Eight points of 256 lanes are the group's four experts of 512 lanes. -/
theorem regroup (F : Fin 16 → Fin 512 → EReal) (q : ℕ) (hq : q < 4) :
    (∑ s : Fin 8, ∑ k : Fin 256, F ⟨q * 4 + s.val / 2, by omega⟩ ⟨s.val % 2 * 256 + k.val, by omega⟩)
      = ∑ e : Fin 16, ∑ l : Fin 512, if e.val / 4 = q then F e l else 0 := by
  have hl : ∀ e, (∑ l : Fin 512, F e l) = (∑ k : Fin 256, F e ⟨k.val, by omega⟩) + ∑ k : Fin 256, F e ⟨256 + k.val, by omega⟩ :=
    fun e => Fin.sum_univ_add (a := 256) (b := 256) (F e)
  have hi : ∀ e : Fin 16, (∑ l : Fin 512, if e.val / 4 = q then F e l else 0) = if e.val / 4 = q then ∑ l : Fin 512, F e l else 0 := by
    intro e
    split_ifs
    · rfl
    · exact Finset.sum_const_zero
  rw [Finset.sum_congr rfl fun e _ => hi e, four (fun e => ∑ l : Fin 512, F e l) q hq]
  have hs (S : Fin 8 → EReal) (T : Fin 4 → EReal) (h : ∀ j : Fin 4, T j = S ⟨2 * j.val, by omega⟩ + S ⟨2 * j.val + 1, by omega⟩) :
      (∑ s, S s) = ∑ j, T j := by
    rw [Fin.sum_univ_eight, Fin.sum_univ_four, h 0, h 1, h 2, h 3]
    show _ = S 0 + S 1 + (S 2 + S 3) + (S 4 + S 5) + (S 6 + S 7)
    simp only [add_assoc]
  refine hs _ _ fun j => (hl _).trans ?_
  refine congrArg₂ (· + ·) (Finset.sum_congr rfl fun k _ => ?_) (Finset.sum_congr rfl fun k _ => ?_)
  · refine congrArg₂ F (Fin.ext ?_) (Fin.ext ?_)
    · show q * 4 + j.val = q * 4 + 2 * j.val / 2
      omega
    · show k.val = 2 * j.val % 2 * 256 + k.val
      omega
  · refine congrArg₂ F (Fin.ext ?_) (Fin.ext ?_)
    · show q * 4 + j.val = q * 4 + (2 * j.val + 1) / 2
      omega
    · show 256 + k.val = (2 * j.val + 1) % 2 * 256 + k.val
      omega

variable (m : (ℓ : Loc nD τ sig) → Buf (Elt Ideal) ℓ) (hO : Ok m)

theorem lt8 (t : Fin (cfgM m hO).N) : t.val < 232 := Nat.lt_of_lt_of_eq t.isLt N_0

/-- The row of the sorted rows that row `r` of a point's block is. -/
def row (t : Fin (cfgM m hO).N) (r : Fin 640) : Fin 18560 := ⟨t.val / 8 * 640 + r.val, by have := lt8 m hO t; omega⟩

/-- The half of an expert's lanes a point takes. -/
def lane (t : Fin (cfgM m hO).N) (k : Fin 256) : Fin 512 := ⟨t.val % 2 * 256 + k.val, by omega⟩

/-- The expert of a point. -/
def expert (hw : ∀ r, (grp m r).toNat < 4) (t : Fin (cfgM m hO).N) : Fin 16 :=
  ⟨(grp m (tile t)).toNat * 4 + t.val / 2 % 4, by have := hw (tile t); omega⟩

theorem iblk0_at (t : Fin (cfgM m hO).N) (r : Fin 640) (d : Fin 4096) :
    (show FVec Ideal S640x4096 .bf16 from iblk m hO 0 0 t) (ix2 r d)
      = (show FVec Ideal S18560x4096 .f32 from m (((0 : Dev nD).tc : Thread nD τ).loc main_arg0)) (ix2 (row m hO t r) d) := by
  unfold row
  blk_point [iblk, V, idx0 m hO t]

theorem iblk4_at (t : Fin (cfgM m hO).N) (r : Fin 640) (d : Fin 4) :
    (show FVec Ideal S640x4 .f32 from iblk m hO 0 4 t) (ix2 r d)
      = (show FVec Ideal S18560x4 .f32 from m (((0 : Dev nD).tc : Thread nD τ).loc main_arg1)) (ix2 (row m hO t r) d) := by
  unfold row
  blk_point [iblk, V, idx4 m hO t]

theorem iblk1_at (hw : ∀ r, (grp m r).toNat < 4) (t : Fin (cfgM m hO).N) (d : Fin 4096) (k : Fin 256) :
    (show FVec Ideal S1x4096x256 .bf16 from iblk m hO 0 1 t) (ix3 0 d k)
      = (show FVec Ideal S16x4096x512 .f32 from m (((0 : Dev nD).tc : Thread nD τ).loc main_arg5)) (ix3 (expert m hO hw t) d (lane m hO t k)) := by
  unfold expert lane
  blk_point [iblk, V, idx1 m hO hw t]

theorem iblk2_at (hw : ∀ r, (grp m r).toNat < 4) (t : Fin (cfgM m hO).N) (d : Fin 4096) (k : Fin 256) :
    (show FVec Ideal S1x4096x256 .bf16 from iblk m hO 0 2 t) (ix3 0 d k)
      = (show FVec Ideal S16x4096x512 .f32 from m (((0 : Dev nD).tc : Thread nD τ).loc main_arg6)) (ix3 (expert m hO hw t) d (lane m hO t k)) := by
  unfold expert lane
  blk_point [iblk, V, idx2 m hO hw t]

theorem iblk3_at (hw : ∀ r, (grp m r).toNat < 4) (t : Fin (cfgM m hO).N) (k : Fin 256) (d : Fin 4096) :
    (show FVec Ideal S1x256x4096 .bf16 from iblk m hO 0 3 t) (ix3 0 k d)
      = (show FVec Ideal S16x512x4096 .f32 from m (((0 : Dev nD).tc : Thread nD τ).loc main_arg7)) (ix3 (expert m hO hw t) (lane m hO t k) d) := by
  unfold expert lane
  blk_point [iblk, V, idx3 m hO hw t]

abbrev aX : FVec Ideal S18560x4096 .f32 := m (((0 : Dev nD).tc : Thread nD τ).loc main_arg0)
abbrev aw : FVec Ideal S18560x4 .f32 := m (((0 : Dev nD).tc : Thread nD τ).loc main_arg1)
abbrev ag : IVec S18560 32 := m (((0 : Dev nD).tc : Thread nD τ).loc main_arg2)
abbrev aG : FVec Ideal S16x4096x512 .f32 := m (((0 : Dev nD).tc : Thread nD τ).loc main_arg5)
abbrev aU : FVec Ideal S16x4096x512 .f32 := m (((0 : Dev nD).tc : Thread nD τ).loc main_arg6)
abbrev aD : FVec Ideal S16x512x4096 .f32 := m (((0 : Dev nD).tc : Thread nD τ).loc main_arg7)

/-- What one point adds to the sum. -/
def term (t : Fin (cfgM m hO).N) (y : S640x4096.Idx) : EReal :=
  part (k0_pay8 (F := Ideal) (BitVec.ofNat 32 (grid0.coords t 1 : ℕ)) (iblk m hO 0 0 t) (iblk m hO 0 1 t) (iblk m hO 0 2 t) (iblk m hO 0 4 t))
    (iblk m hO 0 3 t) y

theorem term_at (hw : ∀ r, (grp m r).toNat < 4) (t : Fin (cfgM m hO).N) (y : S640x4096.Idx) :
    term m hO t y = ∑ k : Fin 256, prod (aX m) (aw m) (aG m) (aU m) (aD m) (row m hO t (y 0)) (y 1) (expert m hO hw t) (lane m hO t k) := by
  unfold term part
  refine Finset.sum_congr rfl fun k _ => ?_
  rw [(coords t).2.1]
  refine (congrArg₂ (fun a b : EReal => a * b) (act_at (t.val / 2 % 4) (by omega) _ _ _ _ (y 0) k) (iblk3_at m hO hw t k (y 1))).trans ?_
  unfold prod hid
  have e0 : ∀ d, iblk m hO 0 0 t (ix2 (y 0) d) = aX m (ix2 (row m hO t (y 0)) d) := fun d => iblk0_at m hO t (y 0) d
  have e1 : ∀ d, iblk m hO 0 1 t (ix3 0 d k) = aG m (ix3 (expert m hO hw t) d (lane m hO t k)) := fun d => iblk1_at m hO hw t d k
  have e2 : ∀ d, iblk m hO 0 2 t (ix3 0 d k) = aU m (ix3 (expert m hO hw t) d (lane m hO t k)) := fun d => iblk2_at m hO hw t d k
  have e4 : iblk m hO 0 4 t (ix2 (y 0) ⟨t.val / 2 % 4, by omega⟩) = aw m (ix2 (row m hO t (y 0)) ⟨(expert m hO hw t).val % 4, by omega⟩) := by
    refine (iblk4_at m hO t (y 0) _).trans (congrArg (aw m) (congrArg (ix2 _) (Fin.ext ?_)))
    show t.val / 2 % 4 = ((grp m (tile t)).toNat * 4 + t.val / 2 % 4) % 4
    omega
  have s1 : (∑ d : Fin 4096, (show FVec Ideal S640x4096 .bf16 from iblk m hO 0 0 t) (ix2 (y 0) d) * (show FVec Ideal S1x4096x256 .bf16 from iblk m hO 0 1 t) (ix3 0 d k) : EReal)
      = ∑ d : Fin 4096, aX m (ix2 (row m hO t (y 0)) d) * aG m (ix3 (expert m hO hw t) d (lane m hO t k)) :=
    Finset.sum_congr rfl fun d _ => congrArg₂ (fun a b : EReal => a * b) (e0 d) (e1 d)
  have s2 : (∑ d : Fin 4096, (show FVec Ideal S640x4096 .bf16 from iblk m hO 0 0 t) (ix2 (y 0) d) * (show FVec Ideal S1x4096x256 .bf16 from iblk m hO 0 2 t) (ix3 0 d k) : EReal)
      = ∑ d : Fin 4096, aX m (ix2 (row m hO t (y 0)) d) * aU m (ix3 (expert m hO hw t) d (lane m hO t k)) :=
    Finset.sum_congr rfl fun d _ => congrArg₂ (fun a b : EReal => a * b) (e0 d) (e2 d)
  refine congrArg (fun a : EReal => a * _) ?_
  refine congrArg₂ (fun a b : EReal => a * b) ?_ e4
  exact congrArg₂ (fun a b : EReal => a * Ideal.div 1 (1 + Ideal.exp (-a)) * b) s1 s2

/-- At a tile without rows a point adds nothing, since the gates there are zero. -/
theorem term_zero (hw : ∀ r, (grp m r).toNat < 4)
    (hz : ∀ (n : Fin 18560) (j : Fin 4), ¬0 < (vld m ⟨n.val / 640, by omega⟩).toInt → aw m (ix2 n j) = (0 : EReal))
    (t : Fin (cfgM m hO).N) (ht : ¬0 < (vld m (tile t)).toInt) (y : S640x4096.Idx) : term m hO t y = 0 := by
  rw [term_at m hO hw]
  refine Finset.sum_eq_zero fun k _ => ?_
  unfold prod
  rw [hz]
  · rw [mul_zero, zero_mul]
  · have e : (⟨(row m hO t (y 0)).val / 640, by omega⟩ : Fin 29) = tile t := by
      apply Fin.ext
      have : (y 0 : ℕ) < 640 := (y 0).isLt
      show (t.val / 8 * 640 + (y 0 : ℕ)) / 640 = t.val / 8
      omega
    rw [e]
    exact ht

/-- The block of rows is the same over a tile's eight points. -/
theorem iblk0_same (n : ℕ) (hn hn') (h : ¬(n + 1) % 8 = 0) : iblk m hO 0 0 ⟨n, hn⟩ = iblk m hO 0 0 ⟨n + 1, hn'⟩ := by
  refine funext fun (y : S640x4096.Idx) => ?_
  have e : y = ix2 (y 0) (y 1) := by
    funext a
    fin_cases a <;> rfl
  rw [e]
  refine (iblk0_at m hO ⟨n, hn⟩ (y 0) (y 1)).trans (Eq.trans ?_ (iblk0_at m hO ⟨n + 1, hn'⟩ (y 0) (y 1)).symm)
  refine congrArg (aX m) (congrArg (ix2 · _) (Fin.ext ?_))
  show n / 8 * 640 + _ = (n + 1) / 8 * 640 + _
  have : n / 8 = (n + 1) / 8 := by omega
  rw [this]

/-- The rows kept at the first point of a tile are the tile's. -/
theorem xb_start (t : Fin (cfgM m hO).N) (h0 : t.val % 8 = 0) : (outsAt0 m hO 0 t.val t.isLt).2.2 = iblk m hO 0 0 t := by
  have h2 : ¬t.val % 8 = 7 := by omega
  by_cases h1 : cond0_1 (grid0.coords t) (seen m t)
  · rw [outsAt0_A m hO 0 t h0 h1 h2]
    dsimp only
    have e := xb_A (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h2 ((hcond0_2 t).mp h)) (iblk m hO 0 0 t) (iblk m hO 0 1 t) (iblk m hO 0 2 t) (iblk m hO 0 3 t) (iblk m hO 0 4 t) (tbl m 0) (tbl m 1) h1
    exact e
  · rw [outsAt0_B m hO 0 t h0 h1 h2]
    dsimp only
    have e := xb_B (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h2 ((hcond0_2 t).mp h)) (iblk m hO 0 0 t) (iblk m hO 0 1 t) (iblk m hO 0 2 t) (iblk m hO 0 3 t) (iblk m hO 0 4 t) (tbl m 0) (tbl m 1) h1
    exact e

/-- A later point keeps them. -/
theorem xb_keep (t : Fin (cfgM m hO).N) (h0 : ¬t.val % 8 = 0) : (outsAt0 m hO 0 t.val t.isLt).2.2 = (outsAt0 m hO 0 (t.val - 1) (Nat.lt_of_le_of_lt (Nat.sub_le _ _) t.isLt)).2.2 := by
  by_cases h1 : cond0_1 (grid0.coords t) (seen m t)
  · by_cases h2 : t.val % 8 = 7
    · rw [outsAt0_E m hO 0 t h0 h1 h2]
      dsimp only
      unfold sout0_E_1
      rfl
    · rw [outsAt0_C m hO 0 t h0 h1 h2]
      dsimp only
      unfold sout0_C_1
      rfl
  · by_cases h2 : t.val % 8 = 7
    · rw [outsAt0_F m hO 0 t h0 h1 h2]
      dsimp only
      unfold sout0_F_1
      rfl
    · rw [outsAt0_D m hO 0 t h0 h1 h2]
      dsimp only
      unfold sout0_D_1
      rfl

/-- What is set at the first point of each eight and kept after it is the first point's. -/
theorem keep_run {A : Type} {N : ℕ} (f : (n : ℕ) → n < N → A) (g : Fin N → A)
    (h0 : ∀ t : Fin N, t.val % 8 = 0 → f t.val t.isLt = g t)
    (hs : ∀ t : Fin N, ¬t.val % 8 = 0 → f t.val t.isLt = f (t.val - 1) (Nat.lt_of_le_of_lt (Nat.sub_le _ _) t.isLt))
    (hg : ∀ n hn hn', ¬(n + 1) % 8 = 0 → g ⟨n, hn⟩ = g ⟨n + 1, hn'⟩) (n : ℕ) (hn : n < N) : f n hn = g ⟨n, hn⟩ := by
  induction n with
  | zero => exact h0 ⟨0, hn⟩ (Nat.zero_mod 8)
  | succ n ih =>
    by_cases h : (n + 1) % 8 = 0
    · exact h0 ⟨n + 1, hn⟩ h
    · exact (hs ⟨n + 1, hn⟩ h).trans ((ih (Nat.lt_of_succ_lt hn)).trans (hg n _ hn h))

/-- So every point has the tile's rows. -/
theorem xb_eq (n : ℕ) (hn : n < (cfgM m hO).N) : (outsAt0 m hO 0 n hn).2.2 = iblk m hO 0 0 ⟨n, hn⟩ :=
  keep_run (fun n h => (outsAt0 m hO 0 n h).2.2) (fun t => iblk m hO 0 0 t) (fun t h => xb_start m hO t h)
    (fun t h => xb_keep m hO t h) (fun n hn hn' h => iblk0_same m hO n hn hn' h) n hn

theorem xb_prev (t : Fin (cfgM m hO).N) (h0 : ¬t.val % 8 = 0) : (outsAt0 m hO 0 (t.val - 1) (Nat.lt_of_le_of_lt (Nat.sub_le _ _) t.isLt)).2.2 = iblk m hO 0 0 t := by
  exact (xb_keep m hO t h0).symm.trans (xb_eq m hO t.val t.isLt)

/-- The running sum starts from zero at the first point of a tile. -/
theorem sum_start (hw : ∀ r, (grp m r).toNat < 4)
    (hz : ∀ (n : Fin 18560) (j : Fin 4), ¬0 < (vld m ⟨n.val / 640, by omega⟩).toInt → aw m (ix2 n j) = (0 : EReal))
    (t : Fin (cfgM m hO).N) (h0 : t.val % 8 = 0) (y : S640x4096.Idx) : (outsAt0 m hO 0 t.val t.isLt).2.1 y = (0 : EReal) + term m hO t y := by
  have h2 : ¬t.val % 8 = 7 := by omega
  by_cases h1 : cond0_1 (grid0.coords t) (seen m t)
  · rw [outsAt0_A m hO 0 t h0 h1 h2]
    dsimp only
    have e := acc_A (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h2 ((hcond0_2 t).mp h)) (iblk m hO 0 0 t) (iblk m hO 0 1 t) (iblk m hO 0 2 t) (iblk m hO 0 3 t) (iblk m hO 0 4 t) (tbl m 0) (tbl m 1) h1
    exact congrFun e y
  · rw [term_zero m hO hw hz t (fun h => h1 ((cond_iff m t).mpr h)) y, add_zero]
    rw [outsAt0_B m hO 0 t h0 h1 h2]
    dsimp only
    have e := acc_B (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h2 ((hcond0_2 t).mp h)) (iblk m hO 0 0 t) (iblk m hO 0 1 t) (iblk m hO 0 2 t) (iblk m hO 0 3 t) (iblk m hO 0 4 t) (tbl m 0) (tbl m 1) h1
    exact congrFun e y

/-- A later point adds to it. -/
theorem sum_step (hw : ∀ r, (grp m r).toNat < 4)
    (hz : ∀ (n : Fin 18560) (j : Fin 4), ¬0 < (vld m ⟨n.val / 640, by omega⟩).toInt → aw m (ix2 n j) = (0 : EReal))
    (t : Fin (cfgM m hO).N) (h0 : ¬t.val % 8 = 0) (y : S640x4096.Idx) :
    (outsAt0 m hO 0 t.val t.isLt).2.1 y = (outsAt0 m hO 0 (t.val - 1) (Nat.lt_of_le_of_lt (Nat.sub_le _ _) t.isLt)).2.1 y + term m hO t y := by
  by_cases h1 : cond0_1 (grid0.coords t) (seen m t)
  · unfold term
    rw [← xb_prev m hO t h0]
    by_cases h2 : t.val % 8 = 7
    · rw [outsAt0_E m hO 0 t h0 h1 h2]
      dsimp only
      have e := acc_E (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_2 t).mpr h2) (iblk m hO 0 0 t) (iblk m hO 0 1 t) (iblk m hO 0 2 t) (iblk m hO 0 3 t) (iblk m hO 0 4 t) (tbl m 0) (tbl m 1) (outsAt0 m hO 0 (t.val - 1) (Nat.lt_of_le_of_lt (Nat.sub_le _ _) t.isLt)).2.1 (outsAt0 m hO 0 (t.val - 1) (Nat.lt_of_le_of_lt (Nat.sub_le _ _) t.isLt)).2.2 h1
      exact congrFun e y
    · rw [outsAt0_C m hO 0 t h0 h1 h2]
      dsimp only
      have e := acc_C (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h2 ((hcond0_2 t).mp h)) (iblk m hO 0 0 t) (iblk m hO 0 1 t) (iblk m hO 0 2 t) (iblk m hO 0 3 t) (iblk m hO 0 4 t) (tbl m 0) (tbl m 1) (outsAt0 m hO 0 (t.val - 1) (Nat.lt_of_le_of_lt (Nat.sub_le _ _) t.isLt)).2.1 (outsAt0 m hO 0 (t.val - 1) (Nat.lt_of_le_of_lt (Nat.sub_le _ _) t.isLt)).2.2 h1
      exact congrFun e y
  · rw [term_zero m hO hw hz t (fun h => h1 ((cond_iff m t).mpr h)) y, add_zero]
    by_cases h2 : t.val % 8 = 7
    · rw [outsAt0_F m hO 0 t h0 h1 h2]
      dsimp only
      unfold sout0_F_0
      rfl
    · rw [outsAt0_D m hO 0 t h0 h1 h2]
      dsimp only
      unfold sout0_D_0
      rfl

/-- The last point of a tile stores the sum. -/
theorem out_last (t : Fin (cfgM m hO).N) (h2 : t.val % 8 = 7) (y : S640x4096.Idx) :
    (outsAt0 m hO 0 t.val t.isLt).1 y = (outsAt0 m hO 0 t.val t.isLt).2.1 y := by
  have h0 : ¬t.val % 8 = 0 := by omega
  by_cases h1 : cond0_1 (grid0.coords t) (seen m t)
  · rw [outsAt0_E m hO 0 t h0 h1 h2]
    dsimp only
    have e := out_E (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_2 t).mpr h2) (iblk m hO 0 0 t) (iblk m hO 0 1 t) (iblk m hO 0 2 t) (iblk m hO 0 3 t) (iblk m hO 0 4 t) (tbl m 0) (tbl m 1) (outsAt0 m hO 0 (t.val - 1) (Nat.lt_of_le_of_lt (Nat.sub_le _ _) t.isLt)).2.1 (outsAt0 m hO 0 (t.val - 1) (Nat.lt_of_le_of_lt (Nat.sub_le _ _) t.isLt)).2.2 h1
    have e' := acc_E (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_2 t).mpr h2) (iblk m hO 0 0 t) (iblk m hO 0 1 t) (iblk m hO 0 2 t) (iblk m hO 0 3 t) (iblk m hO 0 4 t) (tbl m 0) (tbl m 1) (outsAt0 m hO 0 (t.val - 1) (Nat.lt_of_le_of_lt (Nat.sub_le _ _) t.isLt)).2.1 (outsAt0 m hO 0 (t.val - 1) (Nat.lt_of_le_of_lt (Nat.sub_le _ _) t.isLt)).2.2 h1
    exact (congrFun e y).trans (congrFun e' y).symm
  · rw [outsAt0_F m hO 0 t h0 h1 h2]
    dsimp only
    have e := out_F (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_2 t).mpr h2) (iblk m hO 0 0 t) (iblk m hO 0 1 t) (iblk m hO 0 2 t) (iblk m hO 0 3 t) (iblk m hO 0 4 t) (tbl m 0) (tbl m 1) (outsAt0 m hO 0 (t.val - 1) (Nat.lt_of_le_of_lt (Nat.sub_le _ _) t.isLt)).2.1 (outsAt0 m hO 0 (t.val - 1) (Nat.lt_of_le_of_lt (Nat.sub_le _ _) t.isLt)).2.2 h1
    unfold sout0_F_0
    exact congrFun e y

/-- The place in the result of an entry of a tile. -/
theorem emb5 (t : Fin (cfgM m hO).N) (y : S640x4096.Idx) :
    (show S18560x4096.Idx from (((cfgM m hO).win 5).blk t).view.emb y) = ix2 (row m hO t (y 0)) (y 1) := by
  refine funext fun (a : Fin 2) => Fin.ext ?_
  fin_cases a
  · blk_simp [idx5 m hO t]
    unfold row
    rfl
  · blk_simp [idx5 m hO t]
    rfl

/-- The whole result is the reference's. -/
theorem final (hw : ∀ r, (grp m r).toNat < 4)
    (hg : ∀ n : Fin 18560, ag m (ix1 n) = grp m ⟨n.val / 640, by omega⟩)
    (hz : ∀ (n : Fin 18560) (j : Fin 4), ¬0 < (vld m ⟨n.val / 640, by omega⟩).toInt → aw m (ix2 n j) = (0 : EReal)) :
    (dats m hO 0 0).arrAt 5 (cfgM m hO).N = REF (aX m) (aw m) (ag m) (aG m) (aU m) (aD m) := by
  refine (dats m hO 0 0).arrAt_eq_of_covers 5 _ (covers m hO) fun t hf (y : S640x4096.Idx) => ?_
  have h7 : t.val % 8 = 7 := (flush0_5 _ t).mp hf
  blk_simp
  rw [after0_5]
  have e1 := out_last m hO t h7 y
  have e2 := Pipeline.eq_sum_fin_of_reset_step_apply_of_flush (fun n h => (outsAt0 m hO 0 n h).2.1) 8 (fun _ => (0 : EReal)) (term m hO)
    (fun t h j => sum_start m hO hw hz t h j) (fun t h j => sum_step m hO hw hz t h j) t h7 y
  refine (e1.trans (e2.trans ?_)).trans (congrArg (REF (aX m) (aw m) (ag m) (aG m) (aU m) (aD m)) (emb5 m hO t y)).symm
  have hn := hg (row m hO t (y 0))
  have hr : (⟨(row m hO t (y 0)).val / 640, by omega⟩ : Fin 29) = tile t := by
    apply Fin.ext
    show (t.val / 8 * 640 + (y 0).val) / 640 = t.val / 8
    have : (y 0).val < 640 := (y 0).isLt
    omega
  rw [hr] at hn
  have hq : (show BitVec 32 from ag m (ix1 (row m hO t (y 0)))).toNat < 4 := by
    rw [hn]
    exact hw _
  refine Eq.trans ?_ (ref_at (aX m) (aw m) (ag m) (aG m) (aU m) (aD m) (ix2 (row m hO t (y 0)) (y 1)) hq).symm
  have e3 := regroup (fun e l => prod (aX m) (aw m) (aG m) (aU m) (aD m) (row m hO t (y 0)) (y 1) e l) (grp m (tile t)).toNat (hw _)
  refine Eq.trans ?_ (e3.trans ?_)
  · rw [zero_add]
    refine Finset.sum_congr rfl fun s _ => ?_
    have hs : (8 * (t.val / 8) + s.val) / 8 = t.val / 8 := by omega
    refine (term_at m hO hw _ y).trans (Finset.sum_congr rfl fun k _ => ?_)
    have k1 : row m hO ⟨8 * (t.val / 8) + s.val, Pipeline.run_point_lt_of_flush t h7 s⟩ (y 0) = row m hO t (y 0) :=
      Fin.ext (congrArg (fun a => a * 640 + (y 0).val) hs)
    have k2 : expert m hO hw ⟨8 * (t.val / 8) + s.val, Pipeline.run_point_lt_of_flush t h7 s⟩
        = ⟨(grp m (tile t)).toNat * 4 + s.val / 2, by have := hw (tile t); omega⟩ := by
      apply Fin.ext
      have kt : tile ⟨8 * (t.val / 8) + s.val, Pipeline.run_point_lt_of_flush t h7 s⟩ = tile t := Fin.ext hs
      show (grp m (tile _)).toNat * 4 + (8 * (t.val / 8) + s.val) / 2 % 4 = _
      rw [kt]
      show _ = (grp m (tile t)).toNat * 4 + s.val / 2
      omega
    have k3 : lane m hO ⟨8 * (t.val / 8) + s.val, Pipeline.run_point_lt_of_flush t h7 s⟩ k = ⟨s.val % 2 * 256 + k.val, by omega⟩ := by
      apply Fin.ext
      show (8 * (t.val / 8) + s.val) % 2 * 256 + k.val = s.val % 2 * 256 + k.val
      omega
    rw [k1, k2, k3]
  · refine Finset.sum_congr rfl fun e _ => Finset.sum_congr rfl fun l _ => ?_
    show _ = if e.val / 4 = (show BitVec 32 from ag m (ix1 (row m hO t (y 0)))).toNat then _ else _
    rw [hn]
    rfl

end Cert.ExpertsIdeal.Call
end
-- ==== Proof.ExpertsClaim.lean ====
/-
  The experts' tables under the condition on the sorted rows, and the whole run of the experts' call.
-/
module

public import proofs.«01_k».proof.Defs
public import proofs.«01_k».proof.Proof.Gen.Pre_sorted_rows
public import proofs.«01_k».proof.Proof.SortedRows
public import proofs.«01_k».proof.Proof.ExpertsBase
public import proofs.«01_k».proof.Proof.ExpertsValue

@[expose] public section
set_option maxRecDepth 16384

noncomputable section

open Idealize.ShloMosaic Idealize.ShloMosaic.TcCoe Idealize.SL.Sem

namespace Cert.Experts.Call

open Cert.Experts Cert.Experts.Gen

/-- Every tile's group is one of four. -/
theorem groups {m : (ℓ : Loc nD τ sig) → Buf (Elt Bits) ℓ} (h : @Cert.Pre_Experts Cert.Pre_sorted_rows.Gen.facts m) (r : Fin 29) :
    (grp m r).toNat < 4 :=
  @Cert.Pre_sorted_rows.group_lt Cert.Pre_sorted_rows.Gen.facts Bits _ _ _ _ _ _ _ _ _ (h 0).1 (h 0).2.1 (pos r)

end Cert.Experts.Call

namespace Cert.ExpertsIdeal.Call

open Cert.ExpertsIdeal Cert.ExpertsIdeal.Gen

variable {m : (ℓ : Loc nD τ sig) → Buf (Elt Ideal) ℓ} (h : @Cert.Pre_ExpertsIdeal Cert.Pre_sorted_rows.Gen.facts m)

theorem pos_eq (r : Fin 29) : pos r = ix1 r := by
  funext a
  obtain rfl : a = 0 := Subsingleton.elim _ _
  rfl

include h

/-- Every tile's group is one of four. -/
theorem groups (r : Fin 29) : (grp m r).toNat < 4 :=
  @Cert.Pre_sorted_rows.group_lt Cert.Pre_sorted_rows.Gen.facts Ideal _ _ _ _ _ _ _ _ _ (h 0).1 (h 0).2.1 (pos r)

/-- A row's gate group is its tile's. -/
theorem gates (n : Fin 18560) : ag m (ix1 n) = grp m ⟨n.val / 640, by omega⟩ := by
  have e := @Cert.Pre_sorted_rows.group_eq Cert.Pre_sorted_rows.Gen.facts Ideal _ _ _ _ _ _ _ _ _ (h 0).2.2.1 n
  unfold grp
  rw [pos_eq]
  exact e

/-- A tile without rows has gates of zero. -/
theorem zeros (n : Fin 18560) (j : Fin 4) (hv : ¬0 < (vld m ⟨n.val / 640, by omega⟩).toInt) : aw m (ix2 n j) = (0 : EReal) := by
  unfold vld at hv
  rw [pos_eq] at hv
  exact @Cert.Pre_sorted_rows.gate_zero Cert.Pre_sorted_rows.Gen.facts _ _ _ _ _ _ _ _ (h 0).2.2.2 n j hv

/-- The experts' result is the reference's. -/
theorem result (c : Dev nD) : (dats m (ok m (groups h)) 0 c).arrAt 5 (cfgM m (ok m (groups h))).N
    = REF (m ((c.tc : Thread nD τ).loc main_arg0)) (m ((c.tc : Thread nD τ).loc main_arg1)) (m ((c.tc : Thread nD τ).loc main_arg2))
        (m ((c.tc : Thread nD τ).loc main_arg5)) (m ((c.tc : Thread nD τ).loc main_arg6)) (m ((c.tc : Thread nD τ).loc main_arg7)) := by
  obtain rfl : c = 0 := Subsingleton.elim _ _
  exact final m (ok m (groups h)) (groups h) (gates h) (zeros h)

end Cert.ExpertsIdeal.Call

end
-- ==== Proof.LatValue.lean ====
/-
  The MLA latent projection: every block of the product is the reference's sum over the 4096 inputs, in the columns
  the call lays out: the latents, the shared key's rotary part and that part turned by a quarter, zeros between them.
-/
module

public import proofs.«01_k».proof.Proof.Gen.LatIdeal.Value
public import proofs.«01_k».proof.Proof.Gen.LatRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.LatIdeal.Call

open Cert.LatIdeal Cert.LatIdeal.Gen

variable (m : (ℓ : Loc nD τ sig) → Buf (Elt Ideal) ℓ) (c : Dev nD)

/-- The reference's result over the kernel's arguments. -/
abbrev REF (X : FVec Ideal S16640x4096 .f32) (W : FVec Ideal S4096x2112 .f32) : FVec Ideal S16640x2560 .f32 :=
  (concatenate Cert.LatRefIdeal.S16640x2560 1 [⟨Cert.LatRefIdeal.S16640x2048, ((extractStridedSlice Cert.LatRefIdeal.S16640x2048 ![0, 0] (Host.dotGeneral Cert.LatRefIdeal.dot_S16640x4096_S4096x2112_S16640x2112_1_0_0_1_n_n none X W) Cert.LatRefIdeal.Gen.slices_S16640x2112_S16640x2048_0_0) : (⟨Cert.LatRefIdeal.S16640x2048, .f32⟩ : BufTy).Contents (Elt Ideal))⟩, ⟨Cert.LatRefIdeal.S16640x64, ((extractStridedSlice Cert.LatRefIdeal.S16640x64 ![0, 2048] (Host.dotGeneral Cert.LatRefIdeal.dot_S16640x4096_S4096x2112_S16640x2112_1_0_0_1_n_n none X W) Cert.LatRefIdeal.Gen.slices_S16640x2112_S16640x64_0_2048) : (⟨Cert.LatRefIdeal.S16640x64, .f32⟩ : BufTy).Contents (Elt Ideal))⟩, ⟨Cert.LatRefIdeal.S16640x64, ((broadcastInDim Cert.LatRefIdeal.S16640x64 ![] Cert.LatRefIdeal.Gen.bcast_S_S16640x64 (constant (F := Ideal) Cert.LatRefIdeal.S_ .f32 0x00000000#32)) : (⟨Cert.LatRefIdeal.S16640x64, .f32⟩ : BufTy).Contents (Elt Ideal))⟩, ⟨Cert.LatRefIdeal.S16640x64, ((concatenate Cert.LatRefIdeal.S16640x64 1 [⟨Cert.LatRefIdeal.S16640x32, (Host.negf (extractStridedSlice Cert.LatRefIdeal.S16640x32 ![0, 32] (extractStridedSlice Cert.LatRefIdeal.S16640x64 ![0, 2048] (Host.dotGeneral Cert.LatRefIdeal.dot_S16640x4096_S4096x2112_S16640x2112_1_0_0_1_n_n none X W) Cert.LatRefIdeal.Gen.slices_S16640x2112_S16640x64_0_2048) Cert.LatRefIdeal.Gen.slices_S16640x64_S16640x32_0_32))⟩, ⟨Cert.LatRefIdeal.S16640x32, (extractStridedSlice Cert.LatRefIdeal.S16640x32 ![0, 0] (extractStridedSlice Cert.LatRefIdeal.S16640x64 ![0, 2048] (Host.dotGeneral Cert.LatRefIdeal.dot_S16640x4096_S4096x2112_S16640x2112_1_0_0_1_n_n none X W) Cert.LatRefIdeal.Gen.slices_S16640x2112_S16640x64_0_2048) Cert.LatRefIdeal.Gen.slices_S16640x64_S16640x32_0_0)⟩] Cert.LatRefIdeal.Gen.concatenates_S16640x32_S16640x32_S16640x64_d1) : (⟨Cert.LatRefIdeal.S16640x64, .f32⟩ : BufTy).Contents (Elt Ideal))⟩, ⟨Cert.LatRefIdeal.S16640x64, ((broadcastInDim Cert.LatRefIdeal.S16640x64 ![] Cert.LatRefIdeal.Gen.bcast_S_S16640x64 (constant (F := Ideal) Cert.LatRefIdeal.S_ .f32 0x00000000#32)) : (⟨Cert.LatRefIdeal.S16640x64, .f32⟩ : BufTy).Contents (Elt Ideal))⟩, ⟨Cert.LatRefIdeal.S16640x64, ((broadcastInDim Cert.LatRefIdeal.S16640x64 ![] Cert.LatRefIdeal.Gen.bcast_S_S16640x64 (constant (F := Ideal) Cert.LatRefIdeal.S_ .f32 0x00000000#32)) : (⟨Cert.LatRefIdeal.S16640x64, .f32⟩ : BufTy).Contents (Elt Ideal))⟩, ⟨Cert.LatRefIdeal.S16640x64, ((extractStridedSlice Cert.LatRefIdeal.S16640x64 ![0, 2048] (Host.dotGeneral Cert.LatRefIdeal.dot_S16640x4096_S4096x2112_S16640x2112_1_0_0_1_n_n none X W) Cert.LatRefIdeal.Gen.slices_S16640x2112_S16640x64_0_2048) : (⟨Cert.LatRefIdeal.S16640x64, .f32⟩ : BufTy).Contents (Elt Ideal))⟩, ⟨Cert.LatRefIdeal.S16640x64, ((broadcastInDim Cert.LatRefIdeal.S16640x64 ![] Cert.LatRefIdeal.Gen.bcast_S_S16640x64 (constant (F := Ideal) Cert.LatRefIdeal.S_ .f32 0x00000000#32)) : (⟨Cert.LatRefIdeal.S16640x64, .f32⟩ : BufTy).Contents (Elt Ideal))⟩, ⟨Cert.LatRefIdeal.S16640x64, ((concatenate Cert.LatRefIdeal.S16640x64 1 [⟨Cert.LatRefIdeal.S16640x32, (Host.negf (extractStridedSlice Cert.LatRefIdeal.S16640x32 ![0, 32] (extractStridedSlice Cert.LatRefIdeal.S16640x64 ![0, 2048] (Host.dotGeneral Cert.LatRefIdeal.dot_S16640x4096_S4096x2112_S16640x2112_1_0_0_1_n_n none X W) Cert.LatRefIdeal.Gen.slices_S16640x2112_S16640x64_0_2048) Cert.LatRefIdeal.Gen.slices_S16640x64_S16640x32_0_32))⟩, ⟨Cert.LatRefIdeal.S16640x32, (extractStridedSlice Cert.LatRefIdeal.S16640x32 ![0, 0] (extractStridedSlice Cert.LatRefIdeal.S16640x64 ![0, 2048] (Host.dotGeneral Cert.LatRefIdeal.dot_S16640x4096_S4096x2112_S16640x2112_1_0_0_1_n_n none X W) Cert.LatRefIdeal.Gen.slices_S16640x2112_S16640x64_0_2048) Cert.LatRefIdeal.Gen.slices_S16640x64_S16640x32_0_0)⟩] Cert.LatRefIdeal.Gen.concatenates_S16640x32_S16640x32_S16640x64_d1) : (⟨Cert.LatRefIdeal.S16640x64, .f32⟩ : BufTy).Contents (Elt Ideal))⟩] Cert.LatRefIdeal.Gen.concatenates_S16640x2048_S16640x64_S16640x64_S16640x64_S16640x64_S16640x64_S16640x64_S16640x64_S16640x64_S16640x2560_d1 : (⟨Cert.LatRefIdeal.S16640x2560, .f32⟩ : BufTy).Contents (Elt Ideal))

/-- The rotary columns of the weight. -/
abbrev WK (W : FVec Ideal S4096x2112 .f32) : FVec Ideal S4096x64 .f32 :=
  extractStridedSlice S4096x64 ![0, 2048] W slices_S4096x2112_S4096x64_0_2048
/-- The rotary columns turned by a quarter. -/
abbrev WR (W : FVec Ideal S4096x2112 .f32) : FVec Ideal S4096x64 .f32 :=
  concatenate S4096x64 1 [⟨S4096x32, Host.negf (extractStridedSlice S4096x32 ![0, 32] (WK W) slices_S4096x64_S4096x32_0_32)⟩, ⟨S4096x32, extractStridedSlice S4096x32 ![0, 0] (WK W) slices_S4096x64_S4096x32_0_0⟩] concatenates_S4096x32_S4096x32_S4096x64_d1
/-- Zero columns. -/
abbrev WZ : FVec Ideal S4096x64 .f32 := broadcastInDim S4096x64 ![] bcast_S_S4096x64 (constant S_ .f32 0x00000000#32)
/-- The weight as the call lays it out. -/
abbrev WP (W : FVec Ideal S4096x2112 .f32) : FVec Ideal S4096x2560 .bf16 :=
  truncf .bf16 (concatenate S4096x2560 1 [⟨S4096x2048, extractStridedSlice S4096x2048 ![0, 0] W slices_S4096x2112_S4096x2048_0_0⟩, ⟨S4096x64, WK W⟩, ⟨S4096x64, WZ⟩, ⟨S4096x64, WR W⟩, ⟨S4096x64, WZ⟩, ⟨S4096x64, WZ⟩, ⟨S4096x64, WK W⟩, ⟨S4096x64, WZ⟩, ⟨S4096x64, WR W⟩] concatenates_S4096x2048_S4096x64_S4096x64_S4096x64_S4096x64_S4096x64_S4096x64_S4096x64_S4096x64_S4096x2560_d1) bitsLt_bf16_f32

theorem v9_eq : (V m c main_v9 : FVec Ideal S4096x2560 .bf16) = WP (m ((c.tc : Thread nD τ).loc main_arg1)) := by
  show StableHlo.after hostOps0 (fun b => m (c, b)) _ = _
  after_results
  rfl

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A choice between two sums of products is the sum of the products with the choice. -/
theorem split_sum {n : ℕ} {P : Prop} [Decidable P] (A : P → EReal) (B : ¬P → EReal) (x : Fin n → EReal)
    (u : P → Fin n → EReal) (v : ¬P → Fin n → EReal) (h1 : ∀ h, A h = ∑ k, x k * u h k) (h2 : ∀ h, B h = ∑ k, x k * v h k) :
    (if h : P then A h else B h) = ∑ k, x k * (if h : P then u h k else v h k) := by
  by_cases h : P
  · simp only [dif_pos h, h1 h]
  · simp only [dif_neg h, h2 h]

/-- A sum of products with negated real factors is the negated sum. -/
theorem sum_neg {n : ℕ} (x w : Fin n → EReal) (hx : ∀ k, ∃ r : ℝ, x k = r) (hw : ∀ k, ∃ r : ℝ, w k = r) :
    ∑ k, x k * -(w k) = -(∑ k, x k * w k) := by
  choose x' hx' using hx
  choose w' hw' using hw
  simp only [hx', hw', ← EReal.coe_neg, ← EReal.coe_mul, mul_neg]
  rw [← coe_sum, ← coe_sum, ← EReal.coe_neg, Finset.sum_neg_distrib]

set_option maxHeartbeats 2000000 in
theorem ref_eq (X : FVec Ideal S16640x4096 .f32) (W : FVec Ideal S4096x2112 .f32) (hX : ∀ i, ∃ r : ℝ, X i = (r : EReal))
    (hW : ∀ k (j : Fin 64), ∃ r : ℝ, W (ix2 k ⟨2048 + j.val, by omega⟩) = (r : EReal)) (i : Fin 16640) (q : Fin 2560) :
    REF X W (ix2 i q) = (∑ k : Fin 4096, X (ix2 i k) * WP W (ix2 k q) : EReal) := by
  pointwise [REF, WP]
  have hq := q.isLt
  have h0 : (∑ k : Fin 4096, X (ix2 i k) * (0 : EReal)) = 0 := by simp only [mul_zero, Finset.sum_const_zero]
  have hn : ∀ (j : ℕ) (hj : j < 2112), 2048 ≤ j → ∑ k : Fin 4096, X (ix2 i k) * -(W (ix2 k ⟨j, hj⟩)) = -∑ k : Fin 4096, X (ix2 i k) * W (ix2 k ⟨j, hj⟩) := by
    intro j hj h
    refine sum_neg _ _ (fun k => hX _) (fun k => ?_)
    have e := hW k ⟨j - 2048, by omega⟩
    have e' : 2048 + (j - 2048) = j := by omega
    simpa only [e'] using e
  repeat' refine split_sum _ _ _ _ _ (fun h => ?_) (fun h => ?_)
  all_goals first
    | rfl
    | exact h0.symm
    | exact (hn _ _ (by omega)).symm

theorem ref_at (X : FVec Ideal S16640x4096 .f32) (W : FVec Ideal S4096x2112 .f32) (hX : ∀ i, ∃ r : ℝ, X i = (r : EReal))
    (hW : ∀ k (j : Fin 64), ∃ r : ℝ, W (ix2 k ⟨2048 + j.val, by omega⟩) = (r : EReal)) (j : S16640x2560.Idx) :
    REF X W j = (∑ k : Fin 4096, X (ix2 (j 0) k) * WP W (ix2 k (j 1)) : EReal) := by
  have e : j = ix2 (j 0) (j 1) := funext fun (a : Fin 2) => by fin_cases a <;> rfl
  exact (congrArg (REF X W) e).trans (ref_eq X W hX hW (j 0) (j 1))

theorem idx : ∀ t : Fin cfg0.N,
    win0_0.index t = ![t.val / 5, 0] ∧ win0_1.index t = ![0, t.val % 5]
      ∧ win0_2.index t = ![t.val / 5, t.val % 5] := (by decide +kernel : ∀ t : Fin grid0.N, _)

/-- The finite arguments. -/
abbrev Fin0 : Prop := (∀ i, ∃ r : ℝ, (m ((c.tc : Thread nD τ).loc main_arg0)) i = (r : EReal))
  ∧ ∀ k (j : Fin 64), ∃ r : ℝ, (m ((c.tc : Thread nD τ).loc main_arg1)) (ix2 k ⟨2048 + j.val, by omega⟩) = (r : EReal)

theorem blk0 (t : Fin cfg0.N) (a : Fin 1280) (k : Fin 4096) (r : Fin 16640) (hr : r.val = t.val / 5 * 1280 + a.val) :
    (iblk m c 0 t : Vec Ideal S1280x4096 .bf16) (ix2 a k) = (m ((c.tc : Thread nD τ).loc main_arg0) (ix2 r k) : EReal) := by
  blk_point [iblk, V, idx t, hr]

theorem blk1 (t : Fin cfg0.N) (k : Fin 4096) (b : Fin 512) (q : Fin 2560) (hq : q.val = t.val % 5 * 512 + b.val) :
    (iblk m c 1 t : Vec Ideal S4096x512 .bf16) (ix2 k b) = (WP (m ((c.tc : Thread nD τ).loc main_arg1)) (ix2 k q) : EReal) := by
  have e : ((cfg0.win 1).blk t).view.emb (ix2 k b) = ix2 k q := by
    blk_ext [idx t, hq]
  show V m c main_v9 (((cfg0.win 1).blk t).view.emb (ix2 k b)) = _
  rw [e, v9_eq]

theorem pay_at (x : Vec Ideal S1280x4096 .bf16) (w : Vec Ideal S4096x512 .bf16) (y : S1280x512.Idx) :
    k0_pay1 x w y = (∑ k : Fin 4096, x (ix2 (y 0) k) * w (ix2 k (y 1)) : EReal) := by
  pointwise [k0_pay1]

/-- What one grid point stores is the reference at the place of the array it is stored to. -/
theorem point (hf : Fin0 m c) (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  refine Eq.trans ?_ (ref_at _ _ hf.1 hf.2 (((cfg0.win 2).blk t).view.emb y)).symm
  refine (pay_at _ _ y).trans ?_
  refine Finset.sum_congr rfl fun k _ => congrArg₂ (· * · : EReal → EReal → EReal) (blk0 m c t _ k _ ?_) (blk1 m c t k _ _ ?_)
  · blk_simp [idx t]
  · blk_simp [idx t]

/-- The blocks fill the result. -/
theorem final (hf : Fin0 m c) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c hf t y

end Cert.LatIdeal.Call
-- ==== Proof.QueryValue.lean ====
/-
  The query projection: every block of the product is the reference's sum over the 1536 latent lanes, the plain columns
  of a pair of heads as they are, the rotary columns turned by the position's cosine and sine.
-/
module

public import proofs.«01_k».proof.Proof.Gen.QueryIdeal.Value
public import proofs.«01_k».proof.Proof.Gen.QueryRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.QueryIdeal.Call

open Cert.QueryIdeal Cert.QueryIdeal.Gen

variable (m : (ℓ : Loc nD τ sig) → Buf (Elt Ideal) ℓ) (c : Dev nD)

/-- The reference's plain result over the kernel's arguments. -/
abbrev REF0 (X : FVec Ideal S16640x1536 .f32) (W : FVec Ideal S1536x6144 .f32) : FVec Ideal S16640x4096 .bf16 :=
  truncf .bf16 (shapeCast Cert.QueryRefIdeal.S16640x4096 (extractStridedSlice Cert.QueryRefIdeal.S16640x32x128 ![0, 0, 0] (shapeCast Cert.QueryRefIdeal.S16640x32x192 (Host.dotGeneral Cert.QueryRefIdeal.dot_S16640x1536_S1536x6144_S16640x6144_1_0_0_1_n_n none X W) Cert.QueryRefIdeal.Gen.shapeCasts_S16640x6144_S16640x32x192) Cert.QueryRefIdeal.Gen.slices_S16640x32x192_S16640x32x128_0_0_0) Cert.QueryRefIdeal.Gen.shapeCasts_S16640x32x128_S16640x4096) Cert.QueryRefIdeal.Gen.bitsLt_bf16_f32

/-- The reference's rotary result over the kernel's arguments. -/
abbrev REF1 (X : FVec Ideal S16640x1536 .f32) (W : FVec Ideal S1536x6144 .f32) (C S : FVec Ideal S16384x32 .f32) : FVec Ideal S16640x2048 .bf16 :=
  truncf .bf16 (shapeCast Cert.QueryRefIdeal.S16640x2048 (concatenate Cert.QueryRefIdeal.S16640x32x64 0 [⟨Cert.QueryRefIdeal.S256x32x64, (extractStridedSlice Cert.QueryRefIdeal.S256x32x64 ![0, 0, 0] (extractStridedSlice Cert.QueryRefIdeal.S16640x32x64 ![0, 0, 128] (shapeCast Cert.QueryRefIdeal.S16640x32x192 (Host.dotGeneral Cert.QueryRefIdeal.dot_S16640x1536_S1536x6144_S16640x6144_1_0_0_1_n_n none X W) Cert.QueryRefIdeal.Gen.shapeCasts_S16640x6144_S16640x32x192) Cert.QueryRefIdeal.Gen.slices_S16640x32x192_S16640x32x64_0_0_128) Cert.QueryRefIdeal.Gen.slices_S16640x32x64_S256x32x64_0_0_0)⟩, ⟨Cert.QueryRefIdeal.S16384x32x64, (concatenate Cert.QueryRefIdeal.S16384x32x64 2 [⟨Cert.QueryRefIdeal.S16384x32x32, (subf (mulf (extractStridedSlice Cert.QueryRefIdeal.S16384x32x32 ![0, 0, 0] (extractStridedSlice Cert.QueryRefIdeal.S16384x32x64 ![256, 0, 0] (extractStridedSlice Cert.QueryRefIdeal.S16640x32x64 ![0, 0, 128] (shapeCast Cert.QueryRefIdeal.S16640x32x192 (Host.dotGeneral Cert.QueryRefIdeal.dot_S16640x1536_S1536x6144_S16640x6144_1_0_0_1_n_n none X W) Cert.QueryRefIdeal.Gen.shapeCasts_S16640x6144_S16640x32x192) Cert.QueryRefIdeal.Gen.slices_S16640x32x192_S16640x32x64_0_0_128) Cert.QueryRefIdeal.Gen.slices_S16640x32x64_S16384x32x64_256_0_0) Cert.QueryRefIdeal.Gen.slices_S16384x32x64_S16384x32x32_0_0_0) (broadcastInDim Cert.QueryRefIdeal.S16384x32x32 ![0, 1, 2] Cert.QueryRefIdeal.Gen.bcast_S16384x1x32_S16384x32x32_0_1_2 (broadcastInDim Cert.QueryRefIdeal.S16384x1x32 ![0, 2] Cert.QueryRefIdeal.Gen.bcast_S16384x32_S16384x1x32_0_2 C))) (mulf (extractStridedSlice Cert.QueryRefIdeal.S16384x32x32 ![0, 0, 32] (extractStridedSlice Cert.QueryRefIdeal.S16384x32x64 ![256, 0, 0] (extractStridedSlice Cert.QueryRefIdeal.S16640x32x64 ![0, 0, 128] (shapeCast Cert.QueryRefIdeal.S16640x32x192 (Host.dotGeneral Cert.QueryRefIdeal.dot_S16640x1536_S1536x6144_S16640x6144_1_0_0_1_n_n none X W) Cert.QueryRefIdeal.Gen.shapeCasts_S16640x6144_S16640x32x192) Cert.QueryRefIdeal.Gen.slices_S16640x32x192_S16640x32x64_0_0_128) Cert.QueryRefIdeal.Gen.slices_S16640x32x64_S16384x32x64_256_0_0) Cert.QueryRefIdeal.Gen.slices_S16384x32x64_S16384x32x32_0_0_32) (broadcastInDim Cert.QueryRefIdeal.S16384x32x32 ![0, 1, 2] Cert.QueryRefIdeal.Gen.bcast_S16384x1x32_S16384x32x32_0_1_2 (broadcastInDim Cert.QueryRefIdeal.S16384x1x32 ![0, 2] Cert.QueryRefIdeal.Gen.bcast_S16384x32_S16384x1x32_0_2 S))))⟩, ⟨Cert.QueryRefIdeal.S16384x32x32, (addf (mulf (extractStridedSlice Cert.QueryRefIdeal.S16384x32x32 ![0, 0, 32] (extractStridedSlice Cert.QueryRefIdeal.S16384x32x64 ![256, 0, 0] (extractStridedSlice Cert.QueryRefIdeal.S16640x32x64 ![0, 0, 128] (shapeCast Cert.QueryRefIdeal.S16640x32x192 (Host.dotGeneral Cert.QueryRefIdeal.dot_S16640x1536_S1536x6144_S16640x6144_1_0_0_1_n_n none X W) Cert.QueryRefIdeal.Gen.shapeCasts_S16640x6144_S16640x32x192) Cert.QueryRefIdeal.Gen.slices_S16640x32x192_S16640x32x64_0_0_128) Cert.QueryRefIdeal.Gen.slices_S16640x32x64_S16384x32x64_256_0_0) Cert.QueryRefIdeal.Gen.slices_S16384x32x64_S16384x32x32_0_0_32) (broadcastInDim Cert.QueryRefIdeal.S16384x32x32 ![0, 1, 2] Cert.QueryRefIdeal.Gen.bcast_S16384x1x32_S16384x32x32_0_1_2 (broadcastInDim Cert.QueryRefIdeal.S16384x1x32 ![0, 2] Cert.QueryRefIdeal.Gen.bcast_S16384x32_S16384x1x32_0_2 C))) (mulf (extractStridedSlice Cert.QueryRefIdeal.S16384x32x32 ![0, 0, 0] (extractStridedSlice Cert.QueryRefIdeal.S16384x32x64 ![256, 0, 0] (extractStridedSlice Cert.QueryRefIdeal.S16640x32x64 ![0, 0, 128] (shapeCast Cert.QueryRefIdeal.S16640x32x192 (Host.dotGeneral Cert.QueryRefIdeal.dot_S16640x1536_S1536x6144_S16640x6144_1_0_0_1_n_n none X W) Cert.QueryRefIdeal.Gen.shapeCasts_S16640x6144_S16640x32x192) Cert.QueryRefIdeal.Gen.slices_S16640x32x192_S16640x32x64_0_0_128) Cert.QueryRefIdeal.Gen.slices_S16640x32x64_S16384x32x64_256_0_0) Cert.QueryRefIdeal.Gen.slices_S16384x32x64_S16384x32x32_0_0_0) (broadcastInDim Cert.QueryRefIdeal.S16384x32x32 ![0, 1, 2] Cert.QueryRefIdeal.Gen.bcast_S16384x1x32_S16384x32x32_0_1_2 (broadcastInDim Cert.QueryRefIdeal.S16384x1x32 ![0, 2] Cert.QueryRefIdeal.Gen.bcast_S16384x32_S16384x1x32_0_2 S))))⟩] Cert.QueryRefIdeal.Gen.concatenates_S16384x32x32_S16384x32x32_S16384x32x64_d2)⟩] Cert.QueryRefIdeal.Gen.concatenates_S256x32x64_S16384x32x64_S16640x32x64_d0) Cert.QueryRefIdeal.Gen.shapeCasts_S16640x32x64_S16640x2048) Cert.QueryRefIdeal.Gen.bitsLt_bf16_f32

/-- The weight by heads. -/
abbrev WH (W : FVec Ideal S1536x6144 .f32) : FVec Ideal S1536x32x192 .f32 := shapeCast S1536x32x192 W shapeCasts_S1536x6144_S1536x32x192
/-- The rotary columns of the weight. -/
abbrev WK (W : FVec Ideal S1536x6144 .f32) : FVec Ideal S1536x32x64 .f32 :=
  extractStridedSlice S1536x32x64 ![0, 0, 128] (WH W) slices_S1536x32x192_S1536x32x64_0_0_128
/-- The rotary columns turned by a quarter. -/
abbrev WR (W : FVec Ideal S1536x6144 .f32) : FVec Ideal S1536x32x64 .f32 :=
  concatenate S1536x32x64 2 [⟨S1536x32x32, Host.negf (extractStridedSlice S1536x32x32 ![0, 0, 32] (WK W) slices_S1536x32x64_S1536x32x32_0_0_32)⟩, ⟨S1536x32x32, extractStridedSlice S1536x32x32 ![0, 0, 0] (WK W) slices_S1536x32x64_S1536x32x32_0_0_0⟩] concatenates_S1536x32x32_S1536x32x32_S1536x32x64_d2
/-- The weight as the call lays it out. -/
abbrev WP (W : FVec Ideal S1536x6144 .f32) : FVec Ideal S1536x8192 .bf16 :=
  truncf .bf16 (shapeCast S1536x8192 (concatenate S1536x16x512 2 [⟨S1536x16x256, shapeCast S1536x16x256 (extractStridedSlice S1536x32x128 ![0, 0, 0] (WH W) slices_S1536x32x192_S1536x32x128_0_0_0) shapeCasts_S1536x32x128_S1536x16x256⟩, ⟨S1536x16x128, shapeCast S1536x16x128 (WK W) shapeCasts_S1536x32x64_S1536x16x128⟩, ⟨S1536x16x128, shapeCast S1536x16x128 (WR W) shapeCasts_S1536x32x64_S1536x16x128⟩] concatenates_S1536x16x256_S1536x16x128_S1536x16x128_S1536x16x512_d2) shapeCasts_S1536x16x512_S1536x8192) bitsLt_bf16_f32
/-- A table of the positions as the call lays it out: `x` for the rows of the context, four times over. -/
abbrev TP (x : BitVec 32) (C : FVec Ideal S16384x32 .f32) : FVec Ideal S16640x128 .f32 :=
  shapeCast S16640x128 (broadcastInDim S1x16640x4x32 ![0, 1, 2, 3] bcast_S1x16640x1x32_S1x16640x4x32_0_1_2_3 (shapeCast S1x16640x1x32 (concatenate S16640x32 0 [⟨S256x32, broadcastInDim S256x32 ![] bcast_S_S256x32 (constant (F := Ideal) S_ .f32 x)⟩, ⟨S16384x32, C⟩] concatenates_S256x32_S16384x32_S16640x32_d0) shapeCasts_S16640x32_S1x16640x1x32)) shapeCasts_S1x16640x4x32_S16640x128

theorem v23_eq : (V m c main_v23 : FVec Ideal S1536x8192 .bf16) = WP (m ((c.tc : Thread nD τ).loc main_arg1)) := by
  show StableHlo.after hostOps0 (fun b => m (c, b)) _ = _
  after_results
  rfl

theorem v4_eq : (V m c main_v4 : FVec Ideal S16640x128 .f32) = TP 0x3F800000#32 (m ((c.tc : Thread nD τ).loc main_arg2)) := by
  show StableHlo.after hostOps0 (fun b => m (c, b)) _ = _
  after_results
  rfl

theorem v9_eq : (V m c main_v9 : FVec Ideal S16640x128 .f32) = TP 0x00000000#32 (m ((c.tc : Thread nD τ).loc main_arg3)) := by
  show StableHlo.after hostOps0 (fun b => m (c, b)) _ = _
  after_results
  rfl

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A sum of products with negated real factors is the negated sum. -/
theorem sum_neg {n : ℕ} (x w : Fin n → EReal) (hx : ∀ k, ∃ r : ℝ, x k = r) (hw : ∀ k, ∃ r : ℝ, w k = r) :
    ∑ k, x k * -(w k) = -(∑ k, x k * w k) := by
  choose x' hx' using hx
  choose w' hw' using hw
  simp only [hx', hw', ← EReal.coe_neg, ← EReal.coe_mul, mul_neg]
  rw [← coe_sum, ← coe_sum, ← EReal.coe_neg, Finset.sum_neg_distrib]

variable (X : FVec Ideal S16640x1536 .f32) (W : FVec Ideal S1536x6144 .f32) (C S : FVec Ideal S16384x32 .f32)

theorem wp_n (k : Fin 1536) (q : Fin 4096) :
    (WP W (ix2 k ⟨q.val / 256 * 512 + q.val % 256, by omega⟩) : EReal) = W (ix2 k ⟨q.val / 128 * 192 + q.val % 128, by omega⟩) := by
  pointwise
  rw [dif_pos (by omega)]
  congr 2
  apply Fin.ext
  dsimp only
  omega

theorem wp_a (k : Fin 1536) (q : Fin 2048) :
    (WP W (ix2 k ⟨q.val / 128 * 512 + (256 + q.val % 128), by omega⟩) : EReal) = W (ix2 k ⟨q.val / 64 * 192 + (128 + q.val % 64), by omega⟩) := by
  pointwise
  rw [dif_neg (by omega), dif_pos (by omega)]
  congr 2
  apply Fin.ext
  dsimp only
  omega

theorem wp_b1 (k : Fin 1536) (q : Fin 2048) (h : q.val % 64 < 32) :
    (WP W (ix2 k ⟨q.val / 128 * 512 + (384 + q.val % 128), by omega⟩) : EReal) = -W (ix2 k ⟨q.val / 64 * 192 + (128 + (32 + q.val % 64)), by omega⟩) := by
  pointwise
  rw [dif_neg (by omega), dif_neg (by omega), dif_pos (by omega)]
  congr 3
  apply Fin.ext
  dsimp only
  omega

theorem wp_b2 (k : Fin 1536) (q : Fin 2048) (h : ¬q.val % 64 < 32) :
    (WP W (ix2 k ⟨q.val / 128 * 512 + (384 + q.val % 128), by omega⟩) : EReal) = W (ix2 k ⟨q.val / 64 * 192 + (128 + (q.val % 64 - 32)), by omega⟩) := by
  pointwise
  rw [dif_neg (by omega), dif_neg (by omega), dif_neg (by omega)]
  congr 2
  apply Fin.ext
  dsimp only
  omega

theorem ref0_at (j : S16640x4096.Idx) :
    REF0 X W j = (∑ k : Fin 1536, X (ix2 (j 0) k) * WP W (ix2 k ⟨(j 1).val / 256 * 512 + (j 1).val % 256, by have h : (j 1).val < 4096 := (j 1).isLt; omega⟩) : EReal) := by
  have e : j = ix2 (j 0) (j 1) := funext fun (a : Fin 2) => by fin_cases a <;> rfl
  have h : REF0 X W (ix2 (j 0) (j 1)) = (∑ k : Fin 1536, X (ix2 (j 0) k) * W (ix2 k ⟨(j 1).val / 128 * 192 + (j 1).val % 128, by have h : (j 1).val < 4096 := (j 1).isLt; omega⟩) : EReal) := by
    pointwise
  refine (congrArg (REF0 X W) e).trans (h.trans (Finset.sum_congr rfl fun k _ => congrArg (X (ix2 (j 0) k) * · : EReal → EReal) (wp_n W k (j 1)).symm))

theorem ref1_eq (hX : ∀ i, ∃ r : ℝ, X i = (r : EReal)) (hW : ∀ i, ∃ r : ℝ, W i = (r : EReal)) (r : Fin 16640) (q : Fin 2048) :
    REF1 X W C S (ix2 r q) = ((∑ k : Fin 1536, X (ix2 r k) * WP W (ix2 k ⟨q.val / 128 * 512 + (256 + q.val % 128), by omega⟩))
        * TP 0x3F800000#32 C (ix2 r ⟨q.val % 128, by omega⟩)
      + (∑ k : Fin 1536, X (ix2 r k) * WP W (ix2 k ⟨q.val / 128 * 512 + (384 + q.val % 128), by omega⟩))
        * TP 0x00000000#32 S (ix2 r ⟨q.val % 128, by omega⟩) : EReal) := by
  have ea : (∑ k : Fin 1536, X (ix2 r k) * WP W (ix2 k ⟨q.val / 128 * 512 + (256 + q.val % 128), by omega⟩) : EReal)
      = ∑ k : Fin 1536, X (ix2 r k) * W (ix2 k ⟨q.val / 64 * 192 + (128 + q.val % 64), by omega⟩) :=
    Finset.sum_congr rfl fun k _ => congrArg (X (ix2 r k) * · : EReal → EReal) (wp_a W k q)
  rw [ea]
  have e0 : ∀ a b : EReal, a = a * 1 + b * 0 := fun a b => by rw [mul_one, mul_zero, add_zero]
  by_cases h0 : r.val < 256
  · have c1 : (TP 0x3F800000#32 C (ix2 r ⟨q.val % 128, by omega⟩) : EReal) = 1 := by
      pointwise
      rw [dif_pos h0]
    have c0 : (TP 0x00000000#32 S (ix2 r ⟨q.val % 128, by omega⟩) : EReal) = 0 := by
      pointwise
      rw [dif_pos h0]
    rw [c1, c0, ← e0]
    pointwise [REF1]
    rw [dif_pos h0]
  · have hr : 256 + (r.val - 256) = r.val := by omega
    have hm : q.val % 128 % 32 = q.val % 32 := by omega
    have c1 : (TP 0x3F800000#32 C (ix2 r ⟨q.val % 128, by omega⟩) : EReal) = C (ix2 ⟨r.val - 256, by omega⟩ ⟨q.val % 32, by omega⟩) := by
      pointwise
      rw [dif_neg h0]
      simp only [hm]
    have c0 : (TP 0x00000000#32 S (ix2 r ⟨q.val % 128, by omega⟩) : EReal) = S (ix2 ⟨r.val - 256, by omega⟩ ⟨q.val % 32, by omega⟩) := by
      pointwise
      rw [dif_neg h0]
      simp only [hm]
    rw [c1, c0]
    by_cases h1 : q.val % 64 < 32
    · have eb : (∑ k : Fin 1536, X (ix2 r k) * WP W (ix2 k ⟨q.val / 128 * 512 + (384 + q.val % 128), by omega⟩) : EReal)
          = -∑ k : Fin 1536, X (ix2 r k) * W (ix2 k ⟨q.val / 64 * 192 + (128 + (32 + q.val % 64)), by omega⟩) :=
        (Finset.sum_congr rfl fun k _ => congrArg (X (ix2 r k) * · : EReal → EReal) (wp_b1 W k q h1)).trans
          (sum_neg _ _ (fun k => hX _) (fun k => hW _))
      have hl : q.val % 32 = q.val % 64 := by omega
      rw [eb, EReal.neg_mul, ← sub_eq_add_neg]
      simp only [hl]
      pointwise [REF1]
      rw [dif_neg h0, dif_pos h1]
      simp only [hr, Fin.eta]
    · have eb : (∑ k : Fin 1536, X (ix2 r k) * WP W (ix2 k ⟨q.val / 128 * 512 + (384 + q.val % 128), by omega⟩) : EReal)
          = ∑ k : Fin 1536, X (ix2 r k) * W (ix2 k ⟨q.val / 64 * 192 + (128 + (q.val % 64 - 32)), by omega⟩) :=
        Finset.sum_congr rfl fun k _ => congrArg (X (ix2 r k) * · : EReal → EReal) (wp_b2 W k q h1)
      have hl : q.val % 32 = q.val % 64 - 32 := by omega
      have hk : 32 + (q.val % 64 - 32) = q.val % 64 := by omega
      rw [eb]
      simp only [hl]
      pointwise [REF1]
      rw [dif_neg h0, dif_neg h1]
      simp only [hr, hk, Fin.eta]

theorem ref1_at (hX : ∀ i, ∃ r : ℝ, X i = (r : EReal)) (hW : ∀ i, ∃ r : ℝ, W i = (r : EReal)) (j : S16640x2048.Idx) :
    REF1 X W C S j = ((∑ k : Fin 1536, X (ix2 (j 0) k) * WP W (ix2 k ⟨(j 1).val / 128 * 512 + (256 + (j 1).val % 128), by have h : (j 1).val < 2048 := (j 1).isLt; omega⟩))
        * TP 0x3F800000#32 C (ix2 (j 0) ⟨(j 1).val % 128, by omega⟩)
      + (∑ k : Fin 1536, X (ix2 (j 0) k) * WP W (ix2 k ⟨(j 1).val / 128 * 512 + (384 + (j 1).val % 128), by have h : (j 1).val < 2048 := (j 1).isLt; omega⟩))
        * TP 0x00000000#32 S (ix2 (j 0) ⟨(j 1).val % 128, by omega⟩) : EReal) := by
  have e : j = ix2 (j 0) (j 1) := funext fun (a : Fin 2) => by fin_cases a <;> rfl
  exact (congrArg (REF1 X W C S) e).trans (ref1_eq X W C S hX hW (j 0) (j 1))

theorem idx : ∀ t : Fin cfg0.N,
    win0_0.index t = ![t.val / 16, 0] ∧ win0_1.index t = ![0, t.val % 16] ∧ win0_2.index t = ![t.val / 16, 0] ∧ win0_3.index t = ![t.val / 16, 0]
      ∧ win0_4.index t = ![t.val / 16, t.val % 16] ∧ win0_5.index t = ![t.val / 16, t.val % 16] := (by decide +kernel : ∀ t : Fin grid0.N, _)

/-- The finite arguments. -/
abbrev Fin0 : Prop := (∀ i, ∃ r : ℝ, (m ((c.tc : Thread nD τ).loc main_arg0)) i = (r : EReal))
  ∧ ∀ i, ∃ r : ℝ, (m ((c.tc : Thread nD τ).loc main_arg1)) i = (r : EReal)

theorem blk0 (t : Fin cfg0.N) (a : Fin 1280) (k : Fin 1536) (r : Fin 16640) (hr : r.val = t.val / 16 * 1280 + a.val) :
    (iblk m c 0 t : Vec Ideal S1280x1536 .bf16) (ix2 a k) = (m ((c.tc : Thread nD τ).loc main_arg0) (ix2 r k) : EReal) := by
  blk_point [iblk, V, idx t, hr]

theorem blk1 (t : Fin cfg0.N) (k : Fin 1536) (b : Fin 512) (q : Fin 8192) (hq : q.val = t.val % 16 * 512 + b.val) :
    (iblk m c 1 t : Vec Ideal S1536x512 .bf16) (ix2 k b) = (WP (m ((c.tc : Thread nD τ).loc main_arg1)) (ix2 k q) : EReal) := by
  have e : ((cfg0.win 1).blk t).view.emb (ix2 k b) = ix2 k q := by
    blk_ext [idx t, hq]
  show V m c main_v23 (((cfg0.win 1).blk t).view.emb (ix2 k b)) = _
  rw [e, v23_eq]

theorem blk2 (t : Fin cfg0.N) (y : S1280x128.Idx) (r : Fin 16640) (l : Fin 128) (hr : r.val = t.val / 16 * 1280 + (y 0).val) (hl : l.val = (y 1).val) :
    (iblk m c 2 t : Vec Ideal S1280x128 .f32) y = (TP 0x3F800000#32 (m ((c.tc : Thread nD τ).loc main_arg2)) (ix2 r l) : EReal) := by
  have e : ((cfg0.win 2).blk t).view.emb y = ix2 r l := by
    blk_ext [idx t, hr, hl]
  show V m c main_v4 (((cfg0.win 2).blk t).view.emb y) = _
  rw [e, v4_eq]

theorem blk3 (t : Fin cfg0.N) (y : S1280x128.Idx) (r : Fin 16640) (l : Fin 128) (hr : r.val = t.val / 16 * 1280 + (y 0).val) (hl : l.val = (y 1).val) :
    (iblk m c 3 t : Vec Ideal S1280x128 .f32) y = (TP 0x00000000#32 (m ((c.tc : Thread nD τ).loc main_arg3)) (ix2 r l) : EReal) := by
  have e : ((cfg0.win 3).blk t).view.emb y = ix2 r l := by
    blk_ext [idx t, hr, hl]
  show V m c main_v9 (((cfg0.win 3).blk t).view.emb y) = _
  rw [e, v9_eq]

theorem pay2_at (x : Vec Ideal S1280x1536 .bf16) (w : Vec Ideal S1536x512 .bf16) (y : S1280x256.Idx) :
    k0_pay2 x w y = (∑ k : Fin 1536, x (ix2 (y 0) k) * w (ix2 k ⟨(y 1).val, by have h : (y 1).val < 256 := (y 1).isLt; omega⟩) : EReal) := by
  pointwise [k0_pay1, k0_pay2]

theorem pay3_at (x : Vec Ideal S1280x1536 .bf16) (w : Vec Ideal S1536x512 .bf16) (a b : Vec Ideal S1280x128 .f32) (y : S1280x128.Idx) :
    k0_pay3 x w a b y = ((∑ k : Fin 1536, x (ix2 (y 0) k) * w (ix2 k ⟨256 + (y 1).val, by have h : (y 1).val < 128 := (y 1).isLt; omega⟩)) * a y
      + (∑ k : Fin 1536, x (ix2 (y 0) k) * w (ix2 k ⟨384 + (y 1).val, by have h : (y 1).val < 128 := (y 1).isLt; omega⟩)) * b y : EReal) := by
  pointwise [k0_pay1, k0_pay3]

theorem emb4 (t : Fin cfg0.N) (y : S1280x256.Idx) : ((((cfg0.win 4).blk t).view.emb y : S16640x4096.Idx) 0).val = t.val / 16 * 1280 + (y 0).val
    ∧ ((((cfg0.win 4).blk t).view.emb y : S16640x4096.Idx) 1).val = t.val % 16 * 256 + (y 1).val := by
  constructor <;> blk_simp [idx t]

theorem emb5 (t : Fin cfg0.N) (y : S1280x128.Idx) : ((((cfg0.win 5).blk t).view.emb y : S16640x2048.Idx) 0).val = t.val / 16 * 1280 + (y 0).val
    ∧ ((((cfg0.win 5).blk t).view.emb y : S16640x2048.Idx) 1).val = t.val % 16 * 128 + (y 1).val := by
  constructor <;> blk_simp [idx t]

/-- What one grid point stores of the plain columns is the reference at the place of the array it is stored to. -/
theorem point0 (t : Fin cfg0.N) (y) : k0_pay2 (iblk m c 0 t) (iblk m c 1 t) y
    = REF0 (m ((c.tc : Thread nD τ).loc main_arg0)) (m ((c.tc : Thread nD τ).loc main_arg1))
        (((cfg0.win 4).blk t).view.emb y) := by
  refine Eq.trans ?_ (ref0_at _ _ (((cfg0.win 4).blk t).view.emb y)).symm
  refine (pay2_at _ _ y).trans ?_
  obtain ⟨e0, e1⟩ := emb4 t y
  have hy : (y 1).val < 256 := (y 1).isLt
  refine Finset.sum_congr rfl fun k _ => congrArg₂ (· * · : EReal → EReal → EReal) (blk0 m c t _ k _ e0) (blk1 m c t k _ _ ?_)
  dsimp only
  rw [e1]
  omega

/-- What one grid point stores of the rotary columns is the reference at the place of the array it is stored to. -/
theorem point1 (hf : Fin0 m c) (t : Fin cfg0.N) (y) : k0_pay3 (iblk m c 0 t) (iblk m c 1 t) (iblk m c 2 t) (iblk m c 3 t) y
    = REF1 (m ((c.tc : Thread nD τ).loc main_arg0)) (m ((c.tc : Thread nD τ).loc main_arg1)) (m ((c.tc : Thread nD τ).loc main_arg2)) (m ((c.tc : Thread nD τ).loc main_arg3))
        (((cfg0.win 5).blk t).view.emb y) := by
  refine Eq.trans ?_ (ref1_at _ _ _ _ hf.1 hf.2 (((cfg0.win 5).blk t).view.emb y)).symm
  refine (pay3_at _ _ _ _ y).trans ?_
  obtain ⟨e0, e1⟩ := emb5 t y
  have hy : (y 1).val < 128 := (y 1).isLt
  refine congrArg₂ (· + · : EReal → EReal → EReal) (congrArg₂ (· * · : EReal → EReal → EReal) (Finset.sum_congr rfl fun k _ =>
      congrArg₂ (· * · : EReal → EReal → EReal) (blk0 m c t _ k _ e0) (blk1 m c t k _ _ ?_)) (blk2 m c t y _ _ e0 ?_))
    (congrArg₂ (· * · : EReal → EReal → EReal) (Finset.sum_congr rfl fun k _ =>
      congrArg₂ (· * · : EReal → EReal → EReal) (blk0 m c t _ k _ e0) (blk1 m c t k _ _ ?_)) (blk3 m c t y _ _ e0 ?_))
  all_goals
    dsimp only
    rw [e1]
    omega

/-- The blocks fill the plain result. -/
theorem final0 : (dats m 0 c).arrAt 4 cfg0.N
    = REF0 (m ((c.tc : Thread nD τ).loc main_arg0)) (m ((c.tc : Thread nD τ).loc main_arg1)) := by
  refine (dats m 0 c).arrAt_eq_of_covers 4 _ (by decide +kernel) fun t _ y => ?_
  blk_simp
  rw [after0_4]
  frame_out
  exact point0 m c t y

/-- The blocks fill the rotary result. -/
theorem final1 (hf : Fin0 m c) : (dats m 0 c).arrAt 5 cfg0.N
    = REF1 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  frame_out
  exact point1 m c hf t y

end Cert.QueryIdeal.Call
-- ==== Proof.KeyValue.lean ====
/-
  The keys of the attention: every block of the product is the reference's sum over the 512 latent lanes, in the
  columns of the weight that hold the keys.
-/
module

public import proofs.«01_k».proof.Proof.Gen.KeyIdeal.Value
public import proofs.«01_k».proof.Proof.Gen.KeyRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.KeyIdeal.Call

open Cert.KeyIdeal Cert.KeyIdeal.Gen

variable (m : (ℓ : Loc nD τ sig) → Buf (Elt Ideal) ℓ) (c : Dev nD)

/-- The reference's result over the kernel's arguments. -/
abbrev REF (X : FVec Ideal S16640x512 .f32) (W : FVec Ideal S512x8192 .f32) : FVec Ideal S16640x4096 .bf16 :=
  truncf .bf16 (shapeCast Cert.KeyRefIdeal.S16640x4096 (extractStridedSlice Cert.KeyRefIdeal.S16640x32x128 ![0, 0, 0] (shapeCast Cert.KeyRefIdeal.S16640x32x256 (Host.dotGeneral Cert.KeyRefIdeal.dot_S16640x512_S512x8192_S16640x8192_1_0_0_1_n_n none X W) Cert.KeyRefIdeal.Gen.shapeCasts_S16640x8192_S16640x32x256) Cert.KeyRefIdeal.Gen.slices_S16640x32x256_S16640x32x128_0_0_0) Cert.KeyRefIdeal.Gen.shapeCasts_S16640x32x128_S16640x4096) Cert.KeyRefIdeal.Gen.bitsLt_bf16_f32

theorem idx : ∀ t : Fin cfg0.N,
    win0_0.index t = ![t.val / 8, 0] ∧ win0_1.index t = ![0, t.val % 8]
      ∧ win0_2.index t = ![t.val / 8, t.val % 8] := (by decide +kernel : ∀ t : Fin grid0.N, _)

/-- What one grid point stores is the reference at the place of the array it is stored to. -/
theorem point (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  pointwise [k0_pay1, REF]
  blk_point [iblk, V, idx t]

/-- The blocks fill the result. -/
theorem final : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.KeyIdeal.Call
-- ==== Proof.ValueTValue.lean ====
/-
  The values of the attention, transposed: every block of the product is the reference's sum over the 512 latent
  lanes, in the columns of the weight that hold the values.
-/
module

public import proofs.«01_k».proof.Proof.Gen.ValueTIdeal.Value
public import proofs.«01_k».proof.Proof.Gen.ValueTRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.ValueTIdeal.Call

open Cert.ValueTIdeal Cert.ValueTIdeal.Gen

variable (m : (ℓ : Loc nD τ sig) → Buf (Elt Ideal) ℓ) (c : Dev nD)

/-- The reference's result over the kernel's arguments. -/
abbrev REF (X : FVec Ideal S16640x512 .f32) (W : FVec Ideal S512x8192 .f32) : FVec Ideal S4096x16640 .bf16 :=
  truncf .bf16 (transpose Cert.ValueTRefIdeal.S4096x16640 [1, 0] (shapeCast Cert.ValueTRefIdeal.S16640x4096 (extractStridedSlice Cert.ValueTRefIdeal.S16640x32x128 ![0, 0, 128] (shapeCast Cert.ValueTRefIdeal.S16640x32x256 (Host.dotGeneral Cert.ValueTRefIdeal.dot_S16640x512_S512x8192_S16640x8192_1_0_0_1_n_n none X W) Cert.ValueTRefIdeal.Gen.shapeCasts_S16640x8192_S16640x32x256) Cert.ValueTRefIdeal.Gen.slices_S16640x32x256_S16640x32x128_0_0_128) Cert.ValueTRefIdeal.Gen.shapeCasts_S16640x32x128_S16640x4096) Cert.ValueTRefIdeal.Gen.transposes_S16640x4096_S4096x16640_1_0) Cert.ValueTRefIdeal.Gen.bitsLt_bf16_f32

theorem idx : ∀ t : Fin cfg0.N,
    win0_0.index t = ![t.val / 13, 0] ∧ win0_1.index t = ![t.val % 13, 0]
      ∧ win0_2.index t = ![t.val / 13, t.val % 13] := (by decide +kernel : ∀ t : Fin grid0.N, _)

/-- What one grid point stores is the reference at the place of the array it is stored to. -/
theorem point (t : Fin cfg0.N) (y) : k0_pay1 (iblk m c 0 t) (iblk m c 1 t) y
    = REF (m ((c.tc : Thread nD τ).loc main_arg0)) (m ((c.tc : Thread nD τ).loc main_arg1))
        (((cfg0.win 2).blk t).view.emb y) := by
  pointwise [k0_pay1, REF]
  refine Eq.trans (Finset.sum_congr rfl fun k _ => mul_comm (G := EReal) _ _) ?_
  blk_point [iblk, V, idx t]

/-- The blocks fill the result. -/
theorem final : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.ValueTIdeal.Call
-- ==== Proof.ModulatedValue.lean ====
/-
  The modulated norm: a block of 256 rows is the reference's, row by row, the rows of the context and the others taking
  their own shift and scale.
-/
module

public import proofs.«01_k».proof.Proof.Gen.ModulatedIdeal.Value
public import proofs.«01_k».proof.Proof.Gen.ModulatedRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.ModulatedIdeal.Call

open Cert.ModulatedIdeal Cert.ModulatedIdeal.Gen

variable (m : (ℓ : Loc nD τ sig) → Buf (Elt Ideal) ℓ) (c : Dev nD)

/-- The reference's result over the kernel's arguments. -/
abbrev REF (X : FVec Ideal S16640x4096 .f32) (G : FVec Ideal S4096 .f32) (H : FVec Ideal S2x4096 .f32) (S : FVec Ideal S2x4096 .f32) : FVec Ideal S16640x4096 .bf16 :=
  truncf .bf16 (concatenate Cert.ModulatedRefIdeal.S16640x4096 0 [⟨Cert.ModulatedRefIdeal.S256x4096, (addf (mulf (mulf (mulf (extractStridedSlice Cert.ModulatedRefIdeal.S256x4096 ![0, 0] X Cert.ModulatedRefIdeal.Gen.slices_S16640x4096_S256x4096_0_0) (broadcastInDim Cert.ModulatedRefIdeal.S256x4096 ![0, 1] Cert.ModulatedRefIdeal.Gen.bcast_S256x1_S256x4096_0_1 (Host.rsqrt (addf (Host.divf (broadcastInDim Cert.ModulatedRefIdeal.S256x1 ![0] Cert.ModulatedRefIdeal.Gen.bcast_S256_S256x1_0 (Host.reduceAdd (mulf (extractStridedSlice Cert.ModulatedRefIdeal.S256x4096 ![0, 0] X Cert.ModulatedRefIdeal.Gen.slices_S16640x4096_S256x4096_0_0) (extractStridedSlice Cert.ModulatedRefIdeal.S256x4096 ![0, 0] X Cert.ModulatedRefIdeal.Gen.slices_S16640x4096_S256x4096_0_0)) (constant (F := Ideal) Cert.ModulatedRefIdeal.S_ .f32 0x00000000#32) Cert.ModulatedRefIdeal.Gen.reducesTo_S256x4096_S256_d1 Cert.ModulatedRefIdeal.Gen.h_S_)) (broadcastInDim Cert.ModulatedRefIdeal.S256x1 ![] Cert.ModulatedRefIdeal.Gen.bcast_S_S256x1 (constant (F := Ideal) Cert.ModulatedRefIdeal.S_ .f32 0x45800000#32))) (broadcastInDim Cert.ModulatedRefIdeal.S256x1 ![] Cert.ModulatedRefIdeal.Gen.bcast_S_S256x1 (constant (F := Ideal) Cert.ModulatedRefIdeal.S_ .f32 0x358637BD#32)))))) (broadcastInDim Cert.ModulatedRefIdeal.S256x4096 ![0, 1] Cert.ModulatedRefIdeal.Gen.bcast_S1x4096_S256x4096_0_1 (broadcastInDim Cert.ModulatedRefIdeal.S1x4096 ![1] Cert.ModulatedRefIdeal.Gen.bcast_S4096_S1x4096_1 G))) (broadcastInDim Cert.ModulatedRefIdeal.S256x4096 ![0, 1] Cert.ModulatedRefIdeal.Gen.bcast_S1x4096_S256x4096_0_1 (broadcastInDim Cert.ModulatedRefIdeal.S1x4096 ![1] Cert.ModulatedRefIdeal.Gen.bcast_S4096_S1x4096_1 (addf (broadcastInDim Cert.ModulatedRefIdeal.S4096 ![] Cert.ModulatedRefIdeal.Gen.bcast_S_S4096 (constant (F := Ideal) Cert.ModulatedRefIdeal.S_ .f32 0x3F800000#32)) (shapeCast Cert.ModulatedRefIdeal.S4096 (extractStridedSlice Cert.ModulatedRefIdeal.S1x4096 ![0, 0] S Cert.ModulatedRefIdeal.Gen.slices_S2x4096_S1x4096_0_0) Cert.ModulatedRefIdeal.Gen.shapeCasts_S1x4096_S4096))))) (broadcastInDim Cert.ModulatedRefIdeal.S256x4096 ![0, 1] Cert.ModulatedRefIdeal.Gen.bcast_S1x4096_S256x4096_0_1 (broadcastInDim Cert.ModulatedRefIdeal.S1x4096 ![1] Cert.ModulatedRefIdeal.Gen.bcast_S4096_S1x4096_1 (shapeCast Cert.ModulatedRefIdeal.S4096 (extractStridedSlice Cert.ModulatedRefIdeal.S1x4096 ![0, 0] H Cert.ModulatedRefIdeal.Gen.slices_S2x4096_S1x4096_0_0) Cert.ModulatedRefIdeal.Gen.shapeCasts_S1x4096_S4096))))⟩, ⟨Cert.ModulatedRefIdeal.S16384x4096, (addf (mulf (mulf (mulf (extractStridedSlice Cert.ModulatedRefIdeal.S16384x4096 ![256, 0] X Cert.ModulatedRefIdeal.Gen.slices_S16640x4096_S16384x4096_256_0) (broadcastInDim Cert.ModulatedRefIdeal.S16384x4096 ![0, 1] Cert.ModulatedRefIdeal.Gen.bcast_S16384x1_S16384x4096_0_1 (Host.rsqrt (addf (Host.divf (broadcastInDim Cert.ModulatedRefIdeal.S16384x1 ![0] Cert.ModulatedRefIdeal.Gen.bcast_S16384_S16384x1_0 (Host.reduceAdd (mulf (extractStridedSlice Cert.ModulatedRefIdeal.S16384x4096 ![256, 0] X Cert.ModulatedRefIdeal.Gen.slices_S16640x4096_S16384x4096_256_0) (extractStridedSlice Cert.ModulatedRefIdeal.S16384x4096 ![256, 0] X Cert.ModulatedRefIdeal.Gen.slices_S16640x4096_S16384x4096_256_0)) (constant (F := Ideal) Cert.ModulatedRefIdeal.S_ .f32 0x00000000#32) Cert.ModulatedRefIdeal.Gen.reducesTo_S16384x4096_S16384_d1 Cert.ModulatedRefIdeal.Gen.h_S_)) (broadcastInDim Cert.ModulatedRefIdeal.S16384x1 ![] Cert.ModulatedRefIdeal.Gen.bcast_S_S16384x1 (constant (F := Ideal) Cert.ModulatedRefIdeal.S_ .f32 0x45800000#32))) (broadcastInDim Cert.ModulatedRefIdeal.S16384x1 ![] Cert.ModulatedRefIdeal.Gen.bcast_S_S16384x1 (constant (F := Ideal) Cert.ModulatedRefIdeal.S_ .f32 0x358637BD#32)))))) (broadcastInDim Cert.ModulatedRefIdeal.S16384x4096 ![0, 1] Cert.ModulatedRefIdeal.Gen.bcast_S1x4096_S16384x4096_0_1 (broadcastInDim Cert.ModulatedRefIdeal.S1x4096 ![1] Cert.ModulatedRefIdeal.Gen.bcast_S4096_S1x4096_1 G))) (broadcastInDim Cert.ModulatedRefIdeal.S16384x4096 ![0, 1] Cert.ModulatedRefIdeal.Gen.bcast_S1x4096_S16384x4096_0_1 (broadcastInDim Cert.ModulatedRefIdeal.S1x4096 ![1] Cert.ModulatedRefIdeal.Gen.bcast_S4096_S1x4096_1 (addf (broadcastInDim Cert.ModulatedRefIdeal.S4096 ![] Cert.ModulatedRefIdeal.Gen.bcast_S_S4096 (constant (F := Ideal) Cert.ModulatedRefIdeal.S_ .f32 0x3F800000#32)) (shapeCast Cert.ModulatedRefIdeal.S4096 (extractStridedSlice Cert.ModulatedRefIdeal.S1x4096 ![1, 0] S Cert.ModulatedRefIdeal.Gen.slices_S2x4096_S1x4096_1_0) Cert.ModulatedRefIdeal.Gen.shapeCasts_S1x4096_S4096))))) (broadcastInDim Cert.ModulatedRefIdeal.S16384x4096 ![0, 1] Cert.ModulatedRefIdeal.Gen.bcast_S1x4096_S16384x4096_0_1 (broadcastInDim Cert.ModulatedRefIdeal.S1x4096 ![1] Cert.ModulatedRefIdeal.Gen.bcast_S4096_S1x4096_1 (shapeCast Cert.ModulatedRefIdeal.S4096 (extractStridedSlice Cert.ModulatedRefIdeal.S1x4096 ![1, 0] H Cert.ModulatedRefIdeal.Gen.slices_S2x4096_S1x4096_1_0) Cert.ModulatedRefIdeal.Gen.shapeCasts_S1x4096_S4096))))⟩] Cert.ModulatedRefIdeal.Gen.concatenates_S256x4096_S16384x4096_S16640x4096_d0) Cert.ModulatedRefIdeal.Gen.bitsLt_bf16_f32

theorem idx : ∀ t : Fin cfg0.N,
    win0_0.index t = ![t.val, 0]
      ∧ win0_1.index t = ![0, 0]
      ∧ win0_2.index t = ![0, 0]
      ∧ win0_3.index t = ![0, 0]
      ∧ win0_4.index t = ![t.val, 0] := (by decide +kernel : ∀ t : Fin grid0.N, _)

theorem off : ∀ t : Fin cfg0.N, k0_off1 (grid0.coords t) = ![if t.val = 0 then 0 else 1, 0] :=
  (by decide +kernel : ∀ t : Fin grid0.N, _)

/-- A load of one row of a block of two rows. -/
theorem ld_at (X : Vec Ideal S2x4096 .f32) (o : Fin 2 → ℕ) (inb) (a : ℕ) (ha : a < 2) (h : o = ![a, 0]) (z : Fin 1) (j : Fin 4096) :
    View.ld X (Rect.unit (s := S2x4096) o ![1, 4096] inb) (ix2 z j) = X (ix2 ⟨a, ha⟩ j) := by
  subst h
  pointwise

/-- What one grid point stores is the reference at the place of the array it is stored to. -/
theorem point_at (t : Fin cfg0.N) (inb2 inb3) (a : Fin 256) (b : Fin 4096) : k0_pay1 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) (ix2 a b)
    = REF (m ((c.tc : Thread nD τ).loc main_arg0)) (m ((c.tc : Thread nD τ).loc main_arg1)) (m ((c.tc : Thread nD τ).loc main_arg2)) (m ((c.tc : Thread nD τ).loc main_arg3))
        (((cfg0.win 4).blk t).view.emb (ix2 a b)) := by
  have e : (((((cfg0.win 4).blk t).view.emb (ix2 a b)) 0 : Fin _) : ℕ) = t.val * 256 + (a : ℕ) := by
    blk_simp [idx t]
  have hy : (a : ℕ) < 256 := a.isLt
  by_cases hrow : t.val = 0
  · have hlt : t.val * 256 + (a : ℕ) < 256 := by omega
    have h2 : ∀ j, (View.ld (iblk m c 2 t) (Rect.unit (s := S2x4096) (k0_off1 (grid0.coords t)) ![1, 4096] inb2)) (ix2 0 j) = iblk m c 2 t (ix2 0 j) := fun j => ld_at _ _ _ 0 (by omega) (by rw [off t]; rw [if_pos hrow]) 0 j
    have h3 : ∀ j, (View.ld (iblk m c 3 t) (Rect.unit (s := S2x4096) (k0_off1 (grid0.coords t)) ![1, 4096] inb3)) (ix2 0 j) = iblk m c 3 t (ix2 0 j) := fun j => ld_at _ _ _ 0 (by omega) (by rw [off t]; rw [if_pos hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay1, REF]
    simp only [h2, h3]
    rw [dif_pos (lt_of_eq_of_lt e hlt)]
    blk_point [iblk, V, idx t]
  · have hge : ¬ t.val * 256 + (a : ℕ) < 256 := by omega
    have h2 : ∀ j, (View.ld (iblk m c 2 t) (Rect.unit (s := S2x4096) (k0_off1 (grid0.coords t)) ![1, 4096] inb2)) (ix2 0 j) = iblk m c 2 t (ix2 1 j) := fun j => ld_at _ _ _ 1 (by omega) (by rw [off t]; rw [if_neg hrow]) 0 j
    have h3 : ∀ j, (View.ld (iblk m c 3 t) (Rect.unit (s := S2x4096) (k0_off1 (grid0.coords t)) ![1, 4096] inb3)) (ix2 0 j) = iblk m c 3 t (ix2 1 j) := fun j => ld_at _ _ _ 1 (by omega) (by rw [off t]; rw [if_neg hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay1, REF]
    simp only [h2, h3]
    rw [dif_neg (fun hh => hge (lt_of_eq_of_lt e.symm hh))]
    blk_point [iblk, V, idx t]

/-- What one grid point stores, at any index. -/
theorem point (t : Fin cfg0.N) (inb2 inb3) (y) : k0_pay1 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) y
    = REF (m ((c.tc : Thread nD τ).loc main_arg0)) (m ((c.tc : Thread nD τ).loc main_arg1)) (m ((c.tc : Thread nD τ).loc main_arg2)) (m ((c.tc : Thread nD τ).loc main_arg3))
        (((cfg0.win 4).blk t).view.emb y) := by
  have ey : y = ix2 (y 0) (y 1) := funext fun (a : Fin 2) => by fin_cases a <;> rfl
  rw [ey]
  exact point_at m c t inb2 inb3 (y 0) (y 1)

/-- The blocks fill the result. -/
theorem final : (dats m 0 c).arrAt 4 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]; unfold outsAt0
  frame_out
  exact point m c t _ _ y

end Cert.ModulatedIdeal.Call
-- ==== Proof.RouterValue.lean ====
/-
  The modulated norm with the router's logits: a block of 256 rows is the reference's, row by row, and so are their
  sixteen logits.
-/
module

public import proofs.«01_k».proof.Proof.Gen.RouterIdeal.Value
public import proofs.«01_k».proof.Proof.Gen.RouterRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.RouterIdeal.Call

open Cert.RouterIdeal Cert.RouterIdeal.Gen

variable (m : (ℓ : Loc nD τ sig) → Buf (Elt Ideal) ℓ) (c : Dev nD)

/-- The reference's result 0 over the kernel's arguments. -/
abbrev REF0 (X : FVec Ideal S16640x4096 .f32) (G : FVec Ideal S4096 .f32) (H : FVec Ideal S2x4096 .f32) (S : FVec Ideal S2x4096 .f32) : FVec Ideal S16640x4096 .bf16 :=
  truncf .bf16 (concatenate Cert.RouterRefIdeal.S16640x4096 0 [⟨Cert.RouterRefIdeal.S256x4096, (addf (mulf (mulf (mulf (extractStridedSlice Cert.RouterRefIdeal.S256x4096 ![0, 0] X Cert.RouterRefIdeal.Gen.slices_S16640x4096_S256x4096_0_0) (broadcastInDim Cert.RouterRefIdeal.S256x4096 ![0, 1] Cert.RouterRefIdeal.Gen.bcast_S256x1_S256x4096_0_1 (Host.rsqrt (addf (Host.divf (broadcastInDim Cert.RouterRefIdeal.S256x1 ![0] Cert.RouterRefIdeal.Gen.bcast_S256_S256x1_0 (Host.reduceAdd (mulf (extractStridedSlice Cert.RouterRefIdeal.S256x4096 ![0, 0] X Cert.RouterRefIdeal.Gen.slices_S16640x4096_S256x4096_0_0) (extractStridedSlice Cert.RouterRefIdeal.S256x4096 ![0, 0] X Cert.RouterRefIdeal.Gen.slices_S16640x4096_S256x4096_0_0)) (constant (F := Ideal) Cert.RouterRefIdeal.S_ .f32 0x00000000#32) Cert.RouterRefIdeal.Gen.reducesTo_S256x4096_S256_d1 Cert.RouterRefIdeal.Gen.h_S_)) (broadcastInDim Cert.RouterRefIdeal.S256x1 ![] Cert.RouterRefIdeal.Gen.bcast_S_S256x1 (constant (F := Ideal) Cert.RouterRefIdeal.S_ .f32 0x45800000#32))) (broadcastInDim Cert.RouterRefIdeal.S256x1 ![] Cert.RouterRefIdeal.Gen.bcast_S_S256x1 (constant (F := Ideal) Cert.RouterRefIdeal.S_ .f32 0x358637BD#32)))))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 G))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 (addf (broadcastInDim Cert.RouterRefIdeal.S4096 ![] Cert.RouterRefIdeal.Gen.bcast_S_S4096 (constant (F := Ideal) Cert.RouterRefIdeal.S_ .f32 0x3F800000#32)) (shapeCast Cert.RouterRefIdeal.S4096 (extractStridedSlice Cert.RouterRefIdeal.S1x4096 ![0, 0] S Cert.RouterRefIdeal.Gen.slices_S2x4096_S1x4096_0_0) Cert.RouterRefIdeal.Gen.shapeCasts_S1x4096_S4096))))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 (shapeCast Cert.RouterRefIdeal.S4096 (extractStridedSlice Cert.RouterRefIdeal.S1x4096 ![0, 0] H Cert.RouterRefIdeal.Gen.slices_S2x4096_S1x4096_0_0) Cert.RouterRefIdeal.Gen.shapeCasts_S1x4096_S4096))))⟩, ⟨Cert.RouterRefIdeal.S16384x4096, (addf (mulf (mulf (mulf (extractStridedSlice Cert.RouterRefIdeal.S16384x4096 ![256, 0] X Cert.RouterRefIdeal.Gen.slices_S16640x4096_S16384x4096_256_0) (broadcastInDim Cert.RouterRefIdeal.S16384x4096 ![0, 1] Cert.RouterRefIdeal.Gen.bcast_S16384x1_S16384x4096_0_1 (Host.rsqrt (addf (Host.divf (broadcastInDim Cert.RouterRefIdeal.S16384x1 ![0] Cert.RouterRefIdeal.Gen.bcast_S16384_S16384x1_0 (Host.reduceAdd (mulf (extractStridedSlice Cert.RouterRefIdeal.S16384x4096 ![256, 0] X Cert.RouterRefIdeal.Gen.slices_S16640x4096_S16384x4096_256_0) (extractStridedSlice Cert.RouterRefIdeal.S16384x4096 ![256, 0] X Cert.RouterRefIdeal.Gen.slices_S16640x4096_S16384x4096_256_0)) (constant (F := Ideal) Cert.RouterRefIdeal.S_ .f32 0x00000000#32) Cert.RouterRefIdeal.Gen.reducesTo_S16384x4096_S16384_d1 Cert.RouterRefIdeal.Gen.h_S_)) (broadcastInDim Cert.RouterRefIdeal.S16384x1 ![] Cert.RouterRefIdeal.Gen.bcast_S_S16384x1 (constant (F := Ideal) Cert.RouterRefIdeal.S_ .f32 0x45800000#32))) (broadcastInDim Cert.RouterRefIdeal.S16384x1 ![] Cert.RouterRefIdeal.Gen.bcast_S_S16384x1 (constant (F := Ideal) Cert.RouterRefIdeal.S_ .f32 0x358637BD#32)))))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 G))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 (addf (broadcastInDim Cert.RouterRefIdeal.S4096 ![] Cert.RouterRefIdeal.Gen.bcast_S_S4096 (constant (F := Ideal) Cert.RouterRefIdeal.S_ .f32 0x3F800000#32)) (shapeCast Cert.RouterRefIdeal.S4096 (extractStridedSlice Cert.RouterRefIdeal.S1x4096 ![1, 0] S Cert.RouterRefIdeal.Gen.slices_S2x4096_S1x4096_1_0) Cert.RouterRefIdeal.Gen.shapeCasts_S1x4096_S4096))))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 (shapeCast Cert.RouterRefIdeal.S4096 (extractStridedSlice Cert.RouterRefIdeal.S1x4096 ![1, 0] H Cert.RouterRefIdeal.Gen.slices_S2x4096_S1x4096_1_0) Cert.RouterRefIdeal.Gen.shapeCasts_S1x4096_S4096))))⟩] Cert.RouterRefIdeal.Gen.concatenates_S256x4096_S16384x4096_S16640x4096_d0) Cert.RouterRefIdeal.Gen.bitsLt_bf16_f32

/-- The reference's result 1 over the kernel's arguments. -/
abbrev REF1 (X : FVec Ideal S16640x4096 .f32) (G : FVec Ideal S4096 .f32) (H : FVec Ideal S2x4096 .f32) (S : FVec Ideal S2x4096 .f32) : FVec Ideal S16640x4096 .bf16 :=
  truncf .bf16 (concatenate Cert.RouterRefIdeal.S16640x4096 0 [⟨Cert.RouterRefIdeal.S256x4096, (addf (mulf (mulf (mulf (extractStridedSlice Cert.RouterRefIdeal.S256x4096 ![0, 0] X Cert.RouterRefIdeal.Gen.slices_S16640x4096_S256x4096_0_0) (broadcastInDim Cert.RouterRefIdeal.S256x4096 ![0, 1] Cert.RouterRefIdeal.Gen.bcast_S256x1_S256x4096_0_1 (Host.rsqrt (addf (Host.divf (broadcastInDim Cert.RouterRefIdeal.S256x1 ![0] Cert.RouterRefIdeal.Gen.bcast_S256_S256x1_0 (Host.reduceAdd (mulf (extractStridedSlice Cert.RouterRefIdeal.S256x4096 ![0, 0] X Cert.RouterRefIdeal.Gen.slices_S16640x4096_S256x4096_0_0) (extractStridedSlice Cert.RouterRefIdeal.S256x4096 ![0, 0] X Cert.RouterRefIdeal.Gen.slices_S16640x4096_S256x4096_0_0)) (constant (F := Ideal) Cert.RouterRefIdeal.S_ .f32 0x00000000#32) Cert.RouterRefIdeal.Gen.reducesTo_S256x4096_S256_d1 Cert.RouterRefIdeal.Gen.h_S_)) (broadcastInDim Cert.RouterRefIdeal.S256x1 ![] Cert.RouterRefIdeal.Gen.bcast_S_S256x1 (constant (F := Ideal) Cert.RouterRefIdeal.S_ .f32 0x45800000#32))) (broadcastInDim Cert.RouterRefIdeal.S256x1 ![] Cert.RouterRefIdeal.Gen.bcast_S_S256x1 (constant (F := Ideal) Cert.RouterRefIdeal.S_ .f32 0x358637BD#32)))))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 G))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 (addf (broadcastInDim Cert.RouterRefIdeal.S4096 ![] Cert.RouterRefIdeal.Gen.bcast_S_S4096 (constant (F := Ideal) Cert.RouterRefIdeal.S_ .f32 0x3F800000#32)) (shapeCast Cert.RouterRefIdeal.S4096 (extractStridedSlice Cert.RouterRefIdeal.S1x4096 ![0, 0] S Cert.RouterRefIdeal.Gen.slices_S2x4096_S1x4096_0_0) Cert.RouterRefIdeal.Gen.shapeCasts_S1x4096_S4096))))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 (shapeCast Cert.RouterRefIdeal.S4096 (extractStridedSlice Cert.RouterRefIdeal.S1x4096 ![0, 0] H Cert.RouterRefIdeal.Gen.slices_S2x4096_S1x4096_0_0) Cert.RouterRefIdeal.Gen.shapeCasts_S1x4096_S4096))))⟩, ⟨Cert.RouterRefIdeal.S16384x4096, (addf (mulf (mulf (mulf (extractStridedSlice Cert.RouterRefIdeal.S16384x4096 ![256, 0] X Cert.RouterRefIdeal.Gen.slices_S16640x4096_S16384x4096_256_0) (broadcastInDim Cert.RouterRefIdeal.S16384x4096 ![0, 1] Cert.RouterRefIdeal.Gen.bcast_S16384x1_S16384x4096_0_1 (Host.rsqrt (addf (Host.divf (broadcastInDim Cert.RouterRefIdeal.S16384x1 ![0] Cert.RouterRefIdeal.Gen.bcast_S16384_S16384x1_0 (Host.reduceAdd (mulf (extractStridedSlice Cert.RouterRefIdeal.S16384x4096 ![256, 0] X Cert.RouterRefIdeal.Gen.slices_S16640x4096_S16384x4096_256_0) (extractStridedSlice Cert.RouterRefIdeal.S16384x4096 ![256, 0] X Cert.RouterRefIdeal.Gen.slices_S16640x4096_S16384x4096_256_0)) (constant (F := Ideal) Cert.RouterRefIdeal.S_ .f32 0x00000000#32) Cert.RouterRefIdeal.Gen.reducesTo_S16384x4096_S16384_d1 Cert.RouterRefIdeal.Gen.h_S_)) (broadcastInDim Cert.RouterRefIdeal.S16384x1 ![] Cert.RouterRefIdeal.Gen.bcast_S_S16384x1 (constant (F := Ideal) Cert.RouterRefIdeal.S_ .f32 0x45800000#32))) (broadcastInDim Cert.RouterRefIdeal.S16384x1 ![] Cert.RouterRefIdeal.Gen.bcast_S_S16384x1 (constant (F := Ideal) Cert.RouterRefIdeal.S_ .f32 0x358637BD#32)))))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 G))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 (addf (broadcastInDim Cert.RouterRefIdeal.S4096 ![] Cert.RouterRefIdeal.Gen.bcast_S_S4096 (constant (F := Ideal) Cert.RouterRefIdeal.S_ .f32 0x3F800000#32)) (shapeCast Cert.RouterRefIdeal.S4096 (extractStridedSlice Cert.RouterRefIdeal.S1x4096 ![1, 0] S Cert.RouterRefIdeal.Gen.slices_S2x4096_S1x4096_1_0) Cert.RouterRefIdeal.Gen.shapeCasts_S1x4096_S4096))))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 (shapeCast Cert.RouterRefIdeal.S4096 (extractStridedSlice Cert.RouterRefIdeal.S1x4096 ![1, 0] H Cert.RouterRefIdeal.Gen.slices_S2x4096_S1x4096_1_0) Cert.RouterRefIdeal.Gen.shapeCasts_S1x4096_S4096))))⟩] Cert.RouterRefIdeal.Gen.concatenates_S256x4096_S16384x4096_S16640x4096_d0) Cert.RouterRefIdeal.Gen.bitsLt_bf16_f32

/-- The reference's result 2 over the kernel's arguments. -/
abbrev REF2 (X : FVec Ideal S16640x4096 .f32) (G : FVec Ideal S4096 .f32) (H : FVec Ideal S2x4096 .f32) (S : FVec Ideal S2x4096 .f32) (W : FVec Ideal S4096x16 .f32) : FVec Ideal S16x16640 .f32 :=
  transpose Cert.RouterRefIdeal.S16x16640 [1, 0] (Host.dotGeneral Cert.RouterRefIdeal.dot_S16640x4096_S4096x16_S16640x16_1_0_0_1_n_n none (concatenate Cert.RouterRefIdeal.S16640x4096 0 [⟨Cert.RouterRefIdeal.S256x4096, (addf (mulf (mulf (mulf (extractStridedSlice Cert.RouterRefIdeal.S256x4096 ![0, 0] X Cert.RouterRefIdeal.Gen.slices_S16640x4096_S256x4096_0_0) (broadcastInDim Cert.RouterRefIdeal.S256x4096 ![0, 1] Cert.RouterRefIdeal.Gen.bcast_S256x1_S256x4096_0_1 (Host.rsqrt (addf (Host.divf (broadcastInDim Cert.RouterRefIdeal.S256x1 ![0] Cert.RouterRefIdeal.Gen.bcast_S256_S256x1_0 (Host.reduceAdd (mulf (extractStridedSlice Cert.RouterRefIdeal.S256x4096 ![0, 0] X Cert.RouterRefIdeal.Gen.slices_S16640x4096_S256x4096_0_0) (extractStridedSlice Cert.RouterRefIdeal.S256x4096 ![0, 0] X Cert.RouterRefIdeal.Gen.slices_S16640x4096_S256x4096_0_0)) (constant (F := Ideal) Cert.RouterRefIdeal.S_ .f32 0x00000000#32) Cert.RouterRefIdeal.Gen.reducesTo_S256x4096_S256_d1 Cert.RouterRefIdeal.Gen.h_S_)) (broadcastInDim Cert.RouterRefIdeal.S256x1 ![] Cert.RouterRefIdeal.Gen.bcast_S_S256x1 (constant (F := Ideal) Cert.RouterRefIdeal.S_ .f32 0x45800000#32))) (broadcastInDim Cert.RouterRefIdeal.S256x1 ![] Cert.RouterRefIdeal.Gen.bcast_S_S256x1 (constant (F := Ideal) Cert.RouterRefIdeal.S_ .f32 0x358637BD#32)))))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 G))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 (addf (broadcastInDim Cert.RouterRefIdeal.S4096 ![] Cert.RouterRefIdeal.Gen.bcast_S_S4096 (constant (F := Ideal) Cert.RouterRefIdeal.S_ .f32 0x3F800000#32)) (shapeCast Cert.RouterRefIdeal.S4096 (extractStridedSlice Cert.RouterRefIdeal.S1x4096 ![0, 0] S Cert.RouterRefIdeal.Gen.slices_S2x4096_S1x4096_0_0) Cert.RouterRefIdeal.Gen.shapeCasts_S1x4096_S4096))))) (broadcastInDim Cert.RouterRefIdeal.S256x4096 ![0, 1] Cert.RouterRefIdeal.Gen.bcast_S1x4096_S256x4096_0_1 (broadcastInDim Cert.RouterRefIdeal.S1x4096 ![1] Cert.RouterRefIdeal.Gen.bcast_S4096_S1x4096_1 (shapeCast Cert.RouterRefIdeal.S4096 (extractStridedSlice Cert.RouterRefIdeal.S1x4096 ![0, 0] H Cert.RouterRefIdeal.Gen.slices_S2x4096_S1x4096_0_0) Cert.RouterRefIdeal.Gen.shapeCasts_S1x4096_S4096))))⟩, ⟨Cert.RouterRefIdeal.S16384x4096, (addf (mulf (mulf (mulf (extractStridedSlice Cert.RouterRefIdeal.S16384x4096 ![256, 0] X Cert.RouterRefIdeal.Gen.slices_S16640x4096_S16384x4096_256_0) (broadcastInDim Cert.RouterRefIdeal.S16384x4096 ![0, 1] Cert.RouterRefIdeal.Gen.bcast_S16384x1_S16384x4096_0_1 (Host.rsqrt (addf (Host.divf (broadcastInDim Cert.RouterRefIdeal.S16384x1 ![0] Cert.RouterRefIdeal.Gen.bcast_S16384_S16384x1_0 (Host.reduceAdd (mulf (extractStridedSlice Cert.RouterRefIdeal.S16384x4096 ![256, 0] X Cert.RouterRefIdeal.Gen.slices_S16640x4096_S16384x4096_256_0) (extractStridedSlice Cert.RouterRefIdeal.S16384x4096 ![256, 0] X Cert.RouterRefIdeal.Gen.slices_S16640x4096_S16384x4096_256_0)) (constant (F := Ideal) Cert.RouterRefIdeal.S_ .f32 0x00000000#32) Cert.RouterRefIdeal.Gen.reducesTo_S16384x4096_S16384_d1 Cert.RouterRefIdeal.Gen.h_S_)) (broadcastInDim Cert.RouterRefIdeal.S16384x1 ![] Cert.RouterRefIdeal.Gen.bcast_S_S16384x1 (constant (F := Ideal) Cert.RouterRefIdeal.S_ .f32 0x45800000#32))) (broadcastInDim Cert.RouterRefIdeal.S16384x1 ![] Cert.RouterRefIdeal.Gen.bcast_S_S16384x1 (constant (F := Ideal) Cert.RouterRefIdeal.S_ .f32 0x358637BD#32)))))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 G))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 (addf (broadcastInDim Cert.RouterRefIdeal.S4096 ![] Cert.RouterRefIdeal.Gen.bcast_S_S4096 (constant (F := Ideal) Cert.RouterRefIdeal.S_ .f32 0x3F800000#32)) (shapeCast Cert.RouterRefIdeal.S4096 (extractStridedSlice Cert.RouterRefIdeal.S1x4096 ![1, 0] S Cert.RouterRefIdeal.Gen.slices_S2x4096_S1x4096_1_0) Cert.RouterRefIdeal.Gen.shapeCasts_S1x4096_S4096))))) (broadcastInDim Cert.RouterRefIdeal.S16384x4096 ![0, 1] Cert.RouterRefIdeal.Gen.bcast_S1x4096_S16384x4096_0_1 (broadcastInDim Cert.RouterRefIdeal.S1x4096 ![1] Cert.RouterRefIdeal.Gen.bcast_S4096_S1x4096_1 (shapeCast Cert.RouterRefIdeal.S4096 (extractStridedSlice Cert.RouterRefIdeal.S1x4096 ![1, 0] H Cert.RouterRefIdeal.Gen.slices_S2x4096_S1x4096_1_0) Cert.RouterRefIdeal.Gen.shapeCasts_S1x4096_S4096))))⟩] Cert.RouterRefIdeal.Gen.concatenates_S256x4096_S16384x4096_S16640x4096_d0) W) Cert.RouterRefIdeal.Gen.transposes_S16640x16_S16x16640_1_0

theorem idx : ∀ t : Fin cfg0.N,
    win0_0.index t = ![t.val, 0]
      ∧ win0_1.index t = ![0, 0]
      ∧ win0_2.index t = ![0, 0]
      ∧ win0_3.index t = ![0, 0]
      ∧ win0_4.index t = ![0, 0]
      ∧ win0_5.index t = ![t.val, 0]
      ∧ win0_6.index t = ![t.val, 0]
      ∧ win0_7.index t = ![0, t.val] := (by decide +kernel : ∀ t : Fin grid0.N, _)

theorem off : ∀ t : Fin cfg0.N, k0_off1 (grid0.coords t) = ![if t.val = 0 then 0 else 1, 0] :=
  (by decide +kernel : ∀ t : Fin grid0.N, _)

/-- A load of one row of a block of two rows. -/
theorem ld_at (X : Vec Ideal S2x4096 .f32) (o : Fin 2 → ℕ) (inb) (a : ℕ) (ha : a < 2) (h : o = ![a, 0]) (z : Fin 1) (j : Fin 4096) :
    View.ld X (Rect.unit (s := S2x4096) o ![1, 4096] inb) (ix2 z j) = X (ix2 ⟨a, ha⟩ j) := by
  subst h
  pointwise

/-- What one grid point stores is the reference at the place of the array it is stored to. -/
theorem point0_at (t : Fin cfg0.N) (inb2 inb3) (a : Fin 256) (b : Fin 4096) : k0_pay2 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) (ix2 a b)
    = REF0 (m ((c.tc : Thread nD τ).loc main_arg0)) (m ((c.tc : Thread nD τ).loc main_arg1)) (m ((c.tc : Thread nD τ).loc main_arg2)) (m ((c.tc : Thread nD τ).loc main_arg3))
        (((cfg0.win 5).blk t).view.emb (ix2 a b)) := by
  have e : (((((cfg0.win 5).blk t).view.emb (ix2 a b)) 0 : Fin _) : ℕ) = t.val * 256 + (a : ℕ) := by
    blk_simp [idx t]
  have hy : (a : ℕ) < 256 := a.isLt
  by_cases hrow : t.val = 0
  · have hlt : t.val * 256 + (a : ℕ) < 256 := by omega
    have h2 : ∀ j, (View.ld (iblk m c 2 t) (Rect.unit (s := S2x4096) (k0_off1 (grid0.coords t)) ![1, 4096] inb2)) (ix2 0 j) = iblk m c 2 t (ix2 0 j) := fun j => ld_at _ _ _ 0 (by omega) (by rw [off t]; rw [if_pos hrow]) 0 j
    have h3 : ∀ j, (View.ld (iblk m c 3 t) (Rect.unit (s := S2x4096) (k0_off1 (grid0.coords t)) ![1, 4096] inb3)) (ix2 0 j) = iblk m c 3 t (ix2 0 j) := fun j => ld_at _ _ _ 0 (by omega) (by rw [off t]; rw [if_pos hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay2, k0_pay1, REF0]
    simp only [h2, h3]
    rw [dif_pos (lt_of_eq_of_lt e hlt)]
    blk_point [iblk, V, idx t]
  · have hge : ¬ t.val * 256 + (a : ℕ) < 256 := by omega
    have h2 : ∀ j, (View.ld (iblk m c 2 t) (Rect.unit (s := S2x4096) (k0_off1 (grid0.coords t)) ![1, 4096] inb2)) (ix2 0 j) = iblk m c 2 t (ix2 1 j) := fun j => ld_at _ _ _ 1 (by omega) (by rw [off t]; rw [if_neg hrow]) 0 j
    have h3 : ∀ j, (View.ld (iblk m c 3 t) (Rect.unit (s := S2x4096) (k0_off1 (grid0.coords t)) ![1, 4096] inb3)) (ix2 0 j) = iblk m c 3 t (ix2 1 j) := fun j => ld_at _ _ _ 1 (by omega) (by rw [off t]; rw [if_neg hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay2, k0_pay1, REF0]
    simp only [h2, h3]
    rw [dif_neg (fun hh => hge (lt_of_eq_of_lt e.symm hh))]
    blk_point [iblk, V, idx t]

/-- What one grid point stores, at any index. -/
theorem point0 (t : Fin cfg0.N) (inb2 inb3) (y) : k0_pay2 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) y
    = REF0 (m ((c.tc : Thread nD τ).loc main_arg0)) (m ((c.tc : Thread nD τ).loc main_arg1)) (m ((c.tc : Thread nD τ).loc main_arg2)) (m ((c.tc : Thread nD τ).loc main_arg3))
        (((cfg0.win 5).blk t).view.emb y) := by
  have ey : y = ix2 (y 0) (y 1) := funext fun (a : Fin 2) => by fin_cases a <;> rfl
  rw [ey]
  exact point0_at m c t inb2 inb3 (y 0) (y 1)

/-- What one grid point stores is the reference at the place of the array it is stored to. -/
theorem point1_at (t : Fin cfg0.N) (inb2 inb3) (a : Fin 256) (b : Fin 4096) : k0_pay3 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) (ix2 a b)
    = REF1 (m ((c.tc : Thread nD τ).loc main_arg0)) (m ((c.tc : Thread nD τ).loc main_arg1)) (m ((c.tc : Thread nD τ).loc main_arg2)) (m ((c.tc : Thread nD τ).loc main_arg3))
        (((cfg0.win 6).blk t).view.emb (ix2 a b)) := by
  have e : (((((cfg0.win 6).blk t).view.emb (ix2 a b)) 0 : Fin _) : ℕ) = t.val * 256 + (a : ℕ) := by
    blk_simp [idx t]
  have hy : (a : ℕ) < 256 := a.isLt
  by_cases hrow : t.val = 0
  · have hlt : t.val * 256 + (a : ℕ) < 256 := by omega
    have h2 : ∀ j, (View.ld (iblk m c 2 t) (Rect.unit (s := S2x4096) (k0_off1 (grid0.coords t)) ![1, 4096] inb2)) (ix2 0 j) = iblk m c 2 t (ix2 0 j) := fun j => ld_at _ _ _ 0 (by omega) (by rw [off t]; rw [if_pos hrow]) 0 j
    have h3 : ∀ j, (View.ld (iblk m c 3 t) (Rect.unit (s := S2x4096) (k0_off1 (grid0.coords t)) ![1, 4096] inb3)) (ix2 0 j) = iblk m c 3 t (ix2 0 j) := fun j => ld_at _ _ _ 0 (by omega) (by rw [off t]; rw [if_pos hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay3, k0_pay1, REF1]
    simp only [h2, h3]
    rw [dif_pos (lt_of_eq_of_lt e hlt)]
    blk_point [iblk, V, idx t]
  · have hge : ¬ t.val * 256 + (a : ℕ) < 256 := by omega
    have h2 : ∀ j, (View.ld (iblk m c 2 t) (Rect.unit (s := S2x4096) (k0_off1 (grid0.coords t)) ![1, 4096] inb2)) (ix2 0 j) = iblk m c 2 t (ix2 1 j) := fun j => ld_at _ _ _ 1 (by omega) (by rw [off t]; rw [if_neg hrow]) 0 j
    have h3 : ∀ j, (View.ld (iblk m c 3 t) (Rect.unit (s := S2x4096) (k0_off1 (grid0.coords t)) ![1, 4096] inb3)) (ix2 0 j) = iblk m c 3 t (ix2 1 j) := fun j => ld_at _ _ _ 1 (by omega) (by rw [off t]; rw [if_neg hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay3, k0_pay1, REF1]
    simp only [h2, h3]
    rw [dif_neg (fun hh => hge (lt_of_eq_of_lt e.symm hh))]
    blk_point [iblk, V, idx t]

/-- What one grid point stores, at any index. -/
theorem point1 (t : Fin cfg0.N) (inb2 inb3) (y) : k0_pay3 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) y
    = REF1 (m ((c.tc : Thread nD τ).loc main_arg0)) (m ((c.tc : Thread nD τ).loc main_arg1)) (m ((c.tc : Thread nD τ).loc main_arg2)) (m ((c.tc : Thread nD τ).loc main_arg3))
        (((cfg0.win 6).blk t).view.emb y) := by
  have ey : y = ix2 (y 0) (y 1) := funext fun (a : Fin 2) => by fin_cases a <;> rfl
  rw [ey]
  exact point1_at m c t inb2 inb3 (y 0) (y 1)

/-- What one grid point stores is the reference at the place of the array it is stored to. -/
theorem point2_at (t : Fin cfg0.N) (inb2 inb3) (a : Fin 16) (b : Fin 256) : k0_pay4 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) (iblk m c 4 t) (ix2 a b)
    = REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (((cfg0.win 7).blk t).view.emb (ix2 a b)) := by
  have e : (((((cfg0.win 7).blk t).view.emb (ix2 a b)) 1 : Fin _) : ℕ) = t.val * 256 + (b : ℕ) := by
    blk_simp [idx t]
  have hy : (b : ℕ) < 256 := b.isLt
  by_cases hrow : t.val = 0
  · have hlt : t.val * 256 + (b : ℕ) < 256 := by omega
    have h2 : ∀ j, (View.ld (iblk m c 2 t) (Rect.unit (s := S2x4096) (k0_off1 (grid0.coords t)) ![1, 4096] inb2)) (ix2 0 j) = iblk m c 2 t (ix2 0 j) := fun j => ld_at _ _ _ 0 (by omega) (by rw [off t]; rw [if_pos hrow]) 0 j
    have h3 : ∀ j, (View.ld (iblk m c 3 t) (Rect.unit (s := S2x4096) (k0_off1 (grid0.coords t)) ![1, 4096] inb3)) (ix2 0 j) = iblk m c 3 t (ix2 0 j) := fun j => ld_at _ _ _ 0 (by omega) (by rw [off t]; rw [if_pos hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay4, k0_pay1, REF2]
    simp only [h2, h3]
    refine Finset.sum_congr rfl fun x _ => (mul_comm _ _).trans ?_
    rw [dif_pos (lt_of_eq_of_lt e hlt)]
    blk_point [iblk, V, idx t]
  · have hge : ¬ t.val * 256 + (b : ℕ) < 256 := by omega
    have h2 : ∀ j, (View.ld (iblk m c 2 t) (Rect.unit (s := S2x4096) (k0_off1 (grid0.coords t)) ![1, 4096] inb2)) (ix2 0 j) = iblk m c 2 t (ix2 1 j) := fun j => ld_at _ _ _ 1 (by omega) (by rw [off t]; rw [if_neg hrow]) 0 j
    have h3 : ∀ j, (View.ld (iblk m c 3 t) (Rect.unit (s := S2x4096) (k0_off1 (grid0.coords t)) ![1, 4096] inb3)) (ix2 0 j) = iblk m c 3 t (ix2 1 j) := fun j => ld_at _ _ _ 1 (by omega) (by rw [off t]; rw [if_neg hrow]) 0 j
    generalize (View.ld (iblk m c 2 t) (Rect.unit (s := S2x4096) (k0_off1 (grid0.coords t)) ![1, 4096] inb2)) = B2 at h2 ⊢
    generalize (View.ld (iblk m c 3 t) (Rect.unit (s := S2x4096) (k0_off1 (grid0.coords t)) ![1, 4096] inb3)) = B3 at h3 ⊢
    pointwise [k0_pay4, k0_pay1, REF2]
    simp only [h2, h3]
    refine Finset.sum_congr rfl fun x _ => (mul_comm _ _).trans ?_
    rw [dif_neg (fun hh => hge (lt_of_eq_of_lt e.symm hh))]
    blk_point [iblk, V, idx t]

/-- What one grid point stores, at any index. -/
theorem point2 (t : Fin cfg0.N) (inb2 inb3) (y) : k0_pay4 (iblk m c 0 t) (iblk m c 1 t)
      (View.ld (iblk m c 2 t) (Rect.unit (s := S2x4096) (k0_off1 (grid0.coords t)) ![1, 4096] inb2))
      (View.ld (iblk m c 3 t) (Rect.unit (s := S2x4096) (k0_off1 (grid0.coords t)) ![1, 4096] inb3)) (iblk m c 4 t) y
    = REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (((cfg0.win 7).blk t).view.emb y) := by
  have ey : y = ix2 (y 0) (y 1) := funext fun (a : Fin 2) => by fin_cases a <;> rfl
  rw [ey]
  exact point2_at m c t inb2 inb3 (y 0) (y 1)

/-- The blocks fill the result. -/
theorem final0 : (dats m 0 c).arrAt 5 cfg0.N
    = REF0 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]; unfold outsAt0
  frame_out
  exact point0 m c t _ _ y

/-- The blocks fill the result. -/
theorem final1 : (dats m 0 c).arrAt 6 cfg0.N
    = REF1 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6]; unfold outsAt0
  frame_out
  exact point1 m c t _ _ y

/-- The blocks fill the result. -/
theorem final2 : (dats m 0 c).arrAt 7 cfg0.N
    = REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t _ y => ?_
  blk_simp
  rw [after0_7]; unfold outsAt0
  frame_out
  exact point2 m c t _ _ y

end Cert.RouterIdeal.Call
-- ==== Proof.FinishValue.lean ====
/-
  The end of the recurrence: a block of 256 rows is the reference's, the sum of the two directions and the skip, gated, and
  normalised over each of the eight groups of 1024 columns.
-/
module

public import proofs.«01_k».proof.Proof.Gen.FinishIdeal.Value
public import proofs.«01_k».proof.Proof.Gen.FinishRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.FinishIdeal.Call

open Cert.FinishIdeal Cert.FinishIdeal.Gen

variable (m : (ℓ : Loc nD τ sig) → Buf (Elt Ideal) ℓ) (c : Dev nD)

/-- The reference's result over the kernel's arguments. -/
abbrev REF (Y : FVec Ideal S16640x8192 .f32) (V : FVec Ideal S16640x8192 .f32) (X : FVec Ideal S16640x10240 .f32) (Z : FVec Ideal S16640x8192 .f32) (D : FVec Ideal S128 .f32) (G : FVec Ideal S8192 .f32) : FVec Ideal S16640x8192 .bf16 :=
  truncf .bf16 (mulf (shapeCast Cert.FinishRefIdeal.S16640x8192 (mulf (shapeCast Cert.FinishRefIdeal.S16640x8x1024 (mulf (shapeCast Cert.FinishRefIdeal.S16640x8192 (addf (addf (shapeCast Cert.FinishRefIdeal.S16640x128x64 Y Cert.FinishRefIdeal.Gen.shapeCasts_S16640x8192_S16640x128x64) (shapeCast Cert.FinishRefIdeal.S16640x128x64 V Cert.FinishRefIdeal.Gen.shapeCasts_S16640x8192_S16640x128x64)) (mulf (broadcastInDim Cert.FinishRefIdeal.S16640x128x64 ![0, 1, 2] Cert.FinishRefIdeal.Gen.bcast_S1x128x1_S16640x128x64_0_1_2 (broadcastInDim Cert.FinishRefIdeal.S1x128x1 ![1, 2] Cert.FinishRefIdeal.Gen.bcast_S128x1_S1x128x1_1_2 (broadcastInDim Cert.FinishRefIdeal.S128x1 ![0] Cert.FinishRefIdeal.Gen.bcast_S128_S128x1_0 D))) (shapeCast Cert.FinishRefIdeal.S16640x128x64 (extractStridedSlice Cert.FinishRefIdeal.S16640x8192 ![0, 0] X Cert.FinishRefIdeal.Gen.slices_S16640x10240_S16640x8192_0_0) Cert.FinishRefIdeal.Gen.shapeCasts_S16640x8192_S16640x128x64))) Cert.FinishRefIdeal.Gen.shapeCasts_S16640x128x64_S16640x8192) (mulf Z (Host.divf (broadcastInDim Cert.FinishRefIdeal.S16640x8192 ![] Cert.FinishRefIdeal.Gen.bcast_S_S16640x8192 (constant (F := Ideal) Cert.FinishRefIdeal.S_ .f32 0x3F800000#32)) (addf (broadcastInDim Cert.FinishRefIdeal.S16640x8192 ![] Cert.FinishRefIdeal.Gen.bcast_S_S16640x8192 (constant (F := Ideal) Cert.FinishRefIdeal.S_ .f32 0x3F800000#32)) (Host.exp (Host.negf Z)))))) Cert.FinishRefIdeal.Gen.shapeCasts_S16640x8192_S16640x8x1024) (broadcastInDim Cert.FinishRefIdeal.S16640x8x1024 ![0, 1, 2] Cert.FinishRefIdeal.Gen.bcast_S16640x8x1_S16640x8x1024_0_1_2 (Host.rsqrt (addf (Host.divf (broadcastInDim Cert.FinishRefIdeal.S16640x8x1 ![0, 1] Cert.FinishRefIdeal.Gen.bcast_S16640x8_S16640x8x1_0_1 (Host.reduceAdd (mulf (shapeCast Cert.FinishRefIdeal.S16640x8x1024 (mulf (shapeCast Cert.FinishRefIdeal.S16640x8192 (addf (addf (shapeCast Cert.FinishRefIdeal.S16640x128x64 Y Cert.FinishRefIdeal.Gen.shapeCasts_S16640x8192_S16640x128x64) (shapeCast Cert.FinishRefIdeal.S16640x128x64 V Cert.FinishRefIdeal.Gen.shapeCasts_S16640x8192_S16640x128x64)) (mulf (broadcastInDim Cert.FinishRefIdeal.S16640x128x64 ![0, 1, 2] Cert.FinishRefIdeal.Gen.bcast_S1x128x1_S16640x128x64_0_1_2 (broadcastInDim Cert.FinishRefIdeal.S1x128x1 ![1, 2] Cert.FinishRefIdeal.Gen.bcast_S128x1_S1x128x1_1_2 (broadcastInDim Cert.FinishRefIdeal.S128x1 ![0] Cert.FinishRefIdeal.Gen.bcast_S128_S128x1_0 D))) (shapeCast Cert.FinishRefIdeal.S16640x128x64 (extractStridedSlice Cert.FinishRefIdeal.S16640x8192 ![0, 0] X Cert.FinishRefIdeal.Gen.slices_S16640x10240_S16640x8192_0_0) Cert.FinishRefIdeal.Gen.shapeCasts_S16640x8192_S16640x128x64))) Cert.FinishRefIdeal.Gen.shapeCasts_S16640x128x64_S16640x8192) (mulf Z (Host.divf (broadcastInDim Cert.FinishRefIdeal.S16640x8192 ![] Cert.FinishRefIdeal.Gen.bcast_S_S16640x8192 (constant (F := Ideal) Cert.FinishRefIdeal.S_ .f32 0x3F800000#32)) (addf (broadcastInDim Cert.FinishRefIdeal.S16640x8192 ![] Cert.FinishRefIdeal.Gen.bcast_S_S16640x8192 (constant (F := Ideal) Cert.FinishRefIdeal.S_ .f32 0x3F800000#32)) (Host.exp (Host.negf Z)))))) Cert.FinishRefIdeal.Gen.shapeCasts_S16640x8192_S16640x8x1024) (shapeCast Cert.FinishRefIdeal.S16640x8x1024 (mulf (shapeCast Cert.FinishRefIdeal.S16640x8192 (addf (addf (shapeCast Cert.FinishRefIdeal.S16640x128x64 Y Cert.FinishRefIdeal.Gen.shapeCasts_S16640x8192_S16640x128x64) (shapeCast Cert.FinishRefIdeal.S16640x128x64 V Cert.FinishRefIdeal.Gen.shapeCasts_S16640x8192_S16640x128x64)) (mulf (broadcastInDim Cert.FinishRefIdeal.S16640x128x64 ![0, 1, 2] Cert.FinishRefIdeal.Gen.bcast_S1x128x1_S16640x128x64_0_1_2 (broadcastInDim Cert.FinishRefIdeal.S1x128x1 ![1, 2] Cert.FinishRefIdeal.Gen.bcast_S128x1_S1x128x1_1_2 (broadcastInDim Cert.FinishRefIdeal.S128x1 ![0] Cert.FinishRefIdeal.Gen.bcast_S128_S128x1_0 D))) (shapeCast Cert.FinishRefIdeal.S16640x128x64 (extractStridedSlice Cert.FinishRefIdeal.S16640x8192 ![0, 0] X Cert.FinishRefIdeal.Gen.slices_S16640x10240_S16640x8192_0_0) Cert.FinishRefIdeal.Gen.shapeCasts_S16640x8192_S16640x128x64))) Cert.FinishRefIdeal.Gen.shapeCasts_S16640x128x64_S16640x8192) (mulf Z (Host.divf (broadcastInDim Cert.FinishRefIdeal.S16640x8192 ![] Cert.FinishRefIdeal.Gen.bcast_S_S16640x8192 (constant (F := Ideal) Cert.FinishRefIdeal.S_ .f32 0x3F800000#32)) (addf (broadcastInDim Cert.FinishRefIdeal.S16640x8192 ![] Cert.FinishRefIdeal.Gen.bcast_S_S16640x8192 (constant (F := Ideal) Cert.FinishRefIdeal.S_ .f32 0x3F800000#32)) (Host.exp (Host.negf Z)))))) Cert.FinishRefIdeal.Gen.shapeCasts_S16640x8192_S16640x8x1024)) (constant (F := Ideal) Cert.FinishRefIdeal.S_ .f32 0x00000000#32) Cert.FinishRefIdeal.Gen.reducesTo_S16640x8x1024_S16640x8_d2 Cert.FinishRefIdeal.Gen.h_S_)) (broadcastInDim Cert.FinishRefIdeal.S16640x8x1 ![] Cert.FinishRefIdeal.Gen.bcast_S_S16640x8x1 (constant (F := Ideal) Cert.FinishRefIdeal.S_ .f32 0x44800000#32))) (broadcastInDim Cert.FinishRefIdeal.S16640x8x1 ![] Cert.FinishRefIdeal.Gen.bcast_S_S16640x8x1 (constant (F := Ideal) Cert.FinishRefIdeal.S_ .f32 0x358637BD#32)))))) Cert.FinishRefIdeal.Gen.shapeCasts_S16640x8x1024_S16640x8192) (broadcastInDim Cert.FinishRefIdeal.S16640x8192 ![0, 1] Cert.FinishRefIdeal.Gen.bcast_S1x8192_S16640x8192_0_1 (broadcastInDim Cert.FinishRefIdeal.S1x8192 ![1] Cert.FinishRefIdeal.Gen.bcast_S8192_S1x8192_1 G))) Cert.FinishRefIdeal.Gen.bitsLt_bf16_f32

theorem idx : ∀ t : Fin cfg0.N,
    win0_0.index t = ![t.val, 0]
      ∧ win0_1.index t = ![t.val, 0]
      ∧ win0_2.index t = ![t.val, 0]
      ∧ win0_3.index t = ![t.val, 0]
      ∧ win0_4.index t = ![0, 0]
      ∧ win0_5.index t = ![0, 0]
      ∧ win0_6.index t = ![t.val, 0] := (by decide +kernel : ∀ t : Fin grid0.N, _)

/-- One element before the norm. -/
abbrev GV (Y V : FVec Ideal S16640x8192 .f32) (X : FVec Ideal S16640x10240 .f32) (Z : FVec Ideal S16640x8192 .f32) (D : FVec Ideal S128 .f32) (r : Fin 16640) (k : Fin 8192) : EReal :=
  (Y (ix2 r k) + V (ix2 r k) + D (ix1 ⟨k.val / 64, by omega⟩) * X (ix2 r ⟨k.val, by omega⟩)) * (Z (ix2 r k) * Ideal.div 1 (1 + Ideal.exp (-Z (ix2 r k))))

theorem ref_at (Y V : FVec Ideal S16640x8192 .f32) (X : FVec Ideal S16640x10240 .f32) (Z : FVec Ideal S16640x8192 .f32) (D : FVec Ideal S128 .f32) (G : FVec Ideal S8192 .f32) (r : Fin 16640) (g : Fin 8) (k : Fin 1024) :
    REF Y V X Z D G (ix2 r ⟨g.val * 1024 + k.val, by omega⟩) = GV Y V X Z D r ⟨g.val * 1024 + k.val, by omega⟩ * Ideal.rsqrt (Ideal.div (∑ x : Fin 1024, GV Y V X Z D r ⟨g.val * 1024 + x.val, by omega⟩ * GV Y V X Z D r ⟨g.val * 1024 + x.val, by omega⟩) (Ideal.ofBits .f32 0x44800000#32) + Ideal.ofBits .f32 897988541#32) * G (ix1 ⟨g.val * 1024 + k.val, by omega⟩) := by
  pointwise [REF, GV]
  blk_point []

theorem blk2 (t : Fin cfg0.N) (y : S256x8192.Idx) : (X0_2 m c t y : EReal) = m ((c.tc : Thread nD τ).loc main_arg2) (ix2 ⟨t.val * 256 + (y 0).val, by have h0 : (y 0).val < 256 := (y 0).isLt; have ht : t.val < 65 := t.isLt; omega⟩ ⟨(y 1).val, by have h1 : (y 1).val < 8192 := (y 1).isLt; omega⟩) := by
  unfold X0_2 Pipeline.Window.fill
  rw [dif_pos (moved0_2 t y)]
  blk_point [iblk, V, idx t]

theorem pay1_at (t : Fin cfg0.N) (y : S256x8192.Idx) :
    (k0_pay1 (iblk m c 3 t) (iblk m c 0 t) (iblk m c 1 t) (iblk m c 4 t) (X0_2 m c t) y : EReal)
      = GV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val * 256 + (y 0).val, by have h0 : (y 0).val < 256 := (y 0).isLt; have ht : t.val < 65 := t.isLt; omega⟩ (y 1) := by
  pointwise [k0_pay1, GV]
  simp only [sub_eq_add_neg, zero_add, blk2 m c t]
  blk_point [iblk, V, idx t]

theorem pay1_ix (t : Fin cfg0.N) (a : Fin 256) (k : Fin 8192) (r : Fin 16640) (h : r.val = t.val * 256 + a.val) :
    (k0_pay1 (iblk m c 3 t) (iblk m c 0 t) (iblk m c 1 t) (iblk m c 4 t) (X0_2 m c t) (ix2 a k) : EReal)
      = GV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r k := by
  have e : r = ⟨t.val * 256 + a.val, by have ht : t.val < 65 := t.isLt; omega⟩ := Fin.ext h
  rw [e]
  exact pay1_at m c t (ix2 a k)

theorem blk5 (t : Fin cfg0.N) (q : Fin 8192) : (iblk m c 5 t (ix2 0 q) : EReal) = m ((c.tc : Thread nD τ).loc main_arg5) (ix1 q) := by
  blk_point [iblk, V, idx t]

/-- One element after the norm over the group of columns that begins at `o`. -/
abbrev NF (P : FVec Ideal S256x8192 .f32) (B : Vec Ideal S1x8192 .f32) (o : ℕ) (ho : o ≤ 7168) (a : Fin 256) (b : Fin 1024) : EReal :=
  P (ix2 a ⟨o + b.val, by omega⟩) * Ideal.rsqrt (Ideal.div (∑ x : Fin 1024, P (ix2 a ⟨o + x.val, by omega⟩) * P (ix2 a ⟨o + x.val, by omega⟩)) (Ideal.ofBits .f32 0x44800000#32) + Ideal.ofBits .f32 897988541#32) * B (ix2 0 ⟨o + b.val, by omega⟩)

theorem nf_ref (t : Fin cfg0.N) (a : Fin 256) (b : Fin 1024) (r : Fin 16640) (h : r.val = t.val * 256 + a.val) (o : ℕ) (ho : o ≤ 7168) (g : Fin 8) (hg : o = g.val * 1024) :
    NF (k0_pay1 (iblk m c 3 t) (iblk m c 0 t) (iblk m c 1 t) (iblk m c 4 t) (X0_2 m c t)) (iblk m c 5 t) o ho a b
      = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r ⟨o + b.val, by omega⟩) := by
  subst hg
  rw [ref_at]
  unfold NF
  simp only [pay1_ix m c t a _ r h, blk5 m c t]

theorem grp0 (x3 x0 x1 : Vec Ideal S256x8192 .bf16) (x4 : Vec Ideal S1x8192 .f32) (x2 : Vec Ideal S256x8192 .bf16) (B : Vec Ideal S1x8192 .f32) (a : Fin 256) (b : Fin 1024) :
    (k0_pay4 (k0_pay2 x3 x0 x1 x4 x2) (k0_pay3 (View.ld B (Rect.unit (s := S1x8192) ![0, 0] ![1, 1024] inb_S1x8192_S1x1024_0_0))) (ix2 a b) : EReal) = NF (k0_pay1 x3 x0 x1 x4 x2) B 0 (by omega) a b := by
  unfold k0_pay2
  generalize k0_pay1 x3 x0 x1 x4 x2 = P
  pointwise [k0_pay4, k0_pay2, k0_pay3, NF]

theorem grp1 (P : FVec Ideal S256x8192 .f32) (B : Vec Ideal S1x8192 .f32) (a : Fin 256) (b : Fin 1024) :
    (k0_pay5 P (View.ld B (Rect.unit (s := S1x8192) ![0, 1024] ![1, 1024] inb_S1x8192_S1x1024_0_1024)) (ix2 a b) : EReal) = NF P B 1024 (by omega) a b := by
  pointwise [k0_pay5, NF]

theorem grp2 (P : FVec Ideal S256x8192 .f32) (B : Vec Ideal S1x8192 .f32) (a : Fin 256) (b : Fin 1024) :
    (k0_pay6 P (View.ld B (Rect.unit (s := S1x8192) ![0, 2048] ![1, 1024] inb_S1x8192_S1x1024_0_2048)) (ix2 a b) : EReal) = NF P B 2048 (by omega) a b := by
  pointwise [k0_pay6, NF]

theorem grp3 (P : FVec Ideal S256x8192 .f32) (B : Vec Ideal S1x8192 .f32) (a : Fin 256) (b : Fin 1024) :
    (k0_pay9 (k0_pay7 P) (k0_pay8 P) (View.ld B (Rect.unit (s := S1x8192) ![0, 3072] ![1, 1024] inb_S1x8192_S1x1024_0_3072)) (ix2 a b) : EReal) = NF P B 3072 (by omega) a b := by
  pointwise [k0_pay9, k0_pay7, k0_pay8, NF]

theorem grp4 (P : FVec Ideal S256x8192 .f32) (B : Vec Ideal S1x8192 .f32) (a : Fin 256) (b : Fin 1024) :
    (k0_pay10 P (View.ld B (Rect.unit (s := S1x8192) ![0, 4096] ![1, 1024] inb_S1x8192_S1x1024_0_4096)) (ix2 a b) : EReal) = NF P B 4096 (by omega) a b := by
  pointwise [k0_pay10, NF]

theorem grp5 (P : FVec Ideal S256x8192 .f32) (B : Vec Ideal S1x8192 .f32) (a : Fin 256) (b : Fin 1024) :
    (k0_pay12 (k0_pay11 P) (View.ld B (Rect.unit (s := S1x8192) ![0, 5120] ![1, 1024] inb_S1x8192_S1x1024_0_5120)) (ix2 a b) : EReal) = NF P B 5120 (by omega) a b := by
  pointwise [k0_pay12, k0_pay11, NF]

theorem grp6 (P : FVec Ideal S256x8192 .f32) (B : Vec Ideal S1x8192 .f32) (a : Fin 256) (b : Fin 1024) :
    (k0_pay13 P (View.ld B (Rect.unit (s := S1x8192) ![0, 6144] ![1, 1024] inb_S1x8192_S1x1024_0_6144)) (ix2 a b) : EReal) = NF P B 6144 (by omega) a b := by
  pointwise [k0_pay13, NF]

theorem grp7 (P : FVec Ideal S256x8192 .f32) (B : Vec Ideal S1x8192 .f32) (a : Fin 256) (b : Fin 1024) :
    (k0_pay14 P (View.ld B (Rect.unit (s := S1x8192) ![0, 7168] ![1, 1024] inb_S1x8192_S1x1024_0_7168)) (ix2 a b) : EReal) = NF P B 7168 (by omega) a b := by
  pointwise [k0_pay14, NF]

/-- The blocks fill the result. -/
theorem final : (dats m 0 c).arrAt 6 cfg0.N
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]; unfold outsAt0
  frame_out
  canon_tiles x h
  case piece0 =>
    have ex : x = ix2 (x 0) (x 1) := funext fun (a : Fin 2) => by fin_cases a <;> rfl
    have ht : t.val < 65 := t.isLt
    refine (congrArg _ ex).trans ((grp7 _ _ (x 0) (x 1)).trans ((nf_ref m c t (x 0) (x 1) ⟨t.val * 256 + (x 0).val, by omega⟩ rfl _ _ 7 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece1 =>
    have ex : x = ix2 (x 0) (x 1) := funext fun (a : Fin 2) => by fin_cases a <;> rfl
    have ht : t.val < 65 := t.isLt
    refine (congrArg _ ex).trans ((grp6 _ _ (x 0) (x 1)).trans ((nf_ref m c t (x 0) (x 1) ⟨t.val * 256 + (x 0).val, by omega⟩ rfl _ _ 6 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece2 =>
    have ex : x = ix2 (x 0) (x 1) := funext fun (a : Fin 2) => by fin_cases a <;> rfl
    have ht : t.val < 65 := t.isLt
    refine (congrArg _ ex).trans ((grp5 _ _ (x 0) (x 1)).trans ((nf_ref m c t (x 0) (x 1) ⟨t.val * 256 + (x 0).val, by omega⟩ rfl _ _ 5 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece3 =>
    have ex : x = ix2 (x 0) (x 1) := funext fun (a : Fin 2) => by fin_cases a <;> rfl
    have ht : t.val < 65 := t.isLt
    refine (congrArg _ ex).trans ((grp4 _ _ (x 0) (x 1)).trans ((nf_ref m c t (x 0) (x 1) ⟨t.val * 256 + (x 0).val, by omega⟩ rfl _ _ 4 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece4 =>
    have ex : x = ix2 (x 0) (x 1) := funext fun (a : Fin 2) => by fin_cases a <;> rfl
    have ht : t.val < 65 := t.isLt
    refine (congrArg _ ex).trans ((grp3 _ _ (x 0) (x 1)).trans ((nf_ref m c t (x 0) (x 1) ⟨t.val * 256 + (x 0).val, by omega⟩ rfl _ _ 3 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece5 =>
    have ex : x = ix2 (x 0) (x 1) := funext fun (a : Fin 2) => by fin_cases a <;> rfl
    have ht : t.val < 65 := t.isLt
    refine (congrArg _ ex).trans ((grp2 _ _ (x 0) (x 1)).trans ((nf_ref m c t (x 0) (x 1) ⟨t.val * 256 + (x 0).val, by omega⟩ rfl _ _ 2 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece6 =>
    have ex : x = ix2 (x 0) (x 1) := funext fun (a : Fin 2) => by fin_cases a <;> rfl
    have ht : t.val < 65 := t.isLt
    refine (congrArg _ ex).trans ((grp1 _ _ (x 0) (x 1)).trans ((nf_ref m c t (x 0) (x 1) ⟨t.val * 256 + (x 0).val, by omega⟩ rfl _ _ 1 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]
  case piece7 =>
    have ex : x = ix2 (x 0) (x 1) := funext fun (a : Fin 2) => by fin_cases a <;> rfl
    have ht : t.val < 65 := t.isLt
    refine (congrArg _ ex).trans ((grp0 _ _ _ _ _ _ (x 0) (x 1)).trans ((nf_ref m c t (x 0) (x 1) ⟨t.val * 256 + (x 0).val, by omega⟩ rfl _ _ 0 rfl).trans (congrArg (REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)))
    blk_ext [idx t, h0, h1]

end Cert.FinishIdeal.Call
-- ==== Proof.LatPostValue.lean ====
/-
  The norms and the rotation of the latents: a block of 256 rows is the reference's, row by row; the rotary columns go
  through a layout of the latents with the columns turned by a quarter and tables with a cosine of one for the context.
-/
module

public import proofs.«01_k».proof.Proof.Gen.LatPostIdeal.Value
public import proofs.«01_k».proof.Proof.Gen.LatPostRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.LatPostIdeal.Call

open Cert.LatPostIdeal Cert.LatPostIdeal.Gen

variable (m : (ℓ : Loc nD τ sig) → Buf (Elt Ideal) ℓ) (c : Dev nD)

/-- The reference's result 0 over the kernel's arguments. -/
abbrev REF0 (L : FVec Ideal S16640x2112 .f32) (Q : FVec Ideal S1536 .f32) : FVec Ideal S16640x1536 .bf16 :=
  truncf .bf16 (mulf (mulf (extractStridedSlice Cert.LatPostRefIdeal.S16640x1536 ![0, 0] L Cert.LatPostRefIdeal.Gen.slices_S16640x2112_S16640x1536_0_0) (broadcastInDim Cert.LatPostRefIdeal.S16640x1536 ![0, 1] Cert.LatPostRefIdeal.Gen.bcast_S16640x1_S16640x1536_0_1 (Host.rsqrt (addf (Host.divf (broadcastInDim Cert.LatPostRefIdeal.S16640x1 ![0] Cert.LatPostRefIdeal.Gen.bcast_S16640_S16640x1_0 (Host.reduceAdd (mulf (extractStridedSlice Cert.LatPostRefIdeal.S16640x1536 ![0, 0] L Cert.LatPostRefIdeal.Gen.slices_S16640x2112_S16640x1536_0_0) (extractStridedSlice Cert.LatPostRefIdeal.S16640x1536 ![0, 0] L Cert.LatPostRefIdeal.Gen.slices_S16640x2112_S16640x1536_0_0)) (constant (F := Ideal) Cert.LatPostRefIdeal.S_ .f32 0x00000000#32) Cert.LatPostRefIdeal.Gen.reducesTo_S16640x1536_S16640_d1 Cert.LatPostRefIdeal.Gen.h_S_)) (broadcastInDim Cert.LatPostRefIdeal.S16640x1 ![] Cert.LatPostRefIdeal.Gen.bcast_S_S16640x1 (constant (F := Ideal) Cert.LatPostRefIdeal.S_ .f32 0x44C00000#32))) (broadcastInDim Cert.LatPostRefIdeal.S16640x1 ![] Cert.LatPostRefIdeal.Gen.bcast_S_S16640x1 (constant (F := Ideal) Cert.LatPostRefIdeal.S_ .f32 0x358637BD#32)))))) (broadcastInDim Cert.LatPostRefIdeal.S16640x1536 ![0, 1] Cert.LatPostRefIdeal.Gen.bcast_S1x1536_S16640x1536_0_1 (broadcastInDim Cert.LatPostRefIdeal.S1x1536 ![1] Cert.LatPostRefIdeal.Gen.bcast_S1536_S1x1536_1 Q))) Cert.LatPostRefIdeal.Gen.bitsLt_bf16_f32

/-- The reference's result 1 over the kernel's arguments. -/
abbrev REF1 (L : FVec Ideal S16640x2112 .f32) (K : FVec Ideal S512 .f32) : FVec Ideal S16640x512 .bf16 :=
  truncf .bf16 (mulf (mulf (extractStridedSlice Cert.LatPostRefIdeal.S16640x512 ![0, 1536] L Cert.LatPostRefIdeal.Gen.slices_S16640x2112_S16640x512_0_1536) (broadcastInDim Cert.LatPostRefIdeal.S16640x512 ![0, 1] Cert.LatPostRefIdeal.Gen.bcast_S16640x1_S16640x512_0_1 (Host.rsqrt (addf (Host.divf (broadcastInDim Cert.LatPostRefIdeal.S16640x1 ![0] Cert.LatPostRefIdeal.Gen.bcast_S16640_S16640x1_0 (Host.reduceAdd (mulf (extractStridedSlice Cert.LatPostRefIdeal.S16640x512 ![0, 1536] L Cert.LatPostRefIdeal.Gen.slices_S16640x2112_S16640x512_0_1536) (extractStridedSlice Cert.LatPostRefIdeal.S16640x512 ![0, 1536] L Cert.LatPostRefIdeal.Gen.slices_S16640x2112_S16640x512_0_1536)) (constant (F := Ideal) Cert.LatPostRefIdeal.S_ .f32 0x00000000#32) Cert.LatPostRefIdeal.Gen.reducesTo_S16640x512_S16640_d1 Cert.LatPostRefIdeal.Gen.h_S_)) (broadcastInDim Cert.LatPostRefIdeal.S16640x1 ![] Cert.LatPostRefIdeal.Gen.bcast_S_S16640x1 (constant (F := Ideal) Cert.LatPostRefIdeal.S_ .f32 0x44000000#32))) (broadcastInDim Cert.LatPostRefIdeal.S16640x1 ![] Cert.LatPostRefIdeal.Gen.bcast_S_S16640x1 (constant (F := Ideal) Cert.LatPostRefIdeal.S_ .f32 0x358637BD#32)))))) (broadcastInDim Cert.LatPostRefIdeal.S16640x512 ![0, 1] Cert.LatPostRefIdeal.Gen.bcast_S1x512_S16640x512_0_1 (broadcastInDim Cert.LatPostRefIdeal.S1x512 ![1] Cert.LatPostRefIdeal.Gen.bcast_S512_S1x512_1 K))) Cert.LatPostRefIdeal.Gen.bitsLt_bf16_f32

/-- The reference's result 2 over the kernel's arguments. -/
abbrev REF2 (L : FVec Ideal S16640x2112 .f32) (C : FVec Ideal S16384x32 .f32) (S : FVec Ideal S16384x32 .f32) : FVec Ideal S16640x256 .bf16 :=
  truncf .bf16 ((concatenate Cert.LatPostRefIdeal.S16640x256 1 [⟨Cert.LatPostRefIdeal.S16640x64, ((concatenate Cert.LatPostRefIdeal.S16640x64 0 [⟨Cert.LatPostRefIdeal.S256x64, (extractStridedSlice Cert.LatPostRefIdeal.S256x64 ![0, 2048] L Cert.LatPostRefIdeal.Gen.slices_S16640x2112_S256x64_0_2048)⟩, ⟨Cert.LatPostRefIdeal.S16384x64, (concatenate Cert.LatPostRefIdeal.S16384x64 1 [⟨Cert.LatPostRefIdeal.S16384x32, (subf (mulf (extractStridedSlice Cert.LatPostRefIdeal.S16384x32 ![0, 0] (extractStridedSlice Cert.LatPostRefIdeal.S16384x64 ![256, 2048] L Cert.LatPostRefIdeal.Gen.slices_S16640x2112_S16384x64_256_2048) Cert.LatPostRefIdeal.Gen.slices_S16384x64_S16384x32_0_0) C) (mulf (extractStridedSlice Cert.LatPostRefIdeal.S16384x32 ![0, 32] (extractStridedSlice Cert.LatPostRefIdeal.S16384x64 ![256, 2048] L Cert.LatPostRefIdeal.Gen.slices_S16640x2112_S16384x64_256_2048) Cert.LatPostRefIdeal.Gen.slices_S16384x64_S16384x32_0_32) S))⟩, ⟨Cert.LatPostRefIdeal.S16384x32, (addf (mulf (extractStridedSlice Cert.LatPostRefIdeal.S16384x32 ![0, 32] (extractStridedSlice Cert.LatPostRefIdeal.S16384x64 ![256, 2048] L Cert.LatPostRefIdeal.Gen.slices_S16640x2112_S16384x64_256_2048) Cert.LatPostRefIdeal.Gen.slices_S16384x64_S16384x32_0_32) C) (mulf (extractStridedSlice Cert.LatPostRefIdeal.S16384x32 ![0, 0] (extractStridedSlice Cert.LatPostRefIdeal.S16384x64 ![256, 2048] L Cert.LatPostRefIdeal.Gen.slices_S16640x2112_S16384x64_256_2048) Cert.LatPostRefIdeal.Gen.slices_S16384x64_S16384x32_0_0) S))⟩] Cert.LatPostRefIdeal.Gen.concatenates_S16384x32_S16384x32_S16384x64_d1)⟩] Cert.LatPostRefIdeal.Gen.concatenates_S256x64_S16384x64_S16640x64_d0) : (⟨Cert.LatPostRefIdeal.S16640x64, .f32⟩ : BufTy).Contents (Elt Ideal))⟩, ⟨Cert.LatPostRefIdeal.S16640x64, ((broadcastInDim Cert.LatPostRefIdeal.S16640x64 ![] Cert.LatPostRefIdeal.Gen.bcast_S_S16640x64 (constant (F := Ideal) Cert.LatPostRefIdeal.S_ .f32 0x00000000#32)) : (⟨Cert.LatPostRefIdeal.S16640x64, .f32⟩ : BufTy).Contents (Elt Ideal))⟩, ⟨Cert.LatPostRefIdeal.S16640x64, ((broadcastInDim Cert.LatPostRefIdeal.S16640x64 ![] Cert.LatPostRefIdeal.Gen.bcast_S_S16640x64 (constant (F := Ideal) Cert.LatPostRefIdeal.S_ .f32 0x00000000#32)) : (⟨Cert.LatPostRefIdeal.S16640x64, .f32⟩ : BufTy).Contents (Elt Ideal))⟩, ⟨Cert.LatPostRefIdeal.S16640x64, ((concatenate Cert.LatPostRefIdeal.S16640x64 0 [⟨Cert.LatPostRefIdeal.S256x64, (extractStridedSlice Cert.LatPostRefIdeal.S256x64 ![0, 2048] L Cert.LatPostRefIdeal.Gen.slices_S16640x2112_S256x64_0_2048)⟩, ⟨Cert.LatPostRefIdeal.S16384x64, (concatenate Cert.LatPostRefIdeal.S16384x64 1 [⟨Cert.LatPostRefIdeal.S16384x32, (subf (mulf (extractStridedSlice Cert.LatPostRefIdeal.S16384x32 ![0, 0] (extractStridedSlice Cert.LatPostRefIdeal.S16384x64 ![256, 2048] L Cert.LatPostRefIdeal.Gen.slices_S16640x2112_S16384x64_256_2048) Cert.LatPostRefIdeal.Gen.slices_S16384x64_S16384x32_0_0) C) (mulf (extractStridedSlice Cert.LatPostRefIdeal.S16384x32 ![0, 32] (extractStridedSlice Cert.LatPostRefIdeal.S16384x64 ![256, 2048] L Cert.LatPostRefIdeal.Gen.slices_S16640x2112_S16384x64_256_2048) Cert.LatPostRefIdeal.Gen.slices_S16384x64_S16384x32_0_32) S))⟩, ⟨Cert.LatPostRefIdeal.S16384x32, (addf (mulf (extractStridedSlice Cert.LatPostRefIdeal.S16384x32 ![0, 32] (extractStridedSlice Cert.LatPostRefIdeal.S16384x64 ![256, 2048] L Cert.LatPostRefIdeal.Gen.slices_S16640x2112_S16384x64_256_2048) Cert.LatPostRefIdeal.Gen.slices_S16384x64_S16384x32_0_32) C) (mulf (extractStridedSlice Cert.LatPostRefIdeal.S16384x32 ![0, 0] (extractStridedSlice Cert.LatPostRefIdeal.S16384x64 ![256, 2048] L Cert.LatPostRefIdeal.Gen.slices_S16640x2112_S16384x64_256_2048) Cert.LatPostRefIdeal.Gen.slices_S16384x64_S16384x32_0_0) S))⟩] Cert.LatPostRefIdeal.Gen.concatenates_S16384x32_S16384x32_S16384x64_d1)⟩] Cert.LatPostRefIdeal.Gen.concatenates_S256x64_S16384x64_S16640x64_d0) : (⟨Cert.LatPostRefIdeal.S16640x64, .f32⟩ : BufTy).Contents (Elt Ideal))⟩] Cert.LatPostRefIdeal.Gen.concatenates_S16640x64_S16640x64_S16640x64_S16640x64_S16640x256_d1 : (⟨Cert.LatPostRefIdeal.S16640x256, .f32⟩ : BufTy).Contents (Elt Ideal))) Cert.LatPostRefIdeal.Gen.bitsLt_bf16_f32

theorem idx : ∀ t : Fin cfg0.N,
    win0_0.index t = ![t.val, 0]
      ∧ win0_1.index t = ![0, 0]
      ∧ win0_2.index t = ![0, 0]
      ∧ win0_3.index t = ![t.val, 0]
      ∧ win0_4.index t = ![t.val, 0]
      ∧ win0_5.index t = ![t.val, 0]
      ∧ win0_6.index t = ![t.val, 0]
      ∧ win0_7.index t = ![t.val, 0] := (by decide +kernel : ∀ t : Fin grid0.N, _)

/-- The rotary columns. -/
abbrev KR (L : FVec Ideal S16640x2112 .f32) : FVec Ideal S16640x64 .f32 := extractStridedSlice S16640x64 ![0, 2048] L slices_S16640x2112_S16640x64_0_2048
/-- The rotary columns turned by a quarter. -/
abbrev RT (L : FVec Ideal S16640x2112 .f32) : FVec Ideal S16640x64 .f32 :=
  concatenate S16640x64 1 [⟨S16640x32, Host.negf (extractStridedSlice S16640x32 ![0, 32] (KR L) slices_S16640x64_S16640x32_0_32)⟩, ⟨S16640x32, extractStridedSlice S16640x32 ![0, 0] (KR L) slices_S16640x64_S16640x32_0_0⟩] concatenates_S16640x32_S16640x32_S16640x64_d1
/-- Columns of zeros. -/
abbrev ZR : FVec Ideal S16640x64 .f32 := broadcastInDim S16640x64 ![] bcast_S_S16640x64 (constant (F := Ideal) S_ .f32 0x00000000#32)
/-- The latents as the call lays them out. -/
abbrev LP (L : FVec Ideal S16640x2112 .f32) : FVec Ideal S16640x2560 .f32 :=
  concatenate S16640x2560 1 [⟨S16640x2048, extractStridedSlice S16640x2048 ![0, 0] L slices_S16640x2112_S16640x2048_0_0⟩, ⟨S16640x64, KR L⟩, ⟨S16640x64, ZR⟩, ⟨S16640x64, RT L⟩, ⟨S16640x64, ZR⟩, ⟨S16640x64, ZR⟩, ⟨S16640x64, KR L⟩, ⟨S16640x64, ZR⟩, ⟨S16640x64, RT L⟩] concatenates_S16640x2048_S16640x64_S16640x64_S16640x64_S16640x64_S16640x64_S16640x64_S16640x64_S16640x64_S16640x2560_d1
/-- A table of the positions as the call lays it out: `x` for the rows of the context, four times over. -/
abbrev TP (x : BitVec 32) (C : FVec Ideal S16384x32 .f32) : FVec Ideal S16640x128 .f32 :=
  shapeCast S16640x128 (broadcastInDim S1x16640x4x32 ![0, 1, 2, 3] bcast_S1x16640x1x32_S1x16640x4x32_0_1_2_3 (shapeCast S1x16640x1x32 (concatenate S16640x32 0 [⟨S256x32, broadcastInDim S256x32 ![] bcast_S_S256x32 (constant (F := Ideal) S_ .f32 x)⟩, ⟨S16384x32, C⟩] concatenates_S256x32_S16384x32_S16640x32_d0) shapeCasts_S16640x32_S1x16640x1x32)) shapeCasts_S1x16640x4x32_S16640x128

theorem v17_eq : (V m c main_v17 : FVec Ideal S16640x2560 .f32) = LP (m ((c.tc : Thread nD τ).loc main_arg0)) := by
  show StableHlo.after hostOps0 (fun b => m (c, b)) _ = _
  after_results
  rfl

theorem v4_eq : (V m c main_v4 : FVec Ideal S16640x128 .f32) = TP 0x3F800000#32 (m ((c.tc : Thread nD τ).loc main_arg3)) := by
  show StableHlo.after hostOps0 (fun b => m (c, b)) _ = _
  after_results
  rfl

theorem v9_eq : (V m c main_v9 : FVec Ideal S16640x128 .f32) = TP 0x00000000#32 (m ((c.tc : Thread nD τ).loc main_arg4)) := by
  show StableHlo.after hostOps0 (fun b => m (c, b)) _ = _
  after_results
  rfl

variable (L : FVec Ideal S16640x2112 .f32) (C S : FVec Ideal S16384x32 .f32)

theorem lp_lo (r : Fin 16640) (q : Fin 2048) : (LP L (ix2 r ⟨q.val, by omega⟩) : EReal) = L (ix2 r ⟨q.val, by omega⟩) := by
  pointwise

theorem tp_c (x : BitVec 32) (r : Fin 16640) (q : Fin 128) (h : r.val < 256) : (TP x C (ix2 r q) : EReal) = Ideal.ofBits .f32 x := by
  pointwise
  rw [dif_pos h]

theorem tp_l (x : BitVec 32) (r : Fin 16640) (q : Fin 128) (h : ¬ r.val < 256) : (TP x C (ix2 r q) : EReal) = C (ix2 ⟨r.val - 256, by omega⟩ ⟨q.val % 32, by omega⟩) := by
  pointwise
  rw [dif_neg h]
  all_goals blk_point []

theorem lo_za (r : Fin 16640) (x : Fin 128) (h : 64 ≤ x.val) : (LP L (ix2 r ⟨2048 + x.val, by omega⟩) : EReal) = 0 := by
  pointwise
  repeat (first | rw [dif_pos (by omega)] | rw [dif_neg (by omega)])

theorem lo_zb (r : Fin 16640) (x : Fin 128) (h : 64 ≤ x.val) : (LP L (ix2 r ⟨2176 + x.val, by omega⟩) : EReal) = 0 := by
  pointwise
  repeat (first | rw [dif_pos (by omega)] | rw [dif_neg (by omega)])

theorem lo_a (r : Fin 16640) (x : Fin 128) (h : x.val < 64) : (LP L (ix2 r ⟨2048 + x.val, by omega⟩) : EReal) = L (ix2 r ⟨2048 + (x.val), by omega⟩) := by
  pointwise
  repeat (first | rw [dif_pos (by omega)] | rw [dif_neg (by omega)])
  all_goals blk_point []

theorem lo_b1 (r : Fin 16640) (x : Fin 128) (h : x.val < 64 ∧ x.val < 32) : (LP L (ix2 r ⟨2176 + x.val, by omega⟩) : EReal) = -L (ix2 r ⟨2048 + (32 + (x.val)), by omega⟩) := by
  pointwise
  repeat (first | rw [dif_pos (by omega)] | rw [dif_neg (by omega)])
  all_goals blk_point []

theorem lo_b2 (r : Fin 16640) (x : Fin 128) (h : x.val < 64 ∧ 32 ≤ x.val) : (LP L (ix2 r ⟨2176 + x.val, by omega⟩) : EReal) = L (ix2 r ⟨2048 + (x.val - 32), by omega⟩) := by
  pointwise
  repeat (first | rw [dif_pos (by omega)] | rw [dif_neg (by omega)])
  all_goals blk_point []

theorem lo_eq0 (r : Fin 16640) (x : Fin 128) (hx : x.val < 64) (hr : r.val < 256) :
    (LP L (ix2 r ⟨2048 + x.val, by omega⟩) * TP 0x3F800000#32 C (ix2 r x) + LP L (ix2 r ⟨2176 + x.val, by omega⟩) * TP 0x00000000#32 S (ix2 r x) : EReal)
      = REF2 L C S (ix2 r ⟨x.val, by omega⟩) := by
  have c1 : (TP 0x3F800000#32 C (ix2 r x) : EReal) = 1 := (tp_c C _ r x hr).trans (by pointwise)
  have c0 : (TP 0x00000000#32 S (ix2 r x) : EReal) = 0 := (tp_c S _ r x hr).trans (by pointwise)
  rw [c1, c0, mul_one, mul_zero, add_zero, lo_a L r x (by omega)]
  pointwise [REF2]
  rw [dif_pos (by omega), dif_pos (by omega)]
  all_goals blk_point []

theorem lo_eq1 (r : Fin 16640) (x : Fin 128) (hx : x.val < 64) (hr : ¬ r.val < 256) (h3 : x.val < 32) :
    (LP L (ix2 r ⟨2048 + x.val, by omega⟩) * TP 0x3F800000#32 C (ix2 r x) + LP L (ix2 r ⟨2176 + x.val, by omega⟩) * TP 0x00000000#32 S (ix2 r x) : EReal)
      = REF2 L C S (ix2 r ⟨x.val, by omega⟩) := by
  rw [tp_l C _ r x hr, tp_l S _ r x hr, lo_a L r x (by omega), lo_b1 L r x (by omega), EReal.neg_mul, ← sub_eq_add_neg]
  pointwise [REF2]
  rw [dif_pos (by omega), dif_neg (by omega), dif_pos (by omega)]
  all_goals blk_point []

theorem lo_eq2 (r : Fin 16640) (x : Fin 128) (hx : x.val < 64) (hr : ¬ r.val < 256) (h3 : ¬ x.val < 32) :
    (LP L (ix2 r ⟨2048 + x.val, by omega⟩) * TP 0x3F800000#32 C (ix2 r x) + LP L (ix2 r ⟨2176 + x.val, by omega⟩) * TP 0x00000000#32 S (ix2 r x) : EReal)
      = REF2 L C S (ix2 r ⟨x.val, by omega⟩) := by
  rw [tp_l C _ r x hr, tp_l S _ r x hr, lo_a L r x (by omega), lo_b2 L r x (by omega)]
  pointwise [REF2]
  rw [dif_pos (by omega), dif_neg (by omega), dif_neg (by omega)]
  all_goals blk_point []

theorem lo_eq3 (r : Fin 16640) (x : Fin 128) (hx : ¬ x.val < 64) :
    (LP L (ix2 r ⟨2048 + x.val, by omega⟩) * TP 0x3F800000#32 C (ix2 r x) + LP L (ix2 r ⟨2176 + x.val, by omega⟩) * TP 0x00000000#32 S (ix2 r x) : EReal)
      = REF2 L C S (ix2 r ⟨x.val, by omega⟩) := by
  rw [lo_za L r x (by omega), lo_zb L r x (by omega), zero_mul, zero_mul, add_zero]
  pointwise [REF2]
  rw [dif_neg (by omega), dif_pos (by omega)]

theorem lo_eq (r : Fin 16640) (x : Fin 128) :
    (LP L (ix2 r ⟨2048 + x.val, by omega⟩) * TP 0x3F800000#32 C (ix2 r x) + LP L (ix2 r ⟨2176 + x.val, by omega⟩) * TP 0x00000000#32 S (ix2 r x) : EReal)
      = REF2 L C S (ix2 r ⟨x.val, by omega⟩) := by
  by_cases hx : x.val < 64
  · by_cases hr : r.val < 256
    · exact lo_eq0 L C S r x hx hr
    · by_cases h3 : x.val < 32
      · exact lo_eq1 L C S r x hx hr h3
      · exact lo_eq2 L C S r x hx hr h3
  · exact lo_eq3 L C S r x hx

theorem hi_za (r : Fin 16640) (x : Fin 128) (h : x.val < 64) : (LP L (ix2 r ⟨2304 + x.val, by omega⟩) : EReal) = 0 := by
  pointwise
  repeat (first | rw [dif_pos (by omega)] | rw [dif_neg (by omega)])

theorem hi_zb (r : Fin 16640) (x : Fin 128) (h : x.val < 64) : (LP L (ix2 r ⟨2432 + x.val, by omega⟩) : EReal) = 0 := by
  pointwise
  repeat (first | rw [dif_pos (by omega)] | rw [dif_neg (by omega)])

theorem hi_a (r : Fin 16640) (x : Fin 128) (h : 64 ≤ x.val) : (LP L (ix2 r ⟨2304 + x.val, by omega⟩) : EReal) = L (ix2 r ⟨2048 + (x.val - 64), by omega⟩) := by
  pointwise
  repeat (first | rw [dif_pos (by omega)] | rw [dif_neg (by omega)])
  all_goals blk_point []

theorem hi_b1 (r : Fin 16640) (x : Fin 128) (h : 64 ≤ x.val ∧ x.val - 64 < 32) : (LP L (ix2 r ⟨2432 + x.val, by omega⟩) : EReal) = -L (ix2 r ⟨2048 + (32 + (x.val - 64)), by omega⟩) := by
  pointwise
  repeat (first | rw [dif_pos (by omega)] | rw [dif_neg (by omega)])
  all_goals blk_point []

theorem hi_b2 (r : Fin 16640) (x : Fin 128) (h : 64 ≤ x.val ∧ 32 ≤ x.val - 64) : (LP L (ix2 r ⟨2432 + x.val, by omega⟩) : EReal) = L (ix2 r ⟨2048 + (x.val - 64 - 32), by omega⟩) := by
  pointwise
  repeat (first | rw [dif_pos (by omega)] | rw [dif_neg (by omega)])
  all_goals blk_point []

theorem hi_eq0 (r : Fin 16640) (x : Fin 128) (hx : 64 ≤ x.val) (hr : r.val < 256) :
    (LP L (ix2 r ⟨2304 + x.val, by omega⟩) * TP 0x3F800000#32 C (ix2 r x) + LP L (ix2 r ⟨2432 + x.val, by omega⟩) * TP 0x00000000#32 S (ix2 r x) : EReal)
      = REF2 L C S (ix2 r ⟨128 + x.val, by omega⟩) := by
  have c1 : (TP 0x3F800000#32 C (ix2 r x) : EReal) = 1 := (tp_c C _ r x hr).trans (by pointwise)
  have c0 : (TP 0x00000000#32 S (ix2 r x) : EReal) = 0 := (tp_c S _ r x hr).trans (by pointwise)
  rw [c1, c0, mul_one, mul_zero, add_zero, hi_a L r x (by omega)]
  pointwise [REF2]
  rw [dif_neg (by omega), dif_neg (by omega), dif_neg (by omega), dif_pos (by omega)]
  all_goals blk_point []

theorem hi_eq1 (r : Fin 16640) (x : Fin 128) (hx : 64 ≤ x.val) (hr : ¬ r.val < 256) (h3 : x.val - 64 < 32) :
    (LP L (ix2 r ⟨2304 + x.val, by omega⟩) * TP 0x3F800000#32 C (ix2 r x) + LP L (ix2 r ⟨2432 + x.val, by omega⟩) * TP 0x00000000#32 S (ix2 r x) : EReal)
      = REF2 L C S (ix2 r ⟨128 + x.val, by omega⟩) := by
  rw [tp_l C _ r x hr, tp_l S _ r x hr, hi_a L r x (by omega), hi_b1 L r x (by omega), EReal.neg_mul, ← sub_eq_add_neg]
  pointwise [REF2]
  rw [dif_neg (by omega), dif_neg (by omega), dif_neg (by omega), dif_neg (by omega), dif_pos (by omega)]
  all_goals blk_point []

theorem hi_eq2 (r : Fin 16640) (x : Fin 128) (hx : 64 ≤ x.val) (hr : ¬ r.val < 256) (h3 : ¬ x.val - 64 < 32) :
    (LP L (ix2 r ⟨2304 + x.val, by omega⟩) * TP 0x3F800000#32 C (ix2 r x) + LP L (ix2 r ⟨2432 + x.val, by omega⟩) * TP 0x00000000#32 S (ix2 r x) : EReal)
      = REF2 L C S (ix2 r ⟨128 + x.val, by omega⟩) := by
  rw [tp_l C _ r x hr, tp_l S _ r x hr, hi_a L r x (by omega), hi_b2 L r x (by omega)]
  pointwise [REF2]
  rw [dif_neg (by omega), dif_neg (by omega), dif_neg (by omega), dif_neg (by omega), dif_neg (by omega)]
  all_goals blk_point []

theorem hi_eq3 (r : Fin 16640) (x : Fin 128) (hx : ¬ 64 ≤ x.val) :
    (LP L (ix2 r ⟨2304 + x.val, by omega⟩) * TP 0x3F800000#32 C (ix2 r x) + LP L (ix2 r ⟨2432 + x.val, by omega⟩) * TP 0x00000000#32 S (ix2 r x) : EReal)
      = REF2 L C S (ix2 r ⟨128 + x.val, by omega⟩) := by
  rw [hi_za L r x (by omega), hi_zb L r x (by omega), zero_mul, zero_mul, add_zero]
  pointwise [REF2]
  rw [dif_neg (by omega), dif_neg (by omega), dif_pos (by omega)]

theorem hi_eq (r : Fin 16640) (x : Fin 128) :
    (LP L (ix2 r ⟨2304 + x.val, by omega⟩) * TP 0x3F800000#32 C (ix2 r x) + LP L (ix2 r ⟨2432 + x.val, by omega⟩) * TP 0x00000000#32 S (ix2 r x) : EReal)
      = REF2 L C S (ix2 r ⟨128 + x.val, by omega⟩) := by
  by_cases hx : 64 ≤ x.val
  · by_cases hr : r.val < 256
    · exact hi_eq0 L C S r x hx hr
    · by_cases h3 : x.val - 64 < 32
      · exact hi_eq1 L C S r x hx hr h3
      · exact hi_eq2 L C S r x hx hr h3
  · exact hi_eq3 L C S r x hx

theorem blk0 (t : Fin cfg0.N) (a : Fin 256) (q : Fin 2560) (r : Fin 16640) (h : r.val = t.val * 256 + a.val) : (iblk m c 0 t (ix2 a q) : EReal) = LP (m ((c.tc : Thread nD τ).loc main_arg0)) (ix2 r q) := by
  have e : ((cfg0.win 0).blk t).view.emb (ix2 a q) = ix2 r q := by
    blk_ext [idx t, h]
  show V m c main_v17 (((cfg0.win 0).blk t).view.emb (ix2 a q)) = _
  rw [e, v17_eq]

theorem blk3 (t : Fin cfg0.N) (a : Fin 256) (q : Fin 128) (r : Fin 16640) (h : r.val = t.val * 256 + a.val) : (iblk m c 3 t (ix2 a q) : EReal) = TP 0x3F800000#32 (m ((c.tc : Thread nD τ).loc main_arg3)) (ix2 r q) := by
  have e : ((cfg0.win 3).blk t).view.emb (ix2 a q) = ix2 r q := by
    blk_ext [idx t, h]
  show V m c main_v4 (((cfg0.win 3).blk t).view.emb (ix2 a q)) = _
  rw [e, v4_eq]

theorem blk4 (t : Fin cfg0.N) (a : Fin 256) (q : Fin 128) (r : Fin 16640) (h : r.val = t.val * 256 + a.val) : (iblk m c 4 t (ix2 a q) : EReal) = TP 0x00000000#32 (m ((c.tc : Thread nD τ).loc main_arg4)) (ix2 r q) := by
  have e : ((cfg0.win 4).blk t).view.emb (ix2 a q) = ix2 r q := by
    blk_ext [idx t, h]
  show V m c main_v9 (((cfg0.win 4).blk t).view.emb (ix2 a q)) = _
  rw [e, v9_eq]

theorem blk1 (t : Fin cfg0.N) (q : Fin 1536) : (iblk m c 1 t (ix2 0 q) : EReal) = m ((c.tc : Thread nD τ).loc main_arg1) (ix1 q) := by
  blk_point [iblk, V, idx t]

theorem blk2 (t : Fin cfg0.N) (q : Fin 512) : (iblk m c 2 t (ix2 0 q) : EReal) = m ((c.tc : Thread nD τ).loc main_arg2) (ix1 q) := by
  blk_point [iblk, V, idx t]

/-- The first norm at an index. -/
theorem at0 (t : Fin cfg0.N) (a : Fin 256) (b : Fin 1536) (r : Fin 16640) (h : r.val = t.val * 256 + a.val) :
    (k0_pay5 (View.ld (iblk m c 0 t) r0_0) (iblk m c 1 t) (ix2 a b) : EReal) = REF0 (m ((c.tc : Thread nD τ).loc main_arg0)) (m ((c.tc : Thread nD τ).loc main_arg1)) (ix2 r b) := by
  have e : ∀ x : Fin 1536, (iblk m c 0 t (ix2 a ⟨x.val, by omega⟩) : EReal) = m ((c.tc : Thread nD τ).loc main_arg0) (ix2 r ⟨x.val, by omega⟩) := fun x =>
    (blk0 m c t a _ r h).trans (lp_lo _ r ⟨x.val, by omega⟩)
  have e1 := blk1 m c t b
  pointwise [k0_pay5, REF0]
  simp only [e, e1]

/-- The second norm at an index. -/
theorem at1 (t : Fin cfg0.N) (a : Fin 256) (b : Fin 512) (r : Fin 16640) (h : r.val = t.val * 256 + a.val) :
    (k0_pay6 (View.ld (iblk m c 0 t) r0_3) (iblk m c 2 t) (ix2 a b) : EReal) = REF1 (m ((c.tc : Thread nD τ).loc main_arg0)) (m ((c.tc : Thread nD τ).loc main_arg2)) (ix2 r b) := by
  have e : ∀ x : Fin 512, (iblk m c 0 t (ix2 a ⟨1536 + x.val, by omega⟩) : EReal) = m ((c.tc : Thread nD τ).loc main_arg0) (ix2 r ⟨1536 + x.val, by omega⟩) := fun x =>
    (blk0 m c t a _ r h).trans (lp_lo _ r ⟨1536 + x.val, by omega⟩)
  have e1 := blk2 m c t b
  pointwise [k0_pay6, REF1]
  simp only [e, e1]

theorem at3 (t : Fin cfg0.N) (a : Fin 256) (b : Fin 128) (r : Fin 16640) (h : r.val = t.val * 256 + a.val) :
    (k0_pay3 (iblk m c 3 t) (iblk m c 4 t) (View.ld (iblk m c 0 t) r0_7) (View.ld (iblk m c 0 t) r0_8) (ix2 a b) : EReal) = REF2 (m ((c.tc : Thread nD τ).loc main_arg0)) (m ((c.tc : Thread nD τ).loc main_arg3)) (m ((c.tc : Thread nD τ).loc main_arg4)) (ix2 r ⟨b.val, by omega⟩) := by
  refine Eq.trans ?_ (lo_eq _ _ _ r b)
  rw [← blk0 m c t a _ r h, ← blk0 m c t a _ r h, ← blk3 m c t a _ r h, ← blk4 m c t a _ r h]
  pointwise [k0_pay3, k0_pay1, k0_pay2]

theorem at4 (t : Fin cfg0.N) (a : Fin 256) (b : Fin 128) (r : Fin 16640) (h : r.val = t.val * 256 + a.val) :
    (k0_pay4 (iblk m c 3 t) (iblk m c 4 t) (View.ld (iblk m c 0 t) r0_9) (View.ld (iblk m c 0 t) r0_10) (ix2 a b) : EReal) = REF2 (m ((c.tc : Thread nD τ).loc main_arg0)) (m ((c.tc : Thread nD τ).loc main_arg3)) (m ((c.tc : Thread nD τ).loc main_arg4)) (ix2 r ⟨128 + b.val, by omega⟩) := by
  refine Eq.trans ?_ (hi_eq _ _ _ r b)
  rw [← blk0 m c t a _ r h, ← blk0 m c t a _ r h, ← blk3 m c t a _ r h, ← blk4 m c t a _ r h]
  pointwise [k0_pay4, k0_pay1, k0_pay2]

/-- What one grid point stores is the reference at the place of the array it is stored to. -/
theorem point0 (t : Fin cfg0.N) (y) : k0_pay5 (View.ld (iblk m c 0 t) r0_0) (iblk m c 1 t) y
    = REF0 (m ((c.tc : Thread nD τ).loc main_arg0)) (m ((c.tc : Thread nD τ).loc main_arg1))
        (((cfg0.win 5).blk t).view.emb y) := by
  have ey : y = ix2 (y 0) (y 1) := funext fun (a : Fin 2) => by fin_cases a <;> rfl
  have h0 : (y 0).val < 256 := (y 0).isLt
  have ht : t.val < 65 := t.isLt
  have ee : ((cfg0.win 5).blk t).view.emb y = ix2 (⟨t.val * 256 + (y 0).val, by omega⟩ : Fin 16640) (y 1) := by
    blk_ext [idx t]
  exact (congrArg _ ey).trans ((at0 m c t (y 0) (y 1) ⟨t.val * 256 + (y 0).val, by omega⟩ rfl).trans (congrArg (REF0 (m ((c.tc : Thread nD τ).loc main_arg0)) (m ((c.tc : Thread nD τ).loc main_arg1))) ee.symm))

/-- What one grid point stores is the reference at the place of the array it is stored to. -/
theorem point1 (t : Fin cfg0.N) (y) : k0_pay6 (View.ld (iblk m c 0 t) r0_3) (iblk m c 2 t) y
    = REF1 (m ((c.tc : Thread nD τ).loc main_arg0)) (m ((c.tc : Thread nD τ).loc main_arg2))
        (((cfg0.win 6).blk t).view.emb y) := by
  have ey : y = ix2 (y 0) (y 1) := funext fun (a : Fin 2) => by fin_cases a <;> rfl
  have h0 : (y 0).val < 256 := (y 0).isLt
  have ht : t.val < 65 := t.isLt
  have ee : ((cfg0.win 6).blk t).view.emb y = ix2 (⟨t.val * 256 + (y 0).val, by omega⟩ : Fin 16640) (y 1) := by
    blk_ext [idx t]
  exact (congrArg _ ey).trans ((at1 m c t (y 0) (y 1) ⟨t.val * 256 + (y 0).val, by omega⟩ rfl).trans (congrArg (REF1 (m ((c.tc : Thread nD τ).loc main_arg0)) (m ((c.tc : Thread nD τ).loc main_arg2))) ee.symm))

/-- The blocks fill the result. -/
theorem final0 : (dats m 0 c).arrAt 5 cfg0.N
    = REF0 (m ((c.tc : Thread nD τ).loc main_arg0)) (m ((c.tc : Thread nD τ).loc main_arg1)) := by
  refine (dats m 0 c).arrAt_eq_of_covers 5 _ (by decide +kernel) fun t _ y => ?_
  blk_simp
  rw [after0_5]
  frame_out
  exact point0 m c t y

/-- The blocks fill the result. -/
theorem final1 : (dats m 0 c).arrAt 6 cfg0.N
    = REF1 (m ((c.tc : Thread nD τ).loc main_arg0)) (m ((c.tc : Thread nD τ).loc main_arg2)) := by
  refine (dats m 0 c).arrAt_eq_of_covers 6 _ (by decide +kernel) fun t _ y => ?_
  blk_simp
  rw [after0_6]
  frame_out
  exact point1 m c t y

/-- The blocks fill the result. -/
theorem final2 : (dats m 0 c).arrAt 7 cfg0.N
    = REF2 (m ((c.tc : Thread nD τ).loc main_arg0)) (m ((c.tc : Thread nD τ).loc main_arg3)) (m ((c.tc : Thread nD τ).loc main_arg4)) := by
  refine (dats m 0 c).arrAt_eq_of_covers 7 _ (by decide +kernel) fun t _ y => ?_
  blk_simp
  rw [after0_7]
  frame_out
  canon_tiles x h
  case piece0 =>
    have ex : x = ix2 (x 0) (x 1) := funext fun (a : Fin 2) => by fin_cases a <;> rfl
    have ht : t.val < 65 := t.isLt
    refine (congrArg _ ex).trans ((at4 m c t (x 0) (x 1) ⟨t.val * 256 + (x 0).val, by omega⟩ rfl).trans (congrArg (REF2 (m ((c.tc : Thread nD τ).loc main_arg0)) (m ((c.tc : Thread nD τ).loc main_arg3)) (m ((c.tc : Thread nD τ).loc main_arg4))) ?_))
    blk_ext [idx t, h0, h1]
  case piece1 =>
    have ex : x = ix2 (x 0) (x 1) := funext fun (a : Fin 2) => by fin_cases a <;> rfl
    have ht : t.val < 65 := t.isLt
    refine (congrArg _ ex).trans ((at3 m c t (x 0) (x 1) ⟨t.val * 256 + (x 0).val, by omega⟩ rfl).trans (congrArg (REF2 (m ((c.tc : Thread nD τ).loc main_arg0)) (m ((c.tc : Thread nD τ).loc main_arg3)) (m ((c.tc : Thread nD τ).loc main_arg4))) ?_))
    blk_ext [idx t, h0, h1]

end Cert.LatPostIdeal.Call
-- ==== Proof.AdaValue.lean ====
/-
  The modulations: of every layer, a block of columns is the reference's two products over the conditioning vectors.
-/
module

public import proofs.«01_k».proof.Proof.Gen.AdaIdeal.Value
public import proofs.«01_k».proof.Proof.Gen.AdaRefIdeal.Run
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.AdaIdeal.Call

open Cert.AdaIdeal Cert.AdaIdeal.Gen

variable (m : (ℓ : Loc nD τ sig) → Buf (Elt Ideal) ℓ) (c : Dev nD)

/-- The reference's result over the kernel's arguments. -/
abbrev REF (C : FVec Ideal S8x4096 .f32) (D : FVec Ideal S4x4096x256 .f32) (U : FVec Ideal S4x256x24576 .f32) (B : FVec Ideal S4x24576 .f32) : FVec Ideal S4x8x24576 .f32 :=
  addf (Host.dotGeneral Cert.AdaRefIdeal.dot_S4x8x256_S4x256x24576_S4x8x24576_2_1_1_2_0_0 none (transpose Cert.AdaRefIdeal.S4x8x256 [1, 0, 2] (Host.dotGeneral Cert.AdaRefIdeal.dot_S8x4096_S4x4096x256_S8x4x256_1_1_0_02_n_n none (mulf C (Host.divf (broadcastInDim Cert.AdaRefIdeal.S8x4096 ![] Cert.AdaRefIdeal.Gen.bcast_S_S8x4096 (constant (F := Ideal) Cert.AdaRefIdeal.S_ .f32 0x3F800000#32)) (addf (broadcastInDim Cert.AdaRefIdeal.S8x4096 ![] Cert.AdaRefIdeal.Gen.bcast_S_S8x4096 (constant (F := Ideal) Cert.AdaRefIdeal.S_ .f32 0x3F800000#32)) (Host.exp (Host.negf C))))) D) Cert.AdaRefIdeal.Gen.transposes_S8x4x256_S4x8x256_1_0_2) U) (broadcastInDim Cert.AdaRefIdeal.S4x8x24576 ![0, 1, 2] Cert.AdaRefIdeal.Gen.bcast_S4x1x24576_S4x8x24576_0_1_2 (broadcastInDim Cert.AdaRefIdeal.S4x1x24576 ![0, 2] Cert.AdaRefIdeal.Gen.bcast_S4x24576_S4x1x24576_0_2 B))

theorem idx : ∀ t : Fin cfg0.N,
    win0_0.index t = ![0, 0]
      ∧ win0_1.index t = ![t.val / 12, 0, 0]
      ∧ win0_2.index t = ![t.val / 12, 0, t.val % 12]
      ∧ win0_3.index t = ![t.val / 12, 0, t.val % 12]
      ∧ win0_4.index t = ![t.val / 12, 0, t.val % 12] := (by decide +kernel : ∀ t : Fin grid0.N, _)

/-- What one grid point stores is the reference at the place of the array it is stored to. -/
theorem point (t : Fin cfg0.N) (y) : k0_pay1 (iblk m c 0 t) (iblk m c 1 t) (iblk m c 2 t) (iblk m c 3 t) y
    = REF (m ((c.tc : Thread nD τ).loc main_arg0)) (m ((c.tc : Thread nD τ).loc main_arg1)) (m ((c.tc : Thread nD τ).loc main_arg2)) (m ((c.tc : Thread nD τ).loc main_arg3))
        (((cfg0.win 4).blk t).view.emb y) := by
  pointwise [k0_pay1, REF]
  simp only [sub_eq_add_neg, zero_add]
  blk_point [iblk, V, idx t]

/-- The blocks fill the result. -/
theorem final : (dats m 0 c).arrAt 4 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  exact point m c t y

end Cert.AdaIdeal.Call
-- ==== Proof.ConvValue.lean ====
/-
x
-/
module

public import proofs.«01_k».proof.Proof.Gen.ConvIdeal.Value
public import proofs.«01_k».proof.Proof.Gen.ConvRefIdeal.Run
public import Idealize.ShloMosaic.Lib.Pipeline.ValueKit
public import Idealize.ShloMosaic.Lib.KernelVsHost
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.ConvIdeal.Call

open Cert.ConvIdeal Cert.ConvIdeal.Gen

variable (m : (ℓ : Loc nD τ sig) → Buf (Elt Ideal) ℓ) (c : Dev nD)

/-- The reference's result over the kernel's arguments. -/
abbrev REF (X : FVec Ideal S16640x10240 .f32) (W : FVec Ideal S5x10240 .f32) (B : FVec Ideal S10240 .f32) : FVec Ideal S16640x10240 .bf16 :=
  truncf .bf16 (concatenate Cert.ConvRefIdeal.S16640x10240 0 [⟨Cert.ConvRefIdeal.S256x10240, (mulf (addf (addf (addf (addf (addf (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![0, 0] W Cert.ConvRefIdeal.Gen.slices_S5x10240_S1x10240_0_0) Cert.ConvRefIdeal.Gen.shapeCasts_S1x10240_S10240))) (extractStridedSlice Cert.ConvRefIdeal.S256x10240 ![0, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_0_0)) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![1, 0] W Cert.ConvRefIdeal.Gen.slices_S5x10240_S1x10240_1_0) Cert.ConvRefIdeal.Gen.shapeCasts_S1x10240_S10240))) (extractStridedSlice Cert.ConvRefIdeal.S256x10240 ![1, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_1_0))) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![2, 0] W Cert.ConvRefIdeal.Gen.slices_S5x10240_S1x10240_2_0) Cert.ConvRefIdeal.Gen.shapeCasts_S1x10240_S10240))) (extractStridedSlice Cert.ConvRefIdeal.S256x10240 ![2, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_2_0))) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![3, 0] W Cert.ConvRefIdeal.Gen.slices_S5x10240_S1x10240_3_0) Cert.ConvRefIdeal.Gen.shapeCasts_S1x10240_S10240))) (extractStridedSlice Cert.ConvRefIdeal.S256x10240 ![3, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_3_0))) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![4, 0] W Cert.ConvRefIdeal.Gen.slices_S5x10240_S1x10240_4_0) Cert.ConvRefIdeal.Gen.shapeCasts_S1x10240_S10240))) (extractStridedSlice Cert.ConvRefIdeal.S256x10240 ![4, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_4_0))) (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 B))) (Host.divf (broadcastInDim Cert.ConvRefIdeal.S256x10240 ![] Cert.ConvRefIdeal.Gen.bcast_S_S256x10240 (constant Cert.ConvRefIdeal.S_ .f32 0x3F800000#32)) (addf (broadcastInDim Cert.ConvRefIdeal.S256x10240 ![] Cert.ConvRefIdeal.Gen.bcast_S_S256x10240 (constant Cert.ConvRefIdeal.S_ .f32 0x3F800000#32)) (Host.exp (Host.negf (addf (addf (addf (addf (addf (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![0, 0] W Cert.ConvRefIdeal.Gen.slices_S5x10240_S1x10240_0_0) Cert.ConvRefIdeal.Gen.shapeCasts_S1x10240_S10240))) (extractStridedSlice Cert.ConvRefIdeal.S256x10240 ![0, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_0_0)) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![1, 0] W Cert.ConvRefIdeal.Gen.slices_S5x10240_S1x10240_1_0) Cert.ConvRefIdeal.Gen.shapeCasts_S1x10240_S10240))) (extractStridedSlice Cert.ConvRefIdeal.S256x10240 ![1, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_1_0))) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![2, 0] W Cert.ConvRefIdeal.Gen.slices_S5x10240_S1x10240_2_0) Cert.ConvRefIdeal.Gen.shapeCasts_S1x10240_S10240))) (extractStridedSlice Cert.ConvRefIdeal.S256x10240 ![2, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_2_0))) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![3, 0] W Cert.ConvRefIdeal.Gen.slices_S5x10240_S1x10240_3_0) Cert.ConvRefIdeal.Gen.shapeCasts_S1x10240_S10240))) (extractStridedSlice Cert.ConvRefIdeal.S256x10240 ![3, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_3_0))) (mulf (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![4, 0] W Cert.ConvRefIdeal.Gen.slices_S5x10240_S1x10240_4_0) Cert.ConvRefIdeal.Gen.shapeCasts_S1x10240_S10240))) (extractStridedSlice Cert.ConvRefIdeal.S256x10240 ![4, 0] (pad Cert.ConvRefIdeal.S260x10240 ![2, 0] ![2, 0] ![0, 0] (extractStridedSlice Cert.ConvRefIdeal.S256x10240 ![0, 0] X Cert.ConvRefIdeal.Gen.slices_S16640x10240_S256x10240_0_0) (sitofp .f32 (constantI Cert.ConvRefIdeal.S_ 32 0#32)) Cert.ConvRefIdeal.Gen.pads_S256x10240_S260x10240_220_000 Cert.ConvRefIdeal.Gen.h_S_) Cert.ConvRefIdeal.Gen.slices_S260x10240_S256x10240_4_0))) (broadcastInDim Cert.ConvRefIdeal.S256x10240 ![0, 1] Cert.ConvRefIdeal.Gen.bcast_S1x10240_S256x10240_0_1 (broadcastInDim Cert.ConvRefIdeal.S1x10240 ![1] Cert.ConvRefIdeal.Gen.bcast_S10240_S1x10240_1 B))))))))⟩, ⟨Cert.ConvRefIdeal.S16384x10240, (mulf (addf (addf (addf (addf (addf (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![0, 0] W Cert.ConvRefIdeal.Gen.slices_S5x10240_S1x10240_0_0) Cert.ConvRefIdeal.Gen.shapeCasts_S1x10240_S10240))) (extractStridedSlice Cert.ConvRefIdeal.S16384x10240 ![0, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_0_0)) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![1, 0] W Cert.ConvRefIdeal.Gen.slices_S5x10240_S1x10240_1_0) Cert.ConvRefIdeal.Gen.shapeCasts_S1x10240_S10240))) (extractStridedSlice Cert.ConvRefIdeal.S16384x10240 ![1, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_1_0))) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![2, 0] W Cert.ConvRefIdeal.Gen.slices_S5x10240_S1x10240_2_0) Cert.ConvRefIdeal.Gen.shapeCasts_S1x10240_S10240))) (extractStridedSlice Cert.ConvRefIdeal.S16384x10240 ![2, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_2_0))) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![3, 0] W Cert.ConvRefIdeal.Gen.slices_S5x10240_S1x10240_3_0) Cert.ConvRefIdeal.Gen.shapeCasts_S1x10240_S10240))) (extractStridedSlice Cert.ConvRefIdeal.S16384x10240 ![3, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_3_0))) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![4, 0] W Cert.ConvRefIdeal.Gen.slices_S5x10240_S1x10240_4_0) Cert.ConvRefIdeal.Gen.shapeCasts_S1x10240_S10240))) (extractStridedSlice Cert.ConvRefIdeal.S16384x10240 ![4, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_4_0))) (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 B))) (Host.divf (broadcastInDim Cert.ConvRefIdeal.S16384x10240 ![] Cert.ConvRefIdeal.Gen.bcast_S_S16384x10240 (constant Cert.ConvRefIdeal.S_ .f32 0x3F800000#32)) (addf (broadcastInDim Cert.ConvRefIdeal.S16384x10240 ![] Cert.ConvRefIdeal.Gen.bcast_S_S16384x10240 (constant Cert.ConvRefIdeal.S_ .f32 0x3F800000#32)) (Host.exp (Host.negf (addf (addf (addf (addf (addf (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![0, 0] W Cert.ConvRefIdeal.Gen.slices_S5x10240_S1x10240_0_0) Cert.ConvRefIdeal.Gen.shapeCasts_S1x10240_S10240))) (extractStridedSlice Cert.ConvRefIdeal.S16384x10240 ![0, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_0_0)) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![1, 0] W Cert.ConvRefIdeal.Gen.slices_S5x10240_S1x10240_1_0) Cert.ConvRefIdeal.Gen.shapeCasts_S1x10240_S10240))) (extractStridedSlice Cert.ConvRefIdeal.S16384x10240 ![1, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_1_0))) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![2, 0] W Cert.ConvRefIdeal.Gen.slices_S5x10240_S1x10240_2_0) Cert.ConvRefIdeal.Gen.shapeCasts_S1x10240_S10240))) (extractStridedSlice Cert.ConvRefIdeal.S16384x10240 ![2, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_2_0))) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![3, 0] W Cert.ConvRefIdeal.Gen.slices_S5x10240_S1x10240_3_0) Cert.ConvRefIdeal.Gen.shapeCasts_S1x10240_S10240))) (extractStridedSlice Cert.ConvRefIdeal.S16384x10240 ![3, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_3_0))) (mulf (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 (shapeCast Cert.ConvRefIdeal.S10240 (extractStridedSlice Cert.ConvRefIdeal.S1x10240 ![4, 0] W Cert.ConvRefIdeal.Gen.slices_S5x10240_S1x10240_4_0) Cert.ConvRefIdeal.Gen.shapeCasts_S1x10240_S10240))) (extractStridedSlice Cert.ConvRefIdeal.S16384x10240 ![4, 0] (pad Cert.ConvRefIdeal.S16388x10240 ![2, 0] ![2, 0] ![0, 0] (extractStridedSlice Cert.ConvRefIdeal.S16384x10240 ![256, 0] X Cert.ConvRefIdeal.Gen.slices_S16640x10240_S16384x10240_256_0) (sitofp .f32 (constantI Cert.ConvRefIdeal.S_ 32 0#32)) Cert.ConvRefIdeal.Gen.pads_S16384x10240_S16388x10240_220_000 Cert.ConvRefIdeal.Gen.h_S_) Cert.ConvRefIdeal.Gen.slices_S16388x10240_S16384x10240_4_0))) (broadcastInDim Cert.ConvRefIdeal.S16384x10240 ![0, 1] Cert.ConvRefIdeal.Gen.bcast_S1x10240_S16384x10240_0_1 (broadcastInDim Cert.ConvRefIdeal.S1x10240 ![1] Cert.ConvRefIdeal.Gen.bcast_S10240_S1x10240_1 B))))))))⟩] Cert.ConvRefIdeal.Gen.concatenates_S256x10240_S16384x10240_S16640x10240_d0) Cert.ConvRefIdeal.Gen.bitsLt_bf16_f32

theorem idx : ∀ t : Fin cfg0.N,
    win0_0.index t = ![t.val / 5 * 16 - 1, t.val % 5]
      ∧ win0_1.index t = ![t.val / 5, t.val % 5]
      ∧ win0_2.index t = ![min ((t.val / 5 + 1) * 16) 1039, t.val % 5]
      ∧ win0_3.index t = ![0, t.val % 5]
      ∧ win0_4.index t = ![0, t.val % 5]
      ∧ win0_5.index t = ![t.val / 5, t.val % 5] := (by decide +kernel : ∀ t : Fin grid0.N, _)

/-- The weighted sum of five entries and a bias, times its logistic function. -/
def act (w0 w1 w2 w3 w4 b u0 u1 u2 u3 u4 : EReal) : EReal :=
  (w0 * u0 + w1 * u1 + w2 * u2 + w3 * u3 + w4 * u4 + b)
    * Ideal.div 1 (1 + Ideal.exp (-(w0 * u0 + w1 * u1 + w2 * u2 + w3 * u3 + w4 * u4 + b)))

/-- The array's row `i - 2`, if it is one of the rows from `lo` on and before `hi`; zero otherwise. -/
def tap (X : FVec Ideal S16640x10240 .f32) (lo hi : ℕ) (hh : hi ≤ 16640) (i : ℕ) (b : Fin 10240) : EReal :=
  if h : lo + 2 ≤ i ∧ i < hi + 2 then X (ix2 ⟨i - 2, by omega⟩ b) else 0

theorem zero_at : (FloatOps.sitofp FTy.f32 0#32 : Ideal .f32) = 0 := sitofp_zero

/-- The reference at a row of the context. -/
theorem ref_ctx (X W B) (a : Fin 16640) (b : Fin 10240) (h : (a : ℕ) < 256) : REF X W B (ix2 a b)
    = act (W (ix2 0 b)) (W (ix2 1 b)) (W (ix2 2 b)) (W (ix2 3 b)) (W (ix2 4 b)) (B (ix1 b)) (tap X 0 256 (by norm_num) ((a : ℕ) + 0) b) (tap X 0 256 (by norm_num) ((a : ℕ) + 1) b) (tap X 0 256 (by norm_num) ((a : ℕ) + 2) b) (tap X 0 256 (by norm_num) ((a : ℕ) + 3) b) (tap X 0 256 (by norm_num) ((a : ℕ) + 4) b) := by
  have e0 : tap X 0 256 (by norm_num) ((a : ℕ) + 0) b = if h : 2 ≤ (a : ℕ) ∧ (a : ℕ) - 2 < 256 then X (ix2 ⟨(a : ℕ) - 2, by omega⟩ b) else 0 := by
    unfold tap
    exact dite_congr (by simp; omega) (fun _ => rfl) (fun _ => rfl)
  have e1 : tap X 0 256 (by norm_num) ((a : ℕ) + 1) b = if h : 2 ≤ 1 + (a : ℕ) ∧ 1 + (a : ℕ) - 2 < 256 then X (ix2 ⟨1 + (a : ℕ) - 2, by omega⟩ b) else 0 := by
    unfold tap
    exact dite_congr (by simp; omega) (fun _ => by congr 3; omega) (fun _ => rfl)
  have e2 : tap X 0 256 (by norm_num) ((a : ℕ) + 2) b = if h : (a : ℕ) < 256 then X (ix2 a b) else 0 := by
    unfold tap
    exact dite_congr (by simp; omega) (fun _ => rfl) (fun _ => rfl)
  have e3 : tap X 0 256 (by norm_num) ((a : ℕ) + 3) b = if h : 2 ≤ 3 + (a : ℕ) ∧ 3 + (a : ℕ) - 2 < 256 then X (ix2 ⟨3 + (a : ℕ) - 2, by omega⟩ b) else 0 := by
    unfold tap
    exact dite_congr (by simp; omega) (fun _ => by congr 3; omega) (fun _ => rfl)
  have e4 : tap X 0 256 (by norm_num) ((a : ℕ) + 4) b = if h : 2 ≤ 4 + (a : ℕ) ∧ 4 + (a : ℕ) - 2 < 256 then X (ix2 ⟨4 + (a : ℕ) - 2, by omega⟩ b) else 0 := by
    unfold tap
    exact dite_congr (by simp; omega) (fun _ => by congr 3; omega) (fun _ => rfl)
  rw [e0, e1, e2, e3, e4]
  unfold act
  pointwise [REF]
  rw [dif_pos h]
  simp only [zero_at]

/-- The reference at a later row. -/
theorem ref_lat (X W B) (a : Fin 16640) (b : Fin 10240) (h : ¬ (a : ℕ) < 256) : REF X W B (ix2 a b)
    = act (W (ix2 0 b)) (W (ix2 1 b)) (W (ix2 2 b)) (W (ix2 3 b)) (W (ix2 4 b)) (B (ix1 b)) (tap X 256 16640 (by norm_num) ((a : ℕ) + 0) b) (tap X 256 16640 (by norm_num) ((a : ℕ) + 1) b) (tap X 256 16640 (by norm_num) ((a : ℕ) + 2) b) (tap X 256 16640 (by norm_num) ((a : ℕ) + 3) b) (tap X 256 16640 (by norm_num) ((a : ℕ) + 4) b) := by
  have e0 : tap X 256 16640 (by norm_num) ((a : ℕ) + 0) b = if h : 2 ≤ (a : ℕ) - 256 ∧ (a : ℕ) - 256 - 2 < 16384 then X (ix2 ⟨256 + ((a : ℕ) - 256 - 2), by omega⟩ b) else 0 := by
    unfold tap
    exact dite_congr (by simp; omega) (fun _ => by congr 3; omega) (fun _ => rfl)
  have e1 : tap X 256 16640 (by norm_num) ((a : ℕ) + 1) b = if h : 2 ≤ 1 + ((a : ℕ) - 256) ∧ 1 + ((a : ℕ) - 256) - 2 < 16384 then X (ix2 ⟨256 + (1 + ((a : ℕ) - 256) - 2), by omega⟩ b) else 0 := by
    unfold tap
    exact dite_congr (by simp; omega) (fun _ => by congr 3; omega) (fun _ => rfl)
  have e2 : tap X 256 16640 (by norm_num) ((a : ℕ) + 2) b = if h : (a : ℕ) - 256 < 16384 then X (ix2 ⟨256 + ((a : ℕ) - 256), by omega⟩ b) else 0 := by
    unfold tap
    exact dite_congr (by simp; omega) (fun _ => by congr 3; omega) (fun _ => rfl)
  have e3 : tap X 256 16640 (by norm_num) ((a : ℕ) + 3) b = if h : 2 ≤ 3 + ((a : ℕ) - 256) ∧ 3 + ((a : ℕ) - 256) - 2 < 16384 then X (ix2 ⟨256 + (3 + ((a : ℕ) - 256) - 2), by omega⟩ b) else 0 := by
    unfold tap
    exact dite_congr (by simp; omega) (fun _ => by congr 3; omega) (fun _ => rfl)
  have e4 : tap X 256 16640 (by norm_num) ((a : ℕ) + 4) b = if h : 2 ≤ 4 + ((a : ℕ) - 256) ∧ 4 + ((a : ℕ) - 256) - 2 < 16384 then X (ix2 ⟨256 + (4 + ((a : ℕ) - 256) - 2), by omega⟩ b) else 0 := by
    unfold tap
    exact dite_congr (by simp; omega) (fun _ => by congr 3; omega) (fun _ => rfl)
  rw [e0, e1, e2, e3, e4]
  unfold act
  pointwise [REF]
  rw [dif_neg h]
  simp only [zero_at]

theorem pay_at (B : Vec Ideal S1x2048 .f32) (Wn : Vec Ideal S288x2048 .f32) (W0 W1 W2 W3 W4 : Vec Ideal S1x2048 .f32) (a : Fin 256) (b : Fin 2048) :
    k0_pay1 (k0_pay6 k0_pay5 B Wn W0 W1 W2 W3 W4) (ix2 a b)
    = act (W0 (ix2 0 b)) (W1 (ix2 0 b)) (W2 (ix2 0 b)) (W3 (ix2 0 b)) (W4 (ix2 0 b)) (B (ix2 0 b))
      (Wn (ix2 ⟨14 + a, by omega⟩ b)) (Wn (ix2 ⟨15 + a, by omega⟩ b)) (Wn (ix2 ⟨16 + a, by omega⟩ b)) (Wn (ix2 ⟨17 + a, by omega⟩ b)) (Wn (ix2 ⟨18 + a, by omega⟩ b)) := by
  pointwise [k0_pay1, k0_pay6, k0_pay5]
  have h0 : (⟨(16 + (a : ℕ) + 288 - 2) % 288, Nat.mod_lt _ (by norm_num)⟩ : Fin 288) = ⟨14 + a, by omega⟩ := Fin.ext (by show (16 + (a : ℕ) + 288 - 2) % 288 = 14 + (a : ℕ); omega)
  have h1 : (⟨(16 + (a : ℕ) + 288 - 1) % 288, Nat.mod_lt _ (by norm_num)⟩ : Fin 288) = ⟨15 + a, by omega⟩ := Fin.ext (by show (16 + (a : ℕ) + 288 - 1) % 288 = 15 + (a : ℕ); omega)
  have h3 : (⟨(16 + (a : ℕ) + 288 - 287) % 288, Nat.mod_lt _ (by norm_num)⟩ : Fin 288) = ⟨17 + a, by omega⟩ := Fin.ext (by show (16 + (a : ℕ) + 288 - 287) % 288 = 17 + (a : ℕ); omega)
  have h4 : (⟨(16 + (a : ℕ) + 288 - 286) % 288, Nat.mod_lt _ (by norm_num)⟩ : Fin 288) = ⟨18 + a, by omega⟩ := Fin.ext (by show (16 + (a : ℕ) + 288 - 286) % 288 = 18 + (a : ℕ); omega)
  rw [h0, h1, h3, h4]
  simp only [sub_eq_add_neg, zero_add]
  unfold act
  have es : ∀ p q0 q1 q2 q3 q4 : EReal, p + q0 + q1 + q2 + q3 + q4 = q0 + q1 + q2 + q3 + q4 + p := fun p q0 q1 q2 q3 q4 => by
    simp only [add_comm, add_left_comm, add_assoc]
  rw [es]

theorem cond_prev : ∀ t : Fin cfg0.N, Scalar.andi (Scalar.cmpi CmpIPredicate.sgt (BitVec.ofNat 32 (grid0.coords t 0).val) 0#32)
        (Scalar.cmpi CmpIPredicate.ne (Scalar.muli (BitVec.ofNat 32 (grid0.coords t 0).val) 256#32) 256#32)
      = if 2 ≤ t.val / 5 then 1#1 else 0#1 := (by decide +kernel : ∀ t : Fin grid0.N, _)

theorem cond_next : ∀ t : Fin cfg0.N, Scalar.andi (Scalar.cmpi CmpIPredicate.slt (BitVec.ofNat 32 (grid0.coords t 0).val) 64#32)
        (Scalar.cmpi CmpIPredicate.ne (Scalar.addi (Scalar.muli (BitVec.ofNat 32 (grid0.coords t 0).val) 256#32) 256#32) 256#32)
      = if 1 ≤ t.val / 5 ∧ t.val / 5 < 64 then 1#1 else 0#1 := (by decide +kernel : ∀ t : Fin grid0.N, _)

/-- The rows before the tile, zero where a sequence begins. -/
theorem prev_at (t : Fin cfg0.N) (x : Vec Ideal S16x2048 .bf16) (r : Fin 16) (b : Fin 2048) :
    k0_pay2 (grid0.coords t) x (ix2 r b) = if 2 ≤ t.val / 5 then x (ix2 r b) else (0 : EReal) := by
  pointwise [k0_pay2]
  rw [cond_prev t]
  split_ifs <;> rfl

/-- The rows after the tile, zero where a sequence ends. -/
theorem next_at (t : Fin cfg0.N) (x : Vec Ideal S16x2048 .bf16) (r : Fin 16) (b : Fin 2048) :
    k0_pay4 (grid0.coords t) x (ix2 r b) = if 1 ≤ t.val / 5 ∧ t.val / 5 < 64 then x (ix2 r b) else (0 : EReal) := by
  pointwise [k0_pay4]
  rw [cond_next t]
  split_ifs <;> rfl

theorem cur_at (x : Vec Ideal S256x2048 .bf16) (r : Fin 256) (b : Fin 2048) : k0_pay3 x (ix2 r b) = x (ix2 r b) := by
  pointwise [k0_pay3]

theorem lt_N (t : Fin cfg0.N) : t.val < 325 := t.isLt

theorem blk0_at (t : Fin cfg0.N) (r : Fin 16) (b : Fin 2048) (k : ℕ) (hk : k < 16640) (e : k = (t.val / 5 * 16 - 1) * 16 + r) :
    iblk m c 0 t (ix2 r b) = m ((c.tc : Thread nD τ).loc main_arg0) (ix2 ⟨k, hk⟩ ⟨t.val % 5 * 2048 + b, by omega⟩) := by
  subst e
  blk_point [iblk, V, idx t]

theorem blk1_at (t : Fin cfg0.N) (r : Fin 256) (b : Fin 2048) (k : ℕ) (hk : k < 16640) (e : k = t.val / 5 * 256 + r) :
    iblk m c 1 t (ix2 r b) = m ((c.tc : Thread nD τ).loc main_arg0) (ix2 ⟨k, hk⟩ ⟨t.val % 5 * 2048 + b, by omega⟩) := by
  subst e
  blk_point [iblk, V, idx t]

theorem blk2_at (t : Fin cfg0.N) (r : Fin 16) (b : Fin 2048) (k : ℕ) (hk : k < 16640) (e : k = min ((t.val / 5 + 1) * 16) 1039 * 16 + r) :
    iblk m c 2 t (ix2 r b) = m ((c.tc : Thread nD τ).loc main_arg0) (ix2 ⟨k, hk⟩ ⟨t.val % 5 * 2048 + b, by omega⟩) := by
  subst e
  blk_point [iblk, V, idx t]

theorem blk3_at (t : Fin cfg0.N) (k : ℕ) (hk : k < 5) (inb) (b : Fin 2048) :
    View.ld (iblk m c 3 t) (Rect.unit (s := S5x2048) ![k, 0] ![1, 2048] inb) (ix2 (0 : Fin 1) b)
      = m ((c.tc : Thread nD τ).loc main_arg1) (ix2 ⟨k, hk⟩ ⟨t.val % 5 * 2048 + b, by omega⟩) := by
  have e : View.ld (iblk m c 3 t) (Rect.unit (s := S5x2048) ![k, 0] ![1, 2048] inb) (ix2 (0 : Fin 1) b) = iblk m c 3 t (ix2 ⟨k, hk⟩ b) := by
    pointwise
  rw [e]
  blk_point [iblk, V, idx t]

theorem blk4_at (t : Fin cfg0.N) (b : Fin 2048) :
    iblk m c 4 t (ix2 (0 : Fin 1) b) = m ((c.tc : Thread nD τ).loc main_arg2) (ix1 ⟨t.val % 5 * 2048 + b, by omega⟩) := by
  blk_point [iblk, V, idx t]

/-- What the window buffer holds: rows of the array's own sequence, zero outside it. -/
def WIN (t : Fin cfg0.N) : Vec Ideal S288x2048 .f32 := fun y =>
  tap (m ((c.tc : Thread nD τ).loc main_arg0)) (if t.val / 5 = 0 then 0 else 256) (if t.val / 5 = 0 then 256 else 16640) (by split_ifs <;> norm_num)
    (t.val / 5 * 256 + (y 0).val - 14) ⟨t.val % 5 * 2048 + (y 1).val, by have h : (y 1).val < 2048 := (y 1).isLt; omega⟩

theorem win_prev (t : Fin cfg0.N) (r : Fin 16) (b : Fin 2048) (y : S288x2048.Idx) (h0 : (y 0).val = r) (h1 : (y 1).val = b) :
    k0_pay2 (grid0.coords t) (iblk m c 0 t) (ix2 r b) = WIN m c t y := by
  have ht := lt_N t
  rw [prev_at]
  unfold WIN tap
  by_cases hT : 2 ≤ t.val / 5
  · rw [if_pos hT, dif_pos (by rw [if_neg (by omega), if_neg (by omega)]; omega), blk0_at m c t r b (t.val / 5 * 256 + (y 0).val - 14 - 2) (by omega) (by omega)]
    simp only [h1]
  · rw [if_neg hT, dif_neg (by split_ifs <;> omega)]

theorem win_cur (t : Fin cfg0.N) (r : Fin 256) (b : Fin 2048) (y : S288x2048.Idx) (h0 : (y 0).val = 16 + r) (h1 : (y 1).val = b) :
    k0_pay3 (iblk m c 1 t) (ix2 r b) = WIN m c t y := by
  have ht := lt_N t
  rw [cur_at]
  unfold WIN tap
  rw [dif_pos (by split_ifs <;> omega), blk1_at m c t r b (t.val / 5 * 256 + (y 0).val - 14 - 2) (by omega) (by omega)]
  simp only [h1]

theorem win_next (t : Fin cfg0.N) (r : Fin 16) (b : Fin 2048) (y : S288x2048.Idx) (h0 : (y 0).val = 272 + r) (h1 : (y 1).val = b) :
    k0_pay4 (grid0.coords t) (iblk m c 2 t) (ix2 r b) = WIN m c t y := by
  have ht := lt_N t
  rw [next_at]
  unfold WIN tap
  by_cases hT : 1 ≤ t.val / 5 ∧ t.val / 5 < 64
  · rw [if_pos hT, dif_pos (by rw [if_neg (by omega), if_neg (by omega)]; omega), blk2_at m c t r b (t.val / 5 * 256 + (y 0).val - 14 - 2) (by omega) (by omega)]
    simp only [h1]
  · rw [if_neg hT, dif_neg (by split_ifs <;> omega)]

/-- The three stores fill the window buffer. -/
theorem win_eq (t : Fin cfg0.N) (i0 i1 i2 i3) :
    (View.whole cc0_scratch0).readCov (Val := Elt Ideal)
          [⟨Rect.unit (s := S288x2048) ![272, 0] ![16, 2048] i0, k0_pay4 (grid0.coords t) (iblk m c 2 t)⟩,
            ⟨Rect.unit (s := S288x2048) ![16, 0] ![256, 2048] i1, k0_pay3 (iblk m c 1 t)⟩,
            ⟨Rect.unit (s := S288x2048) ![0, 0] ![16, 2048] i2, k0_pay2 (grid0.coords t) (iblk m c 0 t)⟩]
          (Rect.unit (s := S288x2048) ![0, 0] ![288, 2048] i3).toLoadRect = WIN m c t := by
  rw [View.readCov_eq_canon']
  funext y
  have ey : (Rect.unit (s := S288x2048) ![0, 0] ![288, 2048] i3).toLoadRect.idx y = y := by
    funext (a : Fin 2)
    fin_cases a <;> exact Fin.ext (by simp)
  show View.canon _ _ = _
  rw [ey]
  have hy0 : (y 0).val < 288 := (y 0).isLt
  have hy1 : (y 1).val < 2048 := (y 1).isLt
  have hcover : ∃ p ∈ ([⟨Rect.unit (s := S288x2048) ![272, 0] ![16, 2048] i0, k0_pay4 (grid0.coords t) (iblk m c 2 t)⟩,
            ⟨Rect.unit (s := S288x2048) ![16, 0] ![256, 2048] i1, k0_pay3 (iblk m c 1 t)⟩,
            ⟨Rect.unit (s := S288x2048) ![0, 0] ![16, 2048] i2, k0_pay2 (grid0.coords t) (iblk m c 0 t)⟩] : List (View.Piece (Elt Ideal) S288x2048 .f32)), y ∈ p.1.set := by
    by_cases h1 : (y 0).val < 16
    · refine ⟨_, List.Mem.tail _ (List.Mem.tail _ (List.Mem.head _)), ?_⟩; refine (Rect.mem_set_unit (inb := i2)).2 fun (a : Fin 2) => ?_
      fin_cases a
      · exact ⟨Nat.zero_le _, by show (y 0).val < 0 + 16; omega⟩
      · exact ⟨Nat.zero_le _, by show (y 1).val < 0 + 2048; omega⟩
    · by_cases h2 : (y 0).val < 272
      · refine ⟨_, List.Mem.tail _ (List.Mem.head _), ?_⟩; refine (Rect.mem_set_unit (inb := i1)).2 fun (a : Fin 2) => ?_
        fin_cases a
        · exact ⟨by show 16 ≤ (y 0).val; omega, by show (y 0).val < 16 + 256; omega⟩
        · exact ⟨Nat.zero_le _, by show (y 1).val < 0 + 2048; omega⟩
      · refine ⟨_, List.Mem.head _, ?_⟩; refine (Rect.mem_set_unit (inb := i0)).2 fun (a : Fin 2) => ?_
        fin_cases a
        · exact ⟨by show 272 ≤ (y 0).val; omega, by show (y 0).val < 272 + 16; omega⟩
        · exact ⟨Nat.zero_le _, by show (y 1).val < 0 + 2048; omega⟩
  canon_tiles x h using hcover
  case piece0 =>
    have ex : x = ix2 (x 0) (x 1) := funext fun (a : Fin 2) => by fin_cases a <;> rfl
    rw [ex]
    exact win_next m c t (x 0) (x 1) y h0 h1
  case piece1 =>
    have ex : x = ix2 (x 0) (x 1) := funext fun (a : Fin 2) => by fin_cases a <;> rfl
    rw [ex]
    exact win_cur m c t (x 0) (x 1) y h0 h1
  case piece2 =>
    have ex : x = ix2 (x 0) (x 1) := funext fun (a : Fin 2) => by fin_cases a <;> rfl
    rw [ex]
    exact win_prev m c t (x 0) (x 1) y h0 h1

theorem win_ctx (t : Fin cfg0.N) (hT : t.val / 5 = 0) (r : Fin 288) (b : Fin 2048) (i : ℕ) (e : t.val / 5 * 256 + r - 14 = i) :
    WIN m c t (ix2 r b) = tap (m ((c.tc : Thread nD τ).loc main_arg0)) 0 256 (by norm_num) i ⟨t.val % 5 * 2048 + b, by omega⟩ := by
  subst e
  unfold WIN
  simp only [if_pos hT]
  rfl

theorem win_lat (t : Fin cfg0.N) (hT : ¬ t.val / 5 = 0) (r : Fin 288) (b : Fin 2048) (i : ℕ) (e : t.val / 5 * 256 + r - 14 = i) :
    WIN m c t (ix2 r b) = tap (m ((c.tc : Thread nD τ).loc main_arg0)) 256 16640 (by norm_num) i ⟨t.val % 5 * 2048 + b, by omega⟩ := by
  subst e
  unfold WIN
  simp only [if_neg hT]
  rfl

/-- What one grid point stores is the reference at the place of the array it is stored to. -/
theorem point_at (t : Fin cfg0.N) (i0 i1 i2 i3 j0 j1 j2 j3 j4) (a : Fin 256) (b : Fin 2048) :
    k0_pay1
      (k0_pay6 k0_pay5 (iblk m c 4 t)
        ((View.whole cc0_scratch0).readCov (Val := Elt Ideal)
          [⟨Rect.unit (s := S288x2048) ![272, 0] ![16, 2048] i0, k0_pay4 (grid0.coords t) (iblk m c 2 t)⟩,
            ⟨Rect.unit (s := S288x2048) ![16, 0] ![256, 2048] i1, k0_pay3 (iblk m c 1 t)⟩,
            ⟨Rect.unit (s := S288x2048) ![0, 0] ![16, 2048] i2, k0_pay2 (grid0.coords t) (iblk m c 0 t)⟩]
          (Rect.unit (s := S288x2048) ![0, 0] ![288, 2048] i3).toLoadRect)
        (View.ld (iblk m c 3 t) (Rect.unit (s := S5x2048) ![0, 0] ![1, 2048] j0))
        (View.ld (iblk m c 3 t) (Rect.unit (s := S5x2048) ![1, 0] ![1, 2048] j1))
        (View.ld (iblk m c 3 t) (Rect.unit (s := S5x2048) ![2, 0] ![1, 2048] j2))
        (View.ld (iblk m c 3 t) (Rect.unit (s := S5x2048) ![3, 0] ![1, 2048] j3))
        (View.ld (iblk m c 3 t) (Rect.unit (s := S5x2048) ![4, 0] ![1, 2048] j4))) (ix2 a b)
      = REF (m ((c.tc : Thread nD τ).loc main_arg0)) (m ((c.tc : Thread nD τ).loc main_arg1)) (m ((c.tc : Thread nD τ).loc main_arg2))
          (((cfg0.win 5).blk t).view.emb (ix2 a b)) := by
  have ht := lt_N t
  have e : ((cfg0.win 5).blk t).view.emb (ix2 a b) = ix2 (⟨t.val / 5 * 256 + a, by omega⟩ : Fin 16640) (⟨t.val % 5 * 2048 + b, by omega⟩ : Fin 10240) := by
    blk_ext [idx t]
  rw [e, win_eq, pay_at, blk3_at m c t 0 (by norm_num), blk3_at m c t 1 (by norm_num), blk3_at m c t 2 (by norm_num),
    blk3_at m c t 3 (by norm_num), blk3_at m c t 4 (by norm_num), blk4_at]
  by_cases hT : t.val / 5 = 0
  · rw [ref_ctx _ _ _ _ _ (by show t.val / 5 * 256 + (a : ℕ) < 256; omega)]
    rw [win_ctx m c t hT _ _ (t.val / 5 * 256 + a + 0) (by show t.val / 5 * 256 + (14 + (a : ℕ)) - 14 = _; omega),
      win_ctx m c t hT _ _ (t.val / 5 * 256 + a + 1) (by show t.val / 5 * 256 + (15 + (a : ℕ)) - 14 = _; omega),
      win_ctx m c t hT _ _ (t.val / 5 * 256 + a + 2) (by show t.val / 5 * 256 + (16 + (a : ℕ)) - 14 = _; omega),
      win_ctx m c t hT _ _ (t.val / 5 * 256 + a + 3) (by show t.val / 5 * 256 + (17 + (a : ℕ)) - 14 = _; omega),
      win_ctx m c t hT _ _ (t.val / 5 * 256 + a + 4) (by show t.val / 5 * 256 + (18 + (a : ℕ)) - 14 = _; omega)]
    rfl
  · rw [ref_lat _ _ _ _ _ (by show ¬ t.val / 5 * 256 + (a : ℕ) < 256; omega)]
    rw [win_lat m c t hT _ _ (t.val / 5 * 256 + a + 0) (by show t.val / 5 * 256 + (14 + (a : ℕ)) - 14 = _; omega),
      win_lat m c t hT _ _ (t.val / 5 * 256 + a + 1) (by show t.val / 5 * 256 + (15 + (a : ℕ)) - 14 = _; omega),
      win_lat m c t hT _ _ (t.val / 5 * 256 + a + 2) (by show t.val / 5 * 256 + (16 + (a : ℕ)) - 14 = _; omega),
      win_lat m c t hT _ _ (t.val / 5 * 256 + a + 3) (by show t.val / 5 * 256 + (17 + (a : ℕ)) - 14 = _; omega),
      win_lat m c t hT _ _ (t.val / 5 * 256 + a + 4) (by show t.val / 5 * 256 + (18 + (a : ℕ)) - 14 = _; omega)]
    rfl

/-- The blocks fill the result. -/
theorem final : (dats m 0 c).arrAt 5 cfg0.N
    = REF (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]; unfold outsAt0
  frame_out
  have ey : y = ix2 (y 0) (y 1) := funext fun (a : Fin 2) => by fin_cases a <;> rfl
  rw [ey]
  exact point_at m c t _ _ _ _ _ _ _ _ _ (y 0) (y 1)

end Cert.ConvIdeal.Call
-- ==== Proof.Block.lean ====
/-
  What one point of the attention's grid leaves in its output block, read off the generated run: one step of the
  online softmax over the 256 context keys (the context queries' point), or five steps of 3328 keys each.
-/
module

public import proofs.«01_k».proof.Proof.Gen.KernelIdeal.Value
public import Idealize.ShloMosaic.Lib.Pipeline.Value
public import Idealize.ShloMosaic.Lib.Pointwise
public import Idealize.ShloMosaic.Lib.Tactic

@[expose] public section
set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

section
variable {F : FTy → Type} [FloatOps F]

theorem hz : (![0, 0] : Fin 2 → Nat) = fun _ => 0 := funext fun a => by fin_cases a <;> rfl

/-- The two slots of the score scratch do not meet. -/
theorem slots_disjoint (i0 i1) :
    Disjoint (Rect.unit (s := S2x3328x256) ![1, 0, 0] ![1, 3328, 256] i1).set (Rect.unit (s := S2x3328x256) ![0, 0, 0] ![1, 3328, 256] i0).set := by
  rw [Finset.disjoint_left]
  intro y h1 h0
  have a1 := ((Rect.mem_set_unit (s := S2x3328x256)).mp h1 0).1
  have a0 := ((Rect.mem_set_unit (s := S2x3328x256)).mp h0 0).2
  have b0 : (![0, 0, 0] : Fin 3 → Nat) 0 + (![1, 3328, 256] : Fin 3 → Nat) 0 = 1 := rfl
  have b1 : (![1, 0, 0] : Fin 3 → Nat) 0 = 1 := rfl
  simp only [Matrix.cons_val_zero] at a0 a1
  omega

theorem rd0 (v : View sig .tc .vmem S2x3328x256 .f32) (i0 i1) (w) (L : List (View.Piece (Elt F) S2x3328x256 .f32)) :
    v.readCov (⟨Rect.unit (s := S2x3328x256) ![1, 0, 0] ![1, 3328, 256] i1, w⟩ :: L) (Rect.unit (s := S2x3328x256) ![0, 0, 0] ![1, 3328, 256] i0).toLoadRect
      = v.readCov L (Rect.unit (s := S2x3328x256) ![0, 0, 0] ![1, 3328, 256] i0).toLoadRect :=
  View.readCov_cons_of_disjoint v _ L _ (slots_disjoint i0 i1)

theorem rd1 (v : View sig .tc .vmem S2x3328x256 .f32) (i0 i1) (w) (L : List (View.Piece (Elt F) S2x3328x256 .f32)) :
    v.readCov (⟨Rect.unit (s := S2x3328x256) ![0, 0, 0] ![1, 3328, 256] i0, w⟩ :: L) (Rect.unit (s := S2x3328x256) ![1, 0, 0] ![1, 3328, 256] i1).toLoadRect
      = v.readCov L (Rect.unit (s := S2x3328x256) ![1, 0, 0] ![1, 3328, 256] i1).toLoadRect :=
  View.readCov_cons_of_disjoint v _ L _ (slots_disjoint i0 i1).symm

/-- The running maximum after a chunk of scores. -/
def NM (m : FVec F S1x256 .f32) (S : FVec F S3328x256 .f32) : FVec F S1x256 .f32 :=
  maximumf m (shapeCast S1x256 (multiReduction .maximumf [0] S256 S 0xFF800000#32 reduces_S3328x256_S256 (.inl rfl) rfl) shapeCasts_S256_S1x256)

/-- The factor that takes what was summed so far to the new maximum. -/
def AL (m : FVec F S1x256 .f32) (S : FVec F S3328x256 .f32) : FVec F S1x256 .f32 := exp2 (subf m (NM m S))

/-- The chunk's weights. -/
def PR (m : FVec F S1x256 .f32) (S : FVec F S3328x256 .f32) : FVec F S3328x256 .f32 :=
  exp2 (subf (shapeCast S3328x256 (shapeCast S1x3328x256 S shapeCasts_S3328x256_S1x3328x256) shapeCasts_S1x3328x256_S3328x256)
    (broadcastTo S3328x256 (NM m S) broadcasts_S1x256_S3328x256))

/-- The running sum of weights after a chunk. -/
def NL (m l : FVec F S1x256 .f32) (S : FVec F S3328x256 .f32) : FVec F S1x256 .f32 :=
  addf (mulf (AL m S) l)
    (shapeCast S1x256 (multiReduction .add [0] S256 (PR m S) 0x00000000#32 reduces_S3328x256_S256 (.inl rfl) rfl) shapeCasts_S256_S1x256)

/-- The running weighted sum of values after a chunk. -/
def NA (m : FVec F S1x256 .f32) (a : FVec F S128x256 .f32) (S : FVec F S3328x256 .f32) (V : FVec F S128x3328 .bf16) : FVec F S128x256 .f32 :=
  shapeCast S128x256 (addf (mulf (broadcastTo S128x256 (AL m S) broadcasts_S1x256_S128x256) a)
    (matmul dot_S128x3328_S3328x256_S128x256_1_0_0_1_n_n none (shapeCast S128x3328 V shapeCasts_S128x3328_S128x3328)
      (truncf .bf16 (PR m S) bitsLt_bf16_f32) (constant S128x256 .f32 0x00000000#32))) shapeCasts_S128x256_S128x256

/-- The block: the weighted sum over the sum of weights. -/
def OUT (a : FVec F S128x256 .f32) (l : FVec F S1x256 .f32) : FVec F S256x128 .bf16 :=
  truncf .bf16 (transpose S256x128 [1, 0] (divf a (broadcastTo S128x256 l broadcasts_S1x256_S128x256)) transposes_S128x256_p1_0_S256x128) bitsLt_bf16_f32

/-- Chunk scores of keys `o … o + 3327`. -/
def SC (x0 x1 : Vec F S256x128 .bf16) (k r : Vec F S3328x128 .bf16) : FVec F S3328x256 .f32 := k0_pay19 (k0_pay1 x0 x1) k r

abbrev rows0 (x : Vec F S16640x128 .bf16) : Vec F S3328x128 .bf16 := View.ld x (Rect.unit ![0, 0] ![3328, 128] inb_S16640x128_S3328x128_0_0)
abbrev rows1 (x : Vec F S16640x128 .bf16) : Vec F S3328x128 .bf16 := View.ld x (Rect.unit ![3328, 0] ![3328, 128] inb_S16640x128_S3328x128_3328_0)
abbrev rows2 (x : Vec F S16640x128 .bf16) : Vec F S3328x128 .bf16 := View.ld x (Rect.unit ![6656, 0] ![3328, 128] inb_S16640x128_S3328x128_6656_0)
abbrev rows3 (x : Vec F S16640x128 .bf16) : Vec F S3328x128 .bf16 := View.ld x (Rect.unit ![9984, 0] ![3328, 128] inb_S16640x128_S3328x128_9984_0)
abbrev rows4 (x : Vec F S16640x128 .bf16) : Vec F S3328x128 .bf16 := View.ld x (Rect.unit ![13312, 0] ![3328, 128] inb_S16640x128_S3328x128_13312_0)
abbrev cols0 (x : Vec F S128x16640 .bf16) : Vec F S128x3328 .bf16 := View.ld x (Rect.unit ![0, 0] ![128, 3328] inb_S128x16640_S128x3328_0_0)
abbrev cols1 (x : Vec F S128x16640 .bf16) : Vec F S128x3328 .bf16 := View.ld x (Rect.unit ![0, 3328] ![128, 3328] inb_S128x16640_S128x3328_0_3328)
abbrev cols2 (x : Vec F S128x16640 .bf16) : Vec F S128x3328 .bf16 := View.ld x (Rect.unit ![0, 6656] ![128, 3328] inb_S128x16640_S128x3328_0_6656)
abbrev cols3 (x : Vec F S128x16640 .bf16) : Vec F S128x3328 .bf16 := View.ld x (Rect.unit ![0, 9984] ![128, 3328] inb_S128x16640_S128x3328_0_9984)
abbrev cols4 (x : Vec F S128x16640 .bf16) : Vec F S128x3328 .bf16 := View.ld x (Rect.unit ![0, 13312] ![128, 3328] inb_S128x16640_S128x3328_0_13312)

section
variable (x0 x1 : Vec F S256x128 .bf16) (x2 x3 : Vec F S16640x128 .bf16) (x4 : Vec F S128x16640 .bf16)
def M0 : FVec F S1x256 .f32 := k0_pay3
def L0 : FVec F S1x256 .f32 := k0_pay4
def A0 : FVec F S128x256 .f32 := k0_pay2
def M1 : FVec F S1x256 .f32 := NM M0 (SC x0 x1 (rows0 x2) (rows0 x3))
def L1 : FVec F S1x256 .f32 := NL M0 L0 (SC x0 x1 (rows0 x2) (rows0 x3))
def A1 : FVec F S128x256 .f32 := NA M0 A0 (SC x0 x1 (rows0 x2) (rows0 x3)) (cols0 x4)
def M2 : FVec F S1x256 .f32 := NM (M1 x0 x1 x2 x3) (SC x0 x1 (rows1 x2) (rows1 x3))
def L2 : FVec F S1x256 .f32 := NL (M1 x0 x1 x2 x3) (L1 x0 x1 x2 x3) (SC x0 x1 (rows1 x2) (rows1 x3))
def A2 : FVec F S128x256 .f32 := NA (M1 x0 x1 x2 x3) (A1 x0 x1 x2 x3 x4) (SC x0 x1 (rows1 x2) (rows1 x3)) (cols1 x4)
def M3 : FVec F S1x256 .f32 := NM (M2 x0 x1 x2 x3) (SC x0 x1 (rows2 x2) (rows2 x3))
def L3 : FVec F S1x256 .f32 := NL (M2 x0 x1 x2 x3) (L2 x0 x1 x2 x3) (SC x0 x1 (rows2 x2) (rows2 x3))
def A3 : FVec F S128x256 .f32 := NA (M2 x0 x1 x2 x3) (A2 x0 x1 x2 x3 x4) (SC x0 x1 (rows2 x2) (rows2 x3)) (cols2 x4)
def M4 : FVec F S1x256 .f32 := NM (M3 x0 x1 x2 x3) (SC x0 x1 (rows3 x2) (rows3 x3))
def L4 : FVec F S1x256 .f32 := NL (M3 x0 x1 x2 x3) (L3 x0 x1 x2 x3) (SC x0 x1 (rows3 x2) (rows3 x3))
def A4 : FVec F S128x256 .f32 := NA (M3 x0 x1 x2 x3) (A3 x0 x1 x2 x3 x4) (SC x0 x1 (rows3 x2) (rows3 x3)) (cols3 x4)
def M5 : FVec F S1x256 .f32 := NM (M4 x0 x1 x2 x3) (SC x0 x1 (rows4 x2) (rows4 x3))
def L5 : FVec F S1x256 .f32 := NL (M4 x0 x1 x2 x3) (L4 x0 x1 x2 x3) (SC x0 x1 (rows4 x2) (rows4 x3))
def A5 : FVec F S128x256 .f32 := NA (M4 x0 x1 x2 x3) (A4 x0 x1 x2 x3 x4) (SC x0 x1 (rows4 x2) (rows4 x3)) (cols4 x4)
end

/-- A point of latent queries leaves the fifth state's quotient. -/
theorem out_B (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S16640x128 .bf16) (harg4 : arg4.IsWhole) (arg5 : Memref sig .tc .vmem S16640x128 .bf16) (harg5 : arg5.IsWhole) (arg6 : Memref sig .tc .vmem S128x16640 .bf16) (harg6 : arg6.IsWhole) (arg7 : Memref sig .tc .vmem S256x128 .bf16) (harg7 : arg7.IsWhole) (arg8 : Memref sig .tc .vmem S2x3328x256 .f32) (harg8 : arg8.IsWhole) (arg9 : Memref sig .tc .vmem S128x256 .f32) (harg9 : arg9.IsWhole) (hc0 : ¬cond0_0 i) (hc1 : cond0_1 i)
    (x0 : Vec F S256x128 .bf16) (x1 : Vec F S256x128 .bf16) (x2 : Vec F S16640x128 .bf16) (x3 : Vec F S16640x128 .bf16) (x4 : Vec F S128x16640 .bf16) :
    out0_B_5 c i arg2 harg2 arg3 harg3 arg4 harg4 arg5 harg5 arg6 harg6 arg7 harg7 arg8 harg8 arg9 harg9 hc0 hc1 x0 x1 x2 x3 x4 = OUT (A5 x0 x1 x2 x3 x4) (L5 x0 x1 x2 x3) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S256x128) hz, View.readCov_cons_toLoadRect, rd0, rd1]
  rfl

/-- A point of context queries leaves one step's quotient, over the 256 context keys. -/
theorem out_A (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S16640x128 .bf16) (harg4 : arg4.IsWhole) (arg5 : Memref sig .tc .vmem S16640x128 .bf16) (harg5 : arg5.IsWhole) (arg6 : Memref sig .tc .vmem S128x16640 .bf16) (harg6 : arg6.IsWhole) (arg7 : Memref sig .tc .vmem S256x128 .bf16) (harg7 : arg7.IsWhole) (arg8 : Memref sig .tc .vmem S2x3328x256 .f32) (harg8 : arg8.IsWhole) (arg9 : Memref sig .tc .vmem S128x256 .f32) (harg9 : arg9.IsWhole) (hc0 : cond0_0 i) (hc1 : ¬cond0_1 i)
    (x0 : Vec F S256x128 .bf16) (x1 : Vec F S256x128 .bf16) (x2 : Vec F S16640x128 .bf16) (x3 : Vec F S16640x128 .bf16) (x4 : Vec F S128x16640 .bf16) :
    out0_A_5 c i arg2 harg2 arg3 harg3 arg4 harg4 arg5 harg5 arg6 harg6 arg7 harg7 arg8 harg8 arg9 harg9 hc0 hc1 x0 x1 x2 x3 x4 =
      k0_pay5 (k0_pay17 (k0_pay1 x0 x1) k0_pay3 (View.ld x2 (Rect.unit ![0, 0] ![256, 128] inb_S16640x128_S256x128_0_0))
          (View.ld x3 (Rect.unit ![0, 0] ![256, 128] inb_S16640x128_S256x128_0_0))
          (k0_pay13 (k0_pay1 x0 x1) (View.ld x2 (Rect.unit ![0, 0] ![256, 128] inb_S16640x128_S256x128_0_0))
            (View.ld x3 (Rect.unit ![0, 0] ![256, 128] inb_S16640x128_S256x128_0_0)))
          k0_pay2 (View.ld x4 (Rect.unit ![0, 0] ![128, 256] inb_S128x16640_S128x256_0_0)))
        (k0_pay18 (k0_pay1 x0 x1) k0_pay3 k0_pay4 (View.ld x2 (Rect.unit ![0, 0] ![256, 128] inb_S16640x128_S256x128_0_0))
          (View.ld x3 (Rect.unit ![0, 0] ![256, 128] inb_S16640x128_S256x128_0_0))
          (k0_pay13 (k0_pay1 x0 x1) (View.ld x2 (Rect.unit ![0, 0] ![256, 128] inb_S16640x128_S256x128_0_0))
            (View.ld x3 (Rect.unit ![0, 0] ![256, 128] inb_S16640x128_S256x128_0_0)))) := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S256x128) hz, View.readCov_cons_toLoadRect, rd0, rd1]
  all_goals rfl

end

end Cert.KernelIdeal.Attn

end
-- ==== Proof.Softmax.lean ====
/-
  The online softmax over the extended reals: real scores, arbitrary values.

  The state after the first N keys is a real reference point μ, the sum of the weights 2 ^ (σ n - μ), and the sum of
  the values with these weights. A chunk of keys takes the state to the next one whatever its maximum is, and the
  quotient of the two sums is the softmax's weighted sum of values, whatever the reference point is.
-/
module

public import Idealize.ShloMosaic.PureOps.Ideal

@[expose] public section

noncomputable section

namespace Cert.Softmax

open Idealize.ShloMosaic

theorem ofBits_neg_inf : Ideal.ofBits .f32 0xFF800000#32 = (⊥ : EReal) := by simp [Ideal.ofBits, Ideal.ieee]

/-- A finite sum of reals, read as extended reals. -/
theorem coe_sum {ι : Type*} (s : Finset ι) (f : ι → ℝ) : ((∑ i ∈ s, f i : ℝ) : EReal) = ∑ i ∈ s, (f i : EReal) :=
  map_sum (⟨⟨(fun x : ℝ => (x : EReal)), rfl⟩, EReal.coe_add⟩ : ℝ →+ EReal) f s

/-- A real factor goes into a finite sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The maximum of finitely many reals, at least one, is a real. -/
theorem fold_max_real {n : ℕ} (hn : 0 < n) (s : Fin n → EReal) (σ : Fin n → ℝ) (hs : ∀ j, s j = (σ j : EReal)) :
    ∃ r : ℝ, (Finset.univ : Finset (Fin n)).fold max (⊥ : EReal) s = (r : EReal) := by
  have h1 : (Finset.univ : Finset (Fin n)).fold max (⊥ : EReal) s ≠ ⊤ := by
    refine ne_of_lt ?_
    rw [Finset.fold_max_lt]
    exact ⟨bot_lt_top, fun x _ => by rw [hs]; exact EReal.coe_lt_top _⟩
  have h2 : (Finset.univ : Finset (Fin n)).fold max (⊥ : EReal) s ≠ ⊥ := by
    refine ne_of_gt (lt_of_lt_of_le (EReal.bot_lt_coe (σ ⟨0, hn⟩)) ?_)
    rw [Finset.le_fold_max]
    exact Or.inr ⟨⟨0, hn⟩, Finset.mem_univ _, by rw [hs]⟩
  exact ⟨_, (EReal.coe_toReal h1 h2).symm⟩

/-- The state after the first `N` keys. -/
def St (σ : ℕ → ℝ) (v : ℕ → EReal) (N : ℕ) (m l a : EReal) : Prop :=
  (N = 0 ∧ m = ⊥ ∧ l = 0 ∧ a = 0) ∨
  ∃ μ : ℝ, m = (μ : EReal) ∧ l = ((∑ i ∈ Finset.range N, Real.rpow 2 (σ i - μ) : ℝ) : EReal)
    ∧ a = ∑ i ∈ Finset.range N, v i * ((Real.rpow 2 (σ i - μ) : ℝ) : EReal)

theorem rpow2_pos (x : ℝ) : 0 < Real.rpow 2 x := Real.rpow_pos_of_pos (by norm_num) x

theorem rpow2_mul (x y : ℝ) : Real.rpow 2 x * Real.rpow 2 y = Real.rpow 2 (x + y) :=
  (Real.rpow_add (by norm_num : (0 : ℝ) < 2) x y).symm

/-- One chunk of `n` keys. -/
theorem St.step {σ : ℕ → ℝ} {v : ℕ → EReal} {N n : ℕ} {m l a : EReal} (h : St σ v N m l a) (hn : 0 < n)
    (s w : Fin n → EReal) (hs : ∀ j, s j = (σ (N + j.val) : EReal)) (hw : ∀ j, w j = v (N + j.val)) (m' : EReal)
    (hm' : m' = max m ((Finset.univ : Finset (Fin n)).fold max (⊥ : EReal) s)) :
    St σ v (N + n) m' (Ideal.exp2 (m - m') * l + ∑ j, Ideal.exp2 (s j - m'))
      (Ideal.exp2 (m - m') * a + ∑ j, w j * Ideal.exp2 (s j - m')) := by
  obtain ⟨r, hr⟩ := fold_max_real hn s (fun j => σ (N + j.val)) hs
  rw [hr] at hm'
  have key : ∀ μ' : ℝ, m' = (μ' : EReal) → ∀ j, Ideal.exp2 (s j - m') = ((Real.rpow 2 (σ (N + j.val) - μ') : ℝ) : EReal) := by
    intro μ' h' j
    rw [h', hs, ← EReal.coe_sub, Ideal.exp2_coe]
  right
  rcases h with ⟨h0, hm, hl, ha⟩ | ⟨μ, hm, hl, ha⟩
  · subst h0
    have e : m' = (r : EReal) := by rw [hm', hm]; exact max_eq_right bot_le
    refine ⟨r, e, ?_, ?_⟩
    · rw [hl, mul_zero, zero_add, Finset.sum_congr rfl fun j _ => key r e j, ← coe_sum, zero_add, Finset.sum_range]
      simp only [Nat.zero_add]
    · rw [ha, mul_zero, zero_add, zero_add, Finset.sum_range]
      refine Finset.sum_congr rfl fun j _ => ?_
      rw [key r e j, hw]; simp only [Nat.zero_add]
  · have e : m' = ((max μ r : ℝ) : EReal) := by rw [hm', hm]; exact (EReal.coe_strictMono.monotone.map_max).symm
    have hal : Ideal.exp2 (m - m') = ((Real.rpow 2 (μ - max μ r) : ℝ) : EReal) := by
      rw [e, hm, ← EReal.coe_sub, Ideal.exp2_coe]
    have hcomb : ∀ i, Real.rpow 2 (μ - max μ r) * Real.rpow 2 (σ i - μ) = Real.rpow 2 (σ i - max μ r) := by
      intro i; rw [rpow2_mul]; congr 1; ring
    refine ⟨max μ r, e, ?_, ?_⟩
    · rw [hal, hl, Finset.sum_congr rfl fun j _ => key _ e j, ← coe_sum, ← EReal.coe_mul, ← EReal.coe_add, Finset.mul_sum,
        Finset.sum_congr rfl fun i _ => hcomb i, Finset.sum_range_add, Finset.sum_range (n := n)]
    · rw [hal, ha, coe_mul_sum _ _ (rpow2_pos _).le, Finset.sum_range_add, Finset.sum_range (n := n)]
      congr 1
      · refine Finset.sum_congr rfl fun i _ => ?_
        rw [mul_left_comm, ← EReal.coe_mul, hcomb]
      · refine Finset.sum_congr rfl fun j _ => ?_
        rw [key _ e j, hw]

/-- The softmax's weighted sum of the values of the first `N` keys, at real scores `x`. -/
def attn (x : ℕ → ℝ) (v : ℕ → EReal) (N : ℕ) : EReal :=
  ∑ n ∈ Finset.range N, v n * ((Real.exp (x n) / ∑ k ∈ Finset.range N, Real.exp (x k) : ℝ) : EReal)

theorem rpow2_div_log (x μ : ℝ) : Real.rpow 2 (x / Real.log 2 - μ) = Real.exp x * Real.exp (-(μ * Real.log 2)) := by
  have h2 : Real.log 2 ≠ 0 := (Real.log_pos (by norm_num)).ne'
  rw [show Real.rpow 2 (x / Real.log 2 - μ) = (2 : ℝ) ^ (x / Real.log 2 - μ) from rfl,
    Real.rpow_def_of_pos (by norm_num : (0 : ℝ) < 2), ← Real.exp_add]
  congr 1
  field_simp
  ring

theorem sum_exp_pos (x : ℕ → ℝ) {N : ℕ} (hN : 0 < N) : 0 < ∑ k ∈ Finset.range N, Real.exp (x k) :=
  Finset.sum_pos (fun _ _ => Real.exp_pos _) ⟨0, Finset.mem_range.mpr hN⟩

/-- The state's quotient is the softmax. -/
theorem St.quot {x : ℕ → ℝ} {v : ℕ → EReal} {N : ℕ} {m l a : EReal} (h : St (fun n => x n / Real.log 2) v N m l a) (hN : 0 < N) :
    Ideal.div a l = attn x v N := by
  rcases h with ⟨h0, -⟩ | ⟨μ, -, hl, ha⟩
  · omega
  have hE := sum_exp_pos x hN
  have hl' : l = (((∑ k ∈ Finset.range N, Real.exp (x k)) * Real.exp (-(μ * Real.log 2)) : ℝ) : EReal) := by
    rw [hl, Finset.sum_mul, Finset.sum_congr rfl fun i _ => rpow2_div_log (x i) μ]
  have hpos : 0 < (∑ k ∈ Finset.range N, Real.exp (x k)) * Real.exp (-(μ * Real.log 2)) := mul_pos hE (Real.exp_pos _)
  rw [hl', Ideal.div_coe hpos.ne', ha, mul_comm, coe_mul_sum _ _ (by positivity)]
  refine Finset.sum_congr rfl fun n _ => ?_
  rw [mul_left_comm, ← EReal.coe_mul, rpow2_div_log]
  congr 2
  have := (Real.exp_pos (-(μ * Real.log 2))).ne'
  field_simp

/-- The reference's form: the exponentials from their maximum, each divided by their sum. -/
theorem attn_ref {n : ℕ} (hn : 0 < n) (x : ℕ → ℝ) (v : ℕ → EReal) (s w : Fin n → EReal) (hs : ∀ j, s j = (x j.val : EReal))
    (hw : ∀ j, w j = v j.val) (M : EReal) (hM : M = (Finset.univ : Finset (Fin n)).fold max (⊥ : EReal) s) :
    (∑ j, w j * Ideal.div (Ideal.exp (s j - M)) (∑ k, Ideal.exp (s k - M))) = attn x v n := by
  obtain ⟨r, hr⟩ := fold_max_real hn s (fun j => x j.val) hs
  have he : ∀ j, Ideal.exp (s j - M) = ((Real.exp (x j.val) * Real.exp (-r) : ℝ) : EReal) := by
    intro j
    rw [hM, hr, hs, ← EReal.coe_sub, Ideal.exp_coe, sub_eq_add_neg, Real.exp_add]
  have hE := sum_exp_pos x hn
  have hpos : 0 < (∑ k ∈ Finset.range n, Real.exp (x k)) * Real.exp (-r) := mul_pos hE (Real.exp_pos _)
  have hsum : (∑ k, Ideal.exp (s k - M)) = (((∑ k ∈ Finset.range n, Real.exp (x k)) * Real.exp (-r) : ℝ) : EReal) := by
    rw [Finset.sum_congr rfl fun k _ => he k, ← coe_sum, Finset.sum_mul, Finset.sum_range]
  unfold attn
  rw [Finset.sum_range (n := n) (f := fun n' => v n' * _)]
  refine Finset.sum_congr rfl fun j _ => ?_
  rw [hsum, Ideal.div_coe hpos.ne', he, hw, ← EReal.coe_mul]
  congr 2
  have := (Real.exp_pos (-r)).ne'
  field_simp

end Cert.Softmax

end
-- ==== Proof.Spec.lean ====
/-
  The attention as a function of its five arrays: real logits, and the softmax-weighted sum of values.
-/
module

public import proofs.«01_k».proof.Proof.Softmax
public import Idealize.ShloMosaic.Lib.Pointwise

@[expose] public section

noncomputable section

open Idealize.ShloMosaic

namespace Cert.Softmax

/-- The rank-3 arrays of the problem, at the extended reals. -/
abbrev Arr (n : Nat) := FVec Ideal ⟨3, ![16640, 32, n]⟩ .f32
/-- The key rotary rows, one for every position. -/
abbrev Rows := FVec Ideal ⟨2, ![16640, 64]⟩ .f32

/-- The scale, 192 to the power -1/2. -/
def kap : ℝ := Real.rpow 192 (-1 / 2)

/-- The logit of the query row `q` and key row `k` in head `h`: the scaled sum of the two products of the query's parts
    with the key's. -/
def lg (qn : Arr 128) (qr : Arr 64) (kn : Arr 128) (kr : Rows) (h : Fin 32) (q k : Fin 16640) : ℝ :=
  ((∑ x : Fin 128, (qn (ix3 q h x)).toReal * (kn (ix3 k h x)).toReal)
    + ∑ x : Fin 64, (kr (ix2 k x)).toReal * (qr (ix3 q h x)).toReal) * kap

/-- `lg` by the number of the key row. -/
def lgN (qn : Arr 128) (qr : Arr 64) (kn : Arr 128) (kr : Rows) (h : Fin 32) (q : Fin 16640) (n : ℕ) : ℝ :=
  if hn : n < 16640 then lg qn qr kn kr h q ⟨n, hn⟩ else 0

/-- The value column `d` of head `h` by the number of the row. -/
def vN (v : Arr 128) (h : Fin 32) (d : Fin 128) (n : ℕ) : EReal :=
  if hn : n < 16640 then v (ix3 ⟨n, hn⟩ h d) else 0

/-- The number of key rows a query row attends to: the context rows for a context query, all for another. -/
def keys (q : Fin 16640) : ℕ := if q.val < 256 then 256 else 16640

/-- The attention's result: the value rows weighted by the softmax of the logits. -/
def res (qn : Arr 128) (qr : Arr 64) (kn : Arr 128) (kr : Rows) (v : Arr 128) (i : Fin 16640) (j : Fin 4096) : EReal :=
  attn (lgN qn qr kn kr ⟨j.val / 128, by omega⟩ i) (vN v ⟨j.val / 128, by omega⟩ ⟨j.val % 128, by omega⟩) (keys i)

/-- Every element of an array is a real number. -/
def Real' {s : Shape} (x : FVec Ideal s .f32) : Prop := ∀ i, x i = ((x i).toReal : EReal)

end Cert.Softmax

end
-- ==== Proof.BlockValue.lean ====
/-
  The attention kernel's block at an index: a query row's block result is the softmax-weighted sum of the value rows.
-/
module

public import proofs.«01_k».proof.Proof.Block
public import proofs.«01_k».proof.Proof.Spec

@[expose] public section
set_option maxRecDepth 16384

noncomputable section

open Idealize.ShloMosaic Idealize.ShloMosaic.TcCoe Idealize.SL.Sem

namespace Cert.KernelIdeal.Attn

open Cert.KernelIdeal Cert.KernelIdeal.Gen Cert.Softmax

theorem NM_apply (m : FVec Ideal S1x256 .f32) (S : FVec Ideal S3328x256 .f32) (q : Fin 256) :
    NM m S (ix2 0 q) = max (m (ix2 0 q)) (Finset.univ.fold max ⊥ fun x => S (ix2 x q)) := by
  pointwise [NM]
  rw [ofBits_neg_inf]
theorem AL_apply (m : FVec Ideal S1x256 .f32) (S : FVec Ideal S3328x256 .f32) (q : Fin 256) :
    AL m S (ix2 0 q) = Ideal.exp2 (m (ix2 0 q) - NM m S (ix2 0 q)) := by
  pointwise [AL]
  rfl
theorem PR_apply (m : FVec Ideal S1x256 .f32) (S : FVec Ideal S3328x256 .f32) (j : Fin 3328) (q : Fin 256) :
    PR m S (ix2 j q) = Ideal.exp2 (S (ix2 j q) - NM m S (ix2 0 q)) := by
  pointwise [PR]
  rfl
theorem NL_apply (m l : FVec Ideal S1x256 .f32) (S : FVec Ideal S3328x256 .f32) (q : Fin 256) :
    NL m l S (ix2 0 q) = AL m S (ix2 0 q) * l (ix2 0 q) + ∑ x, PR m S (ix2 x q) := by
  pointwise [NL]
theorem NA_apply (m : FVec Ideal S1x256 .f32) (a) (S : FVec Ideal S3328x256 .f32) (V) (d : Fin 128) (q : Fin 256) :
    NA m a S V (ix2 d q) = AL m S (ix2 0 q) * a (ix2 d q) + ∑ x, V (ix2 d x) * PR m S (ix2 x q) := by
  pointwise [NA]
theorem OUT_apply (a) (l : FVec Ideal S1x256 .f32) (d : Fin 128) (q : Fin 256) :
    OUT a l (ix2 q d) = Ideal.div (a (ix2 d q)) (l (ix2 0 q)) := by
  pointwise [OUT]
theorem SC_apply (x0 x1 : Vec Ideal S256x128 .bf16) (k r : Vec Ideal S3328x128 .bf16) (j : Fin 3328) (q : Fin 256) :
    SC x0 x1 k r (ix2 j q) = ∑ x, k (ix2 j x) * x0 (ix2 q x) + ∑ x, r (ix2 j x) * x1 (ix2 q x) := by
  pointwise [SC, k0_pay19, k0_pay1]
theorem M0_apply (q : Fin 256) : M0 (F := Ideal) (ix2 0 q) = ⊥ := by
  pointwise [M0, k0_pay3]
  rw [ofBits_neg_inf]
theorem A0_apply (q : Fin 256) (d : Fin 128) : A0 (F := Ideal) (ix2 d q) = 0 := by
  pointwise [A0, k0_pay2]
theorem L0_apply (q : Fin 256) : L0 (F := Ideal) (ix2 0 q) = 0 := by
  pointwise [L0, k0_pay4]
theorem rows0_apply (x : Vec Ideal S16640x128 .bf16) (j : Fin 3328) (q : Fin 128) :
    rows0 x (ix2 j q) = x (ix2 ⟨0 + j.val, by omega⟩ q) := by
  pointwise [rows0]
theorem cols0_apply (x : Vec Ideal S128x16640 .bf16) (d : Fin 128) (j : Fin 3328) :
    cols0 x (ix2 d j) = x (ix2 d ⟨0 + j.val, by omega⟩) := by
  pointwise [cols0]
theorem rows1_apply (x : Vec Ideal S16640x128 .bf16) (j : Fin 3328) (q : Fin 128) :
    rows1 x (ix2 j q) = x (ix2 ⟨3328 + j.val, by omega⟩ q) := by
  pointwise [rows1]
theorem cols1_apply (x : Vec Ideal S128x16640 .bf16) (d : Fin 128) (j : Fin 3328) :
    cols1 x (ix2 d j) = x (ix2 d ⟨3328 + j.val, by omega⟩) := by
  pointwise [cols1]
theorem rows2_apply (x : Vec Ideal S16640x128 .bf16) (j : Fin 3328) (q : Fin 128) :
    rows2 x (ix2 j q) = x (ix2 ⟨6656 + j.val, by omega⟩ q) := by
  pointwise [rows2]
theorem cols2_apply (x : Vec Ideal S128x16640 .bf16) (d : Fin 128) (j : Fin 3328) :
    cols2 x (ix2 d j) = x (ix2 d ⟨6656 + j.val, by omega⟩) := by
  pointwise [cols2]
theorem rows3_apply (x : Vec Ideal S16640x128 .bf16) (j : Fin 3328) (q : Fin 128) :
    rows3 x (ix2 j q) = x (ix2 ⟨9984 + j.val, by omega⟩ q) := by
  pointwise [rows3]
theorem cols3_apply (x : Vec Ideal S128x16640 .bf16) (d : Fin 128) (j : Fin 3328) :
    cols3 x (ix2 d j) = x (ix2 d ⟨9984 + j.val, by omega⟩) := by
  pointwise [cols3]
theorem rows4_apply (x : Vec Ideal S16640x128 .bf16) (j : Fin 3328) (q : Fin 128) :
    rows4 x (ix2 j q) = x (ix2 ⟨13312 + j.val, by omega⟩ q) := by
  pointwise [rows4]
theorem cols4_apply (x : Vec Ideal S128x16640 .bf16) (d : Fin 128) (j : Fin 3328) :
    cols4 x (ix2 d j) = x (ix2 d ⟨13312 + j.val, by omega⟩) := by
  pointwise [cols4]

/-- One chunk of keys takes the softmax's state to the next. -/
theorem chunk {σ : ℕ → ℝ} {v : ℕ → EReal} {N N' : ℕ} (hN : N' = N + 3328) (m l : FVec Ideal S1x256 .f32) (a : FVec Ideal S128x256 .f32)
    (S : FVec Ideal S3328x256 .f32) (V : Vec Ideal S128x3328 .bf16) (q : Fin 256) (d : Fin 128)
    (h : St σ v N (m (ix2 0 q)) (l (ix2 0 q)) (a (ix2 d q)))
    (hS : ∀ j : Fin 3328, S (ix2 j q) = ((σ (N + j.val) : ℝ) : EReal)) (hV : ∀ j : Fin 3328, V (ix2 d j) = v (N + j.val)) :
    St σ v N' (NM m S (ix2 0 q)) (NL m l S (ix2 0 q)) (NA m a S V (ix2 d q)) := by
  rw [NL_apply, NA_apply, hN]
  simp only [AL_apply, PR_apply]
  exact h.step (by omega) (fun j => S (ix2 j q)) (fun j => V (ix2 d j)) hS hV _ (NM_apply m S q)

section B
variable (x0 x1 : Vec Ideal S256x128 .bf16) (x2 x3 : Vec Ideal S16640x128 .bf16) (x4 : Vec Ideal S128x16640 .bf16)

/-- A full block's result at a query row and value column, from the real logits of the row. -/
theorem OUT_B (X : ℕ → ℝ) (v : ℕ → EReal) (q : Fin 256) (d : Fin 128)
    (hs : ∀ n : Fin 16640, ∑ x, x2 (ix2 n x) * x0 (ix2 q x) + ∑ x, x3 (ix2 n x) * x1 (ix2 q x)
      = ((X n.val / Real.log 2 : ℝ) : EReal))
    (hv : ∀ n : Fin 16640, x4 (ix2 d n) = v n.val) :
    OUT (A5 x0 x1 x2 x3 x4) (L5 x0 x1 x2 x3) (ix2 q d) = attn X v 16640 := by
  have h0 : St (fun n => X n / Real.log 2) v 0 (M0 (F := Ideal) (ix2 0 q)) (L0 (F := Ideal) (ix2 0 q)) (A0 (F := Ideal) (ix2 d q)) :=
    Or.inl ⟨rfl, M0_apply q, L0_apply q, A0_apply q d⟩
  have h1 : St (fun n => X n / Real.log 2) v 3328 (M1 x0 x1 x2 x3 (ix2 0 q)) (L1 x0 x1 x2 x3 (ix2 0 q)) (A1 x0 x1 x2 x3 x4 (ix2 d q)) := by
    rw [M1, L1, A1]
    refine chunk (N := 0) rfl _ _ _ _ _ q d h0 (fun j => ?_) (fun j => ?_)
    · rw [SC_apply, ← hs ⟨0 + j.val, by omega⟩]
      congr 1 <;> refine Finset.sum_congr rfl fun x _ => ?_
      · rw [rows0_apply]
      · rw [rows0_apply]
    · rw [cols0_apply, hv]
  have h2 : St (fun n => X n / Real.log 2) v 6656 (M2 x0 x1 x2 x3 (ix2 0 q)) (L2 x0 x1 x2 x3 (ix2 0 q)) (A2 x0 x1 x2 x3 x4 (ix2 d q)) := by
    rw [M2, L2, A2]
    refine chunk (N := 3328) rfl _ _ _ _ _ q d h1 (fun j => ?_) (fun j => ?_)
    · rw [SC_apply, ← hs ⟨3328 + j.val, by omega⟩]
      congr 1 <;> refine Finset.sum_congr rfl fun x _ => ?_
      · rw [rows1_apply]
      · rw [rows1_apply]
    · rw [cols1_apply, hv]
  have h3 : St (fun n => X n / Real.log 2) v 9984 (M3 x0 x1 x2 x3 (ix2 0 q)) (L3 x0 x1 x2 x3 (ix2 0 q)) (A3 x0 x1 x2 x3 x4 (ix2 d q)) := by
    rw [M3, L3, A3]
    refine chunk (N := 6656) rfl _ _ _ _ _ q d h2 (fun j => ?_) (fun j => ?_)
    · rw [SC_apply, ← hs ⟨6656 + j.val, by omega⟩]
      congr 1 <;> refine Finset.sum_congr rfl fun x _ => ?_
      · rw [rows2_apply]
      · rw [rows2_apply]
    · rw [cols2_apply, hv]
  have h4 : St (fun n => X n / Real.log 2) v 13312 (M4 x0 x1 x2 x3 (ix2 0 q)) (L4 x0 x1 x2 x3 (ix2 0 q)) (A4 x0 x1 x2 x3 x4 (ix2 d q)) := by
    rw [M4, L4, A4]
    refine chunk (N := 9984) rfl _ _ _ _ _ q d h3 (fun j => ?_) (fun j => ?_)
    · rw [SC_apply, ← hs ⟨9984 + j.val, by omega⟩]
      congr 1 <;> refine Finset.sum_congr rfl fun x _ => ?_
      · rw [rows3_apply]
      · rw [rows3_apply]
    · rw [cols3_apply, hv]
  have h5 : St (fun n => X n / Real.log 2) v 16640 (M5 x0 x1 x2 x3 (ix2 0 q)) (L5 x0 x1 x2 x3 (ix2 0 q)) (A5 x0 x1 x2 x3 x4 (ix2 d q)) := by
    rw [M5, L5, A5]
    refine chunk (N := 13312) rfl _ _ _ _ _ q d h4 (fun j => ?_) (fun j => ?_)
    · rw [SC_apply, ← hs ⟨13312 + j.val, by omega⟩]
      congr 1 <;> refine Finset.sum_congr rfl fun x _ => ?_
      · rw [rows4_apply]
      · rw [rows4_apply]
    · rw [cols4_apply, hv]
  rw [OUT_apply]
  exact h5.quot (by omega)
end B

/-- The first block's logits: the 256 context keys. -/
def SCA (x0 x1 : Vec Ideal S256x128 .bf16) (k r : Vec Ideal S256x128 .bf16) : FVec Ideal S256x256 .f32 :=
  k0_pay12 (k0_pay1 x0 x1) k r
theorem SCA_apply (x0 x1 : Vec Ideal S256x128 .bf16) (k r : Vec Ideal S256x128 .bf16) (j : Fin 256) (q : Fin 256) :
    SCA x0 x1 k r (ix2 j q) = ∑ x, k (ix2 j x) * x0 (ix2 q x) + ∑ x, r (ix2 j x) * x1 (ix2 q x) := by
  pointwise [SCA, k0_pay12, k0_pay1]

theorem A_apply (x0 x1 : Vec Ideal S256x128 .bf16) (k r : Vec Ideal S256x128 .bf16) (V : Vec Ideal S128x256 .bf16) (q : Fin 256) (d : Fin 128)
    (X : ℕ → ℝ) (v : ℕ → EReal)
    (hs : ∀ n : Fin 256, ∑ x, k (ix2 n x) * x0 (ix2 q x) + ∑ x, r (ix2 n x) * x1 (ix2 q x)
      = ((X n.val / Real.log 2 : ℝ) : EReal))
    (hv : ∀ n : Fin 256, V (ix2 d n) = v n.val) :
      k0_pay5 (k0_pay17 (k0_pay1 x0 x1) (k0_pay3 (F := Ideal)) k r (k0_pay13 (k0_pay1 x0 x1) k r) (k0_pay2 (F := Ideal)) V)
        (k0_pay18 (k0_pay1 x0 x1) (k0_pay3 (F := Ideal)) (k0_pay4 (F := Ideal)) k r (k0_pay13 (k0_pay1 x0 x1) k r)) (ix2 q d)
        = attn X v 256 := by
  have h : k0_pay12 (k0_pay1 x0 x1) k r = SCA x0 x1 k r := rfl
  have h0 : St (fun n => X n / Real.log 2) v 0 ⊥ 0 0 := Or.inl ⟨rfl, rfl, rfl, rfl⟩
  have h1 := h0.step (n := 256) (by omega) (fun j => SCA x0 x1 k r (ix2 j q)) (fun j => V (ix2 d j))
    (fun j => by rw [SCA_apply, hs, Nat.zero_add]) (fun j => by rw [hv, Nat.zero_add]) _ rfl
  rw [Nat.zero_add] at h1
  rw [← h1.quot (by omega)]
  unfold k0_pay5 k0_pay17 k0_pay18 k0_pay16 k0_pay15 k0_pay14 k0_pay13
  rw [h]
  pointwise [k0_pay2, k0_pay3, k0_pay4]
  simp only [ofBits_neg_inf]
  rfl

end Cert.KernelIdeal.Attn

end
-- ==== Proof.KernelValue.lean ====
/-
  The kernel's result array: the blocks of the arguments at an index, the real logits they give, and the result the
  2080 blocks fill.
-/
module

public import proofs.«01_k».proof.Proof.BlockValue
public import proofs.«01_k».proof.Proof.Gen.KernelIdeal.Value
public import Idealize.ShloMosaic.Lib.Pipeline.ValueKit
public import Idealize.ShloMosaic.Lib.Pipeline.Covers

@[expose] public section
set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax

variable (m : (ℓ : Loc nD τ sig) → Buf (Elt Ideal) ℓ) (c : Dev nD)

/-- The index maps in closed form: point `t` is head `t / 65`, query block `t % 65`. -/
theorem idx : ∀ t : Fin grid0.N,
    win0_0.index t = ![t.val % 65, t.val / 65] ∧ win0_1.index t = ![t.val % 65, t.val / 65 / 2]
      ∧ win0_2.index t = ![0, t.val / 65] ∧ win0_3.index t = ![0, t.val / 65 % 2]
      ∧ win0_4.index t = ![t.val / 65, 0] ∧ win0_5.index t = ![t.val % 65, t.val / 65] := by decide +kernel

/-! ## The five arguments -/

abbrev qnA : Arr 128 := m ((c.tc : Thread nD τ).loc main_arg0)
abbrev qrA : Arr 64 := m ((c.tc : Thread nD τ).loc main_arg1)
abbrev knA : Arr 128 := m ((c.tc : Thread nD τ).loc main_arg2)
abbrev krA : Rows := m ((c.tc : Thread nD τ).loc main_arg3)
abbrev vA : Arr 128 := m ((c.tc : Thread nD τ).loc main_arg4)

/-- The scale the queries are multiplied by: the attention's, for logits to the base 2. -/
def sc2 : ℝ := kap * (1 / Real.log 2)

theorem sc2_eq : Ideal.div (Ideal.pow (Ideal.ofBits FTy.f32 1128267776#32) (Ideal.ofBits FTy.f32 3204448256#32))
    (Ideal.log (Ideal.ofBits FTy.f32 1073741824#32)) = (sc2 : EReal) := by
  have h1 : Ideal.ofBits .f32 1128267776#32 = ((192 : ℝ) : EReal) := by
    simp [Ideal.ofBits, Ideal.ieee, -EReal.coe_mul]; norm_num
  have h2 : Ideal.ofBits .f32 3204448256#32 = ((-1 / 2 : ℝ) : EReal) := by
    simp [Ideal.ofBits, Ideal.ieee, -EReal.coe_mul]; norm_num
  have h3 : Ideal.ofBits .f32 1073741824#32 = ((2 : ℝ) : EReal) := by
    simp [Ideal.ofBits, Ideal.ieee, -EReal.coe_mul]; norm_num
  have h4 : Ideal.log ((2 : ℝ) : EReal) = (Real.log 2 : EReal) := by
    rw [Ideal.log_coe, if_neg (by norm_num)]
  have hl : Real.log 2 ≠ 0 := (Real.log_pos (by norm_num)).ne'
  rw [h1, h2, h3, h4, Ideal.div_coe hl]
  rfl

theorem v6_apply (r : Fin 16640) (j : Fin 4096) : (V m c main_v6 : FVec Ideal S16640x4096 .bf16) (ix2 r j)
    = qnA m c (ix3 r ⟨j.val / 128, by omega⟩ ⟨j.val % 128, by omega⟩) * (sc2 : EReal) := by
  rw [← sc2_eq]
  entry_read
  pointwise
theorem v10_apply (r : Fin 16640) (j : Fin 2048) : (V m c main_v10 : FVec Ideal S16640x2048 .bf16) (ix2 r j)
    = qrA m c (ix3 r ⟨j.val / 64, by omega⟩ ⟨j.val % 64, by omega⟩) * (sc2 : EReal) := by
  rw [← sc2_eq]
  entry_read
  pointwise
theorem v12_apply (r : Fin 16640) (j : Fin 4096) : (V m c main_v12 : FVec Ideal S16640x4096 .bf16) (ix2 r j)
    = knA m c (ix3 r ⟨j.val / 128, by omega⟩ ⟨j.val % 128, by omega⟩) := by
  entry_read
  pointwise
theorem v18_apply (r : Fin 16640) (j : Fin 4096) : (V m c main_v18 : FVec Ideal S4096x16640 .bf16) (ix2 j r)
    = vA m c (ix3 r ⟨j.val / 128, by omega⟩ ⟨j.val % 128, by omega⟩) := by
  entry_read
  pointwise
theorem v15_eq : (V m c main_v15 : FVec Ideal S16640x256 .bf16) = truncf .bf16 (concatenate S16640x256 1
      [⟨S16640x64, krA m c⟩, ⟨S16640x64, broadcastInDim S16640x64 ![] bcast_S_S16640x64 (constant S_ .f32 0x00000000#32)⟩,
       ⟨S16640x64, broadcastInDim S16640x64 ![] bcast_S_S16640x64 (constant S_ .f32 0x00000000#32)⟩, ⟨S16640x64, krA m c⟩]
      concatenates_S16640x64_S16640x64_S16640x64_S16640x64_S16640x256_d1 : FVec Ideal S16640x256 .f32) bitsLt_bf16_f32 := by
  show StableHlo.after hostOps0 (fun b => m (c, b)) _ = _
  after_results
  rfl
theorem v15_apply (r : Fin 16640) (j : Fin 256) : (V m c main_v15 : FVec Ideal S16640x256 .bf16) (ix2 r j)
    = (if h : j.val < 64 then krA m c (ix2 r ⟨j.val, h⟩) else if h : j.val - 64 < 64 then 0
      else if h : j.val - 64 - 64 < 64 then 0 else krA m c (ix2 r ⟨j.val - 64 - 64 - 64, by omega⟩) : EReal) := by
  rw [v15_eq]
  pointwise

/-! ## The blocks of a point -/

theorem div65 (t : Fin grid0.N) : t.val / 65 < 32 := by
  have := t.isLt
  have hN : grid0.N = 2080 := by decide +kernel
  omega

/-- The query row of a point's block. -/
abbrev row (t : Fin grid0.N) (q : Fin 256) : Fin 16640 := ⟨256 * (t.val % 65) + q.val, by omega⟩
/-- The head of a point. -/
abbrev hd (t : Fin grid0.N) : Fin 32 := ⟨t.val / 65, div65 t⟩

/-- The five blocks of a point. -/
abbrev B0 (t : Fin grid0.N) : Vec Ideal S256x128 .bf16 := iblk m c 0 t
abbrev B1 (t : Fin grid0.N) : Vec Ideal S256x128 .bf16 := iblk m c 1 t
abbrev B2 (t : Fin grid0.N) : Vec Ideal S16640x128 .bf16 := iblk m c 2 t
abbrev B3 (t : Fin grid0.N) : Vec Ideal S16640x128 .bf16 := iblk m c 3 t
abbrev B4 (t : Fin grid0.N) : Vec Ideal S128x16640 .bf16 := iblk m c 4 t

theorem blk0 (t : Fin grid0.N) (q : Fin 256) (x : Fin 128) :
    B0 m c t (ix2 q x) = (qnA m c (ix3 (row t q) (hd t) x) * (sc2 : EReal) : EReal) := by
  have h := div65 t
  have e : ((cfg0.win 0).blk t).view.emb (ix2 q x) = ix2 (row t q) ⟨128 * (t.val / 65) + x.val, by omega⟩ := by
    blk_ext [idx t]
  show V m c main_v6 (((cfg0.win 0).blk t).view.emb (ix2 q x)) = _
  rw [e]
  refine (v6_apply m c _ _).trans ?_
  congr 3 <;> apply Fin.ext <;> simp <;> omega

theorem blk1 (t : Fin grid0.N) (q : Fin 256) (x : Fin 128) :
    B1 m c t (ix2 q x) = (qrA m c (ix3 (row t q) ⟨2 * (t.val / 65 / 2) + x.val / 64, by have := div65 t; omega⟩
      ⟨x.val % 64, by omega⟩) * (sc2 : EReal) : EReal) := by
  have h := div65 t
  have e : ((cfg0.win 1).blk t).view.emb (ix2 q x) = ix2 (row t q) ⟨128 * (t.val / 65 / 2) + x.val, by omega⟩ := by
    blk_ext [idx t]
  show V m c main_v10 (((cfg0.win 1).blk t).view.emb (ix2 q x)) = _
  rw [e]
  refine (v10_apply m c _ _).trans ?_
  congr 3 <;> apply Fin.ext <;> simp <;> omega

theorem blk2 (t : Fin grid0.N) (n : Fin 16640) (x : Fin 128) :
    B2 m c t (ix2 n x) = (knA m c (ix3 n (hd t) x) : EReal) := by
  have h := div65 t
  have e : ((cfg0.win 2).blk t).view.emb (ix2 n x) = ix2 n ⟨128 * (t.val / 65) + x.val, by omega⟩ := by
    blk_ext [idx t]
  show V m c main_v12 (((cfg0.win 2).blk t).view.emb (ix2 n x)) = _
  rw [e]
  refine (v12_apply m c _ _).trans ?_
  congr 2 <;> apply Fin.ext <;> simp <;> omega

theorem blk4 (t : Fin grid0.N) (n : Fin 16640) (d : Fin 128) :
    B4 m c t (ix2 d n) = (vA m c (ix3 n (hd t) d) : EReal) := by
  have h := div65 t
  have e : ((cfg0.win 4).blk t).view.emb (ix2 d n) = ix2 ⟨128 * (t.val / 65) + d.val, by omega⟩ n := by
    blk_ext [idx t]
  show V m c main_v18 (((cfg0.win 4).blk t).view.emb (ix2 d n)) = _
  rw [e]
  refine (v18_apply m c _ _).trans ?_
  congr 2 <;> apply Fin.ext <;> simp <;> omega

theorem blk3 (t : Fin grid0.N) (n : Fin 16640) (x : Fin 128) :
    B3 m c t (ix2 n x) = (if x.val / 64 = t.val / 65 % 2 then krA m c (ix2 n ⟨x.val % 64, by omega⟩) else 0 : EReal) := by
  have h := div65 t
  have e : ((cfg0.win 3).blk t).view.emb (ix2 n x) = ix2 n ⟨128 * (t.val / 65 % 2) + x.val, by omega⟩ := by
    blk_ext [idx t]
  show V m c main_v15 (((cfg0.win 3).blk t).view.emb (ix2 n x)) = _
  rw [e]
  refine (v15_apply m c _ _).trans ?_
  have hx := x.isLt
  dsimp only
  split_ifs <;> first | rfl | (exfalso; omega) | (congr 2; apply Fin.ext; simp; omega)

/-! ## The logits -/

/-- A sum over a pair of rotary parts of which one is masked. -/
theorem pair_sum (p : ℕ) (hp : p < 2) (f : Fin 64 → EReal) (g : Fin 128 → EReal) :
    ∑ x : Fin 128, (if x.val / 64 = p then f ⟨x.val % 64, by omega⟩ else 0) * g x
      = ∑ y : Fin 64, f y * g ⟨64 * p + y.val, by omega⟩ := by
  rw [Fin.sum_univ_add (a := 64) (b := 64)]
  have hp' : p = 0 ∨ p = 1 := by omega
  rcases hp' with rfl | rfl
  · rw [Finset.sum_eq_zero (s := Finset.univ) (f := fun i : Fin 64 => _ * g (Fin.natAdd 64 i)), add_zero]
    · refine Finset.sum_congr rfl fun y _ => ?_
      rw [if_pos (by simp)]
      congr 2
      · apply Fin.ext; simp
      · apply Fin.ext; simp
    · intro y _
      rw [if_neg (by simp), zero_mul]
  · rw [Finset.sum_eq_zero (s := Finset.univ) (f := fun i : Fin 64 => _ * g (Fin.castAdd 64 i)), zero_add]
    · refine Finset.sum_congr rfl fun y _ => ?_
      rw [if_pos (by simp)]
      congr 2
      · apply Fin.ext; simp
    · intro y _
      rw [if_neg (by have := y.isLt; simp; omega), zero_mul]

variable {m c} in
/-- The logit a point's blocks give a query row and a key row, to the base 2. -/
theorem logit (hqn : Real' (qnA m c)) (hqr : Real' (qrA m c)) (hkn : Real' (knA m c)) (hkr : Real' (krA m c))
    (t : Fin grid0.N) (q : Fin 256) (n : Fin 16640) :
    (∑ x : Fin 128, B2 m c t (ix2 n x) * B0 m c t (ix2 q x)
      + ∑ x : Fin 128, B3 m c t (ix2 n x) * B1 m c t (ix2 q x) )
      = ((lgN (qnA m c) (qrA m c) (knA m c) (krA m c) (hd t) (row t q) n.val / Real.log 2 : ℝ) : EReal) := by
  have h := div65 t
  rw [lgN, dif_pos n.isLt, lg]
  have h1 : ∀ x : Fin 128, (B2 m c t (ix2 n x) * B0 m c t (ix2 q x))
      = (((knA m c (ix3 n (hd t) x)).toReal * ((qnA m c (ix3 (row t q) (hd t) x)).toReal * sc2) : ℝ) : EReal) := fun x => by
    rw [blk0, blk2, EReal.coe_mul, EReal.coe_mul, ← hqn, ← hkn]
  have h2 : ∑ x : Fin 128, (B3 m c t (ix2 n x) * B1 m c t (ix2 q x))
      = ∑ y : Fin 64, (((krA m c (ix2 n y)).toReal * ((qrA m c (ix3 (row t q) (hd t) y)).toReal * sc2) : ℝ) : EReal) := by
    simp only [blk3, blk1]
    rw [pair_sum (t.val / 65 % 2) (by omega) (fun y => krA m c (ix2 n y))]
    refine Finset.sum_congr rfl fun y _ => ?_
    rw [EReal.coe_mul, EReal.coe_mul, ← hkr, ← hqr]
    congr 4 <;> apply Fin.ext <;> simp <;> omega
  rw [Finset.sum_congr rfl fun x _ => h1 x, h2, ← coe_sum, ← coe_sum, ← EReal.coe_add]
  congr 1
  rw [add_mul, Finset.sum_mul, Finset.sum_mul, add_div, Finset.sum_div, Finset.sum_div]
  congr 1 <;> refine Finset.sum_congr rfl fun x _ => ?_ <;> simp only [sc2] <;> ring

/-! ## The result -/

/-- The result as an array. -/
def G : FVec Ideal S16640x4096 .bf16 := fun i => res (qnA m c) (qrA m c) (knA m c) (krA m c) (vA m c) (i 0) (i 1)

variable {m c} in
theorem final (hqn : Real' (qnA m c)) (hqr : Real' (qrA m c)) (hkn : Real' (knA m c)) (hkr : Real' (krA m c)) :
    (dats m 0 c).arrAt 5 cfg0.N = G m c := by
  refine (dats m 0 c).arrAt_eq_of_covers 5 _ ((cfg0.win 5).covers_of_indexMap_surj rfl (by decide) fun β => ?_) fun t hf y => ?_
  · refine ⟨fun | 0 => (β 1 : Fin 32) | 1 => (β 0 : Fin 65), fun a => ?_⟩
    have h0 : (β 0 : Fin 65).val < 65 := (β 0 : Fin 65).isLt
    have h1 : (β 1 : Fin 32).val < 32 := (β 1 : Fin 32).isLt
    match a with
    | 0 => show (β 0 : Fin 65).val % 2 ^ 32 = (β 0 : Fin 65).val; omega
    | 1 => show (β 1 : Fin 32).val % 2 ^ 32 = (β 1 : Fin 32).val; omega
  · have h := div65 t
    have e : ∀ (q : Fin 256) (d : Fin 128),
        ((cfg0.win 5).blk t).view.emb (ix2 q d) = ix2 (row t q) ⟨128 * (t.val / 65) + d.val, by omega⟩ := fun q d => by
      blk_ext [idx t]
    blk_simp
    rw [after0_5]
    idx_vars y
    have hres : G m c (((cfg0.win 5).blk t).view.emb (ix2 y0 y1))
        = attn (lgN (qnA m c) (qrA m c) (knA m c) (krA m c) (hd t) (row t y0)) (vN (vA m c) (hd t) y1) (keys (row t y0)) := by
      rw [e]
      show res _ _ _ _ _ (row t y0) ⟨128 * (t.val / 65) + y1.val, by omega⟩ = _
      unfold res
      congr 2 <;> apply Fin.ext <;> simp <;> omega
    refine Eq.trans ?_ hres.symm
    by_cases h0 : t.val % 65 = 0
    · rw [outsAt0_A m c t h0 (by omega), out_A, keys, if_pos (by simp [h0])]
      refine A_apply _ _ _ _ _ y0 y1 _ _ (fun n => ?_) (fun n => ?_)
      · have hl := logit hqn hqr hkn hkr t y0 ⟨n.val, by omega⟩
        pointwise
        exact hl
      · pointwise
        refine (blk4 m c t _ _).trans ?_
        rw [vN, dif_pos (by omega)]
    · rw [outsAt0_B m c t h0 (by omega), out_B, keys, if_neg (by simp; omega)]
      refine OUT_B _ _ _ _ _ _ _ y0 y1 (fun n => logit hqn hqr hkn hkr t y0 n) (fun n => ?_)
      refine (blk4 m c t _ _).trans ?_
      rw [vN, dif_pos n.isLt]

end Cert.KernelIdeal.Attn

end
-- ==== Proof.RefValue.lean ====
/-
  The reference's result read at an index: the softmax-weighted sum of values of a context query over the 256 context
  keys, and of a latent query over all 16640 keys.
-/
module

public import proofs.«01_k».proof.Proof.Gen.ReferenceIdeal.Run
public import proofs.«01_k».proof.Proof.Spec
public import Idealize.ShloMosaic.Lib.Pointwise
public import Idealize.ShloMosaic.Lib.Tactic

@[expose] public section
set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value Cert.Softmax

variable (qn : FVec Ideal S16640x32x128 .f32) (qr : FVec Ideal S16640x32x64 .f32) (kn : FVec Ideal S16640x32x128 .f32)
  (kr : FVec Ideal S16640x64 .f32) (v : FVec Ideal S16640x32x128 .f32)

/-- The scale: 192 to the power -1/2. -/
def scl : FVec Ideal S_ .f32 := Host.powf (constant S_ .f32 0x43400000#32) (constant S_ .f32 0xBF000000#32)

theorem scl_apply : scl ix0 = (kap : EReal) := by
  have h1 : Ideal.ofBits .f32 0x43400000#32 = ((192 : ℝ) : EReal) := by
    simp [Ideal.ofBits, Ideal.ieee, -EReal.coe_mul]; norm_num
  have h2 : Ideal.ofBits .f32 0xBF000000#32 = ((-1 / 2 : ℝ) : EReal) := by
    simp [Ideal.ofBits, Ideal.ieee, -EReal.coe_mul]; norm_num
  pointwise [scl]
  rw [h1, h2]
  rfl

/-- The maximum over the last axis of a rank-3 array is the fold of `max` along it. -/
theorem lastMax {a b n : Nat} {u : Shape} (h : (⟨3, ![a, b, n]⟩ : Shape).Reduces [2] ⟨2, ![a, b]⟩)
    (x : FVec Ideal ⟨3, ![a, b, n]⟩ .f32) (init : u.Idx → Ideal .f32)
    (h' : (⟨3, ![a, b, n]⟩ : Shape).ReducesTo [2] ⟨2, ![a, b]⟩) (hu : 0 < u.numel) (i : Fin a) (j : Fin b) :
    Host.reduce FloatOps.maximumf x init h' hu (ix2 i j)
      = Finset.univ.fold max (init (Shape.Idx.first hu)) fun k : Fin n => x (ix3 i j k) := by
  rw [Host.reduce_eq_fold_single FloatOps.maximumf x init h' h hu]
  have hl : ∀ k : Fin n, h.lift (ix2 i j) k = ix3 i j k := fun k => by
    funext c
    apply Fin.ext
    fin_cases c <;> rfl
  show Finset.fold max _ (fun k : Fin n => x (h.lift (ix2 i j) k)) _ = _
  simp only [hl]
  rfl

variable {qn qr kn kr} in
/-- The two products of a query row with a key row are real. -/
theorem real_dots (hqn : Real' qn) (hqr : Real' qr) (hkn : Real' kn) (hkr : Real' kr) (h : Fin 32) (q k : Fin 16640) :
    (∑ x : Fin 128, qn (ix3 q h x) * kn (ix3 k h x)) + ∑ x : Fin 64, kr (ix2 k x) * qr (ix3 q h x)
      = (((∑ x : Fin 128, (qn (ix3 q h x)).toReal * (kn (ix3 k h x)).toReal)
        + ∑ x : Fin 64, (kr (ix2 k x)).toReal * (qr (ix3 q h x)).toReal : ℝ) : EReal) := by
  rw [EReal.coe_add, coe_sum, coe_sum]
  congr 1 <;> refine Finset.sum_congr rfl fun x _ => ?_
  · rw [EReal.coe_mul, ← hqn, ← hkn]
  · rw [EReal.coe_mul, ← hkr, ← hqr]

def sC : FVec Ideal S32x256x256 .f32 :=
  mulf (addf (Host.dotGeneral dot_S256x32x128_S256x32x128_S32x256x256_2_2_0_0_1_1 none (extractStridedSlice S256x32x128 ![0, 0, 0] qn slices_S16640x32x128_S256x32x128_0_0_0) (extractStridedSlice S256x32x128 ![0, 0, 0] kn slices_S16640x32x128_S256x32x128_0_0_0))
    (transpose S32x256x256 [2, 1, 0] (Host.dotGeneral dot_S256x64_S256x32x64_S256x256x32_1_2_0_01_n_n none (extractStridedSlice S256x64 ![0, 0] kr slices_S16640x64_S256x64_0_0) (extractStridedSlice S256x32x64 ![0, 0, 0] qr slices_S16640x32x64_S256x32x64_0_0_0)) transposes_S256x256x32_S32x256x256_2_1_0))
    (broadcastInDim S32x256x256 ![] bcast_S_S32x256x256 scl)

def mC (s : FVec Ideal S32x256x256 .f32) : FVec Ideal S32x256 .f32 :=
  maximumf (broadcastInDim S32x256 ![] bcast_S_S32x256 (constant S_ .f32 0xFF800000#32)) (Host.reduce FloatOps.maximumf s (constant S_ .f32 0xFF800000#32) reducesTo_S32x256x256_S32x256_d2 h_S_)

def eC (s : FVec Ideal S32x256x256 .f32) : FVec Ideal S32x256x256 .f32 :=
  Host.exp (subf s (broadcastInDim S32x256x256 ![0, 1, 2] bcast_S32x256x1_S32x256x256_0_1_2 (broadcastInDim S32x256x1 ![0, 1] bcast_S32x256_S32x256x1_0_1 (mC s))))

def pC (s : FVec Ideal S32x256x256 .f32) : FVec Ideal S32x256x256 .f32 :=
  Host.divf (eC s) (broadcastInDim S32x256x256 ![0, 1, 2] bcast_S32x256x1_S32x256x256_0_1_2 (broadcastInDim S32x256x1 ![0, 1] bcast_S32x256_S32x256x1_0_1
    (Host.reduceAdd (eC s) (constant S_ .f32 0x00000000#32) reducesTo_S32x256x256_S32x256_d2 h_S_)))

def oC (s : FVec Ideal S32x256x256 .f32) : FVec Ideal S256x4096 .f32 :=
  shapeCast _ (transpose S256x32x128 [2, 0, 1] (Host.dotGeneral dot_S256x32x128_S32x256x256_S32x128x256_0_2_2_1_1_0 none (extractStridedSlice S256x32x128 ![0, 0, 0] v slices_S16640x32x128_S256x32x128_0_0_0) (pC s)) transposes_S32x128x256_S256x32x128_2_0_1) shapeCasts_S256x32x128_S256x4096

theorem sC_apply (h : Fin 32) (q : Fin 256) (k : Fin 256) : sC qn qr kn kr (ix3 h q k)
    = (∑ x : Fin 128, qn (ix3 ⟨0 + q.val, by omega⟩ h x) * kn (ix3 ⟨k.val, by omega⟩ h x)
      + ∑ x : Fin 64, kr (ix2 ⟨k.val, by omega⟩ x) * qr (ix3 ⟨0 + q.val, by omega⟩ h x)) * scl ix0 := by
  have hq : (⟨0 + q.val, by omega⟩ : Fin 16640) = ⟨q.val, by omega⟩ := by apply Fin.ext; simp
  rw [hq]
  pointwise [sC]
theorem mC_apply (s : FVec Ideal S32x256x256 .f32) (h : Fin 32) (q : Fin 256) : mC s (ix2 h q)
    = Finset.univ.fold max ⊥ fun x : Fin 256 => s (ix3 h q x) := by
  unfold mC
  rw [maximumf_apply, lastMax (by decide)]
  pointwise
  rw [Cert.Softmax.ofBits_neg_inf]
  exact max_eq_right bot_le
theorem eC_apply (s : FVec Ideal S32x256x256 .f32) (h : Fin 32) (q : Fin 256) (k : Fin 256) : eC s (ix3 h q k)
    = Ideal.exp (s (ix3 h q k) - mC s (ix2 h q)) := by
  pointwise [eC]
theorem pC_apply (s : FVec Ideal S32x256x256 .f32) (h : Fin 32) (q : Fin 256) (k : Fin 256) : pC s (ix3 h q k)
    = Ideal.div (eC s (ix3 h q k)) (∑ x, eC s (ix3 h q x)) := by
  pointwise [pC]
theorem oC_apply (s : FVec Ideal S32x256x256 .f32) (q : Fin 256) (j : Fin 4096) : oC v s (ix2 q j)
    = ∑ x : Fin 256, v (ix3 ⟨x.val, by omega⟩ ⟨j.val / 128, by omega⟩ ⟨j.val % 128, by omega⟩)
        * pC s (ix3 ⟨j.val / 128, by omega⟩ q x) := by
  pointwise [oC]
theorem oC_eq (hqn : Real' qn) (hqr : Real' qr) (hkn : Real' kn) (hkr : Real' kr) (q : Fin 256) (j : Fin 4096) :
    oC v (sC qn qr kn kr) (ix2 q j) = res qn qr kn kr v ⟨0 + q.val, by omega⟩ j := by
  rw [oC_apply, res, keys]
  simp only [pC_apply, eC_apply, mC_apply]
  rw [if_pos (by simp)]
  refine attn_ref (by omega) _ _ _ _ (fun k => ?_) (fun k => ?_) _ rfl
  · rw [sC_apply, lgN, dif_pos (by omega), lg, scl_apply, real_dots hqn hqr hkn hkr, ← EReal.coe_mul]
  · rw [vN, dif_pos (by omega)]

def sL : FVec Ideal S32x16384x16640 .f32 :=
  mulf (addf (Host.dotGeneral dot_S16384x32x128_S16640x32x128_S32x16384x16640_2_2_0_0_1_1 none (extractStridedSlice S16384x32x128 ![256, 0, 0] qn slices_S16640x32x128_S16384x32x128_256_0_0) kn)
    (transpose S32x16384x16640 [2, 1, 0] (Host.dotGeneral dot_S16640x64_S16384x32x64_S16640x16384x32_1_2_0_01_n_n none kr (extractStridedSlice S16384x32x64 ![256, 0, 0] qr slices_S16640x32x64_S16384x32x64_256_0_0)) transposes_S16640x16384x32_S32x16384x16640_2_1_0))
    (broadcastInDim S32x16384x16640 ![] bcast_S_S32x16384x16640 scl)

def mL (s : FVec Ideal S32x16384x16640 .f32) : FVec Ideal S32x16384 .f32 :=
  maximumf (broadcastInDim S32x16384 ![] bcast_S_S32x16384 (constant S_ .f32 0xFF800000#32)) (Host.reduce FloatOps.maximumf s (constant S_ .f32 0xFF800000#32) reducesTo_S32x16384x16640_S32x16384_d2 h_S_)

def eL (s : FVec Ideal S32x16384x16640 .f32) : FVec Ideal S32x16384x16640 .f32 :=
  Host.exp (subf s (broadcastInDim S32x16384x16640 ![0, 1, 2] bcast_S32x16384x1_S32x16384x16640_0_1_2 (broadcastInDim S32x16384x1 ![0, 1] bcast_S32x16384_S32x16384x1_0_1 (mL s))))

def pL (s : FVec Ideal S32x16384x16640 .f32) : FVec Ideal S32x16384x16640 .f32 :=
  Host.divf (eL s) (broadcastInDim S32x16384x16640 ![0, 1, 2] bcast_S32x16384x1_S32x16384x16640_0_1_2 (broadcastInDim S32x16384x1 ![0, 1] bcast_S32x16384_S32x16384x1_0_1
    (Host.reduceAdd (eL s) (constant S_ .f32 0x00000000#32) reducesTo_S32x16384x16640_S32x16384_d2 h_S_)))

def oL (s : FVec Ideal S32x16384x16640 .f32) : FVec Ideal S16384x4096 .f32 :=
  shapeCast _ (transpose S16384x32x128 [2, 0, 1] (Host.dotGeneral dot_S16640x32x128_S32x16384x16640_S32x128x16384_0_2_2_1_1_0 none v (pL s)) transposes_S32x128x16384_S16384x32x128_2_0_1) shapeCasts_S16384x32x128_S16384x4096

theorem sL_apply (h : Fin 32) (q : Fin 16384) (k : Fin 16640) : sL qn qr kn kr (ix3 h q k)
    = (∑ x : Fin 128, qn (ix3 ⟨256 + q.val, by omega⟩ h x) * kn (ix3 ⟨k.val, by omega⟩ h x)
      + ∑ x : Fin 64, kr (ix2 ⟨k.val, by omega⟩ x) * qr (ix3 ⟨256 + q.val, by omega⟩ h x)) * scl ix0 := by
  have hq : (⟨256 + q.val, by omega⟩ : Fin 16640) = ⟨256 + q.val, by omega⟩ := by apply Fin.ext; simp
  rw [hq]
  pointwise [sL]
theorem mL_apply (s : FVec Ideal S32x16384x16640 .f32) (h : Fin 32) (q : Fin 16384) : mL s (ix2 h q)
    = Finset.univ.fold max ⊥ fun x : Fin 16640 => s (ix3 h q x) := by
  unfold mL
  rw [maximumf_apply, lastMax (by decide)]
  pointwise
  rw [Cert.Softmax.ofBits_neg_inf]
  exact max_eq_right bot_le
theorem eL_apply (s : FVec Ideal S32x16384x16640 .f32) (h : Fin 32) (q : Fin 16384) (k : Fin 16640) : eL s (ix3 h q k)
    = Ideal.exp (s (ix3 h q k) - mL s (ix2 h q)) := by
  pointwise [eL]
theorem pL_apply (s : FVec Ideal S32x16384x16640 .f32) (h : Fin 32) (q : Fin 16384) (k : Fin 16640) : pL s (ix3 h q k)
    = Ideal.div (eL s (ix3 h q k)) (∑ x, eL s (ix3 h q x)) := by
  pointwise [pL]
theorem oL_apply (s : FVec Ideal S32x16384x16640 .f32) (q : Fin 16384) (j : Fin 4096) : oL v s (ix2 q j)
    = ∑ x : Fin 16640, v (ix3 ⟨x.val, by omega⟩ ⟨j.val / 128, by omega⟩ ⟨j.val % 128, by omega⟩)
        * pL s (ix3 ⟨j.val / 128, by omega⟩ q x) := by
  pointwise [oL]
theorem oL_eq (hqn : Real' qn) (hqr : Real' qr) (hkn : Real' kn) (hkr : Real' kr) (q : Fin 16384) (j : Fin 4096) :
    oL v (sL qn qr kn kr) (ix2 q j) = res qn qr kn kr v ⟨256 + q.val, by omega⟩ j := by
  rw [oL_apply, res, keys]
  simp only [pL_apply, eL_apply, mL_apply]
  rw [if_neg (by simp)]
  refine attn_ref (by omega) _ _ _ _ (fun k => ?_) (fun k => ?_) _ rfl
  · rw [sL_apply, lgN, dif_pos (by omega), lg, scl_apply, real_dots hqn hqr hkn hkr, ← EReal.coe_mul]
  · rw [vN, dif_pos (by omega)]

theorem res_eq (m : (ℓ : Loc nD τ sig) → Buf (Elt Ideal) ℓ) (c : Dev nD) :
    res_out0 m c = truncf .bf16 (concatenate S16640x4096 0
      [⟨S256x4096, oC (m ((c.tc : Thread nD τ).loc main_arg4)) (sC (m ((c.tc : Thread nD τ).loc main_arg0)) (m ((c.tc : Thread nD τ).loc main_arg1)) (m ((c.tc : Thread nD τ).loc main_arg2)) (m ((c.tc : Thread nD τ).loc main_arg3)))⟩,
       ⟨S16384x4096, oL (m ((c.tc : Thread nD τ).loc main_arg4)) (sL (m ((c.tc : Thread nD τ).loc main_arg0)) (m ((c.tc : Thread nD τ).loc main_arg1)) (m ((c.tc : Thread nD τ).loc main_arg2)) (m ((c.tc : Thread nD τ).loc main_arg3)))⟩]
      concatenates_S256x4096_S16384x4096_S16640x4096_d0) bitsLt_bf16_f32 := rfl

theorem res_apply (a : FVec Ideal S256x4096 .f32) (b : FVec Ideal S16384x4096 .f32) (i : Fin 16640) (j : Fin 4096) :
    (truncf .bf16 (concatenate S16640x4096 0 [⟨S256x4096, a⟩, ⟨S16384x4096, b⟩] concatenates_S256x4096_S16384x4096_S16640x4096_d0) bitsLt_bf16_f32 : FVec Ideal S16640x4096 .bf16) (ix2 i j)
      = if h : i.val < 256 then a (ix2 ⟨i.val, h⟩ j) else b (ix2 ⟨i.val - 256, by omega⟩ j) := by
  pointwise

/-- The reference's result is the attention of its five arguments. -/
theorem res_out (m : (ℓ : Loc nD τ sig) → Buf (Elt Ideal) ℓ) (c : Dev nD)
    (hqn : Real' (s := S16640x32x128) (m ((c.tc : Thread nD τ).loc main_arg0)))
    (hqr : Real' (s := S16640x32x64) (m ((c.tc : Thread nD τ).loc main_arg1)))
    (hkn : Real' (s := S16640x32x128) (m ((c.tc : Thread nD τ).loc main_arg2)))
    (hkr : Real' (s := S16640x64) (m ((c.tc : Thread nD τ).loc main_arg3))) (i : Fin 16640) (j : Fin 4096) :
    (res_out0 m c : FVec Ideal S16640x4096 .bf16) (ix2 i j)
      = res (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) i j := by
  rw [res_eq, res_apply]
  split
  next h =>
    rw [oC_eq _ _ _ _ _ hqn hqr hkn hkr]
    congr 1
    exact Fin.ext (by simp)
  next h =>
    rw [oL_eq _ _ _ _ _ hqn hqr hkn hkr]
    congr 1
    exact Fin.ext (by simp; omega)

end Cert.ReferenceIdeal.Attn

end
-- ==== Proof.lean ====
module

public import proofs.«01_k».proof.Proof.Gen.Modulated
public import proofs.«01_k».proof.Proof.Gen.Modulated.Frame
public import proofs.«01_k».proof.Proof.Gen.ModulatedIdeal
public import proofs.«01_k».proof.Proof.Gen.ModulatedIdeal.Frame
public import proofs.«01_k».proof.Proof.Gen.ModulatedIdeal.Value
public import proofs.«01_k».proof.Proof.Gen.ModulatedRefIdeal
public import proofs.«01_k».proof.Proof.Gen.ModulatedRefIdeal.Run
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishIdeal.Value
public import proofs.«01_k».proof.Proof.Gen.FinishRefIdeal
public import proofs.«01_k».proof.Proof.Gen.FinishRefIdeal.Run
public import proofs.«01_k».proof.Proof.Gen.LatPost
public import proofs.«01_k».proof.Proof.Gen.LatPost.Frame
public import proofs.«01_k».proof.Proof.Gen.LatPostIdeal
public import proofs.«01_k».proof.Proof.Gen.LatPostIdeal.Frame
public import proofs.«01_k».proof.Proof.Gen.LatPostIdeal.Value
public import proofs.«01_k».proof.Proof.Gen.LatPostRefIdeal
public import proofs.«01_k».proof.Proof.Gen.LatPostRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Lat
public import proofs.«01_k».proof.Proof.Gen.Lat.Frame
public import proofs.«01_k».proof.Proof.Gen.LatIdeal
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.Key
public import proofs.«01_k».proof.Proof.Gen.Key.Frame
public import proofs.«01_k».proof.Proof.Gen.KeyIdeal
public import proofs.«01_k».proof.Proof.Gen.KeyIdeal.Frame
public import proofs.«01_k».proof.Proof.Gen.KeyIdeal.Value
public import proofs.«01_k».proof.Proof.Gen.KeyRefIdeal
public import proofs.«01_k».proof.Proof.Gen.KeyRefIdeal.Run
public import proofs.«01_k».proof.Proof.Gen.ValueT
public import proofs.«01_k».proof.Proof.Gen.ValueT.Frame
public import proofs.«01_k».proof.Proof.Gen.ValueTIdeal
public import proofs.«01_k».proof.Proof.Gen.ValueTIdeal.Frame
public import proofs.«01_k».proof.Proof.Gen.ValueTIdeal.Value
public import proofs.«01_k».proof.Proof.Gen.ValueTRefIdeal
public import proofs.«01_k».proof.Proof.Gen.ValueTRefIdeal.Run
public import proofs.«01_k».proof.Proof.Gen.Pre_finite_lat
public import proofs.«01_k».proof.Proof.Gen.Pre_finite_query
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.SsmZ
public import proofs.«01_k».proof.Proof.Gen.SsmZ.Frame
public import proofs.«01_k».proof.Proof.Gen.SsmZIdeal
public import proofs.«01_k».proof.Proof.Gen.SsmZIdeal.Frame
public import proofs.«01_k».proof.Proof.Gen.SsmZIdeal.Value
public import proofs.«01_k».proof.Proof.Gen.SsmZRefIdeal
public import proofs.«01_k».proof.Proof.Gen.SsmZRefIdeal.Run
public import proofs.«01_k».proof.Proof.Gen.SsmXbc
public import proofs.«01_k».proof.Proof.Gen.SsmXbc.Frame
public import proofs.«01_k».proof.Proof.Gen.SsmXbcIdeal
public import proofs.«01_k».proof.Proof.Gen.SsmXbcIdeal.Frame
public import proofs.«01_k».proof.Proof.Gen.SsmXbcIdeal.Value
public import proofs.«01_k».proof.Proof.Gen.SsmXbcRefIdeal
public import proofs.«01_k».proof.Proof.Gen.SsmXbcRefIdeal.Run
public import proofs.«01_k».proof.Proof.Gen.SsmDt
public import proofs.«01_k».proof.Proof.Gen.SsmDt.Frame
public import proofs.«01_k».proof.Proof.Gen.SsmDtIdeal
public import proofs.«01_k».proof.Proof.Gen.SsmDtIdeal.Frame
public import proofs.«01_k».proof.Proof.Gen.SsmDtIdeal.Value
public import proofs.«01_k».proof.Proof.Gen.SsmDtRefIdeal
public import proofs.«01_k».proof.Proof.Gen.SsmDtRefIdeal.Run
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Frame
public import proofs.«01_k».proof.Proof.Gen.SsmOutIdeal.Value
public import proofs.«01_k».proof.Proof.Gen.SsmOutRefIdeal
public import proofs.«01_k».proof.Proof.Gen.SsmOutRefIdeal.Run
public import proofs.«01_k».proof.Proof.Gen.MlaOut
public import proofs.«01_k».proof.Proof.Gen.MlaOut.Frame
public import proofs.«01_k».proof.Proof.Gen.MlaOutIdeal
public import proofs.«01_k».proof.Proof.Gen.MlaOutIdeal.Frame
public import proofs.«01_k».proof.Proof.Gen.MlaOutIdeal.Value
public import proofs.«01_k».proof.Proof.Gen.MlaOutRefIdeal
public import proofs.«01_k».proof.Proof.Gen.MlaOutRefIdeal.Run
public import proofs.«01_k».proof.Proof.Gen.Shared
public import proofs.«01_k».proof.Proof.Gen.Shared.Frame
public import proofs.«01_k».proof.Proof.Gen.SharedIdeal
public import proofs.«01_k».proof.Proof.Gen.SharedIdeal.Frame
public import proofs.«01_k».proof.Proof.Gen.SharedIdeal.Value
public import proofs.«01_k».proof.Proof.Gen.SharedRefIdeal
public import proofs.«01_k».proof.Proof.Gen.SharedRefIdeal.Run
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsRefIdeal
public import proofs.«01_k».proof.Proof.Gen.ExpertsRefIdeal.Run
public import proofs.«01_k».proof.Proof.Gen.Pre_finite_gates
public import proofs.«01_k».proof.Proof.Gen.Pre_sorted_rows
public import proofs.«01_k».proof.Proof.NormValue
public import proofs.«01_k».proof.Proof.SsmZValue
public import proofs.«01_k».proof.Proof.SsmXbcValue
public import proofs.«01_k».proof.Proof.SsmDtValue
public import proofs.«01_k».proof.Proof.SsmOutValue
public import proofs.«01_k».proof.Proof.MlaOutValue
public import proofs.«01_k».proof.Proof.SharedValue
public import proofs.«01_k».proof.Proof.ExpertsClaim
public import proofs.«01_k».proof.Proof.LatValue
public import proofs.«01_k».proof.Proof.QueryValue
public import proofs.«01_k».proof.Proof.KeyValue
public import proofs.«01_k».proof.Proof.ValueTValue
public import proofs.«01_k».proof.Proof.ModulatedValue
public import proofs.«01_k».proof.Proof.RouterValue
public import proofs.«01_k».proof.Proof.FinishValue
public import proofs.«01_k».proof.Proof.LatPostValue
public import proofs.«01_k».proof.Proof.AdaValue
public import proofs.«01_k».proof.Proof.ConvValue
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem Cert.Softmax

/-- A number below infinity in absolute value is a real. -/
theorem real_of {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) :
    Real' x := fun i => by
  have h1 := congrFun h i
  have h2 : Ideal.ofBits .f32 0x7F800000#32 = ⊤ := by simp [Ideal.ofBits, Ideal.ieee]
  have h3 : (max (x i) (-(x i)) : EReal) < ⊤ := by
    by_contra hn
    have h5 : cmpf .olt (Host.absf x) (broadcastInDim s ![] hb (constant ⟨0, ![]⟩ .f32 0x7F800000#32)) i = 0#1 := by
      show BitVec.ofBool (decide ((max (x i) (-(x i)) : EReal) < Ideal.ofBits .f32 0x7F800000#32)) = 0#1
      rw [h2, decide_eq_false hn]
      rfl
    rw [h5] at h1
    exact absurd h1 (by decide)
  have h4 : x i ≠ ⊤ := fun e => by simp [e] at h3
  have h5 : x i ≠ ⊥ := fun e => by simp [e] at h3
  exact (EReal.coe_toReal h4 h5).symm

theorem pre {m : (ℓ : Loc Cert.KernelIdeal.nD Cert.KernelIdeal.τ Cert.KernelIdeal.sig) → Buf (Elt Ideal) ℓ}
    (h : @Cert.Pre_KernelIdeal_finite Cert.Pre_finite.Gen.facts m) (c : Dev Cert.KernelIdeal.nD) :
    Real' (Cert.KernelIdeal.Attn.qnA m c) ∧ Real' (Cert.KernelIdeal.Attn.qrA m c) ∧ Real' (Cert.KernelIdeal.Attn.knA m c)
      ∧ Real' (Cert.KernelIdeal.Attn.krA m c) :=
  ⟨real_of _ _ (h c).1, real_of _ _ (h c).2.1, real_of _ _ (h c).2.2.1, real_of _ _ (h c).2.2.2⟩

set_option maxHeartbeats 4000000 in
theorem claim : Cert.Claim :=
  ⟨Cert.Kernel.Gen.facts, Cert.KernelIdeal.Gen.facts, Cert.ReferenceIdeal.Gen.facts, Cert.Norm.Gen.facts, Cert.NormIdeal.Gen.facts, Cert.NormRefIdeal.Gen.facts, Cert.SsmZ.Gen.facts, Cert.SsmZIdeal.Gen.facts, Cert.SsmZRefIdeal.Gen.facts, Cert.SsmXbc.Gen.facts, Cert.SsmXbcIdeal.Gen.facts, Cert.SsmXbcRefIdeal.Gen.facts, Cert.SsmDt.Gen.facts, Cert.SsmDtIdeal.Gen.facts, Cert.SsmDtRefIdeal.Gen.facts, Cert.SsmOut.Gen.facts, Cert.SsmOutIdeal.Gen.facts, Cert.SsmOutRefIdeal.Gen.facts, Cert.MlaOut.Gen.facts, Cert.MlaOutIdeal.Gen.facts, Cert.MlaOutRefIdeal.Gen.facts, Cert.Shared.Gen.facts, Cert.SharedIdeal.Gen.facts, Cert.SharedRefIdeal.Gen.facts, Cert.Experts.Gen.facts, Cert.ExpertsIdeal.Gen.facts, Cert.ExpertsRefIdeal.Gen.facts, Cert.Lat.Gen.facts, Cert.LatIdeal.Gen.facts, Cert.LatRefIdeal.Gen.facts, Cert.Query.Gen.facts, Cert.QueryIdeal.Gen.facts, Cert.QueryRefIdeal.Gen.facts, Cert.Key.Gen.facts, Cert.KeyIdeal.Gen.facts, Cert.KeyRefIdeal.Gen.facts, Cert.ValueT.Gen.facts, Cert.ValueTIdeal.Gen.facts, Cert.ValueTRefIdeal.Gen.facts, Cert.Modulated.Gen.facts, Cert.ModulatedIdeal.Gen.facts, Cert.ModulatedRefIdeal.Gen.facts, Cert.Router.Gen.facts, Cert.RouterIdeal.Gen.facts, Cert.RouterRefIdeal.Gen.facts, Cert.Finish.Gen.facts, Cert.FinishIdeal.Gen.facts, Cert.FinishRefIdeal.Gen.facts, Cert.LatPost.Gen.facts, Cert.LatPostIdeal.Gen.facts, Cert.LatPostRefIdeal.Gen.facts, Cert.Ada.Gen.facts, Cert.AdaIdeal.Gen.facts, Cert.AdaRefIdeal.Gen.facts, Cert.Conv.Gen.facts, Cert.ConvIdeal.Gen.facts, Cert.ConvRefIdeal.Gen.facts, Cert.Pre_finite.Gen.facts, Cert.Pre_finite_gates.Gen.facts, Cert.Pre_sorted_rows.Gen.facts, Cert.Pre_finite_lat.Gen.facts, Cert.Pre_finite_query.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2, sem_eq_zero_of_no_sems (by decide) r.2⟩)
      (Cert.ReferenceIdeal.Value.run m ρ),
    fun m ρ _ => (θ_run _ _ _).mono (fun r h => ⟨fun c => (h c).2, sem_eq_zero_of_no_sems (by decide) r.2⟩)
      (Cert.ReferenceIdeal.Value.run m ρ),
    fun m ρ _ => Cert.Norm.Gen.frame m ρ,
    fun m ρ _ => Cert.NormIdeal.Gen.frame m ρ,
    fun m ρ _ => (θ_run _ _ _).mono (fun r h => ⟨fun c => (h c).2, sem_eq_zero_of_no_sems (by decide) r.2⟩)
      (Cert.NormRefIdeal.Value.run m ρ),
    fun m ρ _ => Cert.SsmZ.Gen.frame m ρ,
    fun m ρ _ => Cert.SsmZIdeal.Gen.frame m ρ,
    fun m ρ _ => (θ_run _ _ _).mono (fun r h => ⟨fun c => (h c).2, sem_eq_zero_of_no_sems (by decide) r.2⟩)
      (Cert.SsmZRefIdeal.Value.run m ρ),
    fun m ρ _ => Cert.SsmXbc.Gen.frame m ρ,
    fun m ρ _ => Cert.SsmXbcIdeal.Gen.frame m ρ,
    fun m ρ _ => (θ_run _ _ _).mono (fun r h => ⟨fun c => (h c).2, sem_eq_zero_of_no_sems (by decide) r.2⟩)
      (Cert.SsmXbcRefIdeal.Value.run m ρ),
    fun m ρ _ => Cert.SsmDt.Gen.frame m ρ,
    fun m ρ _ => Cert.SsmDtIdeal.Gen.frame m ρ,
    fun m ρ _ => (θ_run _ _ _).mono (fun r h => ⟨fun c => (h c).2, sem_eq_zero_of_no_sems (by decide) r.2⟩)
      (Cert.SsmDtRefIdeal.Value.run m ρ),
    fun m ρ _ => Cert.SsmOut.Gen.frame m ρ,
    fun m ρ _ => Cert.SsmOutIdeal.Gen.frame m ρ,
    fun m ρ _ => (θ_run _ _ _).mono (fun r h => ⟨fun c => (h c).2, sem_eq_zero_of_no_sems (by decide) r.2⟩)
      (Cert.SsmOutRefIdeal.Value.run m ρ),
    fun m ρ _ => Cert.MlaOut.Gen.frame m ρ,
    fun m ρ _ => Cert.MlaOutIdeal.Gen.frame m ρ,
    fun m ρ _ => (θ_run _ _ _).mono (fun r h => ⟨fun c => (h c).2, sem_eq_zero_of_no_sems (by decide) r.2⟩)
      (Cert.MlaOutRefIdeal.Value.run m ρ),
    fun m ρ _ => Cert.Shared.Gen.frame m ρ,
    fun m ρ _ => Cert.SharedIdeal.Gen.frame m ρ,
    fun m ρ _ => Cert.SharedIdeal.Gen.frame m ρ,
    fun m ρ _ => (θ_run _ _ _).mono (fun r h => ⟨fun c => (h c).2, sem_eq_zero_of_no_sems (by decide) r.2⟩)
      (Cert.SharedRefIdeal.Value.run m ρ),
    fun m ρ _ => (θ_run _ _ _).mono (fun r h => ⟨fun c => (h c).2, sem_eq_zero_of_no_sems (by decide) r.2⟩)
      (Cert.SharedRefIdeal.Value.run m ρ),
    fun m ρ h => Cert.Experts.Gen.frame m ρ (Cert.Experts.Call.ok m (Cert.Experts.Call.groups h)),
    fun m ρ h => Cert.ExpertsIdeal.Gen.frame m ρ (Cert.ExpertsIdeal.Call.ok m (Cert.ExpertsIdeal.Call.groups h)),
    fun m ρ _ => (θ_run _ _ _).mono (fun r h => ⟨fun c => (h c).2, sem_eq_zero_of_no_sems (by decide) r.2⟩)
      (Cert.ExpertsRefIdeal.Value.run m ρ),
    fun m ρ _ => (θ_run _ _ _).mono (fun r h => ⟨fun c => (h c).2, sem_eq_zero_of_no_sems (by decide) r.2⟩)
      (Cert.ExpertsRefIdeal.Value.run m ρ),
    fun m ρ _ => Cert.Lat.Gen.frame m ρ,
    fun m ρ _ => Cert.LatIdeal.Gen.frame m ρ,
    fun m ρ _ => Cert.LatIdeal.Gen.frame m ρ,
    fun m ρ _ => (θ_run _ _ _).mono (fun r h => ⟨fun c => (h c).2, sem_eq_zero_of_no_sems (by decide) r.2⟩)
      (Cert.LatRefIdeal.Value.run m ρ),
    fun m ρ _ => (θ_run _ _ _).mono (fun r h => ⟨fun c => (h c).2, sem_eq_zero_of_no_sems (by decide) r.2⟩)
      (Cert.LatRefIdeal.Value.run m ρ),
    fun m ρ _ => Cert.Query.Gen.frame m ρ,
    fun m ρ _ => Cert.QueryIdeal.Gen.frame m ρ,
    fun m ρ _ => Cert.QueryIdeal.Gen.frame m ρ,
    fun m ρ _ => (θ_run _ _ _).mono (fun r h => ⟨fun c => (h c).2.2, sem_eq_zero_of_no_sems (by decide) r.2⟩)
      (Cert.QueryRefIdeal.Value.run m ρ),
    fun m ρ _ => (θ_run _ _ _).mono (fun r h => ⟨fun c => (h c).2.2, sem_eq_zero_of_no_sems (by decide) r.2⟩)
      (Cert.QueryRefIdeal.Value.run m ρ),
    fun m ρ _ => Cert.Key.Gen.frame m ρ,
    fun m ρ _ => Cert.KeyIdeal.Gen.frame m ρ,
    fun m ρ _ => (θ_run _ _ _).mono (fun r h => ⟨fun c => (h c).2, sem_eq_zero_of_no_sems (by decide) r.2⟩)
      (Cert.KeyRefIdeal.Value.run m ρ),
    fun m ρ _ => Cert.ValueT.Gen.frame m ρ,
    fun m ρ _ => Cert.ValueTIdeal.Gen.frame m ρ,
    fun m ρ _ => (θ_run _ _ _).mono (fun r h => ⟨fun c => (h c).2, sem_eq_zero_of_no_sems (by decide) r.2⟩)
      (Cert.ValueTRefIdeal.Value.run m ρ),
    fun m ρ _ => Cert.Modulated.Gen.frame m ρ,
    fun m ρ _ => Cert.ModulatedIdeal.Gen.frame m ρ,
    fun m ρ _ => (θ_run _ _ _).mono (fun r h => ⟨fun c => (h c).2, sem_eq_zero_of_no_sems (by decide) r.2⟩)
      (Cert.ModulatedRefIdeal.Value.run m ρ),
    fun m ρ _ => Cert.Router.Gen.frame m ρ,
    fun m ρ _ => Cert.RouterIdeal.Gen.frame m ρ,
    fun m ρ _ => (θ_run _ _ _).mono (fun r h => ⟨fun c => (h c).2.2.2, sem_eq_zero_of_no_sems (by decide) r.2⟩)
      (Cert.RouterRefIdeal.Value.run m ρ),
    fun m ρ _ => Cert.Finish.Gen.frame m ρ,
    fun m ρ _ => Cert.FinishIdeal.Gen.frame m ρ,
    fun m ρ _ => (θ_run _ _ _).mono (fun r h => ⟨fun c => (h c).2, sem_eq_zero_of_no_sems (by decide) r.2⟩)
      (Cert.FinishRefIdeal.Value.run m ρ),
    fun m ρ _ => Cert.LatPost.Gen.frame m ρ,
    fun m ρ _ => Cert.LatPostIdeal.Gen.frame m ρ,
    fun m ρ _ => (θ_run _ _ _).mono (fun r h => ⟨fun c => (h c).2.2.2, sem_eq_zero_of_no_sems (by decide) r.2⟩)
      (Cert.LatPostRefIdeal.Value.run m ρ),
    fun m ρ _ => Cert.Ada.Gen.frame m ρ,
    fun m ρ _ => Cert.AdaIdeal.Gen.frame m ρ,
    fun m ρ _ => (θ_run _ _ _).mono (fun r h => ⟨fun c => (h c).2, sem_eq_zero_of_no_sems (by decide) r.2⟩)
      (Cert.AdaRefIdeal.Value.run m ρ),
    fun m ρ _ => Cert.Conv.Gen.frame m ρ,
    fun m ρ _ => Cert.ConvIdeal.Gen.frame m ρ,
    fun m ρ _ => (θ_run _ _ _).mono (fun r h => ⟨fun c => (h c).2, sem_eq_zero_of_no_sems (by decide) r.2⟩)
      (Cert.ConvRefIdeal.Value.run m ρ),
    trivial,
    fun m ρ m' ρ' hpre hag => ⟨fun c => Cert.KernelIdeal.Attn.G m c,
      (θ_run _ _ _).mono (fun _ h c => ⟨(h c).1.trans
        (Cert.KernelIdeal.Attn.final (pre hpre c).1 (pre hpre c).2.1 (pre hpre c).2.2.1 (pre hpre c).2.2.2), (h c).2⟩)
        (Cert.KernelIdeal.Value.run_blocks m ρ),
      (θ_run _ _ _).mono (fun _ h c => ⟨(h c).1.trans (by
        obtain ⟨h1, h2, h3, h4⟩ := pre hpre c
        obtain ⟨e0, e1, e2, e3, e4⟩ := hag c
        funext i
        have hi := eq_ix2 (n0 := 16640) (n1 := 4096) i
        rw [hi]
        refine (Cert.ReferenceIdeal.Attn.res_out m' c ?_ ?_ ?_ ?_ _ _).trans ?_
        · rw [e0]; exact h1
        · rw [e1]; exact h2
        · rw [e2]; exact h3
        · rw [e3]; exact h4
        · rw [e0, e1, e2, e3, e4]; rfl), (h c).2⟩)
        (Cert.ReferenceIdeal.Value.run m' ρ')⟩,
    trivial,
    fun m ρ m' ρ' hpre hag => ⟨fun c => Cert.NormIdeal.Call.REF (m ((c.tc : Thread Cert.NormIdeal.nD Cert.NormIdeal.τ).loc Cert.NormIdeal.main_arg0)) (m ((c.tc : Thread Cert.NormIdeal.nD Cert.NormIdeal.τ).loc Cert.NormIdeal.main_arg1)),
      (θ_run _ _ _).mono (fun _ h c => ⟨(h c).1.trans (Cert.NormIdeal.Call.final m c), (h c).2⟩)
        (Cert.NormIdeal.Value.run_blocks m ρ),
      (θ_run _ _ _).mono (fun _ h c => ⟨(h c).1.trans (by
        obtain ⟨e0, e1⟩ := hag c
        rw [e0, e1] <;> rfl), (h c).2⟩) (Cert.NormRefIdeal.Value.run m' ρ')⟩,
    trivial,
    fun m ρ m' ρ' hpre hag => ⟨fun c => Cert.SsmZIdeal.Call.REF (m ((c.tc : Thread Cert.SsmZIdeal.nD Cert.SsmZIdeal.τ).loc Cert.SsmZIdeal.main_arg0)) (m ((c.tc : Thread Cert.SsmZIdeal.nD Cert.SsmZIdeal.τ).loc Cert.SsmZIdeal.main_arg1)),
      (θ_run _ _ _).mono (fun _ h c => ⟨(h c).1.trans (Cert.SsmZIdeal.Call.final m c), (h c).2⟩)
        (Cert.SsmZIdeal.Value.run_blocks m ρ),
      (θ_run _ _ _).mono (fun _ h c => ⟨(h c).1.trans (by
        obtain ⟨e0, e1⟩ := hag c
        rw [e0, e1] <;> rfl), (h c).2⟩) (Cert.SsmZRefIdeal.Value.run m' ρ')⟩,
    trivial,
    fun m ρ m' ρ' hpre hag => ⟨fun c => Cert.SsmXbcIdeal.Call.REF (m ((c.tc : Thread Cert.SsmXbcIdeal.nD Cert.SsmXbcIdeal.τ).loc Cert.SsmXbcIdeal.main_arg0)) (m ((c.tc : Thread Cert.SsmXbcIdeal.nD Cert.SsmXbcIdeal.τ).loc Cert.SsmXbcIdeal.main_arg1)),
      (θ_run _ _ _).mono (fun _ h c => ⟨(h c).1.trans (Cert.SsmXbcIdeal.Call.final m c), (h c).2⟩)
        (Cert.SsmXbcIdeal.Value.run_blocks m ρ),
      (θ_run _ _ _).mono (fun _ h c => ⟨(h c).1.trans (by
        obtain ⟨e0, e1⟩ := hag c
        rw [e0, e1] <;> rfl), (h c).2⟩) (Cert.SsmXbcRefIdeal.Value.run m' ρ')⟩,
    trivial,
    fun m ρ m' ρ' hpre hag => ⟨fun c => Cert.SsmDtIdeal.Call.REF (m ((c.tc : Thread Cert.SsmDtIdeal.nD Cert.SsmDtIdeal.τ).loc Cert.SsmDtIdeal.main_arg0)) (m ((c.tc : Thread Cert.SsmDtIdeal.nD Cert.SsmDtIdeal.τ).loc Cert.SsmDtIdeal.main_arg1)),
      (θ_run _ _ _).mono (fun _ h c => ⟨(h c).1.trans (Cert.SsmDtIdeal.Call.final m c), (h c).2⟩)
        (Cert.SsmDtIdeal.Value.run_blocks m ρ),
      (θ_run _ _ _).mono (fun _ h c => ⟨(h c).1.trans (by
        obtain ⟨e0, e1⟩ := hag c
        rw [e0, e1] <;> rfl), (h c).2⟩) (Cert.SsmDtRefIdeal.Value.run m' ρ')⟩,
    trivial,
    fun m ρ m' ρ' hpre hag => ⟨fun c => Cert.SsmOutIdeal.Call.REF (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)),
      (θ_run _ _ _).mono (fun _ h c => ⟨(h c).1.trans (Cert.SsmOutIdeal.Call.final m c), (h c).2⟩)
        (Cert.SsmOutIdeal.Value.run_blocks m ρ),
      (θ_run _ _ _).mono (fun _ h c => ⟨(h c).1.trans (by
        obtain ⟨e0, e1, e2, e3⟩ := hag c
        rw [e0, e1, e2, e3] <;> rfl), (h c).2⟩) (Cert.SsmOutRefIdeal.Value.run m' ρ')⟩,
    trivial,
    fun m ρ m' ρ' hpre hag => ⟨fun c => Cert.MlaOutIdeal.Call.REF (m ((c.tc : Thread Cert.MlaOutIdeal.nD Cert.MlaOutIdeal.τ).loc Cert.MlaOutIdeal.main_arg0)) (m ((c.tc : Thread Cert.MlaOutIdeal.nD Cert.MlaOutIdeal.τ).loc Cert.MlaOutIdeal.main_arg1)) (m ((c.tc : Thread Cert.MlaOutIdeal.nD Cert.MlaOutIdeal.τ).loc Cert.MlaOutIdeal.main_arg2)) (m ((c.tc : Thread Cert.MlaOutIdeal.nD Cert.MlaOutIdeal.τ).loc Cert.MlaOutIdeal.main_arg3)),
      (θ_run _ _ _).mono (fun _ h c => ⟨(h c).1.trans (Cert.MlaOutIdeal.Call.final m c), (h c).2⟩)
        (Cert.MlaOutIdeal.Value.run_blocks m ρ),
      (θ_run _ _ _).mono (fun _ h c => ⟨(h c).1.trans (by
        obtain ⟨e0, e1, e2, e3⟩ := hag c
        rw [e0, e1, e2, e3] <;> rfl), (h c).2⟩) (Cert.MlaOutRefIdeal.Value.run m' ρ')⟩,
    trivial,
    fun m ρ m' ρ' hpre hag => ⟨fun c => Cert.SharedIdeal.Call.REF (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4)) (m ((c.tc : Thread Cert.SharedIdeal.nD Cert.SharedIdeal.τ).loc Cert.SharedIdeal.main_arg5)) (m ((c.tc : Thread Cert.SharedIdeal.nD Cert.SharedIdeal.τ).loc Cert.SharedIdeal.main_arg6)),
      (θ_run _ _ _).mono (fun _ h c => ⟨(h c).1.trans (Cert.SharedIdeal.Call.final m c (fun i => ⟨_, real_of _ _ (hpre c).1 i⟩) (fun i => ⟨_, real_of _ _ (hpre c).2 i⟩)), (h c).2⟩)
        (Cert.SharedIdeal.Value.run_blocks m ρ),
      (θ_run _ _ _).mono (fun _ h c => ⟨(h c).1.trans (by
        obtain ⟨e0, e1, e2, e3, e4, e5, e6⟩ := hag c
        rw [e0, e1, e2, e3, e4, e5, e6] <;> rfl), (h c).2⟩) (Cert.SharedRefIdeal.Value.run m' ρ')⟩,
    trivial,
    fun m ρ m' ρ' hpre hag => ⟨fun c => Cert.ExpertsIdeal.Call.REF (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)),
      (θ_run _ _ _).mono (fun _ h c => ⟨(h c).1.trans (Cert.ExpertsIdeal.Call.result hpre c), (h c).2⟩)
        (Cert.ExpertsIdeal.Call.run_blocks m ρ (Cert.ExpertsIdeal.Call.ok m (Cert.ExpertsIdeal.Call.groups hpre))),
      (θ_run _ _ _).mono (fun _ h c => ⟨(h c).1.trans (by
        obtain ⟨e0, e1, e2, e3, e4, e5, e6, e7⟩ := hag c
        rw [e0, e1, e2, e5, e6, e7] <;> rfl), (h c).2⟩) (Cert.ExpertsRefIdeal.Value.run m' ρ')⟩,
    trivial,
    fun m ρ m' ρ' hpre hag => ⟨fun c => Cert.LatIdeal.Call.REF (m ((c.tc : Thread Cert.LatIdeal.nD Cert.LatIdeal.τ).loc Cert.LatIdeal.main_arg0)) (m ((c.tc : Thread Cert.LatIdeal.nD Cert.LatIdeal.τ).loc Cert.LatIdeal.main_arg1)),
      (θ_run _ _ _).mono (fun _ h c => ⟨(h c).1.trans (Cert.LatIdeal.Call.final m c ⟨fun i => ⟨_, real_of _ _ (hpre c).1 i⟩, fun k j => by
        have h := real_of _ _ (hpre c).2 (ix2 k j)
        pointwise at h
        exact ⟨_, h⟩⟩), (h c).2⟩)
        (Cert.LatIdeal.Value.run_blocks m ρ),
      (θ_run _ _ _).mono (fun _ h c => ⟨(h c).1.trans (by
        obtain ⟨e0, e1⟩ := hag c
        rw [e0, e1] <;> rfl), (h c).2⟩) (Cert.LatRefIdeal.Value.run m' ρ')⟩,
    trivial,
    fun m ρ m' ρ' hpre hag => ⟨fun c => Cert.QueryIdeal.Call.REF0 (m ((c.tc : Thread Cert.QueryIdeal.nD Cert.QueryIdeal.τ).loc Cert.QueryIdeal.main_arg0)) (m ((c.tc : Thread Cert.QueryIdeal.nD Cert.QueryIdeal.τ).loc Cert.QueryIdeal.main_arg1)),
      fun c => Cert.QueryIdeal.Call.REF1 (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)),
      (θ_run _ _ _).mono (fun _ h c => ⟨(h c).1.trans (Cert.QueryIdeal.Call.final0 m c), (h c).2.1.trans (Cert.QueryIdeal.Call.final1 m c ⟨fun i => ⟨_, real_of _ _ (hpre c).1 i⟩, fun i => ⟨_, real_of _ _ (hpre c).2 i⟩⟩), (h c).2.2⟩)
        (Cert.QueryIdeal.Value.run_blocks m ρ),
      (θ_run _ _ _).mono (fun _ h c => ⟨(h c).1.trans (by
        obtain ⟨e0, e1, e2, e3⟩ := hag c
        rw [e0, e1] <;> rfl), (h c).2.1.trans (by
        obtain ⟨e0, e1, e2, e3⟩ := hag c
        rw [e0, e1, e2, e3] <;> rfl), (h c).2.2⟩) (Cert.QueryRefIdeal.Value.run m' ρ')⟩,
    trivial,
    fun m ρ m' ρ' hpre hag => ⟨fun c => Cert.KeyIdeal.Call.REF (m ((c.tc : Thread Cert.KeyIdeal.nD Cert.KeyIdeal.τ).loc Cert.KeyIdeal.main_arg0)) (m ((c.tc : Thread Cert.KeyIdeal.nD Cert.KeyIdeal.τ).loc Cert.KeyIdeal.main_arg1)),
      (θ_run _ _ _).mono (fun _ h c => ⟨(h c).1.trans (Cert.KeyIdeal.Call.final m c), (h c).2⟩)
        (Cert.KeyIdeal.Value.run_blocks m ρ),
      (θ_run _ _ _).mono (fun _ h c => ⟨(h c).1.trans (by
        obtain ⟨e0, e1⟩ := hag c
        rw [e0, e1] <;> rfl), (h c).2⟩) (Cert.KeyRefIdeal.Value.run m' ρ')⟩,
    trivial,
    fun m ρ m' ρ' hpre hag => ⟨fun c => Cert.ValueTIdeal.Call.REF (m ((c.tc : Thread Cert.ValueTIdeal.nD Cert.ValueTIdeal.τ).loc Cert.ValueTIdeal.main_arg0)) (m ((c.tc : Thread Cert.ValueTIdeal.nD Cert.ValueTIdeal.τ).loc Cert.ValueTIdeal.main_arg1)),
      (θ_run _ _ _).mono (fun _ h c => ⟨(h c).1.trans (Cert.ValueTIdeal.Call.final m c), (h c).2⟩)
        (Cert.ValueTIdeal.Value.run_blocks m ρ),
      (θ_run _ _ _).mono (fun _ h c => ⟨(h c).1.trans (by
        obtain ⟨e0, e1⟩ := hag c
        rw [e0, e1] <;> rfl), (h c).2⟩) (Cert.ValueTRefIdeal.Value.run m' ρ')⟩,
    trivial,
    fun m ρ m' ρ' hpre hag => ⟨fun c => Cert.ModulatedIdeal.Call.REF (m ((c.tc : Thread Cert.ModulatedIdeal.nD Cert.ModulatedIdeal.τ).loc Cert.ModulatedIdeal.main_arg0)) (m ((c.tc : Thread Cert.ModulatedIdeal.nD Cert.ModulatedIdeal.τ).loc Cert.ModulatedIdeal.main_arg1)) (m ((c.tc : Thread Cert.ModulatedIdeal.nD Cert.ModulatedIdeal.τ).loc Cert.ModulatedIdeal.main_arg2)) (m ((c.tc : Thread Cert.ModulatedIdeal.nD Cert.ModulatedIdeal.τ).loc Cert.ModulatedIdeal.main_arg3)),
      (θ_run _ _ _).mono (fun _ h c => ⟨(h c).1.trans (Cert.ModulatedIdeal.Call.final m c), (h c).2⟩)
        (Cert.ModulatedIdeal.Value.run_blocks m ρ),
      (θ_run _ _ _).mono (fun _ h c => ⟨(h c).1.trans (by
        obtain ⟨e0, e1, e2, e3⟩ := hag c
        rw [e0, e1, e2, e3] <;> rfl), (h c).2⟩) (Cert.ModulatedRefIdeal.Value.run m' ρ')⟩,
    trivial,
    fun m ρ m' ρ' hpre hag => ⟨fun c => Cert.RouterIdeal.Call.REF0 (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)),
      fun c => Cert.RouterIdeal.Call.REF1 (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)),
      fun c => Cert.RouterIdeal.Call.REF2 (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)),
      (θ_run _ _ _).mono (fun _ h c => ⟨(h c).1.trans (Cert.RouterIdeal.Call.final0 m c), (h c).2.1.trans (Cert.RouterIdeal.Call.final1 m c), (h c).2.2.1.trans (Cert.RouterIdeal.Call.final2 m c), (h c).2.2.2⟩)
        (Cert.RouterIdeal.Value.run_blocks m ρ),
      (θ_run _ _ _).mono (fun _ h c => ⟨(h c).1.trans (by
        obtain ⟨e0, e1, e2, e3, e4⟩ := hag c
        rw [e0, e1, e2, e3] <;> rfl), (h c).2.1.trans (by
        obtain ⟨e0, e1, e2, e3, e4⟩ := hag c
        rw [e0, e1, e2, e3] <;> rfl), (h c).2.2.1.trans (by
        obtain ⟨e0, e1, e2, e3, e4⟩ := hag c
        rw [e0, e1, e2, e3, e4] <;> rfl), (h c).2.2.2⟩) (Cert.RouterRefIdeal.Value.run m' ρ')⟩,
    trivial,
    fun m ρ m' ρ' hpre hag => ⟨fun c => Cert.FinishIdeal.Call.REF (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)),
      (θ_run _ _ _).mono (fun _ h c => ⟨(h c).1.trans (Cert.FinishIdeal.Call.final m c), (h c).2⟩)
        (Cert.FinishIdeal.Value.run_blocks m ρ),
      (θ_run _ _ _).mono (fun _ h c => ⟨(h c).1.trans (by
        obtain ⟨e0, e1, e2, e3, e4, e5⟩ := hag c
        rw [e0, e1, e2, e3, e4, e5] <;> rfl), (h c).2⟩) (Cert.FinishRefIdeal.Value.run m' ρ')⟩,
    trivial,
    fun m ρ m' ρ' hpre hag => ⟨fun c => Cert.LatPostIdeal.Call.REF0 (m ((c.tc : Thread Cert.LatPostIdeal.nD Cert.LatPostIdeal.τ).loc Cert.LatPostIdeal.main_arg0)) (m ((c.tc : Thread Cert.LatPostIdeal.nD Cert.LatPostIdeal.τ).loc Cert.LatPostIdeal.main_arg1)),
      fun c => Cert.LatPostIdeal.Call.REF1 (m ((c.tc : Thread Cert.LatPostIdeal.nD Cert.LatPostIdeal.τ).loc Cert.LatPostIdeal.main_arg0)) (m ((c.tc : Thread Cert.LatPostIdeal.nD Cert.LatPostIdeal.τ).loc Cert.LatPostIdeal.main_arg2)),
      fun c => Cert.LatPostIdeal.Call.REF2 (m ((c.tc : Thread Cert.LatPostIdeal.nD Cert.LatPostIdeal.τ).loc Cert.LatPostIdeal.main_arg0)) (m ((c.tc : Thread Cert.LatPostIdeal.nD Cert.LatPostIdeal.τ).loc Cert.LatPostIdeal.main_arg3)) (m ((c.tc : Thread Cert.LatPostIdeal.nD Cert.LatPostIdeal.τ).loc Cert.LatPostIdeal.main_arg4)),
      (θ_run _ _ _).mono (fun _ h c => ⟨(h c).1.trans (Cert.LatPostIdeal.Call.final0 m c), (h c).2.1.trans (Cert.LatPostIdeal.Call.final1 m c), (h c).2.2.1.trans (Cert.LatPostIdeal.Call.final2 m c), (h c).2.2.2⟩)
        (Cert.LatPostIdeal.Value.run_blocks m ρ),
      (θ_run _ _ _).mono (fun _ h c => ⟨(h c).1.trans (by
        obtain ⟨e0, e1, e2, e3, e4⟩ := hag c
        rw [e0, e1] <;> rfl), (h c).2.1.trans (by
        obtain ⟨e0, e1, e2, e3, e4⟩ := hag c
        rw [e0, e2] <;> rfl), (h c).2.2.1.trans (by
        obtain ⟨e0, e1, e2, e3, e4⟩ := hag c
        rw [e0, e3, e4] <;> rfl), (h c).2.2.2⟩) (Cert.LatPostRefIdeal.Value.run m' ρ')⟩,
    trivial,
    fun m ρ m' ρ' hpre hag => ⟨fun c => Cert.AdaIdeal.Call.REF (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)),
      (θ_run _ _ _).mono (fun _ h c => ⟨(h c).1.trans (Cert.AdaIdeal.Call.final m c), (h c).2⟩)
        (Cert.AdaIdeal.Value.run_blocks m ρ),
      (θ_run _ _ _).mono (fun _ h c => ⟨(h c).1.trans (by
        obtain ⟨e0, e1, e2, e3⟩ := hag c
        rw [e0, e1, e2, e3] <;> rfl), (h c).2⟩) (Cert.AdaRefIdeal.Value.run m' ρ')⟩,
    trivial,
    fun m ρ m' ρ' hpre hag => ⟨fun c => Cert.ConvIdeal.Call.REF (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)),
      (θ_run _ _ _).mono (fun _ h c => ⟨(h c).1.trans (Cert.ConvIdeal.Call.final m c), (h c).2⟩)
        (Cert.ConvIdeal.Value.run_blocks m ρ),
      (θ_run _ _ _).mono (fun _ h c => ⟨(h c).1.trans (by
        obtain ⟨e0, e1, e2⟩ := hag c
        unfold Cert.ConvRefIdeal.Value.res_main_v81
        rw [e0, e1, e2] <;> rfl), (h c).2⟩) (Cert.ConvRefIdeal.Value.run m' ρ')⟩⟩

end Cert.Proof

end
